-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v82)) (v3 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_v83) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_v226) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v29)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v28)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v7) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel8 : Cert.Kernel8.Facts) (hKernel8Ideal : Cert.Kernel8Ideal.Facts) (hReference8Ideal : Cert.Reference8Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel8_Kernel8Ideal
    ∧ algebraic_Kernel8Ideal_Reference8Ideal (hKernel8Ideal := hKernel8Ideal) (hReference8Ideal := hReference8Ideal)
    ∧ preserves_Kernel21_Kernel21Ideal
    ∧ algebraic_Kernel21Ideal_Reference21Ideal (hKernel21Ideal := hKernel21Ideal) (hReference21Ideal := hReference21Ideal)
-- ==== Kernel.lean ====
abbrev S2x2048x8192 : Shape := ⟨3, ![2, 2048, 8192]⟩
abbrev S1x3x3x4096 : Shape := ⟨4, ![1, 3, 3, 4096]⟩
abbrev S1x4096 : Shape := ⟨2, ![1, 4096]⟩
abbrev S2x2048x4096 : Shape := ⟨3, ![2, 2048, 4096]⟩
abbrev S3x3x4096 : Shape := ⟨3, ![3, 3, 4096]⟩
abbrev S2x32x64x4096 : Shape := ⟨4, ![2, 32, 64, 4096]⟩
abbrev S_ : Shape := ⟨0, ![]⟩
abbrev S2x1x64x4096 : Shape := ⟨4, ![2, 1, 64, 4096]⟩
abbrev S2x34x64x4096 : Shape := ⟨4, ![2, 34, 64, 4096]⟩
abbrev S2x34x1x4096 : Shape := ⟨4, ![2, 34, 1, 4096]⟩
abbrev S2x34x66x4096 : Shape := ⟨4, ![2, 34, 66, 4096]⟩
abbrev S1x1x4096 : Shape := ⟨3, ![1, 1, 4096]⟩
abbrev S4096 : Shape := ⟨1, ![4096]⟩
abbrev S1x1x1x4096 : Shape := ⟨4, ![1, 1, 1, 4096]⟩
abbrev S4096x8192 : Shape := ⟨2, ![4096, 8192]⟩
abbrev S4096x4096 : Shape := ⟨2, ![4096, 4096]⟩
abbrev S9x4096 : Shape := ⟨2, ![9, 4096]⟩
abbrev S16x4096 : Shape := ⟨2, ![16, 4096]⟩
abbrev S2048x256 : Shape := ⟨2, ![2048, 256]⟩
abbrev S9x256 : Shape := ⟨2, ![9, 256]⟩
abbrev S16x256 : Shape := ⟨2, ![16, 256]⟩
abbrev S2048x1 : Shape := ⟨2, ![2048, 1]⟩
abbrev S2048x128 : Shape := ⟨2, ![2048, 128]⟩
abbrev S9x128 : Shape := ⟨2, ![9, 128]⟩
abbrev S1x128 : Shape := ⟨2, ![1, 128]⟩
abbrev S128 : Shape := ⟨1, ![128]⟩

abbrev nBuf : Space → Nat
  | .hbm => 93
  | .vmem => 16
  | .smem => 0
  | _ => 0

abbrev bufTy : (tb : Table) → Fin (tcTables nBuf tb) → BufTy
  | .hbm, ⟨0, _⟩ => ⟨S2x2048x8192, .f32⟩
  | .hbm, ⟨1, _⟩ => ⟨S1x3x3x4096, .f32⟩
  | .hbm, ⟨2, _⟩ => ⟨S1x4096, .f32⟩
  | .hbm, ⟨3, _⟩ => ⟨S2x2048x4096, .f32⟩
  | .hbm, ⟨4, _⟩ => ⟨S2x2048x4096, .f32⟩
  | .hbm, ⟨5, _⟩ => ⟨S3x3x4096, .f32⟩
  | .hbm, ⟨6, _⟩ => ⟨S2x32x64x4096, .f32⟩
  | .hbm, ⟨7, _⟩ => ⟨S_, .f32⟩
  | .hbm, ⟨8, _⟩ => ⟨S2x1x64x4096, .f32⟩
  | .hbm, ⟨9, _⟩ => ⟨S2x34x64x4096, .f32⟩
  | .hbm, ⟨10, _⟩ => ⟨S_, .f32⟩
  | .hbm, ⟨11, _⟩ => ⟨S2x34x1x4096, .f32⟩
  | .hbm, ⟨12, _⟩ => ⟨S2x34x66x4096, .f32⟩
  | .hbm, ⟨13, _⟩ => ⟨S2x32x64x4096, .f32⟩
  | .hbm, ⟨14, _⟩ => ⟨S1x1x4096, .f32⟩
  | .hbm, ⟨15, _⟩ => ⟨S4096, .f32⟩
  | .hbm, ⟨16, _⟩ => ⟨S1x1x1x4096, .f32⟩
  | .hbm, ⟨17, _⟩ => ⟨S2x32x64x4096, .f32⟩
  | .hbm, ⟨18, _⟩ => ⟨S2x32x64x4096, .f32⟩
  | .hbm, ⟨19, _⟩ => ⟨S_, .f32⟩
  | .hbm, ⟨20, _⟩ => ⟨S2x32x64x4096, .f32⟩
  | .hbm, ⟨21, _⟩ => ⟨S2x32x64x4096, .f32⟩
  | .hbm, ⟨22, _⟩ => ⟨S2x32x64x4096, .f32⟩
  | .hbm, ⟨23, _⟩ => ⟨S1x1x4096, .f32⟩
  | .hbm, ⟨24, _⟩ => ⟨S4096, .f32⟩
  | .hbm, ⟨25, _⟩ => ⟨S1x1x1x4096, .f32⟩
  | .hbm, ⟨26, _⟩ => ⟨S2x32x64x4096, .f32⟩
  | .hbm, ⟨27, _⟩ => ⟨S2x32x64x4096, .f32⟩
  | .hbm, ⟨28, _⟩ => ⟨S2x32x64x4096, .f32⟩
  | .hbm, ⟨29, _⟩ => ⟨S2x32x64x4096, .f32⟩
  | .hbm, ⟨30, _⟩ => ⟨S1x1x4096, .f32⟩
  | .hbm, ⟨31, _⟩ => ⟨S4096, .f32⟩
  | .hbm, ⟨32, _⟩ => ⟨S1x1x1x4096, .f32⟩
  | .hbm, ⟨33, _⟩ => ⟨S2x32x64x4096, .f32⟩
  | .hbm, ⟨34, _⟩ => ⟨S2x32x64x4096, .f32⟩
  | .hbm, ⟨35, _⟩ => ⟨S2x32x64x4096, .f32⟩
  | .hbm, ⟨36, _⟩ => ⟨S2x32x64x4096, .f32⟩
  | .hbm, ⟨37, _⟩ => ⟨S1x1x4096, .f32⟩
  | .hbm, ⟨38, _⟩ => ⟨S4096, .f32⟩
  | .hbm, ⟨39, _⟩ => ⟨S1x1x1x4096, .f32⟩
  | .hbm, ⟨40, _⟩ => ⟨S2x32x64x4096, .f32⟩
  | .hbm, ⟨41, _⟩ => ⟨S2x32x64x4096, .f32⟩
  | .hbm, ⟨42, _⟩ => ⟨S2x32x64x4096, .f32⟩
  | .hbm, ⟨43, _⟩ => ⟨S2x32x64x4096, .f32⟩
  | .hbm, ⟨44, _⟩ => ⟨S1x1x4096, .f32⟩
  | .hbm, ⟨45, _⟩ => ⟨S4096, .f32⟩
  | .hbm, ⟨46, _⟩ => ⟨S1x1x1x4096, .f32⟩
  | .hbm, ⟨47, _⟩ => ⟨S2x32x64x4096, .f32⟩
  | .hbm, ⟨48, _⟩ => ⟨S2x32x64x4096, .f32⟩
  | .hbm, ⟨49, _⟩ => ⟨S2x32x64x4096, .f32⟩
  | .hbm, ⟨50, _⟩ => ⟨S2x32x64x4096, .f32⟩
  | .hbm, ⟨51, _⟩ => ⟨S1x1x4096, .f32⟩
  | .hbm, ⟨52, _⟩ => ⟨S4096, .f32⟩
  | .hbm, ⟨53, _⟩ => ⟨S1x1x1x4096, .f32⟩
  | .hbm, ⟨54, _⟩ => ⟨S2x32x64x4096, .f32⟩
  | .hbm, ⟨55, _⟩ => ⟨S2x32x64x4096, .f32⟩
  | .hbm, ⟨56, _⟩ => ⟨S2x32x64x4096, .f32⟩
  | .hbm, ⟨57, _⟩ => ⟨S2x32x64x4096, .f32⟩
  | .hbm, ⟨58, _⟩ => ⟨S1x1x4096, .f32⟩
  | .hbm, ⟨59, _⟩ => ⟨S4096, .f32⟩
  | .hbm, ⟨60, _⟩ => ⟨S1x1x1x4096, .f32⟩
  | .hbm, ⟨61, _⟩ => ⟨S2x32x64x4096, .f32⟩
  | .hbm, ⟨62, _⟩ => ⟨S2x32x64x4096, .f32⟩
  | .hbm, ⟨63, _⟩ => ⟨S2x32x64x4096, .f32⟩
  | .hbm, ⟨64, _⟩ => ⟨S2x32x64x4096, .f32⟩
  | .hbm, ⟨65, _⟩ => ⟨S1x1x4096, .f32⟩
  | .hbm, ⟨66, _⟩ => ⟨S4096, .f32⟩
  | .hbm, ⟨67, _⟩ => ⟨S1x1x1x4096, .f32⟩
  | .hbm, ⟨68, _⟩ => ⟨S2x32x64x4096, .f32⟩
  | .hbm, ⟨69, _⟩ => ⟨S2x32x64x4096, .f32⟩
  | .hbm, ⟨70, _⟩ => ⟨S2x32x64x4096, .f32⟩
  | .hbm, ⟨71, _⟩ => ⟨S2x32x64x4096, .f32⟩
  | .hbm, ⟨72, _⟩ => ⟨S1x1x4096, .f32⟩
  | .hbm, ⟨73, _⟩ => ⟨S4096, .f32⟩
  | .hbm, ⟨74, _⟩ => ⟨S1x1x1x4096, .f32⟩
  | .hbm, ⟨75, _⟩ => ⟨S2x32x64x4096, .f32⟩
  | .hbm, ⟨76, _⟩ => ⟨S2x32x64x4096, .f32⟩
  | .hbm, ⟨77, _⟩ => ⟨S2x32x64x4096, .f32⟩
  | .hbm, ⟨78, _⟩ => ⟨S2x2048x4096, .f32⟩
  | .hbm, ⟨79, _⟩ => ⟨S4096, .f32⟩
  | .hbm, ⟨80, _⟩ => ⟨S1x1x4096, .f32⟩
  | .hbm, ⟨81, _⟩ => ⟨S2x2048x4096, .f32⟩
  | .hbm, ⟨82, _⟩ => ⟨S2x2048x4096, .f32⟩
  | .hbm, ⟨83, _⟩ => ⟨S4096x8192, .f32⟩
  | .hbm, ⟨84, _⟩ => ⟨S4096x4096, .f32⟩
  | .hbm, ⟨85, _⟩ => ⟨S9x4096, .f32⟩
  | .hbm, ⟨86, _⟩ => ⟨S4096x4096, .f32⟩
  | .hbm, ⟨87, _⟩ => ⟨S4096x4096, .bf16⟩
  | .hbm, ⟨88, _⟩ => ⟨S4096x4096, .bf16⟩
  | .hbm, ⟨89, _⟩ => ⟨S16x4096, .f32⟩
  | .hbm, ⟨90, _⟩ => ⟨S9x4096, .f32⟩
  | .hbm, ⟨91, _⟩ => ⟨S1x3x3x4096, .f32⟩
  | .hbm, ⟨92, _⟩ => ⟨S1x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S9x256, .f32⟩
  | .local _ .vmem, ⟨5, _⟩ => ⟨S9x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S16x256, .f32⟩
  | .local _ .vmem, ⟨15, _⟩ => ⟨S16x256, .f32⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80_0 : Ref sig .tc := ⟨.hbm, 87, rfl⟩
abbrev main_v80_1 : Ref sig .tc := ⟨.hbm, 88, rfl⟩
abbrev main_v80_2 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S9x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x2048x8192 : Shape := ⟨3, ![2, 2048, 8192]⟩
abbrev S1x3x3x4096 : Shape := ⟨4, ![1, 3, 3, 4096]⟩
abbrev S1x4096 : Shape := ⟨2, ![1, 4096]⟩
abbrev S2x2048x4096 : Shape := ⟨3, ![2, 2048, 4096]⟩
abbrev S3x3x4096 : Shape := ⟨3, ![3, 3, 4096]⟩
abbrev S2x32x64x4096 : Shape := ⟨4, ![2, 32, 64, 4096]⟩
abbrev S_ : Shape := ⟨0, ![]⟩
abbrev S2x1x64x4096 : Shape := ⟨4, ![2, 1, 64, 4096]⟩
abbrev S2x34x64x4096 : Shape := ⟨4, ![2, 34, 64, 4096]⟩
abbrev S2x34x1x4096 : Shape := ⟨4, ![2, 34, 1, 4096]⟩
abbrev S2x34x66x4096 : Shape := ⟨4, ![2, 34, 66, 4096]⟩
abbrev S1x1x4096 : Shape := ⟨3, ![1, 1, 4096]⟩
abbrev S4096 : Shape := ⟨1, ![4096]⟩
abbrev S1x1x1x4096 : Shape := ⟨4, ![1, 1, 1, 4096]⟩
abbrev S4096x4096 : Shape := ⟨2, ![4096, 4096]⟩

abbrev nBuf : Space → Nat
  | .hbm => 290
  | .vmem => 0
  | .smem => 0
  | _ => 0

abbrev hbmTy0_0 (i : Nat) : BufTy := match i % 128 with
  | 0 => ⟨S2x2048x8192, .f32⟩
  | 1 => ⟨S1x3x3x4096, .f32⟩
  | 2 => ⟨S1x4096, .f32⟩
  | 3 => ⟨S2x2048x4096, .f32⟩
  | 4 => ⟨S2x2048x4096, .f32⟩
  | 5 => ⟨S2x2048x4096, .f32⟩
  | 6 => ⟨S3x3x4096, .f32⟩
  | 7 => ⟨S2x32x64x4096, .f32⟩
  | 8 => ⟨S_, .f32⟩
  | 9 => ⟨S2x1x64x4096, .f32⟩
  | 10 => ⟨S2x34x64x4096, .f32⟩
  | 11 => ⟨S_, .f32⟩
  | 12 => ⟨S2x1x64x4096, .f32⟩
  | 13 => ⟨S_, .f32⟩
  | 14 => ⟨S2x1x64x4096, .f32⟩
  | 15 => ⟨S_, .f32⟩
  | 16 => ⟨S2x34x1x4096, .f32⟩
  | 17 => ⟨S2x34x66x4096, .f32⟩
  | 18 => ⟨S_, .f32⟩
  | 19 => ⟨S2x34x1x4096, .f32⟩
  | 20 => ⟨S_, .f32⟩
  | 21 => ⟨S2x34x1x4096, .f32⟩
  | 22 => ⟨S2x32x64x4096, .f32⟩
  | 23 => ⟨S1x1x4096, .f32⟩
  | 24 => ⟨S4096, .f32⟩
  | 25 => ⟨S1x1x1x4096, .f32⟩
  | 26 => ⟨S2x32x64x4096, .f32⟩
  | 27 => ⟨S2x32x64x4096, .f32⟩
  | 28 => ⟨S_, .f32⟩
  | 29 => ⟨S2x32x64x4096, .f32⟩
  | 30 => ⟨S2x32x64x4096, .f32⟩
  | 31 => ⟨S2x32x64x4096, .f32⟩
  | 32 => ⟨S1x1x4096, .f32⟩
  | 33 => ⟨S4096, .f32⟩
  | 34 => ⟨S1x1x1x4096, .f32⟩
  | 35 => ⟨S2x32x64x4096, .f32⟩
  | 36 => ⟨S2x32x64x4096, .f32⟩
  | 37 => ⟨S2x32x64x4096, .f32⟩
  | 38 => ⟨S2x32x64x4096, .f32⟩
  | 39 => ⟨S1x1x4096, .f32⟩
  | 40 => ⟨S4096, .f32⟩
  | 41 => ⟨S1x1x1x4096, .f32⟩
  | 42 => ⟨S2x32x64x4096, .f32⟩
  | 43 => ⟨S2x32x64x4096, .f32⟩
  | 44 => ⟨S2x32x64x4096, .f32⟩
  | 45 => ⟨S2x32x64x4096, .f32⟩
  | 46 => ⟨S1x1x4096, .f32⟩
  | 47 => ⟨S4096, .f32⟩
  | 48 => ⟨S1x1x1x4096, .f32⟩
  | 49 => ⟨S2x32x64x4096, .f32⟩
  | 50 => ⟨S2x32x64x4096, .f32⟩
  | 51 => ⟨S2x32x64x4096, .f32⟩
  | 52 => ⟨S2x32x64x4096, .f32⟩
  | 53 => ⟨S1x1x4096, .f32⟩
  | 54 => ⟨S4096, .f32⟩
  | 55 => ⟨S1x1x1x4096, .f32⟩
  | 56 => ⟨S2x32x64x4096, .f32⟩
  | 57 => ⟨S2x32x64x4096, .f32⟩
  | 58 => ⟨S2x32x64x4096, .f32⟩
  | 59 => ⟨S2x32x64x4096, .f32⟩
  | 60 => ⟨S1x1x4096, .f32⟩
  | 61 => ⟨S4096, .f32⟩
  | 62 => ⟨S1x1x1x4096, .f32⟩
  | 63 => ⟨S2x32x64x4096, .f32⟩
  | 64 => ⟨S2x32x64x4096, .f32⟩
  | 65 => ⟨S2x32x64x4096, .f32⟩
  | 66 => ⟨S2x32x64x4096, .f32⟩
  | 67 => ⟨S1x1x4096, .f32⟩
  | 68 => ⟨S4096, .f32⟩
  | 69 => ⟨S1x1x1x4096, .f32⟩
  | 70 => ⟨S2x32x64x4096, .f32⟩
  | 71 => ⟨S2x32x64x4096, .f32⟩
  | 72 => ⟨S2x32x64x4096, .f32⟩
  | 73 => ⟨S2x32x64x4096, .f32⟩
  | 74 => ⟨S1x1x4096, .f32⟩
  | 75 => ⟨S4096, .f32⟩
  | 76 => ⟨S1x1x1x4096, .f32⟩
  | 77 => ⟨S2x32x64x4096, .f32⟩
  | 78 => ⟨S2x32x64x4096, .f32⟩
  | 79 => ⟨S2x32x64x4096, .f32⟩
  | 80 => ⟨S2x32x64x4096, .f32⟩
  | 81 => ⟨S1x1x4096, .f32⟩
  | 82 => ⟨S4096, .f32⟩
  | 83 => ⟨S1x1x1x4096, .f32⟩
  | 84 => ⟨S2x32x64x4096, .f32⟩
  | 85 => ⟨S2x32x64x4096, .f32⟩
  | 86 => ⟨S2x32x64x4096, .f32⟩
  | 87 => ⟨S2x2048x4096, .f32⟩
  | 88 => ⟨S4096, .f32⟩
  | 89 => ⟨S1x1x4096, .f32⟩
  | 90 => ⟨S2x2048x4096, .f32⟩
  | 91 => ⟨S2x2048x4096, .f32⟩
  | 92 => ⟨S2x2048x4096, .f32⟩
  | 93 => ⟨S2x2048x4096, .f32⟩
  | 94 => ⟨S2x2048x4096, .f32⟩
  | 95 => ⟨S_, .f32⟩
  | 96 => ⟨S2x2048x4096, .f32⟩
  | 97 => ⟨S2x2048x4096, .f32⟩
  | 98 => ⟨S_, .f32⟩
  | 99 => ⟨S2x2048x4096, .f32⟩
  | 100 => ⟨S2x2048x4096, .f32⟩
  | 101 => ⟨S2x2048x4096, .f32⟩
  | 102 => ⟨S_, .f32⟩
  | 103 => ⟨S2x2048x4096, .f32⟩
  | 104 => ⟨S2x2048x4096, .f32⟩
  | 105 => ⟨S2x2048x4096, .f32⟩
  | 106 => ⟨S_, .f32⟩
  | 107 => ⟨S2x2048x4096, .f32⟩
  | 108 => ⟨S2x2048x4096, .f32⟩
  | 109 => ⟨S_, .f32⟩
  | 110 => ⟨S2x2048x4096, .f32⟩
  | 111 => ⟨S2x2048x4096, .f32⟩
  | 112 => ⟨S2x2048x4096, .f32⟩
  | 113 => ⟨S_, .f32⟩
  | 114 => ⟨S2x2048x4096, .f32⟩
  | 115 => ⟨S2x2048x4096, .f32⟩
  | 116 => ⟨S_, .f32⟩
  | 117 => ⟨S2x2048x4096, .f32⟩
  | 118 => ⟨S2x2048x4096, .f32⟩
  | 119 => ⟨S2x2048x4096, .f32⟩
  | 120 => ⟨S2x2048x4096, .f32⟩
  | 121 => ⟨S2x2048x4096, .f32⟩
  | 122 => ⟨S2x2048x4096, .f32⟩
  | 123 => ⟨S2x2048x4096, .f32⟩
  | 124 => ⟨S2x2048x4096, .f32⟩
  | 125 => ⟨S_, .f32⟩
  | 126 => ⟨S2x2048x4096, .f32⟩
  | 127 => ⟨S2x2048x4096, .f32⟩
  | _ => ⟨S2x2048x8192, .f32⟩

abbrev hbmTy0_1 (i : Nat) : BufTy := match i % 128 with
  | 0 => ⟨S2x2048x4096, .f32⟩
  | 1 => ⟨S_, .f32⟩
  | 2 => ⟨S2x2048x4096, .f32⟩
  | 3 => ⟨S2x2048x4096, .f32⟩
  | 4 => ⟨S2x2048x4096, .f32⟩
  | 5 => ⟨S_, .f32⟩
  | 6 => ⟨S2x2048x4096, .f32⟩
  | 7 => ⟨S2x2048x4096, .f32⟩
  | 8 => ⟨S2x2048x4096, .f32⟩
  | 9 => ⟨S2x2048x4096, .f32⟩
  | 10 => ⟨S_, .f32⟩
  | 11 => ⟨S4096, .f32⟩
  | 12 => ⟨S1x1x4096, .f32⟩
  | 13 => ⟨S_, .f32⟩
  | 14 => ⟨S4096, .f32⟩
  | 15 => ⟨S1x4096, .f32⟩
  | 16 => ⟨S2x32x64x4096, .f32⟩
  | 17 => ⟨S2x32x64x4096, .f32⟩
  | 18 => ⟨S_, .f32⟩
  | 19 => ⟨S4096, .f32⟩
  | 20 => ⟨S1x1x1x4096, .f32⟩
  | 21 => ⟨S2x32x64x4096, .f32⟩
  | 22 => ⟨S2x32x64x4096, .f32⟩
  | 23 => ⟨S_, .f32⟩
  | 24 => ⟨S4096, .f32⟩
  | 25 => ⟨S1x1x4096, .f32⟩
  | 26 => ⟨S_, .f32⟩
  | 27 => ⟨S3x3x4096, .f32⟩
  | 28 => ⟨S_, .f32⟩
  | 29 => ⟨S2x34x66x4096, .f32⟩
  | 30 => ⟨S2x32x64x4096, .f32⟩
  | 31 => ⟨S_, .f32⟩
  | 32 => ⟨S4096, .f32⟩
  | 33 => ⟨S1x1x1x4096, .f32⟩
  | 34 => ⟨S2x32x64x4096, .f32⟩
  | 35 => ⟨S2x32x64x4096, .f32⟩
  | 36 => ⟨S_, .f32⟩
  | 37 => ⟨S4096, .f32⟩
  | 38 => ⟨S1x1x4096, .f32⟩
  | 39 => ⟨S_, .f32⟩
  | 40 => ⟨S3x3x4096, .f32⟩
  | 41 => ⟨S3x3x4096, .f32⟩
  | 42 => ⟨S_, .f32⟩
  | 43 => ⟨S2x34x66x4096, .f32⟩
  | 44 => ⟨S2x34x66x4096, .f32⟩
  | 45 => ⟨S2x32x64x4096, .f32⟩
  | 46 => ⟨S_, .f32⟩
  | 47 => ⟨S4096, .f32⟩
  | 48 => ⟨S1x1x1x4096, .f32⟩
  | 49 => ⟨S2x32x64x4096, .f32⟩
  | 50 => ⟨S2x32x64x4096, .f32⟩
  | 51 => ⟨S_, .f32⟩
  | 52 => ⟨S4096, .f32⟩
  | 53 => ⟨S1x1x4096, .f32⟩
  | 54 => ⟨S_, .f32⟩
  | 55 => ⟨S3x3x4096, .f32⟩
  | 56 => ⟨S3x3x4096, .f32⟩
  | 57 => ⟨S_, .f32⟩
  | 58 => ⟨S2x34x66x4096, .f32⟩
  | 59 => ⟨S2x34x66x4096, .f32⟩
  | 60 => ⟨S2x32x64x4096, .f32⟩
  | 61 => ⟨S_, .f32⟩
  | 62 => ⟨S4096, .f32⟩
  | 63 => ⟨S1x1x1x4096, .f32⟩
  | 64 => ⟨S2x32x64x4096, .f32⟩
  | 65 => ⟨S2x32x64x4096, .f32⟩
  | 66 => ⟨S_, .f32⟩
  | 67 => ⟨S4096, .f32⟩
  | 68 => ⟨S1x1x4096, .f32⟩
  | 69 => ⟨S_, .f32⟩
  | 70 => ⟨S3x3x4096, .f32⟩
  | 71 => ⟨S3x3x4096, .f32⟩
  | 72 => ⟨S_, .f32⟩
  | 73 => ⟨S2x34x66x4096, .f32⟩
  | 74 => ⟨S2x34x66x4096, .f32⟩
  | 75 => ⟨S2x32x64x4096, .f32⟩
  | 76 => ⟨S_, .f32⟩
  | 77 => ⟨S4096, .f32⟩
  | 78 => ⟨S1x1x1x4096, .f32⟩
  | 79 => ⟨S2x32x64x4096, .f32⟩
  | 80 => ⟨S2x32x64x4096, .f32⟩
  | 81 => ⟨S_, .f32⟩
  | 82 => ⟨S4096, .f32⟩
  | 83 => ⟨S1x1x4096, .f32⟩
  | 84 => ⟨S_, .f32⟩
  | 85 => ⟨S3x3x4096, .f32⟩
  | 86 => ⟨S3x3x4096, .f32⟩
  | 87 => ⟨S_, .f32⟩
  | 88 => ⟨S2x34x66x4096, .f32⟩
  | 89 => ⟨S2x34x66x4096, .f32⟩
  | 90 => ⟨S2x32x64x4096, .f32⟩
  | 91 => ⟨S_, .f32⟩
  | 92 => ⟨S4096, .f32⟩
  | 93 => ⟨S1x1x1x4096, .f32⟩
  | 94 => ⟨S2x32x64x4096, .f32⟩
  | 95 => ⟨S2x32x64x4096, .f32⟩
  | 96 => ⟨S_, .f32⟩
  | 97 => ⟨S4096, .f32⟩
  | 98 => ⟨S1x1x4096, .f32⟩
  | 99 => ⟨S_, .f32⟩
  | 100 => ⟨S3x3x4096, .f32⟩
  | 101 => ⟨S3x3x4096, .f32⟩
  | 102 => ⟨S_, .f32⟩
  | 103 => ⟨S2x34x66x4096, .f32⟩
  | 104 => ⟨S2x34x66x4096, .f32⟩
  | 105 => ⟨S2x32x64x4096, .f32⟩
  | 106 => ⟨S_, .f32⟩
  | 107 => ⟨S4096, .f32⟩
  | 108 => ⟨S1x1x1x4096, .f32⟩
  | 109 => ⟨S2x32x64x4096, .f32⟩
  | 110 => ⟨S2x32x64x4096, .f32⟩
  | 111 => ⟨S_, .f32⟩
  | 112 => ⟨S4096, .f32⟩
  | 113 => ⟨S1x1x4096, .f32⟩
  | 114 => ⟨S_, .f32⟩
  | 115 => ⟨S3x3x4096, .f32⟩
  | 116 => ⟨S3x3x4096, .f32⟩
  | 117 => ⟨S_, .f32⟩
  | 118 => ⟨S2x34x66x4096, .f32⟩
  | 119 => ⟨S2x34x66x4096, .f32⟩
  | 120 => ⟨S2x32x64x4096, .f32⟩
  | 121 => ⟨S_, .f32⟩
  | 122 => ⟨S4096, .f32⟩
  | 123 => ⟨S1x1x1x4096, .f32⟩
  | 124 => ⟨S2x32x64x4096, .f32⟩
  | 125 => ⟨S2x32x64x4096, .f32⟩
  | 126 => ⟨S_, .f32⟩
  | 127 => ⟨S4096, .f32⟩
  | _ => ⟨S2x2048x8192, .f32⟩

abbrev hbmTy0_2 (i : Nat) : BufTy := match i % 128 with
  | 0 => ⟨S1x1x4096, .f32⟩
  | 1 => ⟨S_, .f32⟩
  | 2 => ⟨S3x3x4096, .f32⟩
  | 3 => ⟨S3x3x4096, .f32⟩
  | 4 => ⟨S_, .f32⟩
  | 5 => ⟨S2x34x66x4096, .f32⟩
  | 6 => ⟨S2x34x66x4096, .f32⟩
  | 7 => ⟨S2x32x64x4096, .f32⟩
  | 8 => ⟨S_, .f32⟩
  | 9 => ⟨S4096, .f32⟩
  | 10 => ⟨S1x1x1x4096, .f32⟩
  | 11 => ⟨S2x32x64x4096, .f32⟩
  | 12 => ⟨S2x32x64x4096, .f32⟩
  | 13 => ⟨S_, .f32⟩
  | 14 => ⟨S4096, .f32⟩
  | 15 => ⟨S1x1x4096, .f32⟩
  | 16 => ⟨S_, .f32⟩
  | 17 => ⟨S3x3x4096, .f32⟩
  | 18 => ⟨S3x3x4096, .f32⟩
  | 19 => ⟨S_, .f32⟩
  | 20 => ⟨S2x34x66x4096, .f32⟩
  | 21 => ⟨S2x34x66x4096, .f32⟩
  | 22 => ⟨S2x34x1x4096, .f32⟩
  | 23 => ⟨S2x34x64x4096, .f32⟩
  | 24 => ⟨S2x34x1x4096, .f32⟩
  | 25 => ⟨S2x1x64x4096, .f32⟩
  | 26 => ⟨S2x32x64x4096, .f32⟩
  | 27 => ⟨S2x1x64x4096, .f32⟩
  | 28 => ⟨S2x2048x4096, .f32⟩
  | 29 => ⟨S1x3x3x4096, .f32⟩
  | 30 => ⟨S4096x4096, .f32⟩
  | 31 => ⟨S4096x4096, .bf16⟩
  | 32 => ⟨S4096x4096, .f32⟩
  | 33 => ⟨S4096x4096, .bf16⟩
  | _ => ⟨S2x2048x8192, .f32⟩

abbrev hbmTy (i : Nat) : BufTy := match i / 128 with
  | 0 => hbmTy0_0 i
  | 1 => hbmTy0_1 i
  | 2 => hbmTy0_2 i
  | _ => ⟨S2x2048x8192, .f32⟩

abbrev bufTy : (tb : Table) → Fin (tcTables nBuf tb) → BufTy
  | .hbm, ⟨i, _⟩ => hbmTy i
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_6 : Ref sig .tc := ⟨.hbm, 95, rfl⟩
abbrev main_v84 : Ref sig .tc := ⟨.hbm, 96, rfl⟩
abbrev main_v85 : Ref sig .tc := ⟨.hbm, 97, rfl⟩
abbrev main_cst_7 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_8 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_9 : Ref sig .tc := ⟨.hbm, 106, rfl⟩
abbrev main_v92 : Ref sig .tc := ⟨.hbm, 107, rfl⟩
abbrev main_v93 : Ref sig .tc := ⟨.hbm, 108, rfl⟩
abbrev main_cst_10 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_11 : Ref sig .tc := ⟨.hbm, 113, rfl⟩
abbrev main_v97 : Ref sig .tc := ⟨.hbm, 114, rfl⟩
abbrev main_v98 : Ref sig .tc := ⟨.hbm, 115, rfl⟩
abbrev main_cst_12 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_13 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_14 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_15 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_16 : Ref sig .tc := ⟨.hbm, 138, rfl⟩
abbrev main_v117 : Ref sig .tc := ⟨.hbm, 139, rfl⟩
abbrev main_v118 : Ref sig .tc := ⟨.hbm, 140, rfl⟩
abbrev main_cst_17 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_18 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_19 : Ref sig .tc := ⟨.hbm, 151, rfl⟩
abbrev main_v127 : Ref sig .tc := ⟨.hbm, 152, rfl⟩
abbrev main_v128 : Ref sig .tc := ⟨.hbm, 153, rfl⟩
abbrev main_cst_20 : Ref sig .tc := ⟨.hbm, 154, rfl⟩
abbrev main_v129 : Ref sig .tc := ⟨.hbm, 155, rfl⟩
abbrev main_cst_21 : Ref sig .tc := ⟨.hbm, 156, rfl⟩
abbrev main_v130 : Ref sig .tc := ⟨.hbm, 157, rfl⟩
abbrev main_v131 : Ref sig .tc := ⟨.hbm, 158, rfl⟩
abbrev main_cst_22 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_23 : Ref sig .tc := ⟨.hbm, 164, rfl⟩
abbrev main_v136 : Ref sig .tc := ⟨.hbm, 165, rfl⟩
abbrev main_v137 : Ref sig .tc := ⟨.hbm, 166, rfl⟩
abbrev main_cst_24 : Ref sig .tc := ⟨.hbm, 167, rfl⟩
abbrev main_v138 : Ref sig .tc := ⟨.hbm, 168, rfl⟩
abbrev main_v139 : Ref sig .tc := ⟨.hbm, 169, rfl⟩
abbrev main_cst_25 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_26 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_27 : Ref sig .tc := ⟨.hbm, 179, rfl⟩
abbrev main_v147 : Ref sig .tc := ⟨.hbm, 180, rfl⟩
abbrev main_v148 : Ref sig .tc := ⟨.hbm, 181, rfl⟩
abbrev main_cst_28 : Ref sig .tc := ⟨.hbm, 182, rfl⟩
abbrev main_v149 : Ref sig .tc := ⟨.hbm, 183, rfl⟩
abbrev main_v150 : Ref sig .tc := ⟨.hbm, 184, rfl⟩
abbrev main_cst_29 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_30 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_31 : Ref sig .tc := ⟨.hbm, 194, rfl⟩
abbrev main_v158 : Ref sig .tc := ⟨.hbm, 195, rfl⟩
abbrev main_v159 : Ref sig .tc := ⟨.hbm, 196, rfl⟩
abbrev main_cst_32 : Ref sig .tc := ⟨.hbm, 197, rfl⟩
abbrev main_v160 : Ref sig .tc := ⟨.hbm, 198, rfl⟩
abbrev main_v161 : Ref sig .tc := ⟨.hbm, 199, rfl⟩
abbrev main_cst_33 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_34 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_cst_35 : Ref sig .tc := ⟨.hbm, 209, rfl⟩
abbrev main_v169 : Ref sig .tc := ⟨.hbm, 210, rfl⟩
abbrev main_v170 : Ref sig .tc := ⟨.hbm, 211, rfl⟩
abbrev main_cst_36 : Ref sig .tc := ⟨.hbm, 212, rfl⟩
abbrev main_v171 : Ref sig .tc := ⟨.hbm, 213, rfl⟩
abbrev main_v172 : Ref sig .tc := ⟨.hbm, 214, rfl⟩
abbrev main_cst_37 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_38 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_cst_39 : Ref sig .tc := ⟨.hbm, 224, rfl⟩
abbrev main_v180 : Ref sig .tc := ⟨.hbm, 225, rfl⟩
abbrev main_v181 : Ref sig .tc := ⟨.hbm, 226, rfl⟩
abbrev main_cst_40 : Ref sig .tc := ⟨.hbm, 227, rfl⟩
abbrev main_v182 : Ref sig .tc := ⟨.hbm, 228, rfl⟩
abbrev main_v183 : Ref sig .tc := ⟨.hbm, 229, rfl⟩
abbrev main_cst_41 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_42 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_cst_43 : Ref sig .tc := ⟨.hbm, 239, rfl⟩
abbrev main_v191 : Ref sig .tc := ⟨.hbm, 240, rfl⟩
abbrev main_v192 : Ref sig .tc := ⟨.hbm, 241, rfl⟩
abbrev main_cst_44 : Ref sig .tc := ⟨.hbm, 242, rfl⟩
abbrev main_v193 : Ref sig .tc := ⟨.hbm, 243, rfl⟩
abbrev main_v194 : Ref sig .tc := ⟨.hbm, 244, rfl⟩
abbrev main_cst_45 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_cst_46 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_47 : Ref sig .tc := ⟨.hbm, 254, rfl⟩
abbrev main_v202 : Ref sig .tc := ⟨.hbm, 255, rfl⟩
abbrev main_v203 : Ref sig .tc := ⟨.hbm, 256, rfl⟩
abbrev main_cst_48 : Ref sig .tc := ⟨.hbm, 257, rfl⟩
abbrev main_v204 : Ref sig .tc := ⟨.hbm, 258, rfl⟩
abbrev main_v205 : Ref sig .tc := ⟨.hbm, 259, rfl⟩
abbrev main_cst_49 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_cst_50 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_51 : Ref sig .tc := ⟨.hbm, 269, rfl⟩
abbrev main_v213 : Ref sig .tc := ⟨.hbm, 270, rfl⟩
abbrev main_v214 : Ref sig .tc := ⟨.hbm, 271, rfl⟩
abbrev main_cst_52 : Ref sig .tc := ⟨.hbm, 272, rfl⟩
abbrev main_v215 : Ref sig .tc := ⟨.hbm, 273, rfl⟩
abbrev main_v216 : Ref sig .tc := ⟨.hbm, 274, rfl⟩
abbrev main_cst_53 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩

abbrev nD : Nat := 1
abbrev τ : Topo := Topo.v7x

variable {F : FTy → Type} [FloatOps F]
-- ==== Kernel2.lean ====
abbrev S2x2048x4096 : Shape := ⟨3, ![2, 2048, 4096]⟩
abbrev S2x2048x1024 : Shape := ⟨3, ![2, 2048, 1024]⟩
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S4096x4096, .f32⟩
  | .hbm, ⟨3, _⟩ => ⟨S4096x4096, .bf16⟩
  | .hbm, ⟨4, _⟩ => ⟨S4096x1024, .f32⟩
  | .hbm, ⟨5, _⟩ => ⟨S4096x1024, .bf16⟩
  | .hbm, ⟨6, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x2048x4096 : Shape := ⟨3, ![2, 2048, 4096]⟩
abbrev S2x2048x1024 : Shape := ⟨3, ![2, 2048, 1024]⟩
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2x2048x1024 : Shape := ⟨3, ![2, 2048, 1024]⟩
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x1024 : Shape := ⟨3, ![2, 2048, 1024]⟩
abbrev S4096x1024 : Shape := ⟨2, ![4096, 1024]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x4096, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2x2048x4096 : Shape := ⟨3, ![2, 2048, 4096]⟩
abbrev S1024x8192 : Shape := ⟨2, ![1024, 8192]⟩
abbrev S4096x4096 : Shape := ⟨2, ![4096, 4096]⟩
abbrev S1024x4x2048 : Shape := ⟨3, ![1024, 4, 2048]⟩
abbrev S4x1024x2048 : Shape := ⟨3, ![4, 1024, 2048]⟩
abbrev S4096x1024 : Shape := ⟨2, ![4096, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S1024x8192, .f32⟩
  | .hbm, ⟨2, _⟩ => ⟨S4096x4096, .f32⟩
  | .hbm, ⟨3, _⟩ => ⟨S4096x4096, .bf16⟩
  | .hbm, ⟨4, _⟩ => ⟨S1024x8192, .bf16⟩
  | .hbm, ⟨5, _⟩ => ⟨S1024x4x2048, .bf16⟩
  | .hbm, ⟨6, _⟩ => ⟨S4x1024x2048, .bf16⟩
  | .hbm, ⟨7, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x2048x4096 : Shape := ⟨3, ![2, 2048, 4096]⟩
abbrev S1024x8192 : Shape := ⟨2, ![1024, 8192]⟩
abbrev S_ : Shape := ⟨0, ![]⟩
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1024x8192, .f32⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x2048x4096 : Shape := ⟨3, ![2, 2048, 4096]⟩
abbrev S1024x8192 : Shape := ⟨2, ![1024, 8192]⟩
abbrev S2x2048x1024 : Shape := ⟨3, ![2, 2048, 1024]⟩
abbrev S4096x4096 : Shape := ⟨2, ![4096, 4096]⟩
abbrev S1024x4x2048 : Shape := ⟨3, ![1024, 4, 2048]⟩
abbrev S4x1024x2048 : Shape := ⟨3, ![4, 1024, 2048]⟩
abbrev S4096x1024 : Shape := ⟨2, ![4096, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S1024x8192, .f32⟩
  | .hbm, ⟨2, _⟩ => ⟨S2x2048x1024, .f32⟩
  | .hbm, ⟨3, _⟩ => ⟨S4096x4096, .f32⟩
  | .hbm, ⟨4, _⟩ => ⟨S4096x4096, .bf16⟩
  | .hbm, ⟨5, _⟩ => ⟨S1024x8192, .bf16⟩
  | .hbm, ⟨6, _⟩ => ⟨S1024x4x2048, .bf16⟩
  | .hbm, ⟨7, _⟩ => ⟨S4x1024x2048, .bf16⟩
  | .hbm, ⟨8, _⟩ => ⟨S4096x1024, .f32⟩
  | .hbm, ⟨9, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2x2048x4096 : Shape := ⟨3, ![2, 2048, 4096]⟩
abbrev S1024x8192 : Shape := ⟨2, ![1024, 8192]⟩
abbrev S2x2048x1024 : Shape := ⟨3, ![2, 2048, 1024]⟩
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1024x8192, .f32⟩
  | .hbm, ⟨2, _⟩ => ⟨S2x2048x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S2x2304x1024 : Shape := ⟨3, ![2, 2304, 1024]⟩
abbrev S2x2304x8224 : Shape := ⟨3, ![2, 2304, 8224]⟩
abbrev S4608x1024 : Shape := ⟨2, ![4608, 1024]⟩
abbrev S4608x8224 : Shape := ⟨2, ![4608, 8224]⟩
abbrev S4608x8x128 : Shape := ⟨3, ![4608, 8, 128]⟩
abbrev S4608x8x1x128 : Shape := ⟨4, ![4608, 8, 1, 128]⟩
abbrev S4608x8x2x128 : Shape := ⟨4, ![4608, 8, 2, 128]⟩
abbrev S4608x4096 : Shape := ⟨2, ![4608, 4096]⟩
abbrev S4608x2048 : Shape := ⟨2, ![4608, 2048]⟩
abbrev S4608x32 : Shape := ⟨2, ![4608, 32]⟩
abbrev S_ : Shape := ⟨0, ![]⟩
abbrev S4608x96 : Shape := ⟨2, ![4608, 96]⟩
abbrev S4608x8320 : Shape := ⟨2, ![4608, 8320]⟩
abbrev S1024x8320 : Shape := ⟨2, ![1024, 8320]⟩
abbrev S1536x1024 : Shape := ⟨2, ![1536, 1024]⟩
abbrev S1536x1664 : Shape := ⟨2, ![1536, 1664]⟩
abbrev S1024x1664 : Shape := ⟨2, ![1024, 1664]⟩
abbrev S1024x2048 : Shape := ⟨2, ![1024, 2048]⟩
abbrev S1024x8x2x128 : Shape := ⟨4, ![1024, 8, 2, 128]⟩
abbrev S1024x4096 : Shape := ⟨2, ![1024, 4096]⟩
abbrev S1024x32 : Shape := ⟨2, ![1024, 32]⟩
abbrev S1024x8x1x128 : Shape := ⟨4, ![1024, 8, 1, 128]⟩
abbrev S1024x8x128 : Shape := ⟨3, ![1024, 8, 128]⟩
abbrev S1024x1024 : Shape := ⟨2, ![1024, 1024]⟩
abbrev S1024x8224 : Shape := ⟨2, ![1024, 8224]⟩

abbrev nBuf : Space → Nat
  | .hbm => 33
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S2x2304x8224, .f32⟩
  | .hbm, ⟨2, _⟩ => ⟨S4608x1024, .f32⟩
  | .hbm, ⟨3, _⟩ => ⟨S4608x1024, .bf16⟩
  | .hbm, ⟨4, _⟩ => ⟨S4608x8224, .f32⟩
  | .hbm, ⟨5, _⟩ => ⟨S4608x8224, .bf16⟩
  | .hbm, ⟨6, _⟩ => ⟨S4608x1024, .bf16⟩
  | .hbm, ⟨7, _⟩ => ⟨S4608x8x128, .bf16⟩
  | .hbm, ⟨8, _⟩ => ⟨S4608x1024, .bf16⟩
  | .hbm, ⟨9, _⟩ => ⟨S4608x8x128, .bf16⟩
  | .hbm, ⟨10, _⟩ => ⟨S4608x8x1x128, .bf16⟩
  | .hbm, ⟨11, _⟩ => ⟨S4608x8x1x128, .bf16⟩
  | .hbm, ⟨12, _⟩ => ⟨S4608x8x2x128, .bf16⟩
  | .hbm, ⟨13, _⟩ => ⟨S4608x4096, .bf16⟩
  | .hbm, ⟨14, _⟩ => ⟨S4608x2048, .bf16⟩
  | .hbm, ⟨15, _⟩ => ⟨S4608x2048, .bf16⟩
  | .hbm, ⟨16, _⟩ => ⟨S4608x32, .bf16⟩
  | .hbm, ⟨17, _⟩ => ⟨S_, .bf16⟩
  | .hbm, ⟨18, _⟩ => ⟨S4608x96, .bf16⟩
  | .hbm, ⟨19, _⟩ => ⟨S4608x8320, .bf16⟩
  | .hbm, ⟨20, _⟩ => ⟨S1024x8320, .f32⟩
  | .hbm, ⟨21, _⟩ => ⟨S1024x2048, .f32⟩
  | .hbm, ⟨22, _⟩ => ⟨S1024x8x2x128, .f32⟩
  | .hbm, ⟨23, _⟩ => ⟨S1024x4096, .f32⟩
  | .hbm, ⟨24, _⟩ => ⟨S1024x32, .f32⟩
  | .hbm, ⟨25, _⟩ => ⟨S1024x8x1x128, .f32⟩
  | .hbm, ⟨26, _⟩ => ⟨S1024x8x128, .f32⟩
  | .hbm, ⟨27, _⟩ => ⟨S1024x1024, .f32⟩
  | .hbm, ⟨28, _⟩ => ⟨S1024x8x1x128, .f32⟩
  | .hbm, ⟨29, _⟩ => ⟨S1024x8x128, .f32⟩
  | .hbm, ⟨30, _⟩ => ⟨S1024x1024, .f32⟩
  | .hbm, ⟨31, _⟩ => ⟨S1024x2048, .f32⟩
  | .hbm, ⟨32, _⟩ => ⟨S1024x8224, .f32⟩
  | .local _ .vmem, ⟨0, _⟩ => ⟨S1536x1024, .bf16⟩
  | .local _ .vmem, ⟨1, _⟩ => ⟨S1536x1024, .bf16⟩
  | .local _ .vmem, ⟨2, _⟩ => ⟨S1536x1664, .bf16⟩
  | .local _ .vmem, ⟨3, _⟩ => ⟨S1536x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x2304x1024 : Shape := ⟨3, ![2, 2304, 1024]⟩
abbrev S2x2304x8224 : Shape := ⟨3, ![2, 2304, 8224]⟩
abbrev S4608x1024 : Shape := ⟨2, ![4608, 1024]⟩
abbrev S4608x8224 : Shape := ⟨2, ![4608, 8224]⟩
abbrev S_ : Shape := ⟨0, ![]⟩
abbrev S1024x8224 : Shape := ⟨2, ![1024, 8224]⟩
abbrev S8224x1024 : Shape := ⟨2, ![8224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2304x8224, .f32⟩
  | .hbm, ⟨2, _⟩ => ⟨S4608x1024, .f32⟩
  | .hbm, ⟨3, _⟩ => ⟨S4608x8224, .f32⟩
  | .hbm, ⟨4, _⟩ => ⟨S_, .f32⟩
  | .hbm, ⟨5, _⟩ => ⟨S1024x8224, .f32⟩
  | .hbm, ⟨6, _⟩ => ⟨S4608x8224, .f32⟩
  | .hbm, ⟨7, _⟩ => ⟨S8224x1024, .f32⟩
  | .hbm, ⟨8, _⟩ => ⟨S1024x8224, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2x2304x8224 : Shape := ⟨3, ![2, 2304, 8224]⟩
abbrev S1024x8224 : Shape := ⟨2, ![1024, 8224]⟩
abbrev S8x128 : Shape := ⟨2, ![8, 128]⟩
abbrev S4608x8224 : Shape := ⟨2, ![4608, 8224]⟩
abbrev S4608x1024 : Shape := ⟨2, ![4608, 1024]⟩
abbrev S4608x8x128 : Shape := ⟨3, ![4608, 8, 128]⟩
abbrev S4608x8x1x128 : Shape := ⟨4, ![4608, 8, 1, 128]⟩
abbrev S4608x8x2x128 : Shape := ⟨4, ![4608, 8, 2, 128]⟩
abbrev S4608x4096 : Shape := ⟨2, ![4608, 4096]⟩
abbrev S4608x2048 : Shape := ⟨2, ![4608, 2048]⟩
abbrev S4608x32 : Shape := ⟨2, ![4608, 32]⟩
abbrev S_ : Shape := ⟨0, ![]⟩
abbrev S4608x96 : Shape := ⟨2, ![4608, 96]⟩
abbrev S4608x8320 : Shape := ⟨2, ![4608, 8320]⟩
abbrev S1024x1024 : Shape := ⟨2, ![1024, 1024]⟩
abbrev S1024x8x128 : Shape := ⟨3, ![1024, 8, 128]⟩
abbrev S1024x8x1x128 : Shape := ⟨4, ![1024, 8, 1, 128]⟩
abbrev S1024x8x2x128 : Shape := ⟨4, ![1024, 8, 2, 128]⟩
abbrev S1024x4096 : Shape := ⟨2, ![1024, 4096]⟩
abbrev S1024x2048 : Shape := ⟨2, ![1024, 2048]⟩
abbrev S1024x32 : Shape := ⟨2, ![1024, 32]⟩
abbrev S1024x96 : Shape := ⟨2, ![1024, 96]⟩
abbrev S1024x8320 : Shape := ⟨2, ![1024, 8320]⟩
abbrev S768x1664 : Shape := ⟨2, ![768, 1664]⟩
abbrev S1024x1664 : Shape := ⟨2, ![1024, 1664]⟩
abbrev S768x1024 : Shape := ⟨2, ![768, 1024]⟩

abbrev nBuf : Space → Nat
  | .hbm => 35
  | .vmem => 7
  | .smem => 0
  | _ => 0

abbrev bufTy : (tb : Table) → Fin (tcTables nBuf tb) → BufTy
  | .hbm, ⟨0, _⟩ => ⟨S2x2304x8224, .f32⟩
  | .hbm, ⟨1, _⟩ => ⟨S1024x8224, .f32⟩
  | .hbm, ⟨2, _⟩ => ⟨S8x128, .f32⟩
  | .hbm, ⟨3, _⟩ => ⟨S4608x8224, .f32⟩
  | .hbm, ⟨4, _⟩ => ⟨S4608x8224, .bf16⟩
  | .hbm, ⟨5, _⟩ => ⟨S4608x1024, .bf16⟩
  | .hbm, ⟨6, _⟩ => ⟨S4608x8x128, .bf16⟩
  | .hbm, ⟨7, _⟩ => ⟨S4608x1024, .bf16⟩
  | .hbm, ⟨8, _⟩ => ⟨S4608x8x128, .bf16⟩
  | .hbm, ⟨9, _⟩ => ⟨S4608x8x1x128, .bf16⟩
  | .hbm, ⟨10, _⟩ => ⟨S4608x8x1x128, .bf16⟩
  | .hbm, ⟨11, _⟩ => ⟨S4608x8x2x128, .bf16⟩
  | .hbm, ⟨12, _⟩ => ⟨S4608x4096, .bf16⟩
  | .hbm, ⟨13, _⟩ => ⟨S4608x2048, .bf16⟩
  | .hbm, ⟨14, _⟩ => ⟨S4608x2048, .bf16⟩
  | .hbm, ⟨15, _⟩ => ⟨S4608x32, .bf16⟩
  | .hbm, ⟨16, _⟩ => ⟨S_, .bf16⟩
  | .hbm, ⟨17, _⟩ => ⟨S4608x96, .bf16⟩
  | .hbm, ⟨18, _⟩ => ⟨S4608x8320, .bf16⟩
  | .hbm, ⟨19, _⟩ => ⟨S1024x8224, .bf16⟩
  | .hbm, ⟨20, _⟩ => ⟨S1024x1024, .bf16⟩
  | .hbm, ⟨21, _⟩ => ⟨S1024x8x128, .bf16⟩
  | .hbm, ⟨22, _⟩ => ⟨S1024x1024, .bf16⟩
  | .hbm, ⟨23, _⟩ => ⟨S1024x8x128, .bf16⟩
  | .hbm, ⟨24, _⟩ => ⟨S1024x8x1x128, .bf16⟩
  | .hbm, ⟨25, _⟩ => ⟨S1024x8x1x128, .bf16⟩
  | .hbm, ⟨26, _⟩ => ⟨S1024x8x2x128, .bf16⟩
  | .hbm, ⟨27, _⟩ => ⟨S1024x4096, .bf16⟩
  | .hbm, ⟨28, _⟩ => ⟨S1024x2048, .bf16⟩
  | .hbm, ⟨29, _⟩ => ⟨S1024x2048, .bf16⟩
  | .hbm, ⟨30, _⟩ => ⟨S1024x32, .bf16⟩
  | .hbm, ⟨31, _⟩ => ⟨S_, .bf16⟩
  | .hbm, ⟨32, _⟩ => ⟨S1024x96, .bf16⟩
  | .hbm, ⟨33, _⟩ => ⟨S1024x8320, .bf16⟩
  | .hbm, ⟨34, _⟩ => ⟨S4608x1024, .f32⟩
  | .local _ .vmem, ⟨0, _⟩ => ⟨S768x1664, .bf16⟩
  | .local _ .vmem, ⟨1, _⟩ => ⟨S768x1664, .bf16⟩
  | .local _ .vmem, ⟨2, _⟩ => ⟨S1024x1664, .bf16⟩
  | .local _ .vmem, ⟨3, _⟩ => ⟨S1024x1664, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2x2304x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x2304x8224 : Shape := ⟨3, ![2, 2304, 8224]⟩
abbrev S1024x8224 : Shape := ⟨2, ![1024, 8224]⟩
abbrev S8x128 : Shape := ⟨2, ![8, 128]⟩
abbrev S_ : Shape := ⟨0, ![]⟩
abbrev S4608x1024 : Shape := ⟨2, ![4608, 1024]⟩
abbrev S4608x8224 : Shape := ⟨2, ![4608, 8224]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x8224, .f32⟩
  | .hbm, ⟨1, _⟩ => ⟨S1024x8224, .f32⟩
  | .hbm, ⟨2, _⟩ => ⟨S8x128, .f32⟩
  | .hbm, ⟨3, _⟩ => ⟨S_, .f32⟩
  | .hbm, ⟨4, _⟩ => ⟨S4608x1024, .f32⟩
  | .hbm, ⟨5, _⟩ => ⟨S4608x8224, .f32⟩
  | .hbm, ⟨6, _⟩ => ⟨S4608x8224, .f32⟩
  | .hbm, ⟨7, _⟩ => ⟨S4608x1024, .f32⟩
  | _, _ => ⟨S2x2304x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S2x2304x1024 : Shape := ⟨3, ![2, 2304, 1024]⟩
abbrev S1024x8224 : Shape := ⟨2, ![1024, 8224]⟩
abbrev S4608x1024 : Shape := ⟨2, ![4608, 1024]⟩
abbrev S1024x1024 : Shape := ⟨2, ![1024, 1024]⟩
abbrev S1024x8x128 : Shape := ⟨3, ![1024, 8, 128]⟩
abbrev S1024x8x1x128 : Shape := ⟨4, ![1024, 8, 1, 128]⟩
abbrev S1024x8x2x128 : Shape := ⟨4, ![1024, 8, 2, 128]⟩
abbrev S1024x4096 : Shape := ⟨2, ![1024, 4096]⟩
abbrev S1024x2048 : Shape := ⟨2, ![1024, 2048]⟩
abbrev S1024x32 : Shape := ⟨2, ![1024, 32]⟩
abbrev S_ : Shape := ⟨0, ![]⟩
abbrev S1024x96 : Shape := ⟨2, ![1024, 96]⟩
abbrev S1024x8320 : Shape := ⟨2, ![1024, 8320]⟩
abbrev S4608x8320 : Shape := ⟨2, ![4608, 8320]⟩
abbrev S768x1024 : Shape := ⟨2, ![768, 1024]⟩
abbrev S1024x1664 : Shape := ⟨2, ![1024, 1664]⟩
abbrev S768x1664 : Shape := ⟨2, ![768, 1664]⟩
abbrev S4608x2048 : Shape := ⟨2, ![4608, 2048]⟩
abbrev S4608x8x2x128 : Shape := ⟨4, ![4608, 8, 2, 128]⟩
abbrev S4608x4096 : Shape := ⟨2, ![4608, 4096]⟩
abbrev S4608x32 : Shape := ⟨2, ![4608, 32]⟩
abbrev S4608x8x1x128 : Shape := ⟨4, ![4608, 8, 1, 128]⟩
abbrev S4608x8x128 : Shape := ⟨3, ![4608, 8, 128]⟩
abbrev S4608x8224 : Shape := ⟨2, ![4608, 8224]⟩

abbrev nBuf : Space → Nat
  | .hbm => 32
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x8224, .f32⟩
  | .hbm, ⟨2, _⟩ => ⟨S4608x1024, .f32⟩
  | .hbm, ⟨3, _⟩ => ⟨S4608x1024, .bf16⟩
  | .hbm, ⟨4, _⟩ => ⟨S1024x8224, .bf16⟩
  | .hbm, ⟨5, _⟩ => ⟨S1024x1024, .bf16⟩
  | .hbm, ⟨6, _⟩ => ⟨S1024x8x128, .bf16⟩
  | .hbm, ⟨7, _⟩ => ⟨S1024x1024, .bf16⟩
  | .hbm, ⟨8, _⟩ => ⟨S1024x8x128, .bf16⟩
  | .hbm, ⟨9, _⟩ => ⟨S1024x8x1x128, .bf16⟩
  | .hbm, ⟨10, _⟩ => ⟨S1024x8x1x128, .bf16⟩
  | .hbm, ⟨11, _⟩ => ⟨S1024x8x2x128, .bf16⟩
  | .hbm, ⟨12, _⟩ => ⟨S1024x4096, .bf16⟩
  | .hbm, ⟨13, _⟩ => ⟨S1024x2048, .bf16⟩
  | .hbm, ⟨14, _⟩ => ⟨S1024x2048, .bf16⟩
  | .hbm, ⟨15, _⟩ => ⟨S1024x32, .bf16⟩
  | .hbm, ⟨16, _⟩ => ⟨S_, .bf16⟩
  | .hbm, ⟨17, _⟩ => ⟨S1024x96, .bf16⟩
  | .hbm, ⟨18, _⟩ => ⟨S1024x8320, .bf16⟩
  | .hbm, ⟨19, _⟩ => ⟨S4608x8320, .f32⟩
  | .hbm, ⟨20, _⟩ => ⟨S4608x2048, .f32⟩
  | .hbm, ⟨21, _⟩ => ⟨S4608x8x2x128, .f32⟩
  | .hbm, ⟨22, _⟩ => ⟨S4608x4096, .f32⟩
  | .hbm, ⟨23, _⟩ => ⟨S4608x32, .f32⟩
  | .hbm, ⟨24, _⟩ => ⟨S4608x8x1x128, .f32⟩
  | .hbm, ⟨25, _⟩ => ⟨S4608x8x128, .f32⟩
  | .hbm, ⟨26, _⟩ => ⟨S4608x1024, .f32⟩
  | .hbm, ⟨27, _⟩ => ⟨S4608x8x1x128, .f32⟩
  | .hbm, ⟨28, _⟩ => ⟨S4608x8x128, .f32⟩
  | .hbm, ⟨29, _⟩ => ⟨S4608x1024, .f32⟩
  | .hbm, ⟨30, _⟩ => ⟨S4608x2048, .f32⟩
  | .hbm, ⟨31, _⟩ => ⟨S4608x8224, .f32⟩
  | .local _ .vmem, ⟨0, _⟩ => ⟨S768x1024, .bf16⟩
  | .local _ .vmem, ⟨1, _⟩ => ⟨S768x1024, .bf16⟩
  | .local _ .vmem, ⟨2, _⟩ => ⟨S1024x1664, .bf16⟩
  | .local _ .vmem, ⟨3, _⟩ => ⟨S1024x1664, .bf16⟩
  | .local _ .vmem, ⟨4, _⟩ => ⟨S768x1664, .f32⟩
  | .local _ .vmem, ⟨5, _⟩ => ⟨S768x1664, .f32⟩
  | .local _ .vmem, ⟨6, _⟩ => ⟨S768x1664, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x2304x1024 : Shape := ⟨3, ![2, 2304, 1024]⟩
abbrev S1024x8224 : Shape := ⟨2, ![1024, 8224]⟩
abbrev S4608x1024 : Shape := ⟨2, ![4608, 1024]⟩
abbrev S4608x8224 : Shape := ⟨2, ![4608, 8224]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x8224, .f32⟩
  | .hbm, ⟨2, _⟩ => ⟨S4608x1024, .f32⟩
  | .hbm, ⟨3, _⟩ => ⟨S4608x8224, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S2x2048x1024 : Shape := ⟨3, ![2, 2048, 1024]⟩
abbrev S1024x8192 : Shape := ⟨2, ![1024, 8192]⟩
abbrev S4096x1024 : Shape := ⟨2, ![4096, 1024]⟩
abbrev S1024x4x2048 : Shape := ⟨3, ![1024, 4, 2048]⟩
abbrev S4x1024x2048 : Shape := ⟨3, ![4, 1024, 2048]⟩
abbrev S4096x8192 : Shape := ⟨2, ![4096, 8192]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x8192, .f32⟩
  | .hbm, ⟨2, _⟩ => ⟨S4096x1024, .f32⟩
  | .hbm, ⟨3, _⟩ => ⟨S4096x1024, .bf16⟩
  | .hbm, ⟨4, _⟩ => ⟨S1024x8192, .bf16⟩
  | .hbm, ⟨5, _⟩ => ⟨S1024x4x2048, .bf16⟩
  | .hbm, ⟨6, _⟩ => ⟨S4x1024x2048, .bf16⟩
  | .hbm, ⟨7, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2x2048x1024 : Shape := ⟨3, ![2, 2048, 1024]⟩
abbrev S1024x8192 : Shape := ⟨2, ![1024, 8192]⟩
abbrev S4096x1024 : Shape := ⟨2, ![4096, 1024]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8192, .f32⟩
  | .hbm, ⟨2, _⟩ => ⟨S4096x1024, .f32⟩
  | .hbm, ⟨3, _⟩ => ⟨S4096x8192, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2x2048x4096 : Shape := ⟨3, ![2, 2048, 4096]⟩
abbrev S4096x1024 : Shape := ⟨2, ![4096, 1024]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S4096x4096, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2x2048x4096 : Shape := ⟨3, ![2, 2048, 4096]⟩
abbrev S4096x1024 : Shape := ⟨2, ![4096, 1024]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S4096x4096, .f32⟩
  | .hbm, ⟨3, _⟩ => ⟨S4096x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S2x2048x1024 : Shape := ⟨3, ![2, 2048, 1024]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S2x2048x1024 : Shape := ⟨3, ![2, 2048, 1024]⟩
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2x2048x1024 : Shape := ⟨3, ![2, 2048, 1024]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S2x2048x1024 : Shape := ⟨3, ![2, 2048, 1024]⟩
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2x2048x1024 : Shape := ⟨3, ![2, 2048, 1024]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S2x2048x1024 : Shape := ⟨3, ![2, 2048, 1024]⟩
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2x2048x1024 : Shape := ⟨3, ![2, 2048, 1024]⟩
abbrev S2x2048x4096 : Shape := ⟨3, ![2, 2048, 4096]⟩
abbrev S4x1024x2048 : Shape := ⟨3, ![4, 1024, 2048]⟩
abbrev S4096x1024 : Shape := ⟨2, ![4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩
abbrev S2x1024x2048 : Shape := ⟨3, ![2, 1024, 2048]⟩
abbrev S1024x2x2048 : Shape := ⟨3, ![1024, 2, 2048]⟩
abbrev S1024x4096 : Shape := ⟨2, ![1024, 4096]⟩

abbrev nBuf : Space → Nat
  | .hbm => 11
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4x1024x2048, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S4x1024x2048, .f32⟩
  | .hbm, ⟨8, _⟩ => ⟨S2x1024x2048, .f32⟩
  | .hbm, ⟨9, _⟩ => ⟨S1024x2x2048, .f32⟩
  | .hbm, ⟨10, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2x2048x1024 : Shape := ⟨3, ![2, 2048, 1024]⟩
abbrev S2x2048x4096 : Shape := ⟨3, ![2, 2048, 4096]⟩
abbrev S4x1024x2048 : Shape := ⟨3, ![4, 1024, 2048]⟩
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4x1024x2048, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel21.lean ====
abbrev S2x2048x1024 : Shape := ⟨3, ![2, 2048, 1024]⟩
abbrev S2x2048x4096 : Shape := ⟨3, ![2, 2048, 4096]⟩
abbrev S4x1024x2048 : Shape := ⟨3, ![4, 1024, 2048]⟩
abbrev S4096x1024 : Shape := ⟨2, ![4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩
abbrev S2x1024x2048 : Shape := ⟨3, ![2, 1024, 2048]⟩
abbrev S1024x2x2048 : Shape := ⟨3, ![1024, 2, 2048]⟩
abbrev S1024x4096 : Shape := ⟨2, ![1024, 4096]⟩

abbrev nBuf : Space → Nat
  | .hbm => 11
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4x1024x2048, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S4x1024x2048, .f32⟩
  | .hbm, ⟨8, _⟩ => ⟨S2x1024x2048, .f32⟩
  | .hbm, ⟨9, _⟩ => ⟨S1024x2x2048, .f32⟩
  | .hbm, ⟨10, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2x2048x1024 : Shape := ⟨3, ![2, 2048, 1024]⟩
abbrev S2x2048x4096 : Shape := ⟨3, ![2, 2048, 4096]⟩
abbrev S4x1024x2048 : Shape := ⟨3, ![4, 1024, 2048]⟩
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4x1024x2048, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.FfnShared.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator's first visit to a block of columns: the body's one conditional. -/
abbrev first (i : grid0.Coords) : Prop := (Scalar.cmpi .ne (Scalar.extui (Scalar.cmpi .eq (BitVec.ofNat 32 (i 1).val) 0#32)) 0#32) = 1#1
/-- It holds at the even points (the batch row is the inner grid axis). -/
theorem first_iff : ∀ t : Fin cfg0.N, first (grid0.coords t) ↔ t.val % 2 = 0 :=
  (by decide +kernel : ∀ t : Fin grid0.N, first (grid0.coords t) ↔ t.val % 2 = 0)

/-- Window 0's staging buffer at point `t`, which is a whole one. -/
abbrev st0 (t : Fin cfg0.N) : Memref sig .tc .vmem S2048x256 .f32 := win0_0.stage (cfg0.slots t 0)
abbrev hst0 (t : Fin cfg0.N) : (st0 t).IsWhole := hstage0_0 ((cfg0.slots t 0).cast nbuf0_0)
/-- Window 1's staging buffer at point `t`, which is a whole one. -/
abbrev st1 (t : Fin cfg0.N) : Memref sig .tc .vmem S2048x256 .f32 := win0_1.stage (cfg0.slots t 1)
abbrev hst1 (t : Fin cfg0.N) : (st1 t).IsWhole := hstage0_1 ((cfg0.slots t 1).cast nbuf0_1)
/-- Window 2's staging buffer at point `t`, which is a whole one. -/
abbrev st2 (t : Fin cfg0.N) : Memref sig .tc .vmem S9x256 .f32 := win0_2.stage (cfg0.slots t 2)
abbrev hst2 (t : Fin cfg0.N) : (st2 t).IsWhole := hstage0_2 ((cfg0.slots t 2).cast nbuf0_2)
/-- Window 3's staging buffer at point `t`, which is a whole one. -/
abbrev st3 (t : Fin cfg0.N) : Memref sig .tc .vmem S2048x256 .f32 := win0_3.stage (cfg0.slots t 3)
abbrev hst3 (t : Fin cfg0.N) : (st3 t).IsWhole := hstage0_3 ((cfg0.slots t 3).cast nbuf0_3)
/-- Window 4's staging buffer at point `t`, which is a whole one. -/
abbrev st4 (t : Fin cfg0.N) : Memref sig .tc .vmem S2048x256 .f32 := win0_4.stage (cfg0.slots t 4)
abbrev hst4 (t : Fin cfg0.N) : (st4 t).IsWhole := hstage0_4 ((cfg0.slots t 4).cast nbuf0_4)
/-- Window 5's staging buffer at point `t`, which is a whole one. -/
abbrev st5 (t : Fin cfg0.N) : Memref sig .tc .vmem S2048x256 .bf16 := win0_5.stage (cfg0.slots t 5)
abbrev hst5 (t : Fin cfg0.N) : (st5 t).IsWhole := hstage0_5 ((cfg0.slots t 5).cast nbuf0_5)
/-- Window 6's staging buffer at point `t`, which is a whole one. -/
abbrev st6 (t : Fin cfg0.N) : Memref sig .tc .vmem S2048x256 .bf16 := win0_6.stage (cfg0.slots t 6)
abbrev hst6 (t : Fin cfg0.N) : (st6 t).IsWhole := hstage0_6 ((cfg0.slots t 6).cast nbuf0_6)
/-- Window 7's staging buffer at point `t`, which is a whole one. -/
abbrev st7 (t : Fin cfg0.N) : Memref sig .tc .vmem S16x256 .f32 := win0_7.stage (cfg0.slots t 7)
abbrev hst7 (t : Fin cfg0.N) : (st7 t).IsWhole := hstage0_7 ((cfg0.slots t 7).cast nbuf0_7)

end Cert.KernelIdeal.Ffn

end
-- ==== Proof.FfnStepA.lean ====
module

public import proofs.«01_k».proof.Proof.FfnShared

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes at the first visit of a block of columns, with its run to them: the five inputs are
    left as found, the two gradients are written over anything, the accumulator over anything too (it is cleared first). -/
noncomputable def stepA (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : first i)
    (x0 : Vec F S2048x256 .f32) (x1 : Vec F S2048x256 .f32) (x2 : Vec F S9x256 .f32) (x3 : Vec F S2048x256 .f32) (x4 : Vec F S2048x256 .f32) :
    Σ' (L5 : List (View.Piece (Elt F) S2048x256 .bf16)) (L6 : List (View.Piece (Elt F) S2048x256 .bf16)), { L7 : List (View.Piece (Elt F) S16x256 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (∃ f, a7.view.loc (c : Thread nD τ) ↦[a7.view.set]{fullShare} a7.view.writes (Elt F) f L7)) -∗ K ⟨⟩))
          ⊢ wp frame (wpE (defs₀ (F := F)) Variants.none c none) E (cc0_ffn_act_bwd i a0 h0 a1 h1 a2 h2 a3 h3 a4 h4 a5 h5 a6 h6 a7 h7) K } := by
  refine ⟨?_, ?_, ?_, fun E K => ?run⟩
  case run =>
    simp only [cc0_ffn_act_bwd_eq_skeleton]; unfold cc0_ffn_act_bwd_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, Hk⟩
    obtain rfl := h0.eq_unread e0; obtain rfl := h1.eq_unread e1; obtain rfl := h2.eq_unread e2; obtain rfl := h3.eq_unread e3; obtain rfl := h4.eq_unread e4
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]; · iexists _; iexact H6
    iexists _; iexact H7

end Cert.KernelIdeal.Ffn

end
-- ==== Proof.FfnStepB.lean ====
module

public import proofs.«01_k».proof.Proof.FfnShared

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes at the second visit of a block of columns, with its run to them: the five inputs are
    left as found, the two gradients are written over anything, the accumulator over what the first visit left. -/
noncomputable def stepB (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : ¬first i)
    (x0 : Vec F S2048x256 .f32) (x1 : Vec F S2048x256 .f32) (x2 : Vec F S9x256 .f32) (x3 : Vec F S2048x256 .f32) (x4 : Vec F S2048x256 .f32) (x7 : Vec F S16x256 .f32) :
    Σ' (L5 : List (View.Piece (Elt F) S2048x256 .bf16)) (L6 : List (View.Piece (Elt F) S2048x256 .bf16)), { L7 : List (View.Piece (Elt F) S16x256 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ owns (c : Thread nD τ) a7 fullShare x7
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L5) ∗ (∃ f, a6.view.loc (c : Thread nD τ) ↦[a6.view.set]{fullShare} a6.view.writes (Elt F) f L6) ∗ (a7.view.loc (c : Thread nD τ) ↦[a7.view.set]{fullShare} a7.view.writes (Elt F) (h7.unread x7) L7)) -∗ K ⟨⟩))
          ⊢ wp frame (wpE (defs₀ (F := F)) Variants.none c none) E (cc0_ffn_act_bwd i a0 h0 a1 h1 a2 h2 a3 h3 a4 h4 a5 h5 a6 h6 a7 h7) K } := by
  refine ⟨?_, ?_, ?_, fun E K => ?run⟩
  case run =>
    simp only [cc0_ffn_act_bwd_eq_skeleton]; unfold cc0_ffn_act_bwd_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%f7, %e7, H7⟩, Hk⟩
    obtain rfl := h0.eq_unread e0; obtain rfl := h1.eq_unread e1; obtain rfl := h2.eq_unread e2; obtain rfl := h3.eq_unread e3; obtain rfl := h4.eq_unread e4; obtain rfl := h7.eq_unread e7
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]; · iexists _; iexact H6
    iexact H7

end Cert.KernelIdeal.Ffn

end
-- ==== Proof.FfnRun.lean ====
module

public import proofs.«01_k».proof.Proof.FfnStepA
public import proofs.«01_k».proof.Proof.FfnStepB
public import Idealize.ShloMosaic.Lib.Claim
public import Idealize.ShloMosaic.Lib.Quiescent

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves at a point -/

/-- The body's run at an even point, on the blocks the region fetched there. -/
abbrev runA (c : Dev nD) (t : Fin cfg0.N) (h : t.val % 2 = 0) :=
  stepA (F := F) c (grid0.coords t) (st0 t) (hst0 t) (st1 t) (hst1 t) (st2 t) (hst2 t) (st3 t) (hst3 t) (st4 t) (hst4 t) (st5 t) (hst5 t) (st6 t) (hst6 t) (st7 t) (hst7 t) ((first_iff t).mpr h) (iblk m c 0 t) (iblk m c 1 t) (iblk m c 2 t) (iblk m c 3 t) (iblk m c 4 t)
/-- The body's run at an odd point, the accumulator entered at `x7`. -/
abbrev runB (c : Dev nD) (t : Fin cfg0.N) (h : ¬t.val % 2 = 0) (x7 : Vec F S16x256 .f32) :=
  stepB (F := F) c (grid0.coords t) (st0 t) (hst0 t) (st1 t) (hst1 t) (st2 t) (hst2 t) (st3 t) (hst3 t) (st4 t) (hst4 t) (st5 t) (hst5 t) (st6 t) (hst6 t) (st7 t) (hst7 t) (fun e => h ((first_iff t).mp e)) (iblk m c 0 t) (iblk m c 1 t) (iblk m c 2 t) (iblk m c 3 t) (iblk m c 4 t) x7

/-- Views the pieces of a window are read through, whichever buffer the window is on. -/
abbrev VB : View sig .tc .vmem S2048x256 .bf16 := (Memref.whole cc0_stg5_0 : Memref sig .tc .vmem S2048x256 .bf16).view
abbrev VW : View sig .tc .vmem S16x256 .f32 := (Memref.whole cc0_stg7_0 : Memref sig .tc .vmem S16x256 .f32).view

theorem coverA5 (c : Dev nD) (t : Fin cfg0.N) (h : t.val % 2 = 0) (y : S2048x256.Idx) :
    ∃ pc ∈ (runA m c t h).1, y ∈ pc.1.set :=
  View.cover_of_tiledL (runA m c t h).1 S2048x128.size (by sl_kernel_rfl) y
theorem coverA6 (c : Dev nD) (t : Fin cfg0.N) (h : t.val % 2 = 0) (y : S2048x256.Idx) :
    ∃ pc ∈ (runA m c t h).2.1, y ∈ pc.1.set :=
  View.cover_of_tiledL (runA m c t h).2.1 S2048x128.size (by sl_kernel_rfl) y
theorem coverA7 (c : Dev nD) (t : Fin cfg0.N) (h : t.val % 2 = 0) (y : S16x256.Idx) :
    ∃ pc ∈ (runA m c t h).2.2.1, y ∈ pc.1.set :=
  View.cover_of_tiledBy (runA m c t h).2.2.1 ![1, 128] (by sl_kernel_rfl) y
theorem coverB5 (c : Dev nD) (t : Fin cfg0.N) (h : ¬t.val % 2 = 0) (x7 : Vec F S16x256 .f32) (y : S2048x256.Idx) :
    ∃ pc ∈ (runB m c t h x7).1, y ∈ pc.1.set :=
  View.cover_of_tiledL (runB m c t h x7).1 S2048x128.size (by sl_kernel_rfl) y
theorem coverB6 (c : Dev nD) (t : Fin cfg0.N) (h : ¬t.val % 2 = 0) (x7 : Vec F S16x256 .f32) (y : S2048x256.Idx) :
    ∃ pc ∈ (runB m c t h x7).2.1, y ∈ pc.1.set :=
  View.cover_of_tiledL (runB m c t h x7).2.1 S2048x128.size (by sl_kernel_rfl) y

/-- The accumulator after an even point. -/
def accA (c : Dev nD) (t : Fin cfg0.N) (h : t.val % 2 = 0) : Vec F S16x256 .f32 :=
  VW.read (Elt F) (VW.writes (Elt F) VW.junk (runA m c t h).2.2.1)
/-- The even point before an odd one. -/
abbrev prev (t : Fin cfg0.N) : Fin cfg0.N := ⟨t.val - 1, Nat.lt_of_le_of_lt (Nat.sub_le _ _) t.isLt⟩
theorem prev_even (t : Fin cfg0.N) (h : ¬t.val % 2 = 0) : (prev t).val % 2 = 0 := by
  show (t.val - 1) % 2 = 0
  omega
/-- The accumulator after an odd point: the pieces over what the even point before left. -/
def accB (c : Dev nD) (t : Fin cfg0.N) (h : ¬t.val % 2 = 0) : Vec F S16x256 .f32 :=
  (st7 t).view.read (Elt F) ((st7 t).view.writes (Elt F) ((hst7 t).unread (accA m c (prev t) (prev_even t h)))
    (runB m c t h (accA m c (prev t) (prev_even t h))).2.2.1)
/-- The accumulator after a point. -/
def acc (c : Dev nD) (t : Fin cfg0.N) : Vec F S16x256 .f32 := if h : t.val % 2 = 0 then accA m c t h else accB m c t h
/-- The gradient of the gate half after a point, read off the pieces written. -/
def gradG (c : Dev nD) (t : Fin cfg0.N) : Vec F S2048x256 .bf16 :=
  if h : t.val % 2 = 0 then VB.read (Elt F) (VB.writes (Elt F) VB.junk (runA m c t h).1)
  else VB.read (Elt F) (VB.writes (Elt F) VB.junk (runB m c t h (accA m c (prev t) (prev_even t h))).1)
/-- The gradient of the value half after a point. -/
def gradV (c : Dev nD) (t : Fin cfg0.N) : Vec F S2048x256 .bf16 :=
  if h : t.val % 2 = 0 then VB.read (Elt F) (VB.writes (Elt F) VB.junk (runA m c t h).2.1)
  else VB.read (Elt F) (VB.writes (Elt F) VB.junk (runB m c t h (accA m c (prev t) (prev_even t h))).2.1)

/-! ## The proof data -/

/-- The arrays as the region finds them; each input's buffer at its block, the outputs' at what the body leaves; the two
    halves of the input share its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradG m c t
    | ⟨6, _⟩ => gradV m c t
    | ⟨7, _⟩ => acc m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = gradG m c t := by dsimp only [dats]
theorem after6 (c : Dev nD) (t : Fin cfg0.N) : (dats m 0 c).after 6 t = gradV m c t := by dsimp only [dats]
theorem after7 (c : Dev nD) (t : Fin cfg0.N) : (dats m 0 c).after 7 t = acc m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- At an odd point the accumulator's buffer still holds what the even point before left: it was not written back between. -/
theorem before7 (c : Dev nD) (t : Fin cfg0.N) (h : ¬t.val % 2 = 0) (d) :
    (dats m 0 c).before 7 t d = accA m c (prev t) (prev_even t h) := by
  have hN : t.val < 32 := lt_of_lt_of_eq t.isLt (show cfg0.N = 32 from N_0)
  rw [Dat.before_out_kept _ 7 rfl t (by omega) (Bool.eq_false_iff.mpr fun e => by have := (flush0_7 _).mp e; dsimp only at this; omega)
    (fun _ => rfl) (fun _ _ => rfl)]
  rw [after7]
  exact dif_pos (prev_even t h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t))

set_option maxHeartbeats 1600000 in
/-- The body at any point, by its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases h : t.val % 2 = 0
  · simp only [gradG, gradV, acc, dif_pos h]
    unfold accA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA m c t h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA5 m c t h)
    isplitl [H6]
    · unfold owns; iexists _; isplitr
      swap; · iexact H6
      ipureintro; exact View.read_writes_of_cover _ _ _ _ _ (coverA6 m c t h)
    unfold owns; iexists _; isplitr
    swap; · iexact H7
    ipureintro; exact View.read_writes_of_cover _ _ _ _ _ (coverA7 m c t h)
  · simp only [gradG, gradV, acc, dif_neg h]
    simp only [before7 m c t h]
    unfold accB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h (accA m c (prev t) (prev_even t h))).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iintro ⟨H0, H1, H2, H3, H4, ⟨%e5, H5⟩, ⟨%e6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB5 m c t h _)
    isplitl [H6]
    · unfold owns; iexists _; isplitr
      swap; · iexact H6
      ipureintro; exact View.read_writes_of_cover _ _ _ _ _ (coverB6 m c t h _)
    unfold owns; iexists _; isplitr
    swap; · iexact H7
    ipureintro; rfl

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

/-- What the host lines after the region leave in a buffer. -/
abbrev W (c : Dev nD) (b : Ref sig .tc) : Buf (Elt F) ((c : Thread nD τ).loc b) :=
  Pipeline.afterTail₀ cfgs (dats m) 0 (V0 m) [hostOps1] c b

set_option backward.isDefEq.respectTransparency.types false in
set_option maxHeartbeats 800000 in
/-- The launch: the pipeline's arrays at what the proof data compute, the other buffers at what the host lines leave, and
    every semaphore at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as launched, at any floats. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run m ρ))

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run m ρ))

/-- The four results after the run: the two gradients' arrays, and the two slices of the accumulator's. -/
theorem results : θ_run defs (onTc (τ := τ) (main (F := F))) ⟨m, fun _ => 0, ρ⟩ (fun r => ∀ c : Dev nD,
      r.2.mem ((c.tc : Thread nD τ).loc main_v80_0) = (dats m 0 c).arrAt 5 cfg0.N
      ∧ r.2.mem ((c.tc : Thread nD τ).loc main_v80_1) = (dats m 0 c).arrAt 6 cfg0.N
      ∧ r.2.mem ((c.tc : Thread nD τ).loc main_v82) = W m c main_v82
      ∧ r.2.mem ((c.tc : Thread nD τ).loc main_v83) = W m c main_v83) :=
  (θ_run defs _ _).mono (fun _ h c => ⟨(h.1 c).1 5, (h.1 c).1 6,
      (h.1 c).2 main_v82 (Pipeline.mem_restRefs_of main_v82 (by decide) (by decide)),
      (h.1 c).2 main_v83 (Pipeline.mem_restRefs_of main_v83 (by decide) (by decide))⟩) (run m ρ)

end Cert.KernelIdeal.Ffn

end
-- ==== Proof.FfnLane.lean ====
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Ffn

open Cert.KernelIdeal.Gen
open Idealize.ShloMosaic Idealize.ShloMosaic.TcCoe Idealize.ShloMosaic.Tactic

/-! ## What one lane of 128 columns computes, as vectors -/

section Vectors

variable {F : FTy → Type} [FloatOps F]

/-- The row number of every row of a block. -/
def rowNo : IVec S2048x1 32 := iota .tc S2048x1 32 [0] iota_S2048x1_d0_w32
/-- The nine masks: where the tap's neighbour of a row is on the grid. -/
def mk0 : IVec S2048x1 1 := k0_pay2
def mk1 : IVec S2048x1 1 := k0_pay5 rowNo k0_pay1 k0_pay3 k0_pay4
def mk2 : IVec S2048x1 1 := k0_pay6 rowNo k0_pay1
def mk3 : IVec S2048x1 1 := k0_pay8 rowNo (k0_pay7 k0_pay1) 0#32
def mk4 : IVec S2048x1 1 := k0_pay9 rowNo k0_pay1
def mk5 : IVec S2048x1 1 := k0_pay11 rowNo (k0_pay10 rowNo k0_pay1)
def mk6 : IVec S2048x1 1 := k0_pay12 rowNo k0_pay1
def mk7 : IVec S2048x1 1 := k0_pay15 (k0_pay13 rowNo k0_pay1) (k0_pay14 rowNo)
def mk8 : IVec S2048x1 1 := k0_pay16 rowNo k0_pay1

/-- The gradient of the value half. -/
def dfvL (P D : Vec F S2048x128 .f32) : FVec F S2048x128 .bf16 :=
  k0_pay27 (k0_pay19 P) (k0_pay22 P) (k0_pay24 (F := F)) D
/-- The gradient at the gate's input. -/
def dpL (P D V : Vec F S2048x128 .f32) : FVec F S2048x128 .f32 :=
  k0_pay28 (k0_pay18 P) (k0_pay19 P) (k0_pay20 P) (k0_pay21 P) (k0_pay22 P) (k0_pay23 P) (k0_pay24 (F := F)) D V
/-- The first tap's share of the gate half's gradient. -/
def dx0L (P D V : Vec F S2048x128 .f32) (Wt : Vec F S9x128 .f32) : FVec F S2048x128 .f32 :=
  k0_pay32 mk0 (k0_pay18 P) (k0_pay19 P) (k0_pay20 P) (k0_pay21 P) (k0_pay22 P) (k0_pay23 P) (k0_pay24 (F := F)) D V Wt
/-- The gradient of the gate half from the gradient at the gate's input and the first tap's share. -/
def dxL (d s : FVec F S2048x128 .f32) (Wt : Vec F S9x128 .f32) : FVec F S2048x128 .bf16 :=
  k0_pay52 mk8 d (k0_pay30 Wt) (k0_pay49 mk5 mk6 mk7 d (k0_pay30 Wt) (k0_pay40 mk1 mk2 mk3 d (k0_pay30 Wt) s) (k0_pay42 mk4 d)) (Scalar.ofBits .f32 0x00000000#32)
/-- The gradient of the gate half. -/
def dfgL (P D V : Vec F S2048x128 .f32) (Wt : Vec F S9x128 .f32) : FVec F S2048x128 .bf16 :=
  dxL (dpL P D V) (dx0L P D V Wt) Wt
/-- The gradient at the gate's input where the first tap's neighbour is on the grid. -/
def dm0L (P D V : Vec F S2048x128 .f32) : FVec F S2048x128 .f32 :=
  k0_pay31 mk0 (k0_pay18 P) (k0_pay19 P) (k0_pay20 P) (k0_pay21 P) (k0_pay22 P) (k0_pay23 P) (k0_pay24 (F := F)) D V
/-- The nine taps' sums added to what was there. -/
def dwSum (d e g : FVec F S2048x128 .f32) (G : Vec F S2048x128 .f32) (x : Vec F S9x128 .f32) : FVec F S9x128 .f32 :=
  k0_pay53 mk8 d g (k0_pay34 e (k0_pay33 G)) (k0_pay36 mk1 d g) (k0_pay38 mk2 d g) (k0_pay41 mk3 d g) (k0_pay43 g (k0_pay42 mk4 d))
    (k0_pay45 mk5 d g) (k0_pay47 mk6 d g) (k0_pay50 mk7 d g) (Scalar.ofBits .f32 0x00000000#32) x
def dwL (P D V G : Vec F S2048x128 .f32) (x : Vec F S9x128 .f32) : FVec F S9x128 .f32 :=
  dwSum (dpL P D V) (dm0L P D V) (k0_pay29 G) G x
/-- The bias's sum added to what was there. -/
def dbL (P D V : Vec F S2048x128 .f32) (x : Vec F S1x128 .f32) : FVec F S1x128 .f32 := k0_pay54 (dpL P D V) x

end Vectors

/-! ## The nine taps -/

/-- A row's tap-`k` neighbour is on the grid of 32 rows of 64. -/
def inb (k : Fin 9) (r : Fin 2048) : Bool :=
  1 ≤ r.val % 64 + k.val % 3 ∧ r.val % 64 + k.val % 3 ≤ 64 ∧ 64 ≤ r.val + 64 * (k.val / 3) ∧ r.val + 64 * (k.val / 3) < 2112
/-- The tap-`k` neighbour of a row, going round. -/
def nb (k : Fin 9) (r : Fin 2048) : Fin 2048 := ⟨(r.val + 64 * (k.val / 3) + k.val % 3 + 1983) % 2048, Nat.mod_lt _ (by norm_num)⟩
/-- The row whose tap-`k` neighbour is a row, going round. -/
def bk (k : Fin 9) (r : Fin 2048) : Fin 2048 := ⟨(r.val + 2113 - 64 * (k.val / 3) - k.val % 3) % 2048, Nat.mod_lt _ (by norm_num)⟩

theorem sum9 (f : Fin 9 → EReal) : ∑ k, f k = f 0 + f 1 + f 2 + f 3 + f 4 + f 5 + f 6 + f 7 + f 8 := by
  rw [Fin.sum_univ_castSucc, Fin.sum_univ_eight]
  rfl

theorem sel_ite (b : Bool) (x : EReal) : Scalar.select (if b then 1#1 else 0#1) x 0 = if b then x else 0 := by
  cases b <;> rfl

/-! ## The masks at a row -/

theorem mk0_at (r : Fin 2048) : mk0 (ix2 r 0) = if inb 0 r then 1#1 else 0#1 := by
  unfold mk0
  unfold_payloads
  pointwise
  revert r
  decide +kernel
theorem mk1_at (r : Fin 2048) : mk1 (ix2 r 0) = if inb 1 r then 1#1 else 0#1 := by
  unfold mk1 rowNo
  unfold_payloads
  pointwise
  revert r
  decide +kernel
theorem mk2_at (r : Fin 2048) : mk2 (ix2 r 0) = if inb 2 r then 1#1 else 0#1 := by
  unfold mk2 rowNo
  unfold_payloads
  pointwise
  revert r
  decide +kernel
theorem mk3_at (r : Fin 2048) : mk3 (ix2 r 0) = if inb 3 r then 1#1 else 0#1 := by
  unfold mk3 rowNo
  unfold_payloads
  pointwise
  revert r
  decide +kernel
theorem mk4_at (r : Fin 2048) : mk4 (ix2 r 0) = if inb 4 r then 1#1 else 0#1 := by
  unfold mk4 rowNo
  unfold_payloads
  pointwise
  revert r
  decide +kernel
theorem mk5_at (r : Fin 2048) : mk5 (ix2 r 0) = if inb 5 r then 1#1 else 0#1 := by
  unfold mk5 rowNo
  unfold_payloads
  pointwise
  revert r
  decide +kernel
theorem mk6_at (r : Fin 2048) : mk6 (ix2 r 0) = if inb 6 r then 1#1 else 0#1 := by
  unfold mk6 rowNo
  unfold_payloads
  pointwise
  revert r
  decide +kernel
theorem mk7_at (r : Fin 2048) : mk7 (ix2 r 0) = if inb 7 r then 1#1 else 0#1 := by
  unfold mk7 rowNo
  unfold_payloads
  pointwise
  revert r
  decide +kernel
theorem mk8_at (r : Fin 2048) : mk8 (ix2 r 0) = if inb 8 r then 1#1 else 0#1 := by
  unfold mk8 rowNo
  unfold_payloads
  pointwise
  revert r
  decide +kernel

/-! ## The gradient at the gate's input -/

/-- The tangent's hyperbolic part of the gate. -/
def tz (x : EReal) : EReal :=
  Ideal.tanh (Ideal.ofBits FTy.f32 1061962282#32 * (x + Ideal.ofBits FTy.f32 1027024659#32 * x * x * x))
/-- The gradient of the value half, of the gate's input and the output's gradient. -/
def dfvS (x d : EReal) : EReal := d * (Ideal.ofBits FTy.f32 1056964608#32 * x * (1 + tz x))
/-- The part of the gradient at the gate's input through the hyperbolic tangent. -/
def uz (x y : EReal) : EReal :=
  Ideal.ofBits FTy.f32 1061962282#32 * (Ideal.ofBits FTy.f32 1056964608#32 * x * y * ((1 + tz x) * (1 - tz x)))
/-- The gradient at the gate's input. -/
def dpS (x d v : EReal) : EReal :=
  uz x (d * v) + Ideal.ofBits FTy.f32 1027024659#32 * x * x * uz x (d * v)
    + Ideal.ofBits FTy.f32 1027024659#32 * x * (uz x (d * v) * x)
    + Ideal.ofBits FTy.f32 1027024659#32 * (uz x (d * v) * x * x)
    + Ideal.ofBits FTy.f32 1056964608#32 * (d * v * (1 + tz x))

theorem dfvL_at (P D : Vec Ideal S2048x128 .f32) (r : Fin 2048) (l : Fin 128) :
    dfvL P D (ix2 r l) = dfvS (P (ix2 r l)) (D (ix2 r l)) := by
  unfold dfvL dfvS tz
  unfold_payloads
  pointwise

theorem dpL_at (P D V : Vec Ideal S2048x128 .f32) (r : Fin 2048) (l : Fin 128) :
    dpL P D V (ix2 r l) = dpS (P (ix2 r l)) (D (ix2 r l)) (V (ix2 r l)) := by
  unfold dpL dpS uz tz
  unfold_payloads
  pointwise

/-! ## The gradient of the gate half -/

/-- The sum over the nine taps of what the gradient at the gate's input sends back to row `r`. -/
def dxAt (w : Fin 9 → EReal) (dp : Fin 2048 → EReal) (r : Fin 2048) : EReal :=
  ∑ k : Fin 9, if inb k (bk k r) then w k * dp (bk k r) else 0

theorem dx0L_eq (P D V : Vec Ideal S2048x128 .f32) (Wt : Vec Ideal S9x128 .f32) (r : Fin 2048) (l : Fin 128) :
    dx0L P D V Wt (ix2 r l) = Scalar.select (mk0 (ix2 (bk 0 r) 0)) (Wt (ix2 0 l) * dpL P D V (ix2 (bk 0 r) l)) 0 := by
  unfold dx0L k0_pay32 k0_pay31
  change _ = Scalar.select (mk0 (ix2 (bk 0 r) 0)) (Wt (ix2 0 l) * k0_pay28 (k0_pay18 P) (k0_pay19 P) (k0_pay20 P) (k0_pay21 P) (k0_pay22 P) (k0_pay23 P) (k0_pay24 (F := Ideal)) D V (ix2 (bk 0 r) l)) 0
  generalize k0_pay28 (k0_pay18 P) (k0_pay19 P) (k0_pay20 P) (k0_pay21 P) (k0_pay22 P) (k0_pay23 P) (k0_pay24 (F := Ideal)) D V = d
  generalize mk0 = m0
  have hb : bk 0 r = ⟨(r.val + 2048 - 1983) % 2048, Nat.mod_lt _ (by norm_num)⟩ := Fin.ext (by show (r.val + 2113 - 64 * (0 / 3) - 0 % 3) % 2048 = _; dsimp only; omega)
  rw [hb]
  unfold k0_pay30
  pointwise

theorem dxL_eq (d s : FVec Ideal S2048x128 .f32) (Wt : Vec Ideal S9x128 .f32) (r : Fin 2048) (l : Fin 128) :
    dxL d s Wt (ix2 r l) = s (ix2 r l)
      + Scalar.select (mk1 (ix2 (bk 1 r) 0)) (Wt (ix2 1 l) * d (ix2 (bk 1 r) l)) 0
      + Scalar.select (mk2 (ix2 (bk 2 r) 0)) (Wt (ix2 2 l) * d (ix2 (bk 2 r) l)) 0
      + Scalar.select (mk3 (ix2 (bk 3 r) 0)) (Wt (ix2 3 l) * d (ix2 (bk 3 r) l)) 0
      + Scalar.select (mk4 (ix2 (bk 4 r) 0)) (Wt (ix2 4 l) * d (ix2 (bk 4 r) l)) 0
      + Scalar.select (mk5 (ix2 (bk 5 r) 0)) (Wt (ix2 5 l) * d (ix2 (bk 5 r) l)) 0
      + Scalar.select (mk6 (ix2 (bk 6 r) 0)) (Wt (ix2 6 l) * d (ix2 (bk 6 r) l)) 0
      + Scalar.select (mk7 (ix2 (bk 7 r) 0)) (Wt (ix2 7 l) * d (ix2 (bk 7 r) l)) 0
      + Scalar.select (mk8 (ix2 (bk 8 r) 0)) (Wt (ix2 8 l) * d (ix2 (bk 8 r) l)) 0 := by
  unfold dxL
  generalize mk1 = m1
  generalize mk2 = m2
  generalize mk3 = m3
  generalize mk4 = m4
  generalize mk5 = m5
  generalize mk6 = m6
  generalize mk7 = m7
  generalize mk8 = m8
  have h1 : bk 1 r = ⟨(r.val + 2048 - 1984) % 2048, Nat.mod_lt _ (by norm_num)⟩ := Fin.ext (by show (r.val + 2113 - 64 * (1 / 3) - 1 % 3) % 2048 = _; dsimp only; omega)
  have h2 : bk 2 r = ⟨(r.val + 2048 - 1985) % 2048, Nat.mod_lt _ (by norm_num)⟩ := Fin.ext (by show (r.val + 2113 - 64 * (2 / 3) - 2 % 3) % 2048 = _; dsimp only; omega)
  have h3 : bk 3 r = ⟨(r.val + 2048 - 2047) % 2048, Nat.mod_lt _ (by norm_num)⟩ := Fin.ext (by show (r.val + 2113 - 64 * (3 / 3) - 3 % 3) % 2048 = _; dsimp only; omega)
  have h4 : bk 4 r = r := Fin.ext (by show (r.val + 2113 - 64 * (4 / 3) - 4 % 3) % 2048 = _; omega)
  have h5 : bk 5 r = ⟨(r.val + 2048 - 1) % 2048, Nat.mod_lt _ (by norm_num)⟩ := Fin.ext (by show (r.val + 2113 - 64 * (5 / 3) - 5 % 3) % 2048 = _; dsimp only; omega)
  have h6 : bk 6 r = ⟨(r.val + 2048 - 63) % 2048, Nat.mod_lt _ (by norm_num)⟩ := Fin.ext (by show (r.val + 2113 - 64 * (6 / 3) - 6 % 3) % 2048 = _; dsimp only; omega)
  have h7 : bk 7 r = ⟨(r.val + 2048 - 64) % 2048, Nat.mod_lt _ (by norm_num)⟩ := Fin.ext (by show (r.val + 2113 - 64 * (7 / 3) - 7 % 3) % 2048 = _; dsimp only; omega)
  have h8 : bk 8 r = ⟨(r.val + 2048 - 65) % 2048, Nat.mod_lt _ (by norm_num)⟩ := Fin.ext (by show (r.val + 2113 - 64 * (8 / 3) - 8 % 3) % 2048 = _; dsimp only; omega)
  rw [h1, h2, h3, h4, h5, h6, h7, h8]
  unfold_payloads
  pointwise

theorem dfgL_at (P D V : Vec Ideal S2048x128 .f32) (Wt : Vec Ideal S9x128 .f32) (r : Fin 2048) (l : Fin 128) :
    dfgL P D V Wt (ix2 r l)
      = dxAt (fun k => Wt (ix2 k l)) (fun r => dpS (P (ix2 r l)) (D (ix2 r l)) (V (ix2 r l))) r := by
  unfold dfgL dxAt
  rw [dxL_eq, dx0L_eq, sum9]
  simp only [mk0_at, mk1_at, mk2_at, mk3_at, mk4_at, mk5_at, mk6_at, mk7_at, mk8_at, sel_ite, dpL_at]

/-! ## The sums for the taps' weights and the bias -/

/-- Tap `k`'s sum over the rows of one image. -/
def dwAt (k : Fin 9) (dp g : Fin 2048 → EReal) : EReal := ∑ r, if inb k r then dp r * g (nb k r) else 0

theorem sum0 (mk : IVec S2048x1 1) (p0 p1 p2 p3 p4 p5 p6 : FVec Ideal S2048x128 .f32) (P0 P1 : Vec Ideal S2048x128 .f32) (g : Vec Ideal S2048x128 .f32) (l : Fin 128) :
    k0_pay34 (k0_pay31 mk p0 p1 p2 p3 p4 p5 p6 P0 P1) (k0_pay33 g) (ix2 0 l)
      = ∑ r, Scalar.select (mk (ix2 r 0)) (k0_pay28 p0 p1 p2 p3 p4 p5 p6 P0 P1 (ix2 r l) * g (ix2 (nb 0 r) l)) 0 := by
  have hb : ∀ r : Fin 2048, nb 0 r = ⟨(r.val + 2048 - 65) % 2048, Nat.mod_lt _ (by norm_num)⟩ := fun r => Fin.ext (by show (r.val + 64 * (0 / 3) + 0 % 3 + 1983) % 2048 = _; dsimp only; omega)
  simp only [hb]
  unfold k0_pay34 k0_pay31 k0_pay33 k0_pay29
  generalize k0_pay28 p0 p1 p2 p3 p4 p5 p6 P0 P1 = d
  pointwise

theorem sum1 (mk : IVec S2048x1 1) (d g : FVec Ideal S2048x128 .f32) (l : Fin 128) :
    k0_pay36 mk d g (ix2 0 l) = ∑ r, Scalar.select (mk (ix2 r 0)) (d (ix2 r l) * g (ix2 (nb 1 r) l)) 0 := by
  have hb : ∀ r : Fin 2048, nb 1 r = ⟨(r.val + 2048 - 64) % 2048, Nat.mod_lt _ (by norm_num)⟩ := fun r => Fin.ext (by show (r.val + 64 * (1 / 3) + 1 % 3 + 1983) % 2048 = _; dsimp only; omega)
  simp only [hb]
  unfold_payloads
  pointwise

theorem sum2 (mk : IVec S2048x1 1) (d g : FVec Ideal S2048x128 .f32) (l : Fin 128) :
    k0_pay38 mk d g (ix2 0 l) = ∑ r, Scalar.select (mk (ix2 r 0)) (d (ix2 r l) * g (ix2 (nb 2 r) l)) 0 := by
  have hb : ∀ r : Fin 2048, nb 2 r = ⟨(r.val + 2048 - 63) % 2048, Nat.mod_lt _ (by norm_num)⟩ := fun r => Fin.ext (by show (r.val + 64 * (2 / 3) + 2 % 3 + 1983) % 2048 = _; dsimp only; omega)
  simp only [hb]
  unfold_payloads
  pointwise

theorem sum3 (mk : IVec S2048x1 1) (d g : FVec Ideal S2048x128 .f32) (l : Fin 128) :
    k0_pay41 mk d g (ix2 0 l) = ∑ r, Scalar.select (mk (ix2 r 0)) (d (ix2 r l) * g (ix2 (nb 3 r) l)) 0 := by
  have hb : ∀ r : Fin 2048, nb 3 r = ⟨(r.val + 2048 - 1) % 2048, Nat.mod_lt _ (by norm_num)⟩ := fun r => Fin.ext (by show (r.val + 64 * (3 / 3) + 3 % 3 + 1983) % 2048 = _; dsimp only; omega)
  simp only [hb]
  unfold_payloads
  pointwise

theorem sum4 (mk : IVec S2048x1 1) (d g : FVec Ideal S2048x128 .f32) (l : Fin 128) :
    k0_pay43 g (k0_pay42 mk d) (ix2 0 l) = ∑ r, Scalar.select (mk (ix2 r 0)) (d (ix2 r l) * g (ix2 (nb 4 r) l)) 0 := by
  have hb : ∀ r : Fin 2048, nb 4 r = r := fun r => Fin.ext (by show (r.val + 64 * (4 / 3) + 4 % 3 + 1983) % 2048 = _; omega)
  simp only [hb]
  unfold_payloads
  pointwise

theorem sum5 (mk : IVec S2048x1 1) (d g : FVec Ideal S2048x128 .f32) (l : Fin 128) :
    k0_pay45 mk d g (ix2 0 l) = ∑ r, Scalar.select (mk (ix2 r 0)) (d (ix2 r l) * g (ix2 (nb 5 r) l)) 0 := by
  have hb : ∀ r : Fin 2048, nb 5 r = ⟨(r.val + 2048 - 2047) % 2048, Nat.mod_lt _ (by norm_num)⟩ := fun r => Fin.ext (by show (r.val + 64 * (5 / 3) + 5 % 3 + 1983) % 2048 = _; dsimp only; omega)
  simp only [hb]
  unfold_payloads
  pointwise

theorem sum6 (mk : IVec S2048x1 1) (d g : FVec Ideal S2048x128 .f32) (l : Fin 128) :
    k0_pay47 mk d g (ix2 0 l) = ∑ r, Scalar.select (mk (ix2 r 0)) (d (ix2 r l) * g (ix2 (nb 6 r) l)) 0 := by
  have hb : ∀ r : Fin 2048, nb 6 r = ⟨(r.val + 2048 - 1985) % 2048, Nat.mod_lt _ (by norm_num)⟩ := fun r => Fin.ext (by show (r.val + 64 * (6 / 3) + 6 % 3 + 1983) % 2048 = _; dsimp only; omega)
  simp only [hb]
  unfold_payloads
  pointwise

theorem sum7 (mk : IVec S2048x1 1) (d g : FVec Ideal S2048x128 .f32) (l : Fin 128) :
    k0_pay50 mk d g (ix2 0 l) = ∑ r, Scalar.select (mk (ix2 r 0)) (d (ix2 r l) * g (ix2 (nb 7 r) l)) 0 := by
  have hb : ∀ r : Fin 2048, nb 7 r = ⟨(r.val + 2048 - 1984) % 2048, Nat.mod_lt _ (by norm_num)⟩ := fun r => Fin.ext (by show (r.val + 64 * (7 / 3) + 7 % 3 + 1983) % 2048 = _; dsimp only; omega)
  simp only [hb]
  unfold_payloads
  pointwise

/-- The last tap's sum. -/
def tap8 {F : FTy → Type} [FloatOps F] (mk : IVec S2048x1 1) (d g : FVec F S2048x128 .f32) : FVec F S1x128 .f32 :=
  shapeCast S1x128 (multiReduction .add [0] S128 (mulf (k0_pay51 mk d (Scalar.ofBits .f32 0x00000000#32)) (dynamicRotate 0 1983#32 none g rotates_S2048x128_d0)) 0x00000000#32 reduces_S2048x128_S128 (.inl rfl) rfl) shapeCasts_S128_S1x128
theorem sum8 (mk : IVec S2048x1 1) (d g : FVec Ideal S2048x128 .f32) (l : Fin 128) :
    tap8 mk d g (ix2 0 l) = ∑ r, Scalar.select (mk (ix2 r 0)) (d (ix2 r l) * g (ix2 (nb 8 r) l)) 0 := by
  have hb : ∀ r : Fin 2048, nb 8 r = ⟨(r.val + 2048 - 1983) % 2048, Nat.mod_lt _ (by norm_num)⟩ := fun r => Fin.ext (by show (r.val + 64 * (8 / 3) + 8 % 3 + 1983) % 2048 = _; dsimp only; omega)
  simp only [hb]
  unfold tap8
  unfold_payloads
  pointwise

theorem cat0 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (0 : Fin 9) l) = x (ix2 0 l) + a0 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (0 : Fin 9) l) = _
  generalize tap8 mk d g = a8
  pointwise

theorem cat1 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (1 : Fin 9) l) = x (ix2 1 l) + a1 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (1 : Fin 9) l) = _
  generalize tap8 mk d g = a8
  pointwise

theorem cat2 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (2 : Fin 9) l) = x (ix2 2 l) + a2 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (2 : Fin 9) l) = _
  generalize tap8 mk d g = a8
  pointwise

theorem cat3 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (3 : Fin 9) l) = x (ix2 3 l) + a3 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (3 : Fin 9) l) = _
  generalize tap8 mk d g = a8
  pointwise

theorem cat4 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (4 : Fin 9) l) = x (ix2 4 l) + a4 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (4 : Fin 9) l) = _
  generalize tap8 mk d g = a8
  pointwise

theorem cat5 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (5 : Fin 9) l) = x (ix2 5 l) + a5 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (5 : Fin 9) l) = _
  generalize tap8 mk d g = a8
  pointwise

theorem cat6 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (6 : Fin 9) l) = x (ix2 6 l) + a6 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (6 : Fin 9) l) = _
  generalize tap8 mk d g = a8
  pointwise

theorem cat7 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (7 : Fin 9) l) = x (ix2 7 l) + a7 (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (7 : Fin 9) l) = _
  generalize tap8 mk d g = a8
  pointwise

theorem cat8 (mk : IVec S2048x1 1) (d g : FVec Ideal S2048x128 .f32) (a0 a1 a2 a3 a4 a5 a6 a7 : FVec Ideal S1x128 .f32) (x : Vec Ideal S9x128 .f32) (l : Fin 128) :
    k0_pay53 mk d g a0 a1 a2 a3 a4 a5 a6 a7 (Scalar.ofBits .f32 0x00000000#32) x (ix2 (8 : Fin 9) l) = x (ix2 8 l) + tap8 mk d g (ix2 0 l) := by
  unfold k0_pay53
  change addf (shapeCast S9x128 x shapeCasts_S9x128_S9x128) (concatenate S9x128 0 [⟨S1x128, a0⟩, ⟨S1x128, a1⟩, ⟨S1x128, a2⟩, ⟨S1x128, a3⟩, ⟨S1x128, a4⟩, ⟨S1x128, a5⟩, ⟨S1x128, a6⟩, ⟨S1x128, a7⟩, ⟨S1x128, tap8 mk d g⟩] concatenates_S1x128_S1x128_S1x128_S1x128_S1x128_S1x128_S1x128_S1x128_S1x128_S9x128_d0) (ix2 (8 : Fin 9) l) = _
  generalize tap8 mk d g = a8
  pointwise

theorem dwL_at0 (P D V G : Vec Ideal S2048x128 .f32) (x : Vec Ideal S9x128 .f32) (l : Fin 128) :
    dwL P D V G x (ix2 (0 : Fin 9) l)
      = x (ix2 0 l) + dwAt 0 (fun r => dpS (P (ix2 r l)) (D (ix2 r l)) (V (ix2 r l))) (fun r => G (ix2 r l)) := by
  unfold dwL dwSum dwAt
  rw [cat0]
  unfold dm0L
  rw [sum0]
  change _ + ∑ r, Scalar.select (mk0 (ix2 r 0)) (dpL P D V (ix2 r l) * G (ix2 (nb 0 r) l)) 0 = _
  simp only [mk0_at, sel_ite, dpL_at]

theorem dwL_at1 (P D V G : Vec Ideal S2048x128 .f32) (x : Vec Ideal S9x128 .f32) (l : Fin 128) :
    dwL P D V G x (ix2 (1 : Fin 9) l)
      = x (ix2 1 l) + dwAt 1 (fun r => dpS (P (ix2 r l)) (D (ix2 r l)) (V (ix2 r l))) (fun r => G (ix2 r l)) := by
  unfold dwL dwSum dwAt
  rw [cat1]
  rw [sum1]
  have hg : ∀ r, k0_pay29 G (ix2 r l) = G (ix2 r l) := fun r => by
    unfold k0_pay29
    pointwise
  simp only [mk1_at, sel_ite, dpL_at, hg]

theorem dwL_at2 (P D V G : Vec Ideal S2048x128 .f32) (x : Vec Ideal S9x128 .f32) (l : Fin 128) :
    dwL P D V G x (ix2 (2 : Fin 9) l)
      = x (ix2 2 l) + dwAt 2 (fun r => dpS (P (ix2 r l)) (D (ix2 r l)) (V (ix2 r l))) (fun r => G (ix2 r l)) := by
  unfold dwL dwSum dwAt
  rw [cat2]
  rw [sum2]
  have hg : ∀ r, k0_pay29 G (ix2 r l) = G (ix2 r l) := fun r => by
    unfold k0_pay29
    pointwise
  simp only [mk2_at, sel_ite, dpL_at, hg]

theorem dwL_at3 (P D V G : Vec Ideal S2048x128 .f32) (x : Vec Ideal S9x128 .f32) (l : Fin 128) :
    dwL P D V G x (ix2 (3 : Fin 9) l)
      = x (ix2 3 l) + dwAt 3 (fun r => dpS (P (ix2 r l)) (D (ix2 r l)) (V (ix2 r l))) (fun r => G (ix2 r l)) := by
  unfold dwL dwSum dwAt
  rw [cat3]
  rw [sum3]
  have hg : ∀ r, k0_pay29 G (ix2 r l) = G (ix2 r l) := fun r => by
    unfold k0_pay29
    pointwise
  simp only [mk3_at, sel_ite, dpL_at, hg]

theorem dwL_at4 (P D V G : Vec Ideal S2048x128 .f32) (x : Vec Ideal S9x128 .f32) (l : Fin 128) :
    dwL P D V G x (ix2 (4 : Fin 9) l)
      = x (ix2 4 l) + dwAt 4 (fun r => dpS (P (ix2 r l)) (D (ix2 r l)) (V (ix2 r l))) (fun r => G (ix2 r l)) := by
  unfold dwL dwSum dwAt
  rw [cat4]
  rw [sum4]
  have hg : ∀ r, k0_pay29 G (ix2 r l) = G (ix2 r l) := fun r => by
    unfold k0_pay29
    pointwise
  simp only [mk4_at, sel_ite, dpL_at, hg]

theorem dwL_at5 (P D V G : Vec Ideal S2048x128 .f32) (x : Vec Ideal S9x128 .f32) (l : Fin 128) :
    dwL P D V G x (ix2 (5 : Fin 9) l)
      = x (ix2 5 l) + dwAt 5 (fun r => dpS (P (ix2 r l)) (D (ix2 r l)) (V (ix2 r l))) (fun r => G (ix2 r l)) := by
  unfold dwL dwSum dwAt
  rw [cat5]
  rw [sum5]
  have hg : ∀ r, k0_pay29 G (ix2 r l) = G (ix2 r l) := fun r => by
    unfold k0_pay29
    pointwise
  simp only [mk5_at, sel_ite, dpL_at, hg]

theorem dwL_at6 (P D V G : Vec Ideal S2048x128 .f32) (x : Vec Ideal S9x128 .f32) (l : Fin 128) :
    dwL P D V G x (ix2 (6 : Fin 9) l)
      = x (ix2 6 l) + dwAt 6 (fun r => dpS (P (ix2 r l)) (D (ix2 r l)) (V (ix2 r l))) (fun r => G (ix2 r l)) := by
  unfold dwL dwSum dwAt
  rw [cat6]
  rw [sum6]
  have hg : ∀ r, k0_pay29 G (ix2 r l) = G (ix2 r l) := fun r => by
    unfold k0_pay29
    pointwise
  simp only [mk6_at, sel_ite, dpL_at, hg]

theorem dwL_at7 (P D V G : Vec Ideal S2048x128 .f32) (x : Vec Ideal S9x128 .f32) (l : Fin 128) :
    dwL P D V G x (ix2 (7 : Fin 9) l)
      = x (ix2 7 l) + dwAt 7 (fun r => dpS (P (ix2 r l)) (D (ix2 r l)) (V (ix2 r l))) (fun r => G (ix2 r l)) := by
  unfold dwL dwSum dwAt
  rw [cat7]
  rw [sum7]
  have hg : ∀ r, k0_pay29 G (ix2 r l) = G (ix2 r l) := fun r => by
    unfold k0_pay29
    pointwise
  simp only [mk7_at, sel_ite, dpL_at, hg]

theorem dwL_at8 (P D V G : Vec Ideal S2048x128 .f32) (x : Vec Ideal S9x128 .f32) (l : Fin 128) :
    dwL P D V G x (ix2 (8 : Fin 9) l)
      = x (ix2 8 l) + dwAt 8 (fun r => dpS (P (ix2 r l)) (D (ix2 r l)) (V (ix2 r l))) (fun r => G (ix2 r l)) := by
  unfold dwL dwSum dwAt
  rw [cat8]
  rw [sum8]
  have hg : ∀ r, k0_pay29 G (ix2 r l) = G (ix2 r l) := fun r => by
    unfold k0_pay29
    pointwise
  simp only [mk8_at, sel_ite, dpL_at, hg]

theorem dwL_at (P D V G : Vec Ideal S2048x128 .f32) (x : Vec Ideal S9x128 .f32) (k : Fin 9) (l : Fin 128) :
    dwL P D V G x (ix2 k l)
      = x (ix2 k l) + dwAt k (fun r => dpS (P (ix2 r l)) (D (ix2 r l)) (V (ix2 r l))) (fun r => G (ix2 r l)) :=
  match k with
  | 0 => dwL_at0 P D V G x l
  | 1 => dwL_at1 P D V G x l
  | 2 => dwL_at2 P D V G x l
  | 3 => dwL_at3 P D V G x l
  | 4 => dwL_at4 P D V G x l
  | 5 => dwL_at5 P D V G x l
  | 6 => dwL_at6 P D V G x l
  | 7 => dwL_at7 P D V G x l
  | 8 => dwL_at8 P D V G x l

theorem dbL_at (P D V : Vec Ideal S2048x128 .f32) (x : Vec Ideal S1x128 .f32) (l : Fin 128) :
    dbL P D V x (ix2 0 l) = x (ix2 0 l) + ∑ r, dpS (P (ix2 r l)) (D (ix2 r l)) (V (ix2 r l)) := by
  unfold dbL
  have h : ∀ d : FVec Ideal S2048x128 .f32, k0_pay54 d x (ix2 0 l) = x (ix2 0 l) + ∑ r, d (ix2 r l) := fun d => by
    unfold k0_pay54
    pointwise
  rw [h]
  simp only [dpL_at]

end Cert.KernelIdeal.Ffn

end
-- ==== Proof.FfnPieces.lean ====
module

public import proofs.«01_k».proof.Proof.FfnRun
public import proofs.«01_k».proof.Proof.FfnLane
public import Idealize.ShloMosaic.Lib.WritesUnit

@[expose] public section

set_option maxRecDepth 16384

noncomputable section

namespace Cert.KernelIdeal.Ffn

open Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-! ## The two lanes of a block -/

/-- The left and the right 128 columns of a block of rows. -/
abbrev lo (X : Vec F S2048x256 .f32) : Vec F S2048x128 .f32 := View.ld X (Rect.unit (s := S2048x256) ![0, 0] S2048x128.size inb_S2048x256_S2048x128_0_0)
abbrev hi (X : Vec F S2048x256 .f32) : Vec F S2048x128 .f32 := View.ld X (Rect.unit (s := S2048x256) ![0, 128] S2048x128.size inb_S2048x256_S2048x128_0_128)
/-- The left and the right 128 columns of the nine taps. -/
abbrev lo9 (X : Vec F S9x256 .f32) : Vec F S9x128 .f32 := View.ld X (Rect.unit (s := S9x256) ![0, 0] S9x128.size inb_S9x256_S9x128_0_0)
abbrev hi9 (X : Vec F S9x256 .f32) : Vec F S9x128 .f32 := View.ld X (Rect.unit (s := S9x256) ![0, 128] S9x128.size inb_S9x256_S9x128_0_128)

/-- A load of a lane off a whole buffer. -/
abbrev rdLo (a : Memref sig .tc .vmem S2048x256 .f32) (h : a.IsWhole) (x : Vec F S2048x256 .f32) : Vec F S2048x128 .f32 :=
  View.readAt (Elt F) a.view (Rect.unit (s := S2048x256) ![0, 0] S2048x128.size inb_S2048x256_S2048x128_0_0).toLoadRect (h.unread x)
abbrev rdHi (a : Memref sig .tc .vmem S2048x256 .f32) (h : a.IsWhole) (x : Vec F S2048x256 .f32) : Vec F S2048x128 .f32 :=
  View.readAt (Elt F) a.view (Rect.unit (s := S2048x256) ![0, 128] S2048x128.size inb_S2048x256_S2048x128_0_128).toLoadRect (h.unread x)
abbrev rdLo9 (a : Memref sig .tc .vmem S9x256 .f32) (h : a.IsWhole) (x : Vec F S9x256 .f32) : Vec F S9x128 .f32 :=
  View.readAt (Elt F) a.view (Rect.unit (s := S9x256) ![0, 0] S9x128.size inb_S9x256_S9x128_0_0).toLoadRect (h.unread x)
abbrev rdHi9 (a : Memref sig .tc .vmem S9x256 .f32) (h : a.IsWhole) (x : Vec F S9x256 .f32) : Vec F S9x128 .f32 :=
  View.readAt (Elt F) a.view (Rect.unit (s := S9x256) ![0, 128] S9x128.size inb_S9x256_S9x128_0_128).toLoadRect (h.unread x)

theorem rdLo_eq (a : Memref sig .tc .vmem S2048x256 .f32) (h : a.IsWhole) (x : Vec F S2048x256 .f32) : rdLo a h x = lo x := by
  unfold rdLo
  rw [View.readAt_eq_ld, h.read_unread]
theorem rdHi_eq (a : Memref sig .tc .vmem S2048x256 .f32) (h : a.IsWhole) (x : Vec F S2048x256 .f32) : rdHi a h x = hi x := by
  unfold rdHi
  rw [View.readAt_eq_ld, h.read_unread]
theorem rdLo9_eq (a : Memref sig .tc .vmem S9x256 .f32) (h : a.IsWhole) (x : Vec F S9x256 .f32) : rdLo9 a h x = lo9 x := by
  unfold rdLo9
  rw [View.readAt_eq_ld, h.read_unread]
theorem rdHi9_eq (a : Memref sig .tc .vmem S9x256 .f32) (h : a.IsWhole) (x : Vec F S9x256 .f32) : rdHi9 a h x = hi9 x := by
  unfold rdHi9
  rw [View.readAt_eq_ld, h.read_unread]

/-! ## The pieces the body writes -/

/-- Two halves of a gradient's block, last first. -/
abbrev halves (p q : Vec F S2048x128 .bf16) : List (View.Piece (Elt F) S2048x256 .bf16) :=
  [⟨Rect.unit (s := S2048x256) ![0, 128] S2048x128.size inb_S2048x256_S2048x128_0_128, p⟩, ⟨Rect.unit (s := S2048x256) ![0, 0] S2048x128.size inb_S2048x256_S2048x128_0_0, q⟩]

/-- The accumulator's four pieces one by one over what was there. -/
abbrev onDwLo (w : Vec F S9x128 .f32) (L : List (View.Piece (Elt F) S16x256 .f32)) : List (View.Piece (Elt F) S16x256 .f32) :=
  ⟨Rect.unit (s := S16x256) ![0, 0] S9x128.size inb_S16x256_S9x128_0_0, w⟩ :: L
abbrev onDbLo (w : Vec F S1x128 .f32) (L : List (View.Piece (Elt F) S16x256 .f32)) : List (View.Piece (Elt F) S16x256 .f32) :=
  ⟨Rect.unit (s := S16x256) ![9, 0] S1x128.size inb_S16x256_S1x128_9_0, w⟩ :: L
abbrev onDwHi (w : Vec F S9x128 .f32) (L : List (View.Piece (Elt F) S16x256 .f32)) : List (View.Piece (Elt F) S16x256 .f32) :=
  ⟨Rect.unit (s := S16x256) ![0, 128] S9x128.size inb_S16x256_S9x128_0_128, w⟩ :: L
abbrev onDbHi (w : Vec F S1x128 .f32) (L : List (View.Piece (Elt F) S16x256 .f32)) : List (View.Piece (Elt F) S16x256 .f32) :=
  ⟨Rect.unit (s := S16x256) ![9, 128] S1x128.size inb_S16x256_S1x128_9_128, w⟩ :: L
/-- The clearing piece. -/
abbrev clear : List (View.Piece (Elt F) S16x256 .f32) :=
  [⟨Rect.unit (s := S16x256) ![0, 0] S16x256.size inb_S16x256_S16x256_0_0, k0_pay17 (F := F)⟩]

theorem stepA_fg (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : first i)
    (x0 : Vec F S2048x256 .f32) (x1 : Vec F S2048x256 .f32) (x2 : Vec F S9x256 .f32) (x3 : Vec F S2048x256 .f32) (x4 : Vec F S2048x256 .f32) :
    (stepA c i a0 h0 a1 h1 a2 h2 a3 h3 a4 h4 a5 h5 a6 h6 a7 h7 hc x0 x1 x2 x3 x4).1 = halves (dfgL (hi x3) (hi x4) (hi x1) (hi9 x2)) (dfgL (lo x3) (lo x4) (lo x1) (lo9 x2)) := by
  rw [← rdHi_eq a3 h3, ← rdHi_eq a4 h4, ← rdHi_eq a1 h1, ← rdHi9_eq a2 h2, ← rdLo_eq a3 h3, ← rdLo_eq a4 h4, ← rdLo_eq a1 h1, ← rdLo9_eq a2 h2]
  rfl

theorem stepA_fv (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : first i)
    (x0 : Vec F S2048x256 .f32) (x1 : Vec F S2048x256 .f32) (x2 : Vec F S9x256 .f32) (x3 : Vec F S2048x256 .f32) (x4 : Vec F S2048x256 .f32) :
    (stepA c i a0 h0 a1 h1 a2 h2 a3 h3 a4 h4 a5 h5 a6 h6 a7 h7 hc x0 x1 x2 x3 x4).2.1 = halves (dfvL (hi x3) (hi x4)) (dfvL (lo x3) (lo x4)) := by
  rw [← rdHi_eq a3 h3, ← rdHi_eq a4 h4, ← rdLo_eq a3 h3, ← rdLo_eq a4 h4]
  rfl

theorem stepB_fg (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : ¬first i)
    (x0 : Vec F S2048x256 .f32) (x1 : Vec F S2048x256 .f32) (x2 : Vec F S9x256 .f32) (x3 : Vec F S2048x256 .f32) (x4 : Vec F S2048x256 .f32) (x7 : Vec F S16x256 .f32) :
    (stepB c i a0 h0 a1 h1 a2 h2 a3 h3 a4 h4 a5 h5 a6 h6 a7 h7 hc x0 x1 x2 x3 x4 x7).1 = halves (dfgL (hi x3) (hi x4) (hi x1) (hi9 x2)) (dfgL (lo x3) (lo x4) (lo x1) (lo9 x2)) := by
  rw [← rdHi_eq a3 h3, ← rdHi_eq a4 h4, ← rdHi_eq a1 h1, ← rdHi9_eq a2 h2, ← rdLo_eq a3 h3, ← rdLo_eq a4 h4, ← rdLo_eq a1 h1, ← rdLo9_eq a2 h2]
  rfl

theorem stepB_fv (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : ¬first i)
    (x0 : Vec F S2048x256 .f32) (x1 : Vec F S2048x256 .f32) (x2 : Vec F S9x256 .f32) (x3 : Vec F S2048x256 .f32) (x4 : Vec F S2048x256 .f32) (x7 : Vec F S16x256 .f32) :
    (stepB c i a0 h0 a1 h1 a2 h2 a3 h3 a4 h4 a5 h5 a6 h6 a7 h7 hc x0 x1 x2 x3 x4 x7).2.1 = halves (dfvL (hi x3) (hi x4)) (dfvL (lo x3) (lo x4)) := by
  rw [← rdHi_eq a3 h3, ← rdHi_eq a4 h4, ← rdLo_eq a3 h3, ← rdLo_eq a4 h4]
  rfl

/-- The accumulator's pieces at a first visit, each reading what the ones before left. -/
def A2 (a7 : Memref sig .tc .vmem S16x256 .f32) (p d v g : Vec F S2048x256 .f32) := onDwLo (dwL (lo p) (lo d) (lo v) (lo g) (a7.view.readCov (clear) (Rect.unit (s := S16x256) ![0, 0] S9x128.size inb_S16x256_S9x128_0_0).toLoadRect)) clear
def A3 (a7 : Memref sig .tc .vmem S16x256 .f32) (p d v g : Vec F S2048x256 .f32) := onDbLo (dbL (lo p) (lo d) (lo v) (a7.view.readCov (A2 a7 p d v g) (Rect.unit (s := S16x256) ![9, 0] S1x128.size inb_S16x256_S1x128_9_0).toLoadRect)) (A2 a7 p d v g)
def A4 (a7 : Memref sig .tc .vmem S16x256 .f32) (p d v g : Vec F S2048x256 .f32) := onDwHi (dwL (hi p) (hi d) (hi v) (hi g) (a7.view.readCov (A3 a7 p d v g) (Rect.unit (s := S16x256) ![0, 128] S9x128.size inb_S16x256_S9x128_0_128).toLoadRect)) (A3 a7 p d v g)
def A5 (a7 : Memref sig .tc .vmem S16x256 .f32) (p d v g : Vec F S2048x256 .f32) := onDbHi (dbL (hi p) (hi d) (hi v) (a7.view.readCov (A4 a7 p d v g) (Rect.unit (s := S16x256) ![9, 128] S1x128.size inb_S16x256_S1x128_9_128).toLoadRect)) (A4 a7 p d v g)

set_option maxHeartbeats 4000000 in
theorem stepA_acc (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : first i)
    (x0 : Vec F S2048x256 .f32) (x1 : Vec F S2048x256 .f32) (x2 : Vec F S9x256 .f32) (x3 : Vec F S2048x256 .f32) (x4 : Vec F S2048x256 .f32) :
    (stepA c i a0 h0 a1 h1 a2 h2 a3 h3 a4 h4 a5 h5 a6 h6 a7 h7 hc x0 x1 x2 x3 x4).2.2.1 = A5 a7 x3 x4 x1 x0 := by
  unfold A5 A4 A3 A2
  rw [← rdHi_eq a3 h3, ← rdHi_eq a4 h4, ← rdHi_eq a1 h1, ← rdHi_eq a0 h0, ← rdLo_eq a3 h3, ← rdLo_eq a4 h4, ← rdLo_eq a1 h1, ← rdLo_eq a0 h0]
  rfl

/-- The accumulator's pieces at a second visit, each adding to what was there. -/
def B4 (p d v g : Vec F S2048x256 .f32) (x : Vec F S16x256 .f32) : List (View.Piece (Elt F) S16x256 .f32) :=
  onDbHi (dbL (hi p) (hi d) (hi v) (View.ld x (Rect.unit (s := S16x256) ![9, 128] S1x128.size inb_S16x256_S1x128_9_128)))
    (onDwHi (dwL (hi p) (hi d) (hi v) (hi g) (View.ld x (Rect.unit (s := S16x256) ![0, 128] S9x128.size inb_S16x256_S9x128_0_128)))
      (onDbLo (dbL (lo p) (lo d) (lo v) (View.ld x (Rect.unit (s := S16x256) ![9, 0] S1x128.size inb_S16x256_S1x128_9_0)))
        (onDwLo (dwL (lo p) (lo d) (lo v) (lo g) (View.ld x (Rect.unit (s := S16x256) ![0, 0] S9x128.size inb_S16x256_S9x128_0_0))) [])))

set_option maxHeartbeats 4000000 in
theorem stepB_acc (c : Dev nD) (i : grid0.Coords) (a0 : Memref sig .tc .vmem S2048x256 .f32) (h0 : a0.IsWhole) (a1 : Memref sig .tc .vmem S2048x256 .f32) (h1 : a1.IsWhole) (a2 : Memref sig .tc .vmem S9x256 .f32) (h2 : a2.IsWhole) (a3 : Memref sig .tc .vmem S2048x256 .f32) (h3 : a3.IsWhole) (a4 : Memref sig .tc .vmem S2048x256 .f32) (h4 : a4.IsWhole) (a5 : Memref sig .tc .vmem S2048x256 .bf16) (h5 : a5.IsWhole) (a6 : Memref sig .tc .vmem S2048x256 .bf16) (h6 : a6.IsWhole) (a7 : Memref sig .tc .vmem S16x256 .f32) (h7 : a7.IsWhole) (hc : ¬first i)
    (x0 : Vec F S2048x256 .f32) (x1 : Vec F S2048x256 .f32) (x2 : Vec F S9x256 .f32) (x3 : Vec F S2048x256 .f32) (x4 : Vec F S2048x256 .f32) (x7 : Vec F S16x256 .f32) :
    (stepB c i a0 h0 a1 h1 a2 h2 a3 h3 a4 h4 a5 h5 a6 h6 a7 h7 hc x0 x1 x2 x3 x4 x7).2.2.1 = B4 x3 x4 x1 x0 x7 := by
  unfold B4
  rw [← rdHi_eq a3 h3, ← rdHi_eq a4 h4, ← rdHi_eq a1 h1, ← rdHi_eq a0 h0, ← rdLo_eq a3 h3, ← rdLo_eq a4 h4, ← rdLo_eq a1 h1, ← rdLo_eq a0 h0]
  have hx : x7 = a7.view.read (Elt F) (h7.unread x7) := (h7.read_unread x7).symm
  conv_rhs => rw [hx]
  rfl

end Cert.KernelIdeal.Ffn

end
-- ==== Proof.FfnBlock.lean ====
module

public import proofs.«01_k».proof.Proof.FfnPieces
public import Idealize.ShloMosaic.Lib.WritesUnit

@[expose] public section

set_option maxRecDepth 16384

noncomputable section

namespace Cert.KernelIdeal.Ffn

open Cert.KernelIdeal.Gen
open Idealize.ShloMosaic Idealize.ShloMosaic.TcCoe Idealize.ShloMosaic.Tactic
open Idealize.ShloMosaic.Pipeline (Dat Cfg Window BodyObligation cellOf)

/-! ## A lane at an index -/

theorem left_lt (l : Fin 128) : l.val < 256 := by omega
theorem right_lt (l : Fin 128) : 128 + l.val < 256 := by omega
/-- A column of the left and of the right lane, in the block. -/
abbrev lc (l : Fin 128) : Fin 256 := ⟨l.val, left_lt l⟩
abbrev rc (l : Fin 128) : Fin 256 := ⟨128 + l.val, right_lt l⟩

/-- A column of a block is in one of its two lanes. -/
theorem lanes (l : Fin 256) : (∃ l', l = lc l') ∨ ∃ l', l = rc l' := by
  by_cases h : l.val < 128
  · exact .inl ⟨⟨l.val, h⟩, rfl⟩
  · exact .inr ⟨⟨l.val - 128, by omega⟩, Fin.ext (by show l.val = 128 + (l.val - 128); omega)⟩

theorem lo_at (X : Vec Ideal S2048x256 .f32) (r : Fin 2048) (l : Fin 128) : lo X (ix2 r l) = X (ix2 r (lc l)) := by
  refine congrArg X (funext fun a => Fin.ext ?_)
  match a with
  | ⟨0, _⟩ => exact (Nat.zero_add _).trans (Nat.one_mul _)
  | ⟨1, _⟩ => exact (Nat.zero_add _).trans (Nat.one_mul _)
theorem hi_at (X : Vec Ideal S2048x256 .f32) (r : Fin 2048) (l : Fin 128) : hi X (ix2 r l) = X (ix2 r (rc l)) := by
  refine congrArg X (funext fun a => Fin.ext ?_)
  match a with
  | ⟨0, _⟩ => exact (Nat.zero_add _).trans (Nat.one_mul _)
  | ⟨1, _⟩ => exact congrArg (128 + ·) (Nat.one_mul _)
theorem lo9_at (X : Vec Ideal S9x256 .f32) (r : Fin 9) (l : Fin 128) : lo9 X (ix2 r l) = X (ix2 r (lc l)) := by
  refine congrArg X (funext fun a => Fin.ext ?_)
  match a with
  | ⟨0, _⟩ => exact (Nat.zero_add _).trans (Nat.one_mul _)
  | ⟨1, _⟩ => exact (Nat.zero_add _).trans (Nat.one_mul _)
theorem hi9_at (X : Vec Ideal S9x256 .f32) (r : Fin 9) (l : Fin 128) : hi9 X (ix2 r l) = X (ix2 r (rc l)) := by
  refine congrArg X (funext fun a => Fin.ext ?_)
  match a with
  | ⟨0, _⟩ => exact (Nat.zero_add _).trans (Nat.one_mul _)
  | ⟨1, _⟩ => exact congrArg (128 + ·) (Nat.one_mul _)

/-! ## The two gradients' blocks -/

theorem halves_left (u : View sig .tc .vmem S2048x256 .bf16) (f : u.ty.Contents (Elt Ideal)) (p q : Vec Ideal S2048x128 .bf16) (r : Fin 2048) (l : Fin 128) :
    u.read (Elt Ideal) (u.writes (Elt Ideal) f (halves p q)) (ix2 r (lc l)) = q (ix2 r l) := by
  refine (View.read_writes_cons_unit_of_not_mem u f _ _ _ _ rfl 1 (.inl ?_)).trans
    (View.read_writes_cons_unit_of_mem u f _ _ _ _ (ix2 r l) rfl fun a => ?_)
  · show l.val < 128
    exact l.isLt
  · match a with
    | ⟨0, _⟩ => exact (Nat.zero_add _).symm
    | ⟨1, _⟩ => exact (Nat.zero_add _).symm
theorem halves_right (u : View sig .tc .vmem S2048x256 .bf16) (f : u.ty.Contents (Elt Ideal)) (p q : Vec Ideal S2048x128 .bf16) (r : Fin 2048) (l : Fin 128) :
    u.read (Elt Ideal) (u.writes (Elt Ideal) f (halves p q)) (ix2 r (rc l)) = p (ix2 r l) := by
  refine View.read_writes_cons_unit_of_mem u f _ _ _ _ (ix2 r l) rfl fun a => ?_
  match a with
  | ⟨0, _⟩ => exact (Nat.zero_add _).symm
  | ⟨1, _⟩ => rfl

theorem halves_fv (u : View sig .tc .vmem S2048x256 .bf16) (f : u.ty.Contents (Elt Ideal)) (p d : Vec Ideal S2048x256 .f32) (r : Fin 2048) (l : Fin 256) :
    u.read (Elt Ideal) (u.writes (Elt Ideal) f (halves (dfvL (hi p) (hi d)) (dfvL (lo p) (lo d)))) (ix2 r l)
      = dfvS (p (ix2 r l)) (d (ix2 r l)) := by
  obtain ⟨l, rfl⟩ | ⟨l, rfl⟩ := lanes l
  · rw [halves_left, dfvL_at, lo_at, lo_at]
  · rw [halves_right, dfvL_at, hi_at, hi_at]

theorem halves_fg (u : View sig .tc .vmem S2048x256 .bf16) (f : u.ty.Contents (Elt Ideal)) (p d v : Vec Ideal S2048x256 .f32) (w : Vec Ideal S9x256 .f32)
    (r : Fin 2048) (l : Fin 256) :
    u.read (Elt Ideal) (u.writes (Elt Ideal) f (halves (dfgL (hi p) (hi d) (hi v) (hi9 w)) (dfgL (lo p) (lo d) (lo v) (lo9 w)))) (ix2 r l)
      = dxAt (fun k => w (ix2 k l)) (fun r => dpS (p (ix2 r l)) (d (ix2 r l)) (v (ix2 r l))) r := by
  obtain ⟨l, rfl⟩ | ⟨l, rfl⟩ := lanes l
  · rw [halves_left, dfgL_at]
    exact congrArg₂ (fun y z => dxAt y z r) (funext fun k => lo9_at w k l) (funext fun r => by rw [lo_at, lo_at, lo_at])
  · rw [halves_right, dfgL_at]
    exact congrArg₂ (fun y z => dxAt y z r) (funext fun k => hi9_at w k l) (funext fun r => by rw [hi_at, hi_at, hi_at])

/-! ## The accumulator's pieces at an index -/

theorem tap_lt (k : Fin 9) : k.val < 16 := by omega
/-- A tap's row of the accumulator, and the bias's. -/
abbrev tr (k : Fin 9) : Fin 16 := ⟨k.val, tap_lt k⟩
abbrev br : Fin 16 := 9

section Acc

variable (u : View sig .tc .vmem S16x256 .f32) (f : u.ty.Contents (Elt Ideal)) (L : List (View.Piece (Elt Ideal) S16x256 .f32))

theorem onDwLo_tr_lc (w : Vec Ideal S9x128 .f32) (k : Fin 9) (l : Fin 128) :
    u.read (Elt Ideal) (u.writes (Elt Ideal) f (onDwLo w L)) (ix2 (tr k) (lc l)) = w (ix2 k l) := by
  refine View.read_writes_cons_unit_of_mem u f _ _ _ _ (ix2 k l) rfl fun a => ?_
  match a with
  | ⟨0, _⟩ => exact (Nat.zero_add _).symm
  | ⟨1, _⟩ => exact (Nat.zero_add _).symm
theorem onDwLo_tr_rc (w : Vec Ideal S9x128 .f32) (k : Fin 9) (l : Fin 128) :
    u.read (Elt Ideal) (u.writes (Elt Ideal) f (onDwLo w L)) (ix2 (tr k) (rc l)) = u.read (Elt Ideal) (u.writes (Elt Ideal) f L) (ix2 (tr k) (rc l)) := by
  exact View.read_writes_cons_unit_of_not_mem u f _ _ _ _ rfl 1 (.inr (by show 0 + 128 ≤ 128 + l.val; omega))
theorem onDwLo_br_lc (w : Vec Ideal S9x128 .f32) (l : Fin 128) :
    u.read (Elt Ideal) (u.writes (Elt Ideal) f (onDwLo w L)) (ix2 br (lc l)) = u.read (Elt Ideal) (u.writes (Elt Ideal) f L) (ix2 br (lc l)) := by
  exact View.read_writes_cons_unit_of_not_mem u f _ _ _ _ rfl 0 (.inr (by show 0 + 9 ≤ 9; omega))
theorem onDwLo_br_rc (w : Vec Ideal S9x128 .f32) (l : Fin 128) :
    u.read (Elt Ideal) (u.writes (Elt Ideal) f (onDwLo w L)) (ix2 br (rc l)) = u.read (Elt Ideal) (u.writes (Elt Ideal) f L) (ix2 br (rc l)) := by
  exact View.read_writes_cons_unit_of_not_mem u f _ _ _ _ rfl 1 (.inr (by show 0 + 128 ≤ 128 + l.val; omega))
theorem onDbLo_tr_lc (w : Vec Ideal S1x128 .f32) (k : Fin 9) (l : Fin 128) :
    u.read (Elt Ideal) (u.writes (Elt Ideal) f (onDbLo w L)) (ix2 (tr k) (lc l)) = u.read (Elt Ideal) (u.writes (Elt Ideal) f L) (ix2 (tr k) (lc l)) := by
  exact View.read_writes_cons_unit_of_not_mem u f _ _ _ _ rfl 0 (.inl (by show k.val < 9; omega))
theorem onDbLo_tr_rc (w : Vec Ideal S1x128 .f32) (k : Fin 9) (l : Fin 128) :
    u.read (Elt Ideal) (u.writes (Elt Ideal) f (onDbLo w L)) (ix2 (tr k) (rc l)) = u.read (Elt Ideal) (u.writes (Elt Ideal) f L) (ix2 (tr k) (rc l)) := by
  exact View.read_writes_cons_unit_of_not_mem u f _ _ _ _ rfl 1 (.inr (by show 0 + 128 ≤ 128 + l.val; omega))
theorem onDbLo_br_lc (w : Vec Ideal S1x128 .f32) (l : Fin 128) :
    u.read (Elt Ideal) (u.writes (Elt Ideal) f (onDbLo w L)) (ix2 br (lc l)) = w (ix2 (0 : Fin 1) l) := by
  refine View.read_writes_cons_unit_of_mem u f _ _ _ _ (ix2 (0 : Fin 1) l) rfl fun a => ?_
  match a with
  | ⟨0, _⟩ => rfl
  | ⟨1, _⟩ => exact (Nat.zero_add _).symm
theorem onDbLo_br_rc (w : Vec Ideal S1x128 .f32) (l : Fin 128) :
    u.read (Elt Ideal) (u.writes (Elt Ideal) f (onDbLo w L)) (ix2 br (rc l)) = u.read (Elt Ideal) (u.writes (Elt Ideal) f L) (ix2 br (rc l)) := by
  exact View.read_writes_cons_unit_of_not_mem u f _ _ _ _ rfl 1 (.inr (by show 0 + 128 ≤ 128 + l.val; omega))
theorem onDwHi_tr_lc (w : Vec Ideal S9x128 .f32) (k : Fin 9) (l : Fin 128) :
    u.read (Elt Ideal) (u.writes (Elt Ideal) f (onDwHi w L)) (ix2 (tr k) (lc l)) = u.read (Elt Ideal) (u.writes (Elt Ideal) f L) (ix2 (tr k) (lc l)) := by
  exact View.read_writes_cons_unit_of_not_mem u f _ _ _ _ rfl 1 (.inl (by show l.val < 128; omega))
theorem onDwHi_tr_rc (w : Vec Ideal S9x128 .f32) (k : Fin 9) (l : Fin 128) :
    u.read (Elt Ideal) (u.writes (Elt Ideal) f (onDwHi w L)) (ix2 (tr k) (rc l)) = w (ix2 k l) := by
  refine View.read_writes_cons_unit_of_mem u f _ _ _ _ (ix2 k l) rfl fun a => ?_
  match a with
  | ⟨0, _⟩ => exact (Nat.zero_add _).symm
  | ⟨1, _⟩ => rfl
theorem onDwHi_br_lc (w : Vec Ideal S9x128 .f32) (l : Fin 128) :
    u.read (Elt Ideal) (u.writes (Elt Ideal) f (onDwHi w L)) (ix2 br (lc l)) = u.read (Elt Ideal) (u.writes (Elt Ideal) f L) (ix2 br (lc l)) := by
  exact View.read_writes_cons_unit_of_not_mem u f _ _ _ _ rfl 1 (.inl (by show l.val < 128; omega))
theorem onDwHi_br_rc (w : Vec Ideal S9x128 .f32) (l : Fin 128) :
    u.read (Elt Ideal) (u.writes (Elt Ideal) f (onDwHi w L)) (ix2 br (rc l)) = u.read (Elt Ideal) (u.writes (Elt Ideal) f L) (ix2 br (rc l)) := by
  exact View.read_writes_cons_unit_of_not_mem u f _ _ _ _ rfl 0 (.inr (by show 0 + 9 ≤ 9; omega))
theorem onDbHi_tr_lc (w : Vec Ideal S1x128 .f32) (k : Fin 9) (l : Fin 128) :
    u.read (Elt Ideal) (u.writes (Elt Ideal) f (onDbHi w L)) (ix2 (tr k) (lc l)) = u.read (Elt Ideal) (u.writes (Elt Ideal) f L) (ix2 (tr k) (lc l)) := by
  exact View.read_writes_cons_unit_of_not_mem u f _ _ _ _ rfl 1 (.inl (by show l.val < 128; omega))
theorem onDbHi_tr_rc (w : Vec Ideal S1x128 .f32) (k : Fin 9) (l : Fin 128) :
    u.read (Elt Ideal) (u.writes (Elt Ideal) f (onDbHi w L)) (ix2 (tr k) (rc l)) = u.read (Elt Ideal) (u.writes (Elt Ideal) f L) (ix2 (tr k) (rc l)) := by
  exact View.read_writes_cons_unit_of_not_mem u f _ _ _ _ rfl 0 (.inl (by show k.val < 9; omega))
theorem onDbHi_br_lc (w : Vec Ideal S1x128 .f32) (l : Fin 128) :
    u.read (Elt Ideal) (u.writes (Elt Ideal) f (onDbHi w L)) (ix2 br (lc l)) = u.read (Elt Ideal) (u.writes (Elt Ideal) f L) (ix2 br (lc l)) := by
  exact View.read_writes_cons_unit_of_not_mem u f _ _ _ _ rfl 1 (.inl (by show l.val < 128; omega))
theorem onDbHi_br_rc (w : Vec Ideal S1x128 .f32) (l : Fin 128) :
    u.read (Elt Ideal) (u.writes (Elt Ideal) f (onDbHi w L)) (ix2 br (rc l)) = w (ix2 (0 : Fin 1) l) := by
  refine View.read_writes_cons_unit_of_mem u f _ _ _ _ (ix2 (0 : Fin 1) l) rfl fun a => ?_
  match a with
  | ⟨0, _⟩ => rfl
  | ⟨1, _⟩ => rfl

theorem clear_at (r : Fin 16) (l : Fin 256) : u.read (Elt Ideal) (u.writes (Elt Ideal) f clear) (ix2 r l) = 0 := by
  have h : (k0_pay17 (F := Ideal)) (ix2 r l) = 0 := by
    unfold k0_pay17
    pointwise
  refine (View.read_writes_cons_unit_of_mem u f _ _ _ _ (ix2 r l) rfl fun a => ?_).trans h
  match a with
  | ⟨0, _⟩ => exact (Nat.zero_add _).symm
  | ⟨1, _⟩ => exact (Nat.zero_add _).symm

end Acc

/-! ## A load of the accumulator at an index -/

theorem atDwLo (k : Fin 9) (l : Fin 128) : (Rect.unit (s := S16x256) ![0, 0] S9x128.size inb_S16x256_S9x128_0_0).emb (ix2 k l) = ix2 (tr k) (lc l) := by
  funext a
  apply Fin.ext
  match a with
  | ⟨0, _⟩ => exact (Nat.zero_add _).trans (Nat.one_mul _)
  | ⟨1, _⟩ => exact (Nat.zero_add _).trans (Nat.one_mul _)
theorem covDwLo (u : View sig .tc .vmem S16x256 .f32) (L : List (View.Piece (Elt Ideal) S16x256 .f32)) (k : Fin 9) (l : Fin 128) :
    (show Vec Ideal S9x128 .f32 from u.readCov L (Rect.unit (s := S16x256) ![0, 0] S9x128.size inb_S16x256_S9x128_0_0).toLoadRect) (ix2 k l) = u.read (Elt Ideal) (u.writes (Elt Ideal) u.junk L) (ix2 (tr k) (lc l)) := by
  show u.read (Elt Ideal) (u.writes (Elt Ideal) u.junk L) ((Rect.unit (s := S16x256) ![0, 0] S9x128.size inb_S16x256_S9x128_0_0).emb (ix2 k l)) = _
  rw [atDwLo]
theorem ldDwLo (x : Vec Ideal S16x256 .f32) (k : Fin 9) (l : Fin 128) :
    (show Vec Ideal S9x128 .f32 from View.ld x (Rect.unit (s := S16x256) ![0, 0] S9x128.size inb_S16x256_S9x128_0_0)) (ix2 k l) = x (ix2 (tr k) (lc l)) := by
  show x ((Rect.unit (s := S16x256) ![0, 0] S9x128.size inb_S16x256_S9x128_0_0).emb (ix2 k l)) = _
  rw [atDwLo]
theorem atDbLo (l : Fin 128) : (Rect.unit (s := S16x256) ![9, 0] S1x128.size inb_S16x256_S1x128_9_0).emb (ix2 (0 : Fin 1) l) = ix2 br (lc l) := by
  funext a
  apply Fin.ext
  match a with
  | ⟨0, _⟩ => rfl
  | ⟨1, _⟩ => exact (Nat.zero_add _).trans (Nat.one_mul _)
theorem covDbLo (u : View sig .tc .vmem S16x256 .f32) (L : List (View.Piece (Elt Ideal) S16x256 .f32)) (l : Fin 128) :
    (show Vec Ideal S1x128 .f32 from u.readCov L (Rect.unit (s := S16x256) ![9, 0] S1x128.size inb_S16x256_S1x128_9_0).toLoadRect) (ix2 (0 : Fin 1) l) = u.read (Elt Ideal) (u.writes (Elt Ideal) u.junk L) (ix2 br (lc l)) := by
  show u.read (Elt Ideal) (u.writes (Elt Ideal) u.junk L) ((Rect.unit (s := S16x256) ![9, 0] S1x128.size inb_S16x256_S1x128_9_0).emb (ix2 (0 : Fin 1) l)) = _
  rw [atDbLo]
theorem ldDbLo (x : Vec Ideal S16x256 .f32) (l : Fin 128) :
    (show Vec Ideal S1x128 .f32 from View.ld x (Rect.unit (s := S16x256) ![9, 0] S1x128.size inb_S16x256_S1x128_9_0)) (ix2 (0 : Fin 1) l) = x (ix2 br (lc l)) := by
  show x ((Rect.unit (s := S16x256) ![9, 0] S1x128.size inb_S16x256_S1x128_9_0).emb (ix2 (0 : Fin 1) l)) = _
  rw [atDbLo]
theorem atDwHi (k : Fin 9) (l : Fin 128) : (Rect.unit (s := S16x256) ![0, 128] S9x128.size inb_S16x256_S9x128_0_128).emb (ix2 k l) = ix2 (tr k) (rc l) := by
  funext a
  apply Fin.ext
  match a with
  | ⟨0, _⟩ => exact (Nat.zero_add _).trans (Nat.one_mul _)
  | ⟨1, _⟩ => exact congrArg (128 + ·) (Nat.one_mul _)
theorem covDwHi (u : View sig .tc .vmem S16x256 .f32) (L : List (View.Piece (Elt Ideal) S16x256 .f32)) (k : Fin 9) (l : Fin 128) :
    (show Vec Ideal S9x128 .f32 from u.readCov L (Rect.unit (s := S16x256) ![0, 128] S9x128.size inb_S16x256_S9x128_0_128).toLoadRect) (ix2 k l) = u.read (Elt Ideal) (u.writes (Elt Ideal) u.junk L) (ix2 (tr k) (rc l)) := by
  show u.read (Elt Ideal) (u.writes (Elt Ideal) u.junk L) ((Rect.unit (s := S16x256) ![0, 128] S9x128.size inb_S16x256_S9x128_0_128).emb (ix2 k l)) = _
  rw [atDwHi]
theorem ldDwHi (x : Vec Ideal S16x256 .f32) (k : Fin 9) (l : Fin 128) :
    (show Vec Ideal S9x128 .f32 from View.ld x (Rect.unit (s := S16x256) ![0, 128] S9x128.size inb_S16x256_S9x128_0_128)) (ix2 k l) = x (ix2 (tr k) (rc l)) := by
  show x ((Rect.unit (s := S16x256) ![0, 128] S9x128.size inb_S16x256_S9x128_0_128).emb (ix2 k l)) = _
  rw [atDwHi]
theorem atDbHi (l : Fin 128) : (Rect.unit (s := S16x256) ![9, 128] S1x128.size inb_S16x256_S1x128_9_128).emb (ix2 (0 : Fin 1) l) = ix2 br (rc l) := by
  funext a
  apply Fin.ext
  match a with
  | ⟨0, _⟩ => rfl
  | ⟨1, _⟩ => exact congrArg (128 + ·) (Nat.one_mul _)
theorem covDbHi (u : View sig .tc .vmem S16x256 .f32) (L : List (View.Piece (Elt Ideal) S16x256 .f32)) (l : Fin 128) :
    (show Vec Ideal S1x128 .f32 from u.readCov L (Rect.unit (s := S16x256) ![9, 128] S1x128.size inb_S16x256_S1x128_9_128).toLoadRect) (ix2 (0 : Fin 1) l) = u.read (Elt Ideal) (u.writes (Elt Ideal) u.junk L) (ix2 br (rc l)) := by
  show u.read (Elt Ideal) (u.writes (Elt Ideal) u.junk L) ((Rect.unit (s := S16x256) ![9, 128] S1x128.size inb_S16x256_S1x128_9_128).emb (ix2 (0 : Fin 1) l)) = _
  rw [atDbHi]
theorem ldDbHi (x : Vec Ideal S16x256 .f32) (l : Fin 128) :
    (show Vec Ideal S1x128 .f32 from View.ld x (Rect.unit (s := S16x256) ![9, 128] S1x128.size inb_S16x256_S1x128_9_128)) (ix2 (0 : Fin 1) l) = x (ix2 br (rc l)) := by
  show x ((Rect.unit (s := S16x256) ![9, 128] S1x128.size inb_S16x256_S1x128_9_128).emb (ix2 (0 : Fin 1) l)) = _
  rw [atDbHi]

/-! ## The accumulator after a visit -/

section Visit

variable (u a7 : View sig .tc .vmem S16x256 .f32) (f : u.ty.Contents (Elt Ideal)) (p d v g : Vec Ideal S2048x256 .f32)

/-- What a visit adds to a tap's row and to the bias's. -/
def addW (p d v g : Vec Ideal S2048x256 .f32) (k : Fin 9) (l : Fin 256) : EReal :=
  dwAt k (fun r => dpS (p (ix2 r l)) (d (ix2 r l)) (v (ix2 r l))) (fun r => g (ix2 r l))
def addB (p d v : Vec Ideal S2048x256 .f32) (l : Fin 256) : EReal := ∑ r : Fin 2048, dpS (p (ix2 r l)) (d (ix2 r l)) (v (ix2 r l))

theorem dwLo_at (x : Vec Ideal S9x128 .f32) (k : Fin 9) (l : Fin 128) : dwL (lo p) (lo d) (lo v) (lo g) x (ix2 k l) = x (ix2 k l) + addW p d v g k (lc l) := by
  rw [dwL_at]
  exact congrArg (x (ix2 k l) + ·) (congrArg₂ (dwAt k) (funext fun r => by rw [lo_at, lo_at, lo_at]) (funext fun r => lo_at g r l))
theorem dwHi_at (x : Vec Ideal S9x128 .f32) (k : Fin 9) (l : Fin 128) : dwL (hi p) (hi d) (hi v) (hi g) x (ix2 k l) = x (ix2 k l) + addW p d v g k (rc l) := by
  rw [dwL_at]
  exact congrArg (x (ix2 k l) + ·) (congrArg₂ (dwAt k) (funext fun r => by rw [hi_at, hi_at, hi_at]) (funext fun r => hi_at g r l))
theorem dbLo_at (x : Vec Ideal S1x128 .f32) (l : Fin 128) : dbL (lo p) (lo d) (lo v) x (ix2 0 l) = x (ix2 0 l) + addB p d v (lc l) := by
  rw [dbL_at]
  exact congrArg (x (ix2 0 l) + ·) (Finset.sum_congr rfl fun r _ => by rw [lo_at, lo_at, lo_at])
theorem dbHi_at (x : Vec Ideal S1x128 .f32) (l : Fin 128) : dbL (hi p) (hi d) (hi v) x (ix2 0 l) = x (ix2 0 l) + addB p d v (rc l) := by
  rw [dbL_at]
  exact congrArg (x (ix2 0 l) + ·) (Finset.sum_congr rfl fun r _ => by rw [hi_at, hi_at, hi_at])

end Visit

section First

variable (u : View sig .tc .vmem S16x256 .f32) (f : u.ty.Contents (Elt Ideal)) (a7 : Memref sig .tc .vmem S16x256 .f32) (p d v g : Vec Ideal S2048x256 .f32)

/-- After a first visit a tap's row holds the visit's share. -/
theorem A5_tap (k : Fin 9) (l : Fin 256) : u.read (Elt Ideal) (u.writes (Elt Ideal) f (A5 a7 p d v g)) (ix2 (tr k) l) = addW p d v g k l := by
  obtain ⟨l, rfl⟩ | ⟨l, rfl⟩ := lanes l
  · unfold A5 A4 A3 A2
    refine (onDbHi_tr_lc u f _ _ k l).trans ((onDwHi_tr_lc u f _ _ k l).trans ((onDbLo_tr_lc u f _ _ k l).trans ((onDwLo_tr_lc u f _ _ k l).trans ?_)))
    refine (dwLo_at p d v g _ k l).trans ?_
    refine (congrArg (· + _) ((covDwLo _ _ k l).trans (clear_at _ _ _ _))).trans (zero_add _)
  · unfold A5 A4
    refine (onDbHi_tr_rc u f _ _ k l).trans ((onDwHi_tr_rc u f _ _ k l).trans ?_)
    refine (dwHi_at p d v g _ k l).trans ?_
    refine (congrArg (· + _) ((covDwHi _ _ k l).trans ?_)).trans (zero_add _)
    unfold A3 A2
    exact (onDbLo_tr_rc _ _ _ _ k l).trans ((onDwLo_tr_rc _ _ _ _ k l).trans (clear_at _ _ _ _))
/-- After a first visit the bias's row holds the visit's share. -/
theorem A5_bias (l : Fin 256) : u.read (Elt Ideal) (u.writes (Elt Ideal) f (A5 a7 p d v g)) (ix2 br l) = addB p d v l := by
  obtain ⟨l, rfl⟩ | ⟨l, rfl⟩ := lanes l
  · unfold A5 A4 A3
    refine (onDbHi_br_lc u f _ _ l).trans ((onDwHi_br_lc u f _ _ l).trans ((onDbLo_br_lc u f _ _ l).trans ?_))
    refine (dbLo_at p d v _ l).trans ?_
    refine (congrArg (· + _) ((covDbLo _ _ l).trans ?_)).trans (zero_add _)
    unfold A2
    exact (onDwLo_br_lc _ _ _ _ l).trans (clear_at _ _ _ _)
  · unfold A5
    refine (onDbHi_br_rc u f _ _ l).trans ?_
    refine (dbHi_at p d v _ l).trans ?_
    refine (congrArg (· + _) ((covDbHi _ _ l).trans ?_)).trans (zero_add _)
    unfold A4 A3 A2
    exact (onDwHi_br_rc _ _ _ _ l).trans ((onDbLo_br_rc _ _ _ _ l).trans ((onDwLo_br_rc _ _ _ _ l).trans (clear_at _ _ _ _)))

variable (x : Vec Ideal S16x256 .f32)

/-- After a second visit a tap's row holds what was there and the visit's share. -/
theorem B4_tap (k : Fin 9) (l : Fin 256) :
    u.read (Elt Ideal) (u.writes (Elt Ideal) f (B4 p d v g x)) (ix2 (tr k) l) = x (ix2 (tr k) l) + addW p d v g k l := by
  obtain ⟨l, rfl⟩ | ⟨l, rfl⟩ := lanes l
  · unfold B4
    refine (onDbHi_tr_lc u f _ _ k l).trans ((onDwHi_tr_lc u f _ _ k l).trans ((onDbLo_tr_lc u f _ _ k l).trans ((onDwLo_tr_lc u f _ _ k l).trans ?_)))
    exact (dwLo_at p d v g _ k l).trans (congrArg (· + _) (ldDwLo x k l))
  · unfold B4
    refine (onDbHi_tr_rc u f _ _ k l).trans ((onDwHi_tr_rc u f _ _ k l).trans ?_)
    exact (dwHi_at p d v g _ k l).trans (congrArg (· + _) (ldDwHi x k l))
/-- After a second visit the bias's row holds what was there and the visit's share. -/
theorem B4_bias (l : Fin 256) :
    u.read (Elt Ideal) (u.writes (Elt Ideal) f (B4 p d v g x)) (ix2 br l) = x (ix2 br l) + addB p d v l := by
  obtain ⟨l, rfl⟩ | ⟨l, rfl⟩ := lanes l
  · unfold B4
    refine (onDbHi_br_lc u f _ _ l).trans ((onDwHi_br_lc u f _ _ l).trans ((onDbLo_br_lc u f _ _ l).trans ?_))
    exact (dbLo_at p d v _ l).trans (congrArg (· + _) (ldDbLo x l))
  · unfold B4
    refine (onDbHi_br_rc u f _ _ l).trans ?_
    exact (dbHi_at p d v _ l).trans (congrArg (· + _) (ldDbHi x l))

end First

/-! ## What the body leaves at a point -/

variable (m : (ℓ : Loc nD τ sig) → Buf (Elt Ideal) ℓ)

theorem gradV_at (c : Dev nD) (t : Fin cfg0.N) (r : Fin 2048) (l : Fin 256) :
    gradV m c t (ix2 r l) = dfvS (iblk m c 3 t (ix2 r l)) (iblk m c 4 t (ix2 r l)) := by
  unfold gradV
  split
  · rw [runA, stepA_fv]
    exact halves_fv _ _ _ _ r l
  · rw [runB, stepB_fv]
    exact halves_fv _ _ _ _ r l

theorem gradG_at (c : Dev nD) (t : Fin cfg0.N) (r : Fin 2048) (l : Fin 256) :
    gradG m c t (ix2 r l) = dxAt (fun k => iblk m c 2 t (ix2 k l))
      (fun r => dpS (iblk m c 3 t (ix2 r l)) (iblk m c 4 t (ix2 r l)) (iblk m c 1 t (ix2 r l))) r := by
  unfold gradG
  split
  · rw [runA, stepA_fg]
    exact halves_fg _ _ _ _ _ _ r l
  · rw [runB, stepB_fg]
    exact halves_fg _ _ _ _ _ _ r l

theorem accA_tap (c : Dev nD) (t : Fin cfg0.N) (h : t.val % 2 = 0) (k : Fin 9) (l : Fin 256) :
    accA m c t h (ix2 (tr k) l) = addW (iblk m c 3 t) (iblk m c 4 t) (iblk m c 1 t) (iblk m c 0 t) k l := by
  unfold accA
  rw [runA, stepA_acc]
  exact A5_tap _ _ _ _ _ _ _ k l
theorem accA_bias (c : Dev nD) (t : Fin cfg0.N) (h : t.val % 2 = 0) (l : Fin 256) :
    accA m c t h (ix2 br l) = addB (iblk m c 3 t) (iblk m c 4 t) (iblk m c 1 t) l := by
  unfold accA
  rw [runA, stepA_acc]
  exact A5_bias _ _ _ _ _ _ _ l

/-- After an odd point a tap's row holds the two visits' shares. -/
theorem acc_tap (c : Dev nD) (t : Fin cfg0.N) (h : ¬t.val % 2 = 0) (k : Fin 9) (l : Fin 256) :
    acc m c t (ix2 (tr k) l) = addW (iblk m c 3 (prev t)) (iblk m c 4 (prev t)) (iblk m c 1 (prev t)) (iblk m c 0 (prev t)) k l
      + addW (iblk m c 3 t) (iblk m c 4 t) (iblk m c 1 t) (iblk m c 0 t) k l := by
  rw [acc, dif_neg h]
  unfold accB
  rw [← accA_tap m c (prev t) (prev_even t h) k l]
  generalize accA m c (prev t) (prev_even t h) = x
  rw [runB, stepB_acc]
  exact B4_tap _ _ _ _ _ _ _ k l
/-- After an odd point the bias's row holds the two visits' shares. -/
theorem acc_bias (c : Dev nD) (t : Fin cfg0.N) (h : ¬t.val % 2 = 0) (l : Fin 256) :
    acc m c t (ix2 br l) = addB (iblk m c 3 (prev t)) (iblk m c 4 (prev t)) (iblk m c 1 (prev t)) l
      + addB (iblk m c 3 t) (iblk m c 4 t) (iblk m c 1 t) l := by
  rw [acc, dif_neg h]
  unfold accB
  rw [← accA_bias m c (prev t) (prev_even t h) l]
  generalize accA m c (prev t) (prev_even t h) = x
  rw [runB, stepB_acc]
  exact B4_bias _ _ _ _ _ _ _ l

end Cert.KernelIdeal.Ffn

end
-- ==== Proof.FfnIdx.lean ====
module

public import proofs.«01_k».proof.Proof.FfnBlock
public import Idealize.ShloMosaic.Lib.Pipeline.Value

@[expose] public section

set_option maxRecDepth 16384

noncomputable section

namespace Cert.KernelIdeal.Ffn

open Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

theorem N32 : cfg0.N = 32 := N_0
theorem pt_lt (t : Fin cfg0.N) : t.val < 32 := lt_of_lt_of_eq t.isLt N32

/-! ## Where a block lies -/

/-- The array's row and column of a place of the block of point `t`. -/
abbrev gr (t : Fin cfg0.N) (r : Fin 2048) : Fin 4096 := ⟨t.val % 2 * 2048 + r.val, by omega⟩
abbrev gc (t : Fin cfg0.N) (l : Fin 256) : Fin 4096 := ⟨t.val / 2 * 256 + l.val, by have := pt_lt t; omega⟩
abbrev gcL (t : Fin cfg0.N) (l : Fin 256) : Fin 8192 := ⟨t.val / 2 * 256 + l.val, by have := pt_lt t; omega⟩
abbrev gcR (t : Fin cfg0.N) (l : Fin 256) : Fin 8192 := ⟨(16 + t.val / 2) * 256 + l.val, by have := pt_lt t; omega⟩

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 16 + t.val / 2 := by decide +kernel
theorem idx2 : ∀ t : Fin grid0.N, win0_2.index t 0 = 0 ∧ win0_2.index t 1 = t.val / 2 := by decide +kernel
theorem idx3 : ∀ t : Fin grid0.N, win0_3.index t 0 = t.val % 2 ∧ win0_3.index t 1 = t.val / 2 := by decide +kernel
theorem idx4 : ∀ t : Fin grid0.N, win0_4.index t 0 = t.val % 2 ∧ win0_4.index t 1 = t.val / 2 := by decide +kernel
theorem idx5 : ∀ t : Fin grid0.N, win0_5.index t 0 = t.val % 2 ∧ win0_5.index t 1 = t.val / 2 := by decide +kernel
theorem idx6 : ∀ t : Fin grid0.N, win0_6.index t 0 = t.val % 2 ∧ win0_6.index t 1 = t.val / 2 := by decide +kernel
theorem idx7 : ∀ t : Fin grid0.N, win0_7.index t 0 = 0 ∧ win0_7.index t 1 = t.val / 2 := by decide +kernel

end Cert.KernelIdeal.Ffn

end
-- ==== Proof.FfnArray.lean ====
module

public import proofs.«01_k».proof.Proof.FfnIdx
public import Idealize.ShloMosaic.Lib.Pipeline.Value

@[expose] public section

set_option maxRecDepth 16384

noncomputable section

namespace Cert.KernelIdeal.Ffn

open Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-! ## The inputs' blocks -/

theorem blk0_at (c : Dev nD) (t : Fin cfg0.N) (r : Fin 2048) (l : Fin 256) :
    (iblk m c 0 t : Vec Ideal S2048x256 .f32) (ix2 r l) = (V m c main_v76 : Vec Ideal S4096x8192 .f32) (ix2 (gr t r) (gcL t l)) := by
  unfold iblk
  rw [View.read_apply]
  generalize V m c main_v76 = A
  refine congrArg A (funext fun a => Fin.ext ?_)
  match a with
  | ⟨0, _⟩ =>
    have h : (((cfg0.win 0).blk t).view.emb (ix2 r l) (0 : Fin 2)).val = win0_0.index t 0 * 2048 + 1 * r.val := rfl
    rw [(idx0 t).1, Nat.one_mul] at h
    exact h
  | ⟨1, _⟩ =>
    have h : (((cfg0.win 0).blk t).view.emb (ix2 r l) (1 : Fin 2)).val = win0_0.index t 1 * 256 + 1 * l.val := rfl
    rw [(idx0 t).2, Nat.one_mul] at h
    exact h

theorem blk1_at (c : Dev nD) (t : Fin cfg0.N) (r : Fin 2048) (l : Fin 256) :
    (iblk m c 1 t : Vec Ideal S2048x256 .f32) (ix2 r l) = (V m c main_v76 : Vec Ideal S4096x8192 .f32) (ix2 (gr t r) (gcR t l)) := by
  unfold iblk
  rw [View.read_apply]
  generalize V m c main_v76 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h
  | ⟨1, _⟩ =>
    have h : (((cfg0.win 1).blk t).view.emb (ix2 r l) (1 : Fin 2)).val = win0_1.index t 1 * 256 + 1 * l.val := rfl
    rw [(idx1 t).2, Nat.one_mul] at h
    exact h

theorem blk2_at (c : Dev nD) (t : Fin cfg0.N) (r : Fin 9) (l : Fin 256) :
    (iblk m c 2 t : Vec Ideal S9x256 .f32) (ix2 r l) = (V m c main_v78 : Vec Ideal S9x4096 .f32) (ix2 (r) (gc t l)) := by
  unfold iblk
  rw [View.read_apply]
  generalize V m c main_v78 = A
  refine congrArg A (funext fun a => Fin.ext ?_)
  match a with
  | ⟨0, _⟩ =>
    have h : (((cfg0.win 2).blk t).view.emb (ix2 r l) (0 : Fin 2)).val = win0_2.index t 0 * 9 + 1 * r.val := rfl
    rw [(idx2 t).1, Nat.zero_mul, Nat.zero_add, Nat.one_mul] at h
    exact h
  | ⟨1, _⟩ =>
    have h : (((cfg0.win 2).blk t).view.emb (ix2 r l) (1 : Fin 2)).val = win0_2.index t 1 * 256 + 1 * l.val := rfl
    rw [(idx2 t).2, Nat.one_mul] at h
    exact h

theorem read3 (c : Dev nD) (t : Fin cfg0.N) (A : Buf (Elt Ideal) ((c : Thread nD τ).loc main_v77)) (r : Fin 2048) (l : Fin 256) :
    (((cfg0.win 3).blk t).view.read (Elt Ideal) A : Vec Ideal S2048x256 .f32) (ix2 r l) = (A : Vec Ideal S4096x4096 .f32) (ix2 (gr t r) (gc t l)) := by
  rw [View.read_apply]
  refine congrArg A (funext fun a => Fin.ext ?_)
  match a with
  | ⟨0, _⟩ =>
    have h : (((cfg0.win 3).blk t).view.emb (ix2 r l) (0 : Fin 2)).val = win0_3.index t 0 * 2048 + 1 * r.val := rfl
    rw [(idx3 t).1, Nat.one_mul] at h
    exact h
  | ⟨1, _⟩ =>
    have h : (((cfg0.win 3).blk t).view.emb (ix2 r l) (1 : Fin 2)).val = win0_3.index t 1 * 256 + 1 * l.val := rfl
    rw [(idx3 t).2, Nat.one_mul] at h
    exact h
theorem blk3_at (c : Dev nD) (t : Fin cfg0.N) (r : Fin 2048) (l : Fin 256) :
    (iblk m c 3 t : Vec Ideal S2048x256 .f32) (ix2 r l) = (V m c main_v77 : Vec Ideal S4096x4096 .f32) (ix2 (gr t r) (gc t l)) :=
  read3 c t (V m c main_v77) r l

theorem blk4_at (c : Dev nD) (t : Fin cfg0.N) (r : Fin 2048) (l : Fin 256) :
    (iblk m c 4 t : Vec Ideal S2048x256 .f32) (ix2 r l) = (V m c main_v79 : Vec Ideal S4096x4096 .f32) (ix2 (gr t r) (gc t l)) := by
  unfold iblk
  rw [View.read_apply]
  generalize V m c main_v79 = A
  refine congrArg A (funext fun a => Fin.ext ?_)
  match a with
  | ⟨0, _⟩ =>
    have h : (((cfg0.win 4).blk t).view.emb (ix2 r l) (0 : Fin 2)).val = win0_4.index t 0 * 2048 + 1 * r.val := rfl
    rw [(idx4 t).1, Nat.one_mul] at h
    exact h
  | ⟨1, _⟩ =>
    have h : (((cfg0.win 4).blk t).view.emb (ix2 r l) (1 : Fin 2)).val = win0_4.index t 1 * 256 + 1 * l.val := rfl
    rw [(idx4 t).2, Nat.one_mul] at h
    exact h

/-! ## The output arrays -/

/-- The point whose block holds a place, and the place in the block. -/
abbrev ptOf (i : S4096x4096.Idx) : Fin cfg0.N :=
  ⟨(i 1).val / 256 * 2 + (i 0).val / 2048, by have h0 := (i 0).isLt; have h1 := (i 1).isLt; rw [N32]; simp only [S4096x4096] at h0 h1; change _ < 4096 at h0; change _ < 4096 at h1; omega⟩
abbrev inBlk (i : S4096x4096.Idx) : S2048x256.Idx := ix2 ⟨(i 0).val % 2048, by omega⟩ ⟨(i 1).val % 256, by omega⟩
/-- The odd point whose block holds a place of the accumulators' array, and the place in the block. -/
abbrev ptAcc (i : S16x4096.Idx) : Fin cfg0.N :=
  ⟨(i 1).val / 256 * 2 + 1, by have h1 := (i 1).isLt; change _ < 4096 at h1; rw [N32]; omega⟩
abbrev inAcc (i : S16x4096.Idx) : S16x256.Idx := ix2 ⟨(i 0).val, (i 0).isLt⟩ ⟨(i 1).val % 256, by omega⟩

/-- The three result arrays put together out of the blocks. -/
abbrev arrG (c : Dev nD) : Buf (Elt Ideal) ((c : Thread nD τ).loc main_v80_0) := fun i : S4096x4096.Idx => gradG m c (ptOf i) (inBlk i)
abbrev arrV (c : Dev nD) : Buf (Elt Ideal) ((c : Thread nD τ).loc main_v80_1) := fun i : S4096x4096.Idx => gradV m c (ptOf i) (inBlk i)
abbrev arrW (c : Dev nD) : Buf (Elt Ideal) ((c : Thread nD τ).loc main_v80_2) := fun i : S16x4096.Idx => acc m c (ptAcc i) (inAcc i)

theorem flushedG (c : Dev nD) (t : Fin cfg0.N) : (dats m 0 c).flushed 5 t = ((cfg0.win 5).blk t).view.read (Elt Ideal) (arrG m c) := by
  show (cfg0.win 5).cut (grid0.coords t) ((dats m 0 c).after 5 t) = _
  rw [after5]
  funext y
  rw [View.read_apply]
  have h0 : (((cfg0.win 5).blk t).view.emb y (0 : Fin 2)).val = t.val % 2 * 2048 + (y 0).val := by
    show win0_5.index t 0 * 2048 + 1 * (y 0).val = _
    rw [(idx5 t).1, Nat.one_mul]
  have h1 : (((cfg0.win 5).blk t).view.emb y (1 : Fin 2)).val = t.val / 2 * 256 + (y 1).val := by
    show win0_5.index t 1 * 256 + 1 * (y 1).val = _
    rw [(idx5 t).2, Nat.one_mul]
  have hy0 : (y 0).val < 2048 := (y 0).isLt
  have hy1 : (y 1).val < 256 := (y 1).isLt
  have hp : ptOf (((cfg0.win 5).blk t).view.emb y) = t := Fin.ext (by
    show (((cfg0.win 5).blk t).view.emb y (1 : Fin 2)).val / 256 * 2 + (((cfg0.win 5).blk t).view.emb y (0 : Fin 2)).val / 2048 = t.val
    rw [h0, h1]; omega)
  have hi : inBlk (((cfg0.win 5).blk t).view.emb y) = y := funext fun a => Fin.ext (by
    match a with
    | ⟨0, _⟩ => show (((cfg0.win 5).blk t).view.emb y (0 : Fin 2)).val % 2048 = (y 0).val; rw [h0]; omega
    | ⟨1, _⟩ => show (((cfg0.win 5).blk t).view.emb y (1 : Fin 2)).val % 256 = (y 1).val; rw [h1]; omega)
  show gradG m c t y = gradG m c (ptOf (((cfg0.win 5).blk t).view.emb y)) (inBlk (((cfg0.win 5).blk t).view.emb y))
  rw [hp, hi]

theorem finalG (c : Dev nD) : (dats m 0 c).arrAt 5 cfg0.N = arrG m c :=
  (dats m 0 c).arrAt_eq_of_cover 5 (arrG m c) (fun t _ => flushedG m c t) fun i =>
    ⟨ptOf i, flush0_5 _, by
      show i ∈ ((View.whole main_v80_0).slice (win0_5.rect (ptOf i))).set
      rw [View.set_slice_whole, Rect.mem_set_unit]
      have h0 : (i 0 : Nat) < 4096 := (i 0).isLt
      have h1 : (i 1 : Nat) < 4096 := (i 1).isLt
      have e := idx5 (ptOf i)
      intro a
      match a with
      | ⟨0, _⟩ =>
        show win0_5.index (ptOf i) 0 * 2048 ≤ (i 0 : Nat) ∧ (i 0 : Nat) < win0_5.index (ptOf i) 0 * 2048 + 2048
        rw [e.1]; dsimp only; omega
      | ⟨1, _⟩ =>
        show win0_5.index (ptOf i) 1 * 256 ≤ (i 1 : Nat) ∧ (i 1 : Nat) < win0_5.index (ptOf i) 1 * 256 + 256
        rw [e.2]; dsimp only; omega⟩

theorem flushedV (c : Dev nD) (t : Fin cfg0.N) : (dats m 0 c).flushed 6 t = ((cfg0.win 6).blk t).view.read (Elt Ideal) (arrV m c) := by
  show (cfg0.win 6).cut (grid0.coords t) ((dats m 0 c).after 6 t) = _
  rw [after6]
  funext y
  rw [View.read_apply]
  have h0 : (((cfg0.win 6).blk t).view.emb y (0 : Fin 2)).val = t.val % 2 * 2048 + (y 0).val := by
    show win0_6.index t 0 * 2048 + 1 * (y 0).val = _
    rw [(idx6 t).1, Nat.one_mul]
  have h1 : (((cfg0.win 6).blk t).view.emb y (1 : Fin 2)).val = t.val / 2 * 256 + (y 1).val := by
    show win0_6.index t 1 * 256 + 1 * (y 1).val = _
    rw [(idx6 t).2, Nat.one_mul]
  have hy0 : (y 0).val < 2048 := (y 0).isLt
  have hy1 : (y 1).val < 256 := (y 1).isLt
  have hp : ptOf (((cfg0.win 6).blk t).view.emb y) = t := Fin.ext (by
    show (((cfg0.win 6).blk t).view.emb y (1 : Fin 2)).val / 256 * 2 + (((cfg0.win 6).blk t).view.emb y (0 : Fin 2)).val / 2048 = t.val
    rw [h0, h1]; omega)
  have hi : inBlk (((cfg0.win 6).blk t).view.emb y) = y := funext fun a => Fin.ext (by
    match a with
    | ⟨0, _⟩ => show (((cfg0.win 6).blk t).view.emb y (0 : Fin 2)).val % 2048 = (y 0).val; rw [h0]; omega
    | ⟨1, _⟩ => show (((cfg0.win 6).blk t).view.emb y (1 : Fin 2)).val % 256 = (y 1).val; rw [h1]; omega)
  show gradV m c t y = gradV m c (ptOf (((cfg0.win 6).blk t).view.emb y)) (inBlk (((cfg0.win 6).blk t).view.emb y))
  rw [hp, hi]

theorem finalV (c : Dev nD) : (dats m 0 c).arrAt 6 cfg0.N = arrV m c :=
  (dats m 0 c).arrAt_eq_of_cover 6 (arrV m c) (fun t _ => flushedV m c t) fun i =>
    ⟨ptOf i, flush0_6 _, by
      show i ∈ ((View.whole main_v80_1).slice (win0_6.rect (ptOf i))).set
      rw [View.set_slice_whole, Rect.mem_set_unit]
      have h0 : (i 0 : Nat) < 4096 := (i 0).isLt
      have h1 : (i 1 : Nat) < 4096 := (i 1).isLt
      have e := idx6 (ptOf i)
      intro a
      match a with
      | ⟨0, _⟩ =>
        show win0_6.index (ptOf i) 0 * 2048 ≤ (i 0 : Nat) ∧ (i 0 : Nat) < win0_6.index (ptOf i) 0 * 2048 + 2048
        rw [e.1]; dsimp only; omega
      | ⟨1, _⟩ =>
        show win0_6.index (ptOf i) 1 * 256 ≤ (i 1 : Nat) ∧ (i 1 : Nat) < win0_6.index (ptOf i) 1 * 256 + 256
        rw [e.2]; dsimp only; omega⟩

theorem flushedW (c : Dev nD) (t : Fin cfg0.N) (hf : (cfg0.win 7).flush t = true) :
    (dats m 0 c).flushed 7 t = ((cfg0.win 7).blk t).view.read (Elt Ideal) (arrW m c) := by
  have ht : t.val % 2 = 1 := (flush0_7 t).mp hf
  show (cfg0.win 7).cut (grid0.coords t) ((dats m 0 c).after 7 t) = _
  rw [after7]
  funext y
  rw [View.read_apply]
  have h0 : (((cfg0.win 7).blk t).view.emb y (0 : Fin 2)).val = (y 0).val := by
    show win0_7.index t 0 * 16 + 1 * (y 0).val = _
    rw [(idx7 t).1]; omega
  have h1 : (((cfg0.win 7).blk t).view.emb y (1 : Fin 2)).val = t.val / 2 * 256 + (y 1).val := by
    show win0_7.index t 1 * 256 + 1 * (y 1).val = _
    rw [(idx7 t).2, Nat.one_mul]
  have hy1 : (y 1).val < 256 := (y 1).isLt
  have hp : ptAcc (((cfg0.win 7).blk t).view.emb y) = t := Fin.ext (by
    show (((cfg0.win 7).blk t).view.emb y (1 : Fin 2)).val / 256 * 2 + 1 = t.val
    rw [h1]; omega)
  have hi : inAcc (((cfg0.win 7).blk t).view.emb y) = y := funext fun a => Fin.ext (by
    match a with
    | ⟨0, _⟩ => exact h0
    | ⟨1, _⟩ => show (((cfg0.win 7).blk t).view.emb y (1 : Fin 2)).val % 256 = (y 1).val; rw [h1]; omega)
  show acc m c t y = acc m c (ptAcc (((cfg0.win 7).blk t).view.emb y)) (inAcc (((cfg0.win 7).blk t).view.emb y))
  rw [hp, hi]

theorem finalW (c : Dev nD) : (dats m 0 c).arrAt 7 cfg0.N = arrW m c :=
  (dats m 0 c).arrAt_eq_of_cover 7 (arrW m c) (fun t hf => flushedW m c t hf) fun i =>
    ⟨ptAcc i, (flush0_7 _).mpr (by show ((i 1).val / 256 * 2 + 1) % 2 = 1; omega), by
      show i ∈ ((View.whole main_v80_2).slice (win0_7.rect (ptAcc i))).set
      rw [View.set_slice_whole, Rect.mem_set_unit]
      have h0 : (i 0 : Nat) < 16 := (i 0).isLt
      have h1 : (i 1 : Nat) < 4096 := (i 1).isLt
      have e := idx7 (ptAcc i)
      intro a
      match a with
      | ⟨0, _⟩ =>
        show win0_7.index (ptAcc i) 0 * 16 ≤ (i 0 : Nat) ∧ (i 0 : Nat) < win0_7.index (ptAcc i) 0 * 16 + 16
        rw [e.1]; dsimp only; omega
      | ⟨1, _⟩ =>
        show win0_7.index (ptAcc i) 1 * 256 ≤ (i 1 : Nat) ∧ (i 1 : Nat) < win0_7.index (ptAcc i) 1 * 256 + 256
        rw [e.2]; dsimp only; omega⟩

/-! ## The two results the host cuts out of the accumulators' array -/

/-- The accumulators' array as the host lines find it. -/
theorem tail_acc (c : Dev nD) :
    Pipeline.withArrays cfg0.spec c (V0 m c) (fun w => (dats m 0 c).arrAt w cfg0.N) (Proc.devRef .tc main_v80_2) = arrW m c :=
  (Pipeline.withArrays_arr_shared cfg0.spec c (V0 m c) _ ((dats m 0 c).arrAt_sharedIn sharedIn0 (V0 m c) (fun w => A_eq m c w) cfg0.N) 7).trans (finalW m c)

theorem W82_eq (c : Dev nD) : W m c main_v82
    = shapeCast S1x3x3x4096 (extractStridedSlice S9x4096 ![0, 0] (arrW m c : Vec Ideal S16x4096 .f32) slices_S16x4096_S9x4096_0_0) shapeCasts_S9x4096_S1x3x3x4096 := by
  rw [← tail_acc]
  unfold W Pipeline.afterTail₀
  generalize Pipeline.withArrays cfg0.spec c (V0 m c) (fun w => (dats m 0 c).arrAt w cfg0.N) = Y
  show StableHlo.after hostOps1 Y _ = _
  unfold hostOps1
  simp only [StableHlo.after_cons, StableHlo.after_nil]
  after_results_simp
  rfl
theorem W83_eq (c : Dev nD) : W m c main_v83
    = extractStridedSlice S1x4096 ![9, 0] (arrW m c : Vec Ideal S16x4096 .f32) slices_S16x4096_S1x4096_9_0 := by
  rw [← tail_acc]
  unfold W Pipeline.afterTail₀
  generalize Pipeline.withArrays cfg0.spec c (V0 m c) (fun w => (dats m 0 c).arrAt w cfg0.N) = Y
  show StableHlo.after hostOps1 Y _ = _
  unfold hostOps1
  simp only [StableHlo.after_cons, StableHlo.after_nil]
  after_results_simp

end Cert.KernelIdeal.Ffn

end
-- ==== Proof.FfnHost.lean ====
module

public import proofs.«01_k».proof.Proof.Gen.KernelIdeal.Frame
public import proofs.«01_k».proof.Proof.Gen.ReferenceIdeal.Read
public import Idealize.ShloMosaic.Lib.StableHlo.RunRead

@[expose] public section

set_option maxRecDepth 16384

noncomputable section

namespace Cert.KernelIdeal.Ffn

open Cert.KernelIdeal.Gen
open Idealize.ShloMosaic Idealize.ShloMosaic.TcCoe Idealize.ShloMosaic.Tactic

variable {F : FTy → Type} [FloatOps F]

/-! ## The host lines before the region -/

variable (Y : Valuation τ sig (Elt F))

set_option maxHeartbeats 4000000 in
/-- The gate's input is the reference's. -/
theorem host_pre : StableHlo.after hostOps0 Y (Proc.devRef .tc main_v75)
    = Cert.ReferenceIdeal.Read.val_main_v80 (F := F) (Y (Proc.devRef .tc main_arg0)) (Y (Proc.devRef .tc main_arg1)) (Y (Proc.devRef .tc main_arg2)) := by
  after_reads_simp
  rfl

theorem host_v76 : StableHlo.after hostOps0 Y (Proc.devRef .tc main_v76)
    = shapeCast S4096x8192 (Y (Proc.devRef .tc main_arg0)) shapeCasts_S2x2048x8192_S4096x8192 := by
  after_reads_simp
  rfl
theorem host_v78 : StableHlo.after hostOps0 Y (Proc.devRef .tc main_v78)
    = shapeCast S9x4096 (Y (Proc.devRef .tc main_arg1)) shapeCasts_S1x3x3x4096_S9x4096 := by
  after_reads_simp
  rfl
theorem host_v79 : StableHlo.after hostOps0 Y (Proc.devRef .tc main_v79)
    = shapeCast S4096x4096 (Y (Proc.devRef .tc main_arg3)) shapeCasts_S2x2048x4096_S4096x4096 := by
  after_reads_simp
  rfl
set_option maxHeartbeats 4000000 in
theorem host_v77 : StableHlo.after hostOps0 Y (Proc.devRef .tc main_v77)
    = shapeCast S4096x4096 (Cert.ReferenceIdeal.Read.val_main_v80 (F := F) (Y (Proc.devRef .tc main_arg0)) (Y (Proc.devRef .tc main_arg1)) (Y (Proc.devRef .tc main_arg2)))
        shapeCasts_S2x2048x4096_S4096x4096 := by
  after_reads_simp
  rfl

end Cert.KernelIdeal.Ffn

end
-- ==== Proof.FfnRefDp.lean ====
module

public import proofs.«01_k».proof.Proof.Gen.ReferenceIdeal.Read
public import proofs.«01_k».proof.Proof.FfnLane
public import Idealize.ShloMosaic.Lib.IdealHost

@[expose] public section

set_option maxRecDepth 16384

noncomputable section

namespace Cert.ReferenceIdeal.Ffn

open Cert.ReferenceIdeal Cert.ReferenceIdeal.Gen Cert.ReferenceIdeal.Read
open Cert.KernelIdeal.Ffn (inb nb bk tz uz dfvS dpS dxAt dwAt sum9)
open Idealize.ShloMosaic

/-! ## The gradient at the gate's input, one element -/

theorem ofBits_three : Ideal.ofBits FTy.f32 0x40400000#32 = 3 := by
  have h : Ideal.ofBits FTy.f32 0x40400000#32 = ((3 : ℝ) : EReal) := by
    simp [Ideal.ofBits, Ideal.ieee, -EReal.coe_mul]
    norm_num
  rw [h]; rfl

/-- Three times an extended real is it added three times. -/
theorem three_mul_eq (t : EReal) : 3 * t = t + t + t := by
  have h2 : (3 : EReal) = 1 + 1 + 1 := by norm_num
  rw [h2, EReal.right_distrib_of_nonneg (by norm_num) (by norm_num), EReal.right_distrib_of_nonneg (by norm_num) (by norm_num), one_mul]

/-- The gradient the chain rule gives is the kernel's. -/
theorem dp_scalar (p d v s k2 k3 T : EReal)
    (hT : T = Ideal.tanh (k2 * (p + k3 * (p * p * p))))
    (hs : s = Ideal.ofBits FTy.f32 1056964608#32) (h2 : k2 = Ideal.ofBits FTy.f32 1061962282#32) (h3 : k3 = Ideal.ofBits FTy.f32 1027024659#32) :
    d * v * (s * (1 + T)) + k2 * (s * (p * (d * v)) * ((1 + T) * (1 - T)))
      + k3 * (k2 * (s * (p * (d * v)) * ((1 + T) * (1 - T)))) * (3 * (p * p)) = dpS p d v := by
  have ht : tz p = T := by
    unfold tz
    rw [hT, h2, h3, mul_assoc, mul_assoc, mul_assoc]
  have hu : uz p (d * v) = k2 * (s * (p * (d * v)) * ((1 + T) * (1 - T))) := by
    unfold uz
    rw [ht, ← h2, ← hs, mul_assoc s p]
  unfold dpS
  rw [hu, ht, ← hs, ← h3]
  generalize k2 * (s * (p * (d * v)) * ((1 + T) * (1 - T))) = u
  generalize 1 + T = q
  generalize d * v = y
  have e1 : k3 * p * p * u = k3 * u * (p * p) := by ac_rfl
  have e2 : k3 * p * (u * p) = k3 * u * (p * p) := by ac_rfl
  have e3 : k3 * (u * p * p) = k3 * u * (p * p) := by ac_rfl
  have e4 : k3 * u * (3 * (p * p)) = 3 * (k3 * u * (p * p)) := by ac_rfl
  rw [e1, e2, e3, e4, three_mul_eq]
  generalize k3 * u * (p * p) = w
  have e5 : y * (s * q) = s * (y * q) := by ac_rfl
  rw [e5]
  generalize s * (y * q) = g
  ac_rfl

variable (x0 : Vec Ideal S2x2048x8192 .f32) (x1 : Vec Ideal S1x3x3x4096 .f32) (x2 : Vec Ideal S1x4096 .f32) (x3 : Vec Ideal S2x2048x4096 .f32)

/-- The right half of the gate's row. -/
abbrev hiCol (c : Fin 4096) : Fin 8192 := ⟨4096 + c.val, by omega⟩
/-- The left half of the gate's row. -/
abbrev loCol (c : Fin 4096) : Fin 8192 := ⟨c.val, by omega⟩

theorem v1_at (b : Fin 2) (n : Fin 2048) (c : Fin 4096) : val_main_v1 (F := Ideal) x0 (ix3 b n c) = x0 (ix3 b n (hiCol c)) := by
  rw [val_main_v1_apply]
  refine congrArg x0 (funext fun a => Fin.ext ?_)
  match a with
  | ⟨0, _⟩ => rfl
  | ⟨1, _⟩ => rfl
  | ⟨2, _⟩ => rfl

/-- The reference's gradient at the gate's input. -/
theorem dp_at (b : Fin 2) (n : Fin 2048) (c : Fin 4096) :
    val_main_v116 (F := Ideal) x0 x1 x2 x3 (ix3 b n c)
      = dpS (val_main_v80 (F := Ideal) x0 x1 x2 (ix3 b n c)) (x3 (ix3 b n c)) (x0 (ix3 b n (hiCol c))) := by
  rw [← dp_scalar (val_main_v80 (F := Ideal) x0 x1 x2 (ix3 b n c)) (x3 (ix3 b n c)) (x0 (ix3 b n (hiCol c))) _ _ _ _ rfl rfl rfl rfl]
  simp -implicitDefEqProofs only [val_main_v116_apply, val_main_v115_apply, val_main_v114_apply, val_main_v113_apply, val_main_v112_apply, val_main_v111_apply, val_main_v110_apply, val_main_v109_apply, val_main_v108_apply, val_main_v107_apply, val_main_v106_apply, val_main_v105_apply, val_main_v104_apply, val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_cst_6_apply, val_main_cst_7_apply, val_main_cst_8_apply, val_main_cst_9_apply, val_main_cst_10_apply, val_main_cst_11_apply, val_main_cst_12_apply, val_main_cst_13_apply, val_main_cst_14_apply, val_main_cst_15_apply]
  generalize val_main_v80 (F := Ideal) x0 x1 x2 (ix3 b n c) = p
  rw [v1_at]
  generalize x3 (ix3 b n c) = d
  generalize x0 (ix3 b n (hiCol c)) = v
  simp -implicitDefEqProofs only [Ideal.addf_def, Ideal.mulf_def, Ideal.subf_def, Ideal.ofBits_def, Ideal.hostUnary_tanh_def]
  rw [ofBits_three, Ideal.ofBits_one_f32]

/-- The reference's gradient of the value half. -/
theorem dfv_at (b : Fin 2) (n : Fin 2048) (c : Fin 4096) :
    val_main_v103 (F := Ideal) x0 x1 x2 x3 (ix3 b n c)
      = dfvS (val_main_v80 (F := Ideal) x0 x1 x2 (ix3 b n c)) (x3 (ix3 b n c)) := by
  have key : ∀ p d s k2 k3 : EReal, p * (s * (1 + Ideal.tanh (k2 * (p + k3 * (p * p * p))))) * d
      = d * (s * p * (1 + Ideal.tanh (k2 * (p + k3 * p * p * p)))) := by
    intro p d s k2 k3
    rw [mul_assoc k3, mul_assoc k3, mul_assoc p p p]
    generalize 1 + Ideal.tanh (k2 * (p + k3 * (p * (p * p)))) = q
    ac_rfl
  unfold dfvS tz
  rw [← key]
  simp -implicitDefEqProofs only [val_main_v103_apply, val_main_v101_apply, val_main_v100_apply, val_main_v99_apply, val_main_v98_apply, val_main_v97_apply, val_main_v91_apply, val_main_v90_apply, val_main_v89_apply, val_main_v88_apply, val_main_v87_apply, val_main_v86_apply, val_main_v82_apply, val_main_v81_apply, val_main_cst_6_apply, val_main_cst_7_apply, val_main_cst_8_apply, val_main_cst_9_apply, val_main_cst_10_apply, val_main_cst_11_apply, val_main_cst_12_apply, val_main_cst_13_apply, val_main_cst_14_apply, val_main_cst_15_apply]
  generalize val_main_v80 (F := Ideal) x0 x1 x2 (ix3 b n c) = p
  generalize x3 (ix3 b n c) = d
  simp -implicitDefEqProofs only [Ideal.addf_def, Ideal.mulf_def, Ideal.subf_def, Ideal.ofBits_def, Ideal.hostUnary_tanh_def]
  rw [Ideal.ofBits_one_f32]

end Cert.ReferenceIdeal.Ffn

end
-- ==== Proof.FfnRefRead.lean ====
module

public import proofs.«01_k».proof.Proof.Gen.ReferenceIdeal.Read
public import proofs.«01_k».proof.Proof.FfnLane
public import Idealize.ShloMosaic.Lib.KernelVsHost

@[expose] public section

set_option maxRecDepth 16384

noncomputable section

namespace Cert.ReferenceIdeal.Ffn

open Cert.ReferenceIdeal Cert.ReferenceIdeal.Gen Cert.ReferenceIdeal.Read
open Cert.KernelIdeal.Ffn (inb nb bk tz uz dfvS dpS dxAt dwAt sum9)
open Idealize.ShloMosaic

/-! ## The nine taps on the padded grid -/

/-- The row and the column of the grid of a row. -/
abbrev gy (r : Fin 2048) : Fin 32 := ⟨r.val / 64, by omega⟩
abbrev gx (r : Fin 2048) : Fin 64 := ⟨r.val % 64, by omega⟩
/-- They on the grid with a border of one place. -/
abbrev py (r : Fin 2048) : Fin 34 := ⟨r.val / 64 + 1, by omega⟩
abbrev px (r : Fin 2048) : Fin 66 := ⟨r.val % 64 + 1, by omega⟩
/-- The tap-`k` neighbour on the grid with the border. -/
abbrev ty (k : Fin 9) (r : Fin 2048) : Fin 34 := ⟨k.val / 3 + r.val / 64, by omega⟩
abbrev tx (k : Fin 9) (r : Fin 2048) : Fin 66 := ⟨k.val % 3 + r.val % 64, by omega⟩

theorem bk_in (k : Fin 9) (r : Fin 2048) (h : inb k (bk k r) = true) :
    r.val / 64 + 1 = k.val / 3 + (bk k r).val / 64 ∧ r.val % 64 + 1 = k.val % 3 + (bk k r).val % 64 := by
  unfold inb at h
  rw [decide_eq_true_eq] at h
  unfold bk at h ⊢
  dsimp only at h ⊢
  have hr := r.isLt
  have hi : k.val / 3 < 3 := by omega
  have hj : k.val % 3 < 3 := by omega
  generalize k.val / 3 = i at *
  generalize k.val % 3 = j at *
  omega

theorem bk_out (k : Fin 9) (r : Fin 2048) (h : ¬ inb k (bk k r) = true) :
    ¬ (k.val / 3 ≤ r.val / 64 + 1 ∧ r.val / 64 + 1 - k.val / 3 < 32) ∨ ¬ (k.val % 3 ≤ r.val % 64 + 1 ∧ r.val % 64 + 1 - k.val % 3 < 64) := by
  unfold inb at h
  rw [decide_eq_true_eq] at h
  unfold bk at h
  dsimp only at h
  have hr := r.isLt
  have hi : k.val / 3 < 3 := by omega
  have hj : k.val % 3 < 3 := by omega
  generalize k.val / 3 = i at *
  generalize k.val % 3 = j at *
  omega

theorem nb_in (k : Fin 9) (r : Fin 2048) (h : inb k r = true) :
    (1 ≤ k.val / 3 + r.val / 64 ∧ k.val / 3 + r.val / 64 ≤ 32) ∧ (1 ≤ k.val % 3 + r.val % 64 ∧ k.val % 3 + r.val % 64 ≤ 64)
      ∧ (nb k r).val = 64 * (k.val / 3 + r.val / 64 - 1) + (k.val % 3 + r.val % 64 - 1) := by
  unfold inb at h
  rw [decide_eq_true_eq] at h
  unfold nb
  dsimp only
  have hr := r.isLt
  have hi : k.val / 3 < 3 := by omega
  have hj : k.val % 3 < 3 := by omega
  generalize k.val / 3 = i at *
  generalize k.val % 3 = j at *
  omega

theorem nb_out (k : Fin 9) (r : Fin 2048) (h : ¬ inb k r = true) :
    ¬ (1 ≤ k.val / 3 + r.val / 64 ∧ k.val / 3 + r.val / 64 ≤ 32) ∨ ¬ (1 ≤ k.val % 3 + r.val % 64 ∧ k.val % 3 + r.val % 64 ≤ 64) := by
  unfold inb at h
  rw [decide_eq_true_eq] at h
  have hr := r.isLt
  have hi : k.val / 3 < 3 := by omega
  have hj : k.val % 3 < 3 := by omega
  generalize k.val / 3 = i at *
  generalize k.val % 3 = j at *
  omega

/-- A pad of the grid by a tap's offset, read inside the border. -/
theorem pad4_at (k : Fin 9) (i j : Nat) (ei : i = k.val / 3) (ej : j = k.val % 3) (hi : Fin 4 → Nat)
    (h : S2x32x64x4096.Pads ![0, i, j, 0] hi ![0, 0, 0, 0] S2x34x66x4096) (hu : 0 < S_.numel)
    (x : Vec Ideal S2x32x64x4096 .f32) (v : Vec Ideal S_ .f32) (hv : v (Shape.Idx.first hu) = 0)
    (b : Fin 2) (r : Fin 2048) (c : Fin 4096) :
    pad S2x34x66x4096 ![0, i, j, 0] hi ![0, 0, 0, 0] x v h hu (ix4 b (py r) (px r) c)
      = if inb k (bk k r) then x (ix4 b (gy (bk k r)) (gx (bk k r)) c) else 0 := by
  by_cases hc : inb k (bk k r) = true
  · rw [if_pos hc]
    have e := bk_in k r hc
    exact pad_apply_of_inside _ _ _ x v h hu _ _ fun a => match a with
      | ⟨0, _⟩ => by show b.val = 0 + b.val * 1; omega
      | ⟨1, _⟩ => by show r.val / 64 + 1 = i + (bk k r).val / 64 * 1; omega
      | ⟨2, _⟩ => by show r.val % 64 + 1 = j + (bk k r).val % 64 * 1; omega
      | ⟨3, _⟩ => by show c.val = 0 + c.val * 1; omega
  · rw [if_neg hc, ← hv]
    rcases bk_out k r hc with e | e
    · refine pad_apply_of_not_inside _ _ _ x v h hu _ (1 : Fin 4) ?_
      show ¬ (i ≤ r.val / 64 + 1 ∧ (r.val / 64 + 1 - i) % 1 = 0 ∧ (r.val / 64 + 1 - i) / 1 < 32)
      omega
    · refine pad_apply_of_not_inside _ _ _ x v h hu _ (2 : Fin 4) ?_
      show ¬ (j ≤ r.val % 64 + 1 ∧ (r.val % 64 + 1 - j) % 1 = 0 ∧ (r.val % 64 + 1 - j) / 1 < 64)
      omega

/-- A pad of one place into the square of the taps. -/
theorem pad3_at (i j : Nat) (hi : Fin 3 → Nat)
    (h : S1x1x4096.Pads ![i, j, 0] hi ![0, 0, 0] S3x3x4096) (hu : 0 < S_.numel)
    (x : Vec Ideal S1x1x4096 .f32) (v : Vec Ideal S_ .f32) (hv : v (Shape.Idx.first hu) = 0)
    (a b : Fin 3) (c : Fin 4096) :
    pad S3x3x4096 ![i, j, 0] hi ![0, 0, 0] x v h hu (ix3 a b c) = if a.val = i ∧ b.val = j then x (ix3 0 0 c) else 0 := by
  by_cases hc : a.val = i ∧ b.val = j
  · rw [if_pos hc]
    exact pad_apply_of_inside _ _ _ x v h hu _ _ fun d => match d with
      | ⟨0, _⟩ => by show a.val = i + 0 * 1; omega
      | ⟨1, _⟩ => by show b.val = j + 0 * 1; omega
      | ⟨2, _⟩ => by show c.val = 0 + c.val * 1; omega
  · rw [if_neg hc, ← hv]
    by_cases ha : a.val = i
    · refine pad_apply_of_not_inside _ _ _ x v h hu _ (1 : Fin 3) ?_
      show ¬ (j ≤ b.val ∧ (b.val - j) % 1 = 0 ∧ (b.val - j) / 1 < 1)
      omega
    · refine pad_apply_of_not_inside _ _ _ x v h hu _ (0 : Fin 3) ?_
      show ¬ (i ≤ a.val ∧ (a.val - i) % 1 = 0 ∧ (a.val - i) / 1 < 1)
      omega

/-! ## The host's sums -/

theorem sumGrid (h : S2x32x64x4096.ReducesTo [0, 1, 2] S4096) (x : S2x32x64x4096.Idx → EReal) (z : EReal) (c : Fin 4096) :
    Ideal.hostReduceAdd h x z (ix1 c) = z + ∑ b : Fin 2, ∑ r : Fin 2048, x (ix4 b (gy r) (gx r) c) := by
  unfold Ideal.hostReduceAdd
  refine congrArg (z + ·) ?_
  rw [← Fintype.sum_prod_type']
  refine Finset.sum_nbij' (fun i => ((⟨(i 0).val, (i 0).isLt⟩ : Fin 2), (⟨(i 1).val * 64 + (i 2).val, by
      have h1 : (i 1).val < 32 := (i 1).isLt; have h2 : (i 2).val < 64 := (i 2).isLt; omega⟩ : Fin 2048)))
    (fun p => ix4 p.1 (gy p.2) (gx p.2) c) (fun _ _ => Finset.mem_univ _) ?_ ?_ ?_ ?_
  · intro p _
    rw [Finset.mem_filter]
    refine ⟨Finset.mem_univ _, funext fun a => Fin.ext ?_⟩
    match a with
    | ⟨0, _⟩ => exact h.drop_apply_val_of_eq _ (0 : Fin 1) (3 : Fin 4)
  · intro i hi
    rw [Finset.mem_filter] at hi
    have h3 : (i 3).val = c.val := (h.drop_apply_val_of_eq i (0 : Fin 1) (3 : Fin 4)).symm.trans (congrArg (fun j : S4096.Idx => (j 0).val) hi.2)
    have h1 : (i 1).val < 32 := (i 1).isLt
    have h2 : (i 2).val < 64 := (i 2).isLt
    funext a
    refine Fin.ext ?_
    match a with
    | ⟨0, _⟩ => rfl
    | ⟨1, _⟩ => show ((i 1).val * 64 + (i 2).val) / 64 = (i 1).val; omega
    | ⟨2, _⟩ => show ((i 1).val * 64 + (i 2).val) % 64 = (i 2).val; omega
    | ⟨3, _⟩ => exact h3.symm
  · intro p _
    refine Prod.ext rfl (Fin.ext ?_)
    show p.2.val / 64 * 64 + p.2.val % 64 = p.2.val
    omega
  · intro i hi
    rw [Finset.mem_filter] at hi
    have h3 : (i 3).val = c.val := (h.drop_apply_val_of_eq i (0 : Fin 1) (3 : Fin 4)).symm.trans (congrArg (fun j : S4096.Idx => (j 0).val) hi.2)
    have h1 : (i 1).val < 32 := (i 1).isLt
    have h2 : (i 2).val < 64 := (i 2).isLt
    refine congrArg x (funext fun a => Fin.ext ?_)
    match a with
    | ⟨0, _⟩ => rfl
    | ⟨1, _⟩ => show (i 1).val = ((i 1).val * 64 + (i 2).val) / 64; omega
    | ⟨2, _⟩ => show (i 2).val = ((i 1).val * 64 + (i 2).val) % 64; omega
    | ⟨3, _⟩ => exact h3

theorem sumRows (h : S2x2048x4096.ReducesTo [0, 1] S4096) (x : S2x2048x4096.Idx → EReal) (z : EReal) (c : Fin 4096) :
    Ideal.hostReduceAdd h x z (ix1 c) = z + ∑ b : Fin 2, ∑ r : Fin 2048, x (ix3 b r c) := by
  unfold Ideal.hostReduceAdd
  refine congrArg (z + ·) ?_
  rw [← Fintype.sum_prod_type']
  refine Finset.sum_nbij' (fun i => ((⟨(i 0).val, (i 0).isLt⟩ : Fin 2), (⟨(i 1).val, (i 1).isLt⟩ : Fin 2048)))
    (fun p => ix3 p.1 p.2 c) (fun _ _ => Finset.mem_univ _) ?_ ?_ ?_ ?_
  · intro p _
    rw [Finset.mem_filter]
    refine ⟨Finset.mem_univ _, funext fun a => Fin.ext ?_⟩
    match a with
    | ⟨0, _⟩ => exact h.drop_apply_val_of_eq _ (0 : Fin 1) (2 : Fin 3)
  · intro i hi
    rw [Finset.mem_filter] at hi
    have h3 : (i 2).val = c.val := (h.drop_apply_val_of_eq i (0 : Fin 1) (2 : Fin 3)).symm.trans (congrArg (fun j : S4096.Idx => (j 0).val) hi.2)
    funext a
    refine Fin.ext ?_
    match a with
    | ⟨0, _⟩ => rfl
    | ⟨1, _⟩ => rfl
    | ⟨2, _⟩ => exact h3.symm
  · intro p _
    rfl
  · intro i hi
    rw [Finset.mem_filter] at hi
    have h3 : (i 2).val = c.val := (h.drop_apply_val_of_eq i (0 : Fin 1) (2 : Fin 3)).symm.trans (congrArg (fun j : S4096.Idx => (j 0).val) hi.2)
    refine congrArg x (funext fun a => Fin.ext ?_)
    match a with
    | ⟨0, _⟩ => rfl
    | ⟨1, _⟩ => rfl
    | ⟨2, _⟩ => exact h3

/-- A sum over axes of one place each. -/
theorem sumUnit4 (h : S1x1x1x4096.ReducesTo [0, 1, 2] S4096) (x : S1x1x1x4096.Idx → EReal) (z : EReal) (c : Fin 4096) :
    Ideal.hostReduceAdd h x z (ix1 c) = z + x (ix4 0 0 0 c) := by
  unfold Ideal.hostReduceAdd
  refine congrArg (z + ·) ?_
  rw [show Finset.univ.filter (fun i => h.drop i = ix1 c) = {(ix4 0 0 0 c : S1x1x1x4096.Idx)} from ?_, Finset.sum_singleton]
  ext i
  rw [Finset.mem_filter, Finset.mem_singleton]
  constructor
  · rintro ⟨-, hi⟩
    have h3 : (i 3).val = c.val := (h.drop_apply_val_of_eq i (0 : Fin 1) (3 : Fin 4)).symm.trans (congrArg (fun j : S4096.Idx => (j 0).val) hi)
    funext a
    refine Fin.ext ?_
    match a with
    | ⟨0, _⟩ => have h0 : (i 0).val < 1 := (i 0).isLt; show (i 0).val = 0; omega
    | ⟨1, _⟩ => have h0 : (i 1).val < 1 := (i 1).isLt; show (i 1).val = 0; omega
    | ⟨2, _⟩ => have h0 : (i 2).val < 1 := (i 2).isLt; show (i 2).val = 0; omega
    | ⟨3, _⟩ => exact h3
  · rintro rfl
    refine ⟨Finset.mem_univ _, funext fun a => Fin.ext ?_⟩
    match a with
    | ⟨0, _⟩ => exact h.drop_apply_val_of_eq _ (0 : Fin 1) (3 : Fin 4)
theorem sumUnit3 (h : S1x1x4096.ReducesTo [0, 1] S4096) (x : S1x1x4096.Idx → EReal) (z : EReal) (c : Fin 4096) :
    Ideal.hostReduceAdd h x z (ix1 c) = z + x (ix3 0 0 c) := by
  unfold Ideal.hostReduceAdd
  refine congrArg (z + ·) ?_
  rw [show Finset.univ.filter (fun i => h.drop i = ix1 c) = {(ix3 0 0 c : S1x1x4096.Idx)} from ?_, Finset.sum_singleton]
  ext i
  rw [Finset.mem_filter, Finset.mem_singleton]
  constructor
  · rintro ⟨-, hi⟩
    have h3 : (i 2).val = c.val := (h.drop_apply_val_of_eq i (0 : Fin 1) (2 : Fin 3)).symm.trans (congrArg (fun j : S4096.Idx => (j 0).val) hi)
    funext a
    refine Fin.ext ?_
    match a with
    | ⟨0, _⟩ => have h0 : (i 0).val < 1 := (i 0).isLt; show (i 0).val = 0; omega
    | ⟨1, _⟩ => have h0 : (i 1).val < 1 := (i 1).isLt; show (i 1).val = 0; omega
    | ⟨2, _⟩ => exact h3
  · rintro rfl
    refine ⟨Finset.mem_univ _, funext fun a => Fin.ext ?_⟩
    match a with
    | ⟨0, _⟩ => exact h.drop_apply_val_of_eq _ (0 : Fin 1) (2 : Fin 3)

end Cert.ReferenceIdeal.Ffn

end
-- ==== Proof.FfnRefGrid.lean ====
module

public import proofs.«01_k».proof.Proof.FfnRefDp
public import proofs.«01_k».proof.Proof.FfnRefRead

@[expose] public section

set_option maxRecDepth 16384

noncomputable section

namespace Cert.ReferenceIdeal.Ffn

open Cert.ReferenceIdeal Cert.ReferenceIdeal.Gen Cert.ReferenceIdeal.Read
open Cert.KernelIdeal.Ffn (inb nb bk tz uz dfvS dpS dxAt dwAt sum9)
open Idealize.ShloMosaic

/-! ## Three arrays side by side -/

theorem catRow_in (P R : Vec Ideal S2x1x64x4096 .f32) (Q : Vec Ideal S2x32x64x4096 .f32)
    (h : Shape.Concatenates ([(⟨S2x1x64x4096, P⟩ : (s : Shape) × (s.Idx → Elt Ideal .f32)), ⟨S2x32x64x4096, Q⟩, ⟨S2x1x64x4096, R⟩].map (·.1)) S2x34x64x4096 1)
    (b : Fin 2) (y : Fin 34) (x : Fin 64) (c : Fin 4096) (hy : 1 ≤ y.val ∧ y.val ≤ 32) :
    concatenate S2x34x64x4096 1 [(⟨S2x1x64x4096, P⟩ : (s : Shape) × (s.Idx → Elt Ideal .f32)), ⟨S2x32x64x4096, Q⟩, ⟨S2x1x64x4096, R⟩] h (ix4 b y x c)
      = Q (ix4 b ⟨y.val - 1, by omega⟩ x c) := by
  refine concatenate_apply_piece _ _ h _ 1 (show 1 < 3 by omega) S2x32x64x4096 Q rfl rfl 1 rfl _ ?_ ?_
  · intro a ha
    match a with
    | ⟨0, _⟩ => rfl
    | ⟨1, _⟩ => exact absurd rfl ha
    | ⟨2, _⟩ => rfl
    | ⟨3, _⟩ => rfl
  · show 1 + (y.val - 1) = y.val
    omega

theorem catRow_out (P R : Vec Ideal S2x1x64x4096 .f32) (Q : Vec Ideal S2x32x64x4096 .f32)
    (h : Shape.Concatenates ([(⟨S2x1x64x4096, P⟩ : (s : Shape) × (s.Idx → Elt Ideal .f32)), ⟨S2x32x64x4096, Q⟩, ⟨S2x1x64x4096, R⟩].map (·.1)) S2x34x64x4096 1)
    (hP : ∀ i, P i = 0) (hR : ∀ i, R i = 0)
    (b : Fin 2) (y : Fin 34) (x : Fin 64) (c : Fin 4096) (hy : ¬ (1 ≤ y.val ∧ y.val ≤ 32)) :
    concatenate S2x34x64x4096 1 [(⟨S2x1x64x4096, P⟩ : (s : Shape) × (s.Idx → Elt Ideal .f32)), ⟨S2x32x64x4096, Q⟩, ⟨S2x1x64x4096, R⟩] h (ix4 b y x c)
      = 0 := by
  have hy34 := y.isLt
  by_cases h0 : y.val = 0
  · refine (concatenate_apply_piece _ _ h _ 0 (show 0 < 3 by omega) S2x1x64x4096 P rfl rfl 0 rfl (ix4 b 0 x c) ?_ ?_).trans (hP _)
    · intro a ha
      match a with
      | ⟨0, _⟩ => rfl
      | ⟨1, _⟩ => exact absurd rfl ha
      | ⟨2, _⟩ => rfl
      | ⟨3, _⟩ => rfl
    · show 0 + 0 = y.val
      omega
  · refine (concatenate_apply_piece _ _ h _ 2 (show 2 < 3 by omega) S2x1x64x4096 R rfl rfl 33 rfl (ix4 b 0 x c) ?_ ?_).trans (hR _)
    · intro a ha
      match a with
      | ⟨0, _⟩ => rfl
      | ⟨1, _⟩ => exact absurd rfl ha
      | ⟨2, _⟩ => rfl
      | ⟨3, _⟩ => rfl
    · show 33 + 0 = y.val
      omega

theorem catCol_in (P R : Vec Ideal S2x34x1x4096 .f32) (Q : Vec Ideal S2x34x64x4096 .f32)
    (h : Shape.Concatenates ([(⟨S2x34x1x4096, P⟩ : (s : Shape) × (s.Idx → Elt Ideal .f32)), ⟨S2x34x64x4096, Q⟩, ⟨S2x34x1x4096, R⟩].map (·.1)) S2x34x66x4096 2)
    (b : Fin 2) (y : Fin 34) (x : Fin 66) (c : Fin 4096) (hx : 1 ≤ x.val ∧ x.val ≤ 64) :
    concatenate S2x34x66x4096 2 [(⟨S2x34x1x4096, P⟩ : (s : Shape) × (s.Idx → Elt Ideal .f32)), ⟨S2x34x64x4096, Q⟩, ⟨S2x34x1x4096, R⟩] h (ix4 b y x c)
      = Q (ix4 b y ⟨x.val - 1, by omega⟩ c) := by
  refine concatenate_apply_piece _ _ h _ 1 (show 1 < 3 by omega) S2x34x64x4096 Q rfl rfl 1 rfl _ ?_ ?_
  · intro a ha
    match a with
    | ⟨0, _⟩ => rfl
    | ⟨1, _⟩ => rfl
    | ⟨2, _⟩ => exact absurd rfl ha
    | ⟨3, _⟩ => rfl
  · show 1 + (x.val - 1) = x.val
    omega

theorem catCol_out (P R : Vec Ideal S2x34x1x4096 .f32) (Q : Vec Ideal S2x34x64x4096 .f32)
    (h : Shape.Concatenates ([(⟨S2x34x1x4096, P⟩ : (s : Shape) × (s.Idx → Elt Ideal .f32)), ⟨S2x34x64x4096, Q⟩, ⟨S2x34x1x4096, R⟩].map (·.1)) S2x34x66x4096 2)
    (hP : ∀ i, P i = 0) (hR : ∀ i, R i = 0)
    (b : Fin 2) (y : Fin 34) (x : Fin 66) (c : Fin 4096) (hx : ¬ (1 ≤ x.val ∧ x.val ≤ 64)) :
    concatenate S2x34x66x4096 2 [(⟨S2x34x1x4096, P⟩ : (s : Shape) × (s.Idx → Elt Ideal .f32)), ⟨S2x34x64x4096, Q⟩, ⟨S2x34x1x4096, R⟩] h (ix4 b y x c)
      = 0 := by
  have hx66 := x.isLt
  by_cases h0 : x.val = 0
  · refine (concatenate_apply_piece _ _ h _ 0 (show 0 < 3 by omega) S2x34x1x4096 P rfl rfl 0 rfl (ix4 b y 0 c) ?_ ?_).trans (hP _)
    · intro a ha
      match a with
      | ⟨0, _⟩ => rfl
      | ⟨1, _⟩ => rfl
      | ⟨2, _⟩ => exact absurd rfl ha
      | ⟨3, _⟩ => rfl
    · show 0 + 0 = x.val
      omega
  · refine (concatenate_apply_piece _ _ h _ 2 (show 2 < 3 by omega) S2x34x1x4096 R rfl rfl 65 rfl (ix4 b y 0 c) ?_ ?_).trans (hR _)
    · intro a ha
      match a with
      | ⟨0, _⟩ => rfl
      | ⟨1, _⟩ => rfl
      | ⟨2, _⟩ => exact absurd rfl ha
      | ⟨3, _⟩ => rfl
    · show 65 + 0 = x.val
      omega

variable (x0 : Vec Ideal S2x2048x8192 .f32) (x1 : Vec Ideal S1x3x3x4096 .f32) (x2 : Vec Ideal S1x4096 .f32) (x3 : Vec Ideal S2x2048x4096 .f32)

/-! ## The gate half with its border -/

theorem v3_at (b : Fin 2) (y : Fin 32) (x : Fin 64) (c : Fin 4096) (r : Fin 2048) (hr : r.val = 64 * y.val + x.val) :
    val_main_v3 (F := Ideal) x0 (ix4 b y x c) = x0 (ix3 b r (loCol c)) := by
  rw [val_main_v3_apply, val_main_v0_apply]
  have hb := b.isLt
  have hy := y.isLt
  have hx := x.isLt
  have hc := c.isLt
  refine congrArg x0 (funext fun a => Fin.ext ?_)
  match a with
  | ⟨0, _⟩ => show (((b.val * 32 + y.val) * 64 + x.val) * 4096 + c.val) / 8388608 = b.val; omega
  | ⟨1, _⟩ => show (((b.val * 32 + y.val) * 64 + x.val) * 4096 + c.val) / 4096 % 2048 = r.val; omega
  | ⟨2, _⟩ => show (((b.val * 32 + y.val) * 64 + x.val) * 4096 + c.val) % 4096 = c.val; omega

theorem v4_at (i : S2x1x64x4096.Idx) : val_main_v4 (F := Ideal) i = 0 := by
  rw [val_main_v4_apply]
  exact Ideal.ofBits_zero_f32

theorem v8_at (i : S2x34x1x4096.Idx) : val_main_v8 (F := Ideal) i = 0 := by
  rw [val_main_v8_apply]
  exact Ideal.ofBits_zero_f32

/-- The gate's grid with its border, at the tap-`k` neighbour. -/
theorem v9_at (k : Fin 9) (b : Fin 2) (r : Fin 2048) (c : Fin 4096) :
    val_main_v9 (F := Ideal) x0 (ix4 b (ty k r) (tx k r) c) = if inb k r then x0 (ix3 b (nb k r) (loCol c)) else 0 := by
  by_cases hc : inb k r = true
  · rw [if_pos hc]
    have e := nb_in k r hc
    refine (catCol_in _ _ _ _ b (ty k r) (tx k r) c e.2.1).trans ?_
    refine (catRow_in _ _ _ _ b (ty k r) _ c e.1).trans ?_
    exact v3_at x0 b _ _ c (nb k r) e.2.2
  · rw [if_neg hc]
    by_cases hx : 1 ≤ k.val % 3 + r.val % 64 ∧ k.val % 3 + r.val % 64 ≤ 64
    · have hy : ¬ (1 ≤ k.val / 3 + r.val / 64 ∧ k.val / 3 + r.val / 64 ≤ 32) := (nb_out k r hc).resolve_right fun h => h hx
      refine (catCol_in _ _ _ _ b (ty k r) (tx k r) c hx).trans ?_
      exact catRow_out _ _ _ _ v4_at v4_at b (ty k r) _ c hy
    · exact catCol_out _ _ _ _ v8_at v8_at b (ty k r) (tx k r) c hx

/-- The gradient at the gate's input on the grid. -/
theorem v121_at (b : Fin 2) (r : Fin 2048) (c : Fin 4096) :
    val_main_v121 (F := Ideal) x0 x1 x2 x3 (ix4 b (gy r) (gx r) c) = val_main_v116 (F := Ideal) x0 x1 x2 x3 (ix3 b r c) := by
  rw [val_main_v121_apply]
  have hb := b.isLt
  have hr := r.isLt
  have hc := c.isLt
  generalize val_main_v116 (F := Ideal) x0 x1 x2 x3 = y
  refine congrArg y (funext fun a => Fin.ext ?_)
  match a with
  | ⟨0, _⟩ => show (((b.val * 32 + r.val / 64) * 64 + r.val % 64) * 4096 + c.val) / 8388608 = b.val; omega
  | ⟨1, _⟩ => show (((b.val * 32 + r.val / 64) * 64 + r.val % 64) * 4096 + c.val) / 4096 % 2048 = r.val; omega
  | ⟨2, _⟩ => show (((b.val * 32 + r.val / 64) * 64 + r.val % 64) * 4096 + c.val) % 4096 = c.val; omega

theorem v2_at (i j : Fin 3) (c : Fin 4096) : val_main_v2 (F := Ideal) x1 (ix3 i j c) = x1 (ix4 0 i j c) := by
  rw [val_main_v2_apply]
  have hi := i.isLt
  have hj := j.isLt
  have hc := c.isLt
  refine congrArg x1 (funext fun a => Fin.ext ?_)
  match a with
  | ⟨0, _⟩ => rfl
  | ⟨1, _⟩ => show ((i.val * 3 + j.val) * 4096 + c.val) / 12288 % 3 = i.val; omega
  | ⟨2, _⟩ => show ((i.val * 3 + j.val) * 4096 + c.val) / 4096 % 3 = j.val; omega
  | ⟨3, _⟩ => show ((i.val * 3 + j.val) * 4096 + c.val) % 4096 = c.val; omega

/-! ## The host's sums of an array starting from zero -/

theorem grid_at (x : Vec Ideal S2x32x64x4096 .f32) (z : Vec Ideal S_ .f32) (h : S2x32x64x4096.ReducesTo [0, 1, 2] S4096) (hu : 0 < S_.numel)
    (hz : z (Shape.Idx.first hu) = 0) (c : Fin 4096) :
    (Host.reduceAdd (F := Ideal) (φ := .f32) x z h hu : Vec Ideal S4096 .f32) (ix1 c) = ∑ b : Fin 2, ∑ r : Fin 2048, x (ix4 b (gy r) (gx r) c) := by
  refine (sumGrid h x (z (Shape.Idx.first hu)) c).trans ?_
  rw [hz, zero_add]

theorem rows_at (x : Vec Ideal S2x2048x4096 .f32) (z : Vec Ideal S_ .f32) (h : S2x2048x4096.ReducesTo [0, 1] S4096) (hu : 0 < S_.numel)
    (hz : z (Shape.Idx.first hu) = 0) (c : Fin 4096) :
    (Host.reduceAdd (F := Ideal) (φ := .f32) x z h hu : Vec Ideal S4096 .f32) (ix1 c) = ∑ b : Fin 2, ∑ r : Fin 2048, x (ix3 b r c) := by
  refine (sumRows h x (z (Shape.Idx.first hu)) c).trans ?_
  rw [hz, zero_add]

theorem unit4_at (x : Vec Ideal S1x1x1x4096 .f32) (z : Vec Ideal S_ .f32) (h : S1x1x1x4096.ReducesTo [0, 1, 2] S4096) (hu : 0 < S_.numel)
    (hz : z (Shape.Idx.first hu) = 0) (c : Fin 4096) :
    (Host.reduceAdd (F := Ideal) (φ := .f32) x z h hu : Vec Ideal S4096 .f32) (ix1 c) = x (ix4 0 0 0 c) := by
  refine (sumUnit4 h x (z (Shape.Idx.first hu)) c).trans ?_
  rw [hz, zero_add]

theorem unit3_at (x : Vec Ideal S1x1x4096 .f32) (z : Vec Ideal S_ .f32) (h : S1x1x4096.ReducesTo [0, 1] S4096) (hu : 0 < S_.numel)
    (hz : z (Shape.Idx.first hu) = 0) (c : Fin 4096) :
    (Host.reduceAdd (F := Ideal) (φ := .f32) x z h hu : Vec Ideal S4096 .f32) (ix1 c) = x (ix3 0 0 c) := by
  refine (sumUnit3 h x (z (Shape.Idx.first hu)) c).trans ?_
  rw [hz, zero_add]

theorem tap_mul (b : Bool) (g d : EReal) : (if b then g else 0) * d = if b then d * g else 0 := by
  cases b
  · exact zero_mul d
  · exact mul_comm g d

end Cert.ReferenceIdeal.Ffn

end
-- ==== Proof.FfnRefTaps.lean ====
module

public import proofs.«01_k».proof.Proof.FfnRefGrid

@[expose] public section

set_option maxRecDepth 16384

noncomputable section

namespace Cert.ReferenceIdeal.Ffn

open Cert.ReferenceIdeal Cert.ReferenceIdeal.Gen Cert.ReferenceIdeal.Read
open Cert.KernelIdeal.Ffn (inb nb bk tz uz dfvS dpS dxAt dwAt sum9)
open Idealize.ShloMosaic

variable (x0 : Vec Ideal S2x2048x8192 .f32) (x1 : Vec Ideal S1x3x3x4096 .f32) (x2 : Vec Ideal S1x4096 .f32) (x3 : Vec Ideal S2x2048x4096 .f32)

/-- Tap `k`'s sum over both images. -/
def tapV (k : Fin 9) (c : Fin 4096) : EReal :=
  ∑ b : Fin 2, dwAt k (fun r => val_main_v116 (F := Ideal) x0 x1 x2 x3 (ix3 b r c)) (fun r => x0 (ix3 b r (loCol c)))

/-! ## Tap 0 -/

theorem sl0_at (b : Fin 2) (r : Fin 2048) (c : Fin 4096) :
    val_main_v12 (F := Ideal) x0 (ix4 b (gy r) (gx r) c) = if inb 0 r then x0 (ix3 b (nb 0 r) (loCol c)) else 0 := by
  rw [← v9_at, val_main_v12_apply]
  generalize val_main_v9 (F := Ideal) x0 = y
  refine congrArg y (funext fun a => Fin.ext ?_)
  match a with
  | ⟨0, _⟩ => rfl
  | ⟨1, _⟩ => show r.val / 64 = 0 / 3 + r.val / 64; omega
  | ⟨2, _⟩ => show r.val % 64 = 0 % 3 + r.val % 64; omega
  | ⟨3, _⟩ => rfl

theorem wt0_at (b : Fin 2) (y : Fin 32) (x : Fin 64) (c : Fin 4096) :
    val_main_v211 (F := Ideal) x1 (ix4 b y x c) = x1 (ix4 0 0 0 c) := by
  have e1 : val_main_v211 (F := Ideal) x1 (ix4 b y x c) = val_main_v15 (F := Ideal) x1 (ix4 0 0 0 c) := by
    rw [val_main_v211_apply]
    generalize val_main_v15 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v15 (F := Ideal) x1 (ix4 0 0 0 c) = val_main_v14 (F := Ideal) x1 (ix1 c) := by
    rw [val_main_v15_apply]
    generalize val_main_v14 (F := Ideal) x1 = y
    refine congrArg y (funext fun a => Fin.ext ?_)
    match a with
    | ⟨0, _⟩ => rfl
  have e3 : val_main_v14 (F := Ideal) x1 (ix1 c) = val_main_v13 (F := Ideal) x1 (ix3 0 0 c) := by
    rw [val_main_v14_apply]
    generalize val_main_v13 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v13 (F := Ideal) x1 (ix3 0 0 c) = val_main_v2 (F := Ideal) x1 (ix3 0 0 c) := by
    rw [val_main_v13_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum0_at (c : Fin 4096) : val_main_v213 (F := Ideal) x0 x1 x2 x3 (ix1 c) = tapV x0 x1 x2 x3 0 c := by
  have e1 : val_main_v213 (F := Ideal) x0 x1 x2 x3 (ix1 c) = val_main_v210 (F := Ideal) x0 x1 x2 x3 (ix4 0 0 0 c) := by
    unfold val_main_v213
    generalize val_main_v210 (F := Ideal) x0 x1 x2 x3 = y
    exact unit4_at y _ _ _ (by rw [val_main_cst_51_apply]; exact Ideal.ofBits_zero_f32) c
  have e2 : val_main_v210 (F := Ideal) x0 x1 x2 x3 (ix4 0 0 0 c) = val_main_v209 (F := Ideal) x0 x1 x2 x3 (ix1 c) := by
    rw [val_main_v210_apply]
    generalize val_main_v209 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v209 (F := Ideal) x0 x1 x2 x3 (ix1 c)
      = ∑ b : Fin 2, ∑ r : Fin 2048, val_main_v208 (F := Ideal) x0 x1 x2 x3 (ix4 b (gy r) (gx r) c) := by
    unfold val_main_v209
    generalize val_main_v208 (F := Ideal) x0 x1 x2 x3 = y
    exact grid_at y _ _ _ (by rw [val_main_cst_50_apply]; exact Ideal.ofBits_zero_f32) c
  rw [e1, e2, e3]
  unfold tapV dwAt
  refine Finset.sum_congr rfl fun b _ => Finset.sum_congr rfl fun r _ => ?_
  rw [val_main_v208_apply, v121_at, sl0_at, Ideal.mulf_def]
  exact tap_mul _ _ _

theorem sq0_at (a b : Fin 3) (c : Fin 4096) :
    val_main_v215 (F := Ideal) x0 x1 x2 x3 (ix3 a b c) = if a.val = 0 ∧ b.val = 0 then tapV x0 x1 x2 x3 0 c else 0 := by
  have e1 : val_main_v214 (F := Ideal) x0 x1 x2 x3 (ix3 0 0 c) = val_main_v213 (F := Ideal) x0 x1 x2 x3 (ix1 c) := by
    rw [val_main_v214_apply]
    generalize val_main_v213 (F := Ideal) x0 x1 x2 x3 = y
    refine congrArg y (funext fun a => Fin.ext ?_)
    match a with
    | ⟨0, _⟩ => rfl
  rw [← sum0_at, ← e1]
  unfold val_main_v215
  generalize val_main_v214 (F := Ideal) x0 x1 x2 x3 = y
  exact pad3_at 0 0 _ _ _ y _ (by rw [val_main_cst_52_apply]; exact Ideal.ofBits_zero_f32) a b c

theorem dx0_at (b : Fin 2) (r : Fin 2048) (c : Fin 4096) :
    val_main_v217 (F := Ideal) x0 x1 x2 x3 (ix4 b (py r) (px r) c)
      = if inb 0 (bk 0 r) then x1 (ix4 0 0 0 c) * val_main_v116 (F := Ideal) x0 x1 x2 x3 (ix3 b (bk 0 r) c) else 0 := by
  have e1 : ∀ s : Fin 2048, val_main_v212 (F := Ideal) x0 x1 x2 x3 (ix4 b (gy s) (gx s) c)
      = x1 (ix4 0 0 0 c) * val_main_v116 (F := Ideal) x0 x1 x2 x3 (ix3 b s c) := by
    intro s
    rw [val_main_v212_apply, v121_at, wt0_at, Ideal.mulf_def]
    exact mul_comm _ _
  rw [← e1]
  unfold val_main_v217
  generalize val_main_v212 (F := Ideal) x0 x1 x2 x3 = y
  exact pad4_at 0 0 0 rfl rfl _ _ _ y _ (by rw [val_main_cst_53_apply]; exact Ideal.ofBits_zero_f32) b r c

/-! ## Tap 1 -/

theorem sl1_at (b : Fin 2) (r : Fin 2048) (c : Fin 4096) :
    val_main_v20 (F := Ideal) x0 (ix4 b (gy r) (gx r) c) = if inb 1 r then x0 (ix3 b (nb 1 r) (loCol c)) else 0 := by
  rw [← v9_at, val_main_v20_apply]
  generalize val_main_v9 (F := Ideal) x0 = y
  refine congrArg y (funext fun a => Fin.ext ?_)
  match a with
  | ⟨0, _⟩ => rfl
  | ⟨1, _⟩ => show r.val / 64 = 1 / 3 + r.val / 64; omega
  | ⟨2, _⟩ => show 1 + r.val % 64 = 1 % 3 + r.val % 64; omega
  | ⟨3, _⟩ => rfl

theorem wt1_at (b : Fin 2) (y : Fin 32) (x : Fin 64) (c : Fin 4096) :
    val_main_v200 (F := Ideal) x1 (ix4 b y x c) = x1 (ix4 0 0 1 c) := by
  have e1 : val_main_v200 (F := Ideal) x1 (ix4 b y x c) = val_main_v23 (F := Ideal) x1 (ix4 0 0 0 c) := by
    rw [val_main_v200_apply]
    generalize val_main_v23 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v23 (F := Ideal) x1 (ix4 0 0 0 c) = val_main_v22 (F := Ideal) x1 (ix1 c) := by
    rw [val_main_v23_apply]
    generalize val_main_v22 (F := Ideal) x1 = y
    refine congrArg y (funext fun a => Fin.ext ?_)
    match a with
    | ⟨0, _⟩ => rfl
  have e3 : val_main_v22 (F := Ideal) x1 (ix1 c) = val_main_v21 (F := Ideal) x1 (ix3 0 0 c) := by
    rw [val_main_v22_apply]
    generalize val_main_v21 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v21 (F := Ideal) x1 (ix3 0 0 c) = val_main_v2 (F := Ideal) x1 (ix3 0 1 c) := by
    rw [val_main_v21_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum1_at (c : Fin 4096) : val_main_v202 (F := Ideal) x0 x1 x2 x3 (ix1 c) = tapV x0 x1 x2 x3 1 c := by
  have e1 : val_main_v202 (F := Ideal) x0 x1 x2 x3 (ix1 c) = val_main_v199 (F := Ideal) x0 x1 x2 x3 (ix4 0 0 0 c) := by
    unfold val_main_v202
    generalize val_main_v199 (F := Ideal) x0 x1 x2 x3 = y
    exact unit4_at y _ _ _ (by rw [val_main_cst_47_apply]; exact Ideal.ofBits_zero_f32) c
  have e2 : val_main_v199 (F := Ideal) x0 x1 x2 x3 (ix4 0 0 0 c) = val_main_v198 (F := Ideal) x0 x1 x2 x3 (ix1 c) := by
    rw [val_main_v199_apply]
    generalize val_main_v198 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v198 (F := Ideal) x0 x1 x2 x3 (ix1 c)
      = ∑ b : Fin 2, ∑ r : Fin 2048, val_main_v197 (F := Ideal) x0 x1 x2 x3 (ix4 b (gy r) (gx r) c) := by
    unfold val_main_v198
    generalize val_main_v197 (F := Ideal) x0 x1 x2 x3 = y
    exact grid_at y _ _ _ (by rw [val_main_cst_46_apply]; exact Ideal.ofBits_zero_f32) c
  rw [e1, e2, e3]
  unfold tapV dwAt
  refine Finset.sum_congr rfl fun b _ => Finset.sum_congr rfl fun r _ => ?_
  rw [val_main_v197_apply, v121_at, sl1_at, Ideal.mulf_def]
  exact tap_mul _ _ _

theorem sq1_at (a b : Fin 3) (c : Fin 4096) :
    val_main_v204 (F := Ideal) x0 x1 x2 x3 (ix3 a b c) = if a.val = 0 ∧ b.val = 1 then tapV x0 x1 x2 x3 1 c else 0 := by
  have e1 : val_main_v203 (F := Ideal) x0 x1 x2 x3 (ix3 0 0 c) = val_main_v202 (F := Ideal) x0 x1 x2 x3 (ix1 c) := by
    rw [val_main_v203_apply]
    generalize val_main_v202 (F := Ideal) x0 x1 x2 x3 = y
    refine congrArg y (funext fun a => Fin.ext ?_)
    match a with
    | ⟨0, _⟩ => rfl
  rw [← sum1_at, ← e1]
  unfold val_main_v204
  generalize val_main_v203 (F := Ideal) x0 x1 x2 x3 = y
  exact pad3_at 0 1 _ _ _ y _ (by rw [val_main_cst_48_apply]; exact Ideal.ofBits_zero_f32) a b c

theorem dx1_at (b : Fin 2) (r : Fin 2048) (c : Fin 4096) :
    val_main_v206 (F := Ideal) x0 x1 x2 x3 (ix4 b (py r) (px r) c)
      = if inb 1 (bk 1 r) then x1 (ix4 0 0 1 c) * val_main_v116 (F := Ideal) x0 x1 x2 x3 (ix3 b (bk 1 r) c) else 0 := by
  have e1 : ∀ s : Fin 2048, val_main_v201 (F := Ideal) x0 x1 x2 x3 (ix4 b (gy s) (gx s) c)
      = x1 (ix4 0 0 1 c) * val_main_v116 (F := Ideal) x0 x1 x2 x3 (ix3 b s c) := by
    intro s
    rw [val_main_v201_apply, v121_at, wt1_at, Ideal.mulf_def]
    exact mul_comm _ _
  rw [← e1]
  unfold val_main_v206
  generalize val_main_v201 (F := Ideal) x0 x1 x2 x3 = y
  exact pad4_at 1 0 1 rfl rfl _ _ _ y _ (by rw [val_main_cst_49_apply]; exact Ideal.ofBits_zero_f32) b r c

/-! ## Tap 2 -/

theorem sl2_at (b : Fin 2) (r : Fin 2048) (c : Fin 4096) :
    val_main_v27 (F := Ideal) x0 (ix4 b (gy r) (gx r) c) = if inb 2 r then x0 (ix3 b (nb 2 r) (loCol c)) else 0 := by
  rw [← v9_at, val_main_v27_apply]
  generalize val_main_v9 (F := Ideal) x0 = y
  refine congrArg y (funext fun a => Fin.ext ?_)
  match a with
  | ⟨0, _⟩ => rfl
  | ⟨1, _⟩ => show r.val / 64 = 2 / 3 + r.val / 64; omega
  | ⟨2, _⟩ => show 2 + r.val % 64 = 2 % 3 + r.val % 64; omega
  | ⟨3, _⟩ => rfl

theorem wt2_at (b : Fin 2) (y : Fin 32) (x : Fin 64) (c : Fin 4096) :
    val_main_v189 (F := Ideal) x1 (ix4 b y x c) = x1 (ix4 0 0 2 c) := by
  have e1 : val_main_v189 (F := Ideal) x1 (ix4 b y x c) = val_main_v30 (F := Ideal) x1 (ix4 0 0 0 c) := by
    rw [val_main_v189_apply]
    generalize val_main_v30 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v30 (F := Ideal) x1 (ix4 0 0 0 c) = val_main_v29 (F := Ideal) x1 (ix1 c) := by
    rw [val_main_v30_apply]
    generalize val_main_v29 (F := Ideal) x1 = y
    refine congrArg y (funext fun a => Fin.ext ?_)
    match a with
    | ⟨0, _⟩ => rfl
  have e3 : val_main_v29 (F := Ideal) x1 (ix1 c) = val_main_v28 (F := Ideal) x1 (ix3 0 0 c) := by
    rw [val_main_v29_apply]
    generalize val_main_v28 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v28 (F := Ideal) x1 (ix3 0 0 c) = val_main_v2 (F := Ideal) x1 (ix3 0 2 c) := by
    rw [val_main_v28_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum2_at (c : Fin 4096) : val_main_v191 (F := Ideal) x0 x1 x2 x3 (ix1 c) = tapV x0 x1 x2 x3 2 c := by
  have e1 : val_main_v191 (F := Ideal) x0 x1 x2 x3 (ix1 c) = val_main_v188 (F := Ideal) x0 x1 x2 x3 (ix4 0 0 0 c) := by
    unfold val_main_v191
    generalize val_main_v188 (F := Ideal) x0 x1 x2 x3 = y
    exact unit4_at y _ _ _ (by rw [val_main_cst_43_apply]; exact Ideal.ofBits_zero_f32) c
  have e2 : val_main_v188 (F := Ideal) x0 x1 x2 x3 (ix4 0 0 0 c) = val_main_v187 (F := Ideal) x0 x1 x2 x3 (ix1 c) := by
    rw [val_main_v188_apply]
    generalize val_main_v187 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v187 (F := Ideal) x0 x1 x2 x3 (ix1 c)
      = ∑ b : Fin 2, ∑ r : Fin 2048, val_main_v186 (F := Ideal) x0 x1 x2 x3 (ix4 b (gy r) (gx r) c) := by
    unfold val_main_v187
    generalize val_main_v186 (F := Ideal) x0 x1 x2 x3 = y
    exact grid_at y _ _ _ (by rw [val_main_cst_42_apply]; exact Ideal.ofBits_zero_f32) c
  rw [e1, e2, e3]
  unfold tapV dwAt
  refine Finset.sum_congr rfl fun b _ => Finset.sum_congr rfl fun r _ => ?_
  rw [val_main_v186_apply, v121_at, sl2_at, Ideal.mulf_def]
  exact tap_mul _ _ _

theorem sq2_at (a b : Fin 3) (c : Fin 4096) :
    val_main_v193 (F := Ideal) x0 x1 x2 x3 (ix3 a b c) = if a.val = 0 ∧ b.val = 2 then tapV x0 x1 x2 x3 2 c else 0 := by
  have e1 : val_main_v192 (F := Ideal) x0 x1 x2 x3 (ix3 0 0 c) = val_main_v191 (F := Ideal) x0 x1 x2 x3 (ix1 c) := by
    rw [val_main_v192_apply]
    generalize val_main_v191 (F := Ideal) x0 x1 x2 x3 = y
    refine congrArg y (funext fun a => Fin.ext ?_)
    match a with
    | ⟨0, _⟩ => rfl
  rw [← sum2_at, ← e1]
  unfold val_main_v193
  generalize val_main_v192 (F := Ideal) x0 x1 x2 x3 = y
  exact pad3_at 0 2 _ _ _ y _ (by rw [val_main_cst_44_apply]; exact Ideal.ofBits_zero_f32) a b c

theorem dx2_at (b : Fin 2) (r : Fin 2048) (c : Fin 4096) :
    val_main_v195 (F := Ideal) x0 x1 x2 x3 (ix4 b (py r) (px r) c)
      = if inb 2 (bk 2 r) then x1 (ix4 0 0 2 c) * val_main_v116 (F := Ideal) x0 x1 x2 x3 (ix3 b (bk 2 r) c) else 0 := by
  have e1 : ∀ s : Fin 2048, val_main_v190 (F := Ideal) x0 x1 x2 x3 (ix4 b (gy s) (gx s) c)
      = x1 (ix4 0 0 2 c) * val_main_v116 (F := Ideal) x0 x1 x2 x3 (ix3 b s c) := by
    intro s
    rw [val_main_v190_apply, v121_at, wt2_at, Ideal.mulf_def]
    exact mul_comm _ _
  rw [← e1]
  unfold val_main_v195
  generalize val_main_v190 (F := Ideal) x0 x1 x2 x3 = y
  exact pad4_at 2 0 2 rfl rfl _ _ _ y _ (by rw [val_main_cst_45_apply]; exact Ideal.ofBits_zero_f32) b r c

/-! ## Tap 3 -/

theorem sl3_at (b : Fin 2) (r : Fin 2048) (c : Fin 4096) :
    val_main_v34 (F := Ideal) x0 (ix4 b (gy r) (gx r) c) = if inb 3 r then x0 (ix3 b (nb 3 r) (loCol c)) else 0 := by
  rw [← v9_at, val_main_v34_apply]
  generalize val_main_v9 (F := Ideal) x0 = y
  refine congrArg y (funext fun a => Fin.ext ?_)
  match a with
  | ⟨0, _⟩ => rfl
  | ⟨1, _⟩ => show 1 + r.val / 64 = 3 / 3 + r.val / 64; omega
  | ⟨2, _⟩ => show r.val % 64 = 3 % 3 + r.val % 64; omega
  | ⟨3, _⟩ => rfl

theorem wt3_at (b : Fin 2) (y : Fin 32) (x : Fin 64) (c : Fin 4096) :
    val_main_v178 (F := Ideal) x1 (ix4 b y x c) = x1 (ix4 0 1 0 c) := by
  have e1 : val_main_v178 (F := Ideal) x1 (ix4 b y x c) = val_main_v37 (F := Ideal) x1 (ix4 0 0 0 c) := by
    rw [val_main_v178_apply]
    generalize val_main_v37 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v37 (F := Ideal) x1 (ix4 0 0 0 c) = val_main_v36 (F := Ideal) x1 (ix1 c) := by
    rw [val_main_v37_apply]
    generalize val_main_v36 (F := Ideal) x1 = y
    refine congrArg y (funext fun a => Fin.ext ?_)
    match a with
    | ⟨0, _⟩ => rfl
  have e3 : val_main_v36 (F := Ideal) x1 (ix1 c) = val_main_v35 (F := Ideal) x1 (ix3 0 0 c) := by
    rw [val_main_v36_apply]
    generalize val_main_v35 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v35 (F := Ideal) x1 (ix3 0 0 c) = val_main_v2 (F := Ideal) x1 (ix3 1 0 c) := by
    rw [val_main_v35_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum3_at (c : Fin 4096) : val_main_v180 (F := Ideal) x0 x1 x2 x3 (ix1 c) = tapV x0 x1 x2 x3 3 c := by
  have e1 : val_main_v180 (F := Ideal) x0 x1 x2 x3 (ix1 c) = val_main_v177 (F := Ideal) x0 x1 x2 x3 (ix4 0 0 0 c) := by
    unfold val_main_v180
    generalize val_main_v177 (F := Ideal) x0 x1 x2 x3 = y
    exact unit4_at y _ _ _ (by rw [val_main_cst_39_apply]; exact Ideal.ofBits_zero_f32) c
  have e2 : val_main_v177 (F := Ideal) x0 x1 x2 x3 (ix4 0 0 0 c) = val_main_v176 (F := Ideal) x0 x1 x2 x3 (ix1 c) := by
    rw [val_main_v177_apply]
    generalize val_main_v176 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v176 (F := Ideal) x0 x1 x2 x3 (ix1 c)
      = ∑ b : Fin 2, ∑ r : Fin 2048, val_main_v175 (F := Ideal) x0 x1 x2 x3 (ix4 b (gy r) (gx r) c) := by
    unfold val_main_v176
    generalize val_main_v175 (F := Ideal) x0 x1 x2 x3 = y
    exact grid_at y _ _ _ (by rw [val_main_cst_38_apply]; exact Ideal.ofBits_zero_f32) c
  rw [e1, e2, e3]
  unfold tapV dwAt
  refine Finset.sum_congr rfl fun b _ => Finset.sum_congr rfl fun r _ => ?_
  rw [val_main_v175_apply, v121_at, sl3_at, Ideal.mulf_def]
  exact tap_mul _ _ _

theorem sq3_at (a b : Fin 3) (c : Fin 4096) :
    val_main_v182 (F := Ideal) x0 x1 x2 x3 (ix3 a b c) = if a.val = 1 ∧ b.val = 0 then tapV x0 x1 x2 x3 3 c else 0 := by
  have e1 : val_main_v181 (F := Ideal) x0 x1 x2 x3 (ix3 0 0 c) = val_main_v180 (F := Ideal) x0 x1 x2 x3 (ix1 c) := by
    rw [val_main_v181_apply]
    generalize val_main_v180 (F := Ideal) x0 x1 x2 x3 = y
    refine congrArg y (funext fun a => Fin.ext ?_)
    match a with
    | ⟨0, _⟩ => rfl
  rw [← sum3_at, ← e1]
  unfold val_main_v182
  generalize val_main_v181 (F := Ideal) x0 x1 x2 x3 = y
  exact pad3_at 1 0 _ _ _ y _ (by rw [val_main_cst_40_apply]; exact Ideal.ofBits_zero_f32) a b c

theorem dx3_at (b : Fin 2) (r : Fin 2048) (c : Fin 4096) :
    val_main_v184 (F := Ideal) x0 x1 x2 x3 (ix4 b (py r) (px r) c)
      = if inb 3 (bk 3 r) then x1 (ix4 0 1 0 c) * val_main_v116 (F := Ideal) x0 x1 x2 x3 (ix3 b (bk 3 r) c) else 0 := by
  have e1 : ∀ s : Fin 2048, val_main_v179 (F := Ideal) x0 x1 x2 x3 (ix4 b (gy s) (gx s) c)
      = x1 (ix4 0 1 0 c) * val_main_v116 (F := Ideal) x0 x1 x2 x3 (ix3 b s c) := by
    intro s
    rw [val_main_v179_apply, v121_at, wt3_at, Ideal.mulf_def]
    exact mul_comm _ _
  rw [← e1]
  unfold val_main_v184
  generalize val_main_v179 (F := Ideal) x0 x1 x2 x3 = y
  exact pad4_at 3 1 0 rfl rfl _ _ _ y _ (by rw [val_main_cst_41_apply]; exact Ideal.ofBits_zero_f32) b r c

/-! ## Tap 4 -/

theorem sl4_at (b : Fin 2) (r : Fin 2048) (c : Fin 4096) :
    val_main_v41 (F := Ideal) x0 (ix4 b (gy r) (gx r) c) = if inb 4 r then x0 (ix3 b (nb 4 r) (loCol c)) else 0 := by
  rw [← v9_at, val_main_v41_apply]
  generalize val_main_v9 (F := Ideal) x0 = y
  refine congrArg y (funext fun a => Fin.ext ?_)
  match a with
  | ⟨0, _⟩ => rfl
  | ⟨1, _⟩ => show 1 + r.val / 64 = 4 / 3 + r.val / 64; omega
  | ⟨2, _⟩ => show 1 + r.val % 64 = 4 % 3 + r.val % 64; omega
  | ⟨3, _⟩ => rfl

theorem wt4_at (b : Fin 2) (y : Fin 32) (x : Fin 64) (c : Fin 4096) :
    val_main_v167 (F := Ideal) x1 (ix4 b y x c) = x1 (ix4 0 1 1 c) := by
  have e1 : val_main_v167 (F := Ideal) x1 (ix4 b y x c) = val_main_v44 (F := Ideal) x1 (ix4 0 0 0 c) := by
    rw [val_main_v167_apply]
    generalize val_main_v44 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v44 (F := Ideal) x1 (ix4 0 0 0 c) = val_main_v43 (F := Ideal) x1 (ix1 c) := by
    rw [val_main_v44_apply]
    generalize val_main_v43 (F := Ideal) x1 = y
    refine congrArg y (funext fun a => Fin.ext ?_)
    match a with
    | ⟨0, _⟩ => rfl
  have e3 : val_main_v43 (F := Ideal) x1 (ix1 c) = val_main_v42 (F := Ideal) x1 (ix3 0 0 c) := by
    rw [val_main_v43_apply]
    generalize val_main_v42 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v42 (F := Ideal) x1 (ix3 0 0 c) = val_main_v2 (F := Ideal) x1 (ix3 1 1 c) := by
    rw [val_main_v42_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum4_at (c : Fin 4096) : val_main_v169 (F := Ideal) x0 x1 x2 x3 (ix1 c) = tapV x0 x1 x2 x3 4 c := by
  have e1 : val_main_v169 (F := Ideal) x0 x1 x2 x3 (ix1 c) = val_main_v166 (F := Ideal) x0 x1 x2 x3 (ix4 0 0 0 c) := by
    unfold val_main_v169
    generalize val_main_v166 (F := Ideal) x0 x1 x2 x3 = y
    exact unit4_at y _ _ _ (by rw [val_main_cst_35_apply]; exact Ideal.ofBits_zero_f32) c
  have e2 : val_main_v166 (F := Ideal) x0 x1 x2 x3 (ix4 0 0 0 c) = val_main_v165 (F := Ideal) x0 x1 x2 x3 (ix1 c) := by
    rw [val_main_v166_apply]
    generalize val_main_v165 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v165 (F := Ideal) x0 x1 x2 x3 (ix1 c)
      = ∑ b : Fin 2, ∑ r : Fin 2048, val_main_v164 (F := Ideal) x0 x1 x2 x3 (ix4 b (gy r) (gx r) c) := by
    unfold val_main_v165
    generalize val_main_v164 (F := Ideal) x0 x1 x2 x3 = y
    exact grid_at y _ _ _ (by rw [val_main_cst_34_apply]; exact Ideal.ofBits_zero_f32) c
  rw [e1, e2, e3]
  unfold tapV dwAt
  refine Finset.sum_congr rfl fun b _ => Finset.sum_congr rfl fun r _ => ?_
  rw [val_main_v164_apply, v121_at, sl4_at, Ideal.mulf_def]
  exact tap_mul _ _ _

theorem sq4_at (a b : Fin 3) (c : Fin 4096) :
    val_main_v171 (F := Ideal) x0 x1 x2 x3 (ix3 a b c) = if a.val = 1 ∧ b.val = 1 then tapV x0 x1 x2 x3 4 c else 0 := by
  have e1 : val_main_v170 (F := Ideal) x0 x1 x2 x3 (ix3 0 0 c) = val_main_v169 (F := Ideal) x0 x1 x2 x3 (ix1 c) := by
    rw [val_main_v170_apply]
    generalize val_main_v169 (F := Ideal) x0 x1 x2 x3 = y
    refine congrArg y (funext fun a => Fin.ext ?_)
    match a with
    | ⟨0, _⟩ => rfl
  rw [← sum4_at, ← e1]
  unfold val_main_v171
  generalize val_main_v170 (F := Ideal) x0 x1 x2 x3 = y
  exact pad3_at 1 1 _ _ _ y _ (by rw [val_main_cst_36_apply]; exact Ideal.ofBits_zero_f32) a b c

theorem dx4_at (b : Fin 2) (r : Fin 2048) (c : Fin 4096) :
    val_main_v173 (F := Ideal) x0 x1 x2 x3 (ix4 b (py r) (px r) c)
      = if inb 4 (bk 4 r) then x1 (ix4 0 1 1 c) * val_main_v116 (F := Ideal) x0 x1 x2 x3 (ix3 b (bk 4 r) c) else 0 := by
  have e1 : ∀ s : Fin 2048, val_main_v168 (F := Ideal) x0 x1 x2 x3 (ix4 b (gy s) (gx s) c)
      = x1 (ix4 0 1 1 c) * val_main_v116 (F := Ideal) x0 x1 x2 x3 (ix3 b s c) := by
    intro s
    rw [val_main_v168_apply, v121_at, wt4_at, Ideal.mulf_def]
    exact mul_comm _ _
  rw [← e1]
  unfold val_main_v173
  generalize val_main_v168 (F := Ideal) x0 x1 x2 x3 = y
  exact pad4_at 4 1 1 rfl rfl _ _ _ y _ (by rw [val_main_cst_37_apply]; exact Ideal.ofBits_zero_f32) b r c

/-! ## Tap 5 -/

theorem sl5_at (b : Fin 2) (r : Fin 2048) (c : Fin 4096) :
    val_main_v48 (F := Ideal) x0 (ix4 b (gy r) (gx r) c) = if inb 5 r then x0 (ix3 b (nb 5 r) (loCol c)) else 0 := by
  rw [← v9_at, val_main_v48_apply]
  generalize val_main_v9 (F := Ideal) x0 = y
  refine congrArg y (funext fun a => Fin.ext ?_)
  match a with
  | ⟨0, _⟩ => rfl
  | ⟨1, _⟩ => show 1 + r.val / 64 = 5 / 3 + r.val / 64; omega
  | ⟨2, _⟩ => show 2 + r.val % 64 = 5 % 3 + r.val % 64; omega
  | ⟨3, _⟩ => rfl

theorem wt5_at (b : Fin 2) (y : Fin 32) (x : Fin 64) (c : Fin 4096) :
    val_main_v156 (F := Ideal) x1 (ix4 b y x c) = x1 (ix4 0 1 2 c) := by
  have e1 : val_main_v156 (F := Ideal) x1 (ix4 b y x c) = val_main_v51 (F := Ideal) x1 (ix4 0 0 0 c) := by
    rw [val_main_v156_apply]
    generalize val_main_v51 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v51 (F := Ideal) x1 (ix4 0 0 0 c) = val_main_v50 (F := Ideal) x1 (ix1 c) := by
    rw [val_main_v51_apply]
    generalize val_main_v50 (F := Ideal) x1 = y
    refine congrArg y (funext fun a => Fin.ext ?_)
    match a with
    | ⟨0, _⟩ => rfl
  have e3 : val_main_v50 (F := Ideal) x1 (ix1 c) = val_main_v49 (F := Ideal) x1 (ix3 0 0 c) := by
    rw [val_main_v50_apply]
    generalize val_main_v49 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v49 (F := Ideal) x1 (ix3 0 0 c) = val_main_v2 (F := Ideal) x1 (ix3 1 2 c) := by
    rw [val_main_v49_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum5_at (c : Fin 4096) : val_main_v158 (F := Ideal) x0 x1 x2 x3 (ix1 c) = tapV x0 x1 x2 x3 5 c := by
  have e1 : val_main_v158 (F := Ideal) x0 x1 x2 x3 (ix1 c) = val_main_v155 (F := Ideal) x0 x1 x2 x3 (ix4 0 0 0 c) := by
    unfold val_main_v158
    generalize val_main_v155 (F := Ideal) x0 x1 x2 x3 = y
    exact unit4_at y _ _ _ (by rw [val_main_cst_31_apply]; exact Ideal.ofBits_zero_f32) c
  have e2 : val_main_v155 (F := Ideal) x0 x1 x2 x3 (ix4 0 0 0 c) = val_main_v154 (F := Ideal) x0 x1 x2 x3 (ix1 c) := by
    rw [val_main_v155_apply]
    generalize val_main_v154 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v154 (F := Ideal) x0 x1 x2 x3 (ix1 c)
      = ∑ b : Fin 2, ∑ r : Fin 2048, val_main_v153 (F := Ideal) x0 x1 x2 x3 (ix4 b (gy r) (gx r) c) := by
    unfold val_main_v154
    generalize val_main_v153 (F := Ideal) x0 x1 x2 x3 = y
    exact grid_at y _ _ _ (by rw [val_main_cst_30_apply]; exact Ideal.ofBits_zero_f32) c
  rw [e1, e2, e3]
  unfold tapV dwAt
  refine Finset.sum_congr rfl fun b _ => Finset.sum_congr rfl fun r _ => ?_
  rw [val_main_v153_apply, v121_at, sl5_at, Ideal.mulf_def]
  exact tap_mul _ _ _

theorem sq5_at (a b : Fin 3) (c : Fin 4096) :
    val_main_v160 (F := Ideal) x0 x1 x2 x3 (ix3 a b c) = if a.val = 1 ∧ b.val = 2 then tapV x0 x1 x2 x3 5 c else 0 := by
  have e1 : val_main_v159 (F := Ideal) x0 x1 x2 x3 (ix3 0 0 c) = val_main_v158 (F := Ideal) x0 x1 x2 x3 (ix1 c) := by
    rw [val_main_v159_apply]
    generalize val_main_v158 (F := Ideal) x0 x1 x2 x3 = y
    refine congrArg y (funext fun a => Fin.ext ?_)
    match a with
    | ⟨0, _⟩ => rfl
  rw [← sum5_at, ← e1]
  unfold val_main_v160
  generalize val_main_v159 (F := Ideal) x0 x1 x2 x3 = y
  exact pad3_at 1 2 _ _ _ y _ (by rw [val_main_cst_32_apply]; exact Ideal.ofBits_zero_f32) a b c

theorem dx5_at (b : Fin 2) (r : Fin 2048) (c : Fin 4096) :
    val_main_v162 (F := Ideal) x0 x1 x2 x3 (ix4 b (py r) (px r) c)
      = if inb 5 (bk 5 r) then x1 (ix4 0 1 2 c) * val_main_v116 (F := Ideal) x0 x1 x2 x3 (ix3 b (bk 5 r) c) else 0 := by
  have e1 : ∀ s : Fin 2048, val_main_v157 (F := Ideal) x0 x1 x2 x3 (ix4 b (gy s) (gx s) c)
      = x1 (ix4 0 1 2 c) * val_main_v116 (F := Ideal) x0 x1 x2 x3 (ix3 b s c) := by
    intro s
    rw [val_main_v157_apply, v121_at, wt5_at, Ideal.mulf_def]
    exact mul_comm _ _
  rw [← e1]
  unfold val_main_v162
  generalize val_main_v157 (F := Ideal) x0 x1 x2 x3 = y
  exact pad4_at 5 1 2 rfl rfl _ _ _ y _ (by rw [val_main_cst_33_apply]; exact Ideal.ofBits_zero_f32) b r c

/-! ## Tap 6 -/

theorem sl6_at (b : Fin 2) (r : Fin 2048) (c : Fin 4096) :
    val_main_v55 (F := Ideal) x0 (ix4 b (gy r) (gx r) c) = if inb 6 r then x0 (ix3 b (nb 6 r) (loCol c)) else 0 := by
  rw [← v9_at, val_main_v55_apply]
  generalize val_main_v9 (F := Ideal) x0 = y
  refine congrArg y (funext fun a => Fin.ext ?_)
  match a with
  | ⟨0, _⟩ => rfl
  | ⟨1, _⟩ => show 2 + r.val / 64 = 6 / 3 + r.val / 64; omega
  | ⟨2, _⟩ => show r.val % 64 = 6 % 3 + r.val % 64; omega
  | ⟨3, _⟩ => rfl

theorem wt6_at (b : Fin 2) (y : Fin 32) (x : Fin 64) (c : Fin 4096) :
    val_main_v145 (F := Ideal) x1 (ix4 b y x c) = x1 (ix4 0 2 0 c) := by
  have e1 : val_main_v145 (F := Ideal) x1 (ix4 b y x c) = val_main_v58 (F := Ideal) x1 (ix4 0 0 0 c) := by
    rw [val_main_v145_apply]
    generalize val_main_v58 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v58 (F := Ideal) x1 (ix4 0 0 0 c) = val_main_v57 (F := Ideal) x1 (ix1 c) := by
    rw [val_main_v58_apply]
    generalize val_main_v57 (F := Ideal) x1 = y
    refine congrArg y (funext fun a => Fin.ext ?_)
    match a with
    | ⟨0, _⟩ => rfl
  have e3 : val_main_v57 (F := Ideal) x1 (ix1 c) = val_main_v56 (F := Ideal) x1 (ix3 0 0 c) := by
    rw [val_main_v57_apply]
    generalize val_main_v56 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v56 (F := Ideal) x1 (ix3 0 0 c) = val_main_v2 (F := Ideal) x1 (ix3 2 0 c) := by
    rw [val_main_v56_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum6_at (c : Fin 4096) : val_main_v147 (F := Ideal) x0 x1 x2 x3 (ix1 c) = tapV x0 x1 x2 x3 6 c := by
  have e1 : val_main_v147 (F := Ideal) x0 x1 x2 x3 (ix1 c) = val_main_v144 (F := Ideal) x0 x1 x2 x3 (ix4 0 0 0 c) := by
    unfold val_main_v147
    generalize val_main_v144 (F := Ideal) x0 x1 x2 x3 = y
    exact unit4_at y _ _ _ (by rw [val_main_cst_27_apply]; exact Ideal.ofBits_zero_f32) c
  have e2 : val_main_v144 (F := Ideal) x0 x1 x2 x3 (ix4 0 0 0 c) = val_main_v143 (F := Ideal) x0 x1 x2 x3 (ix1 c) := by
    rw [val_main_v144_apply]
    generalize val_main_v143 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v143 (F := Ideal) x0 x1 x2 x3 (ix1 c)
      = ∑ b : Fin 2, ∑ r : Fin 2048, val_main_v142 (F := Ideal) x0 x1 x2 x3 (ix4 b (gy r) (gx r) c) := by
    unfold val_main_v143
    generalize val_main_v142 (F := Ideal) x0 x1 x2 x3 = y
    exact grid_at y _ _ _ (by rw [val_main_cst_26_apply]; exact Ideal.ofBits_zero_f32) c
  rw [e1, e2, e3]
  unfold tapV dwAt
  refine Finset.sum_congr rfl fun b _ => Finset.sum_congr rfl fun r _ => ?_
  rw [val_main_v142_apply, v121_at, sl6_at, Ideal.mulf_def]
  exact tap_mul _ _ _

theorem sq6_at (a b : Fin 3) (c : Fin 4096) :
    val_main_v149 (F := Ideal) x0 x1 x2 x3 (ix3 a b c) = if a.val = 2 ∧ b.val = 0 then tapV x0 x1 x2 x3 6 c else 0 := by
  have e1 : val_main_v148 (F := Ideal) x0 x1 x2 x3 (ix3 0 0 c) = val_main_v147 (F := Ideal) x0 x1 x2 x3 (ix1 c) := by
    rw [val_main_v148_apply]
    generalize val_main_v147 (F := Ideal) x0 x1 x2 x3 = y
    refine congrArg y (funext fun a => Fin.ext ?_)
    match a with
    | ⟨0, _⟩ => rfl
  rw [← sum6_at, ← e1]
  unfold val_main_v149
  generalize val_main_v148 (F := Ideal) x0 x1 x2 x3 = y
  exact pad3_at 2 0 _ _ _ y _ (by rw [val_main_cst_28_apply]; exact Ideal.ofBits_zero_f32) a b c

theorem dx6_at (b : Fin 2) (r : Fin 2048) (c : Fin 4096) :
    val_main_v151 (F := Ideal) x0 x1 x2 x3 (ix4 b (py r) (px r) c)
      = if inb 6 (bk 6 r) then x1 (ix4 0 2 0 c) * val_main_v116 (F := Ideal) x0 x1 x2 x3 (ix3 b (bk 6 r) c) else 0 := by
  have e1 : ∀ s : Fin 2048, val_main_v146 (F := Ideal) x0 x1 x2 x3 (ix4 b (gy s) (gx s) c)
      = x1 (ix4 0 2 0 c) * val_main_v116 (F := Ideal) x0 x1 x2 x3 (ix3 b s c) := by
    intro s
    rw [val_main_v146_apply, v121_at, wt6_at, Ideal.mulf_def]
    exact mul_comm _ _
  rw [← e1]
  unfold val_main_v151
  generalize val_main_v146 (F := Ideal) x0 x1 x2 x3 = y
  exact pad4_at 6 2 0 rfl rfl _ _ _ y _ (by rw [val_main_cst_29_apply]; exact Ideal.ofBits_zero_f32) b r c

/-! ## Tap 7 -/

theorem sl7_at (b : Fin 2) (r : Fin 2048) (c : Fin 4096) :
    val_main_v62 (F := Ideal) x0 (ix4 b (gy r) (gx r) c) = if inb 7 r then x0 (ix3 b (nb 7 r) (loCol c)) else 0 := by
  rw [← v9_at, val_main_v62_apply]
  generalize val_main_v9 (F := Ideal) x0 = y
  refine congrArg y (funext fun a => Fin.ext ?_)
  match a with
  | ⟨0, _⟩ => rfl
  | ⟨1, _⟩ => show 2 + r.val / 64 = 7 / 3 + r.val / 64; omega
  | ⟨2, _⟩ => show 1 + r.val % 64 = 7 % 3 + r.val % 64; omega
  | ⟨3, _⟩ => rfl

theorem wt7_at (b : Fin 2) (y : Fin 32) (x : Fin 64) (c : Fin 4096) :
    val_main_v134 (F := Ideal) x1 (ix4 b y x c) = x1 (ix4 0 2 1 c) := by
  have e1 : val_main_v134 (F := Ideal) x1 (ix4 b y x c) = val_main_v65 (F := Ideal) x1 (ix4 0 0 0 c) := by
    rw [val_main_v134_apply]
    generalize val_main_v65 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v65 (F := Ideal) x1 (ix4 0 0 0 c) = val_main_v64 (F := Ideal) x1 (ix1 c) := by
    rw [val_main_v65_apply]
    generalize val_main_v64 (F := Ideal) x1 = y
    refine congrArg y (funext fun a => Fin.ext ?_)
    match a with
    | ⟨0, _⟩ => rfl
  have e3 : val_main_v64 (F := Ideal) x1 (ix1 c) = val_main_v63 (F := Ideal) x1 (ix3 0 0 c) := by
    rw [val_main_v64_apply]
    generalize val_main_v63 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v63 (F := Ideal) x1 (ix3 0 0 c) = val_main_v2 (F := Ideal) x1 (ix3 2 1 c) := by
    rw [val_main_v63_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum7_at (c : Fin 4096) : val_main_v136 (F := Ideal) x0 x1 x2 x3 (ix1 c) = tapV x0 x1 x2 x3 7 c := by
  have e1 : val_main_v136 (F := Ideal) x0 x1 x2 x3 (ix1 c) = val_main_v133 (F := Ideal) x0 x1 x2 x3 (ix4 0 0 0 c) := by
    unfold val_main_v136
    generalize val_main_v133 (F := Ideal) x0 x1 x2 x3 = y
    exact unit4_at y _ _ _ (by rw [val_main_cst_23_apply]; exact Ideal.ofBits_zero_f32) c
  have e2 : val_main_v133 (F := Ideal) x0 x1 x2 x3 (ix4 0 0 0 c) = val_main_v132 (F := Ideal) x0 x1 x2 x3 (ix1 c) := by
    rw [val_main_v133_apply]
    generalize val_main_v132 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v132 (F := Ideal) x0 x1 x2 x3 (ix1 c)
      = ∑ b : Fin 2, ∑ r : Fin 2048, val_main_v131 (F := Ideal) x0 x1 x2 x3 (ix4 b (gy r) (gx r) c) := by
    unfold val_main_v132
    generalize val_main_v131 (F := Ideal) x0 x1 x2 x3 = y
    exact grid_at y _ _ _ (by rw [val_main_cst_22_apply]; exact Ideal.ofBits_zero_f32) c
  rw [e1, e2, e3]
  unfold tapV dwAt
  refine Finset.sum_congr rfl fun b _ => Finset.sum_congr rfl fun r _ => ?_
  rw [val_main_v131_apply, v121_at, sl7_at, Ideal.mulf_def]
  exact tap_mul _ _ _

theorem sq7_at (a b : Fin 3) (c : Fin 4096) :
    val_main_v138 (F := Ideal) x0 x1 x2 x3 (ix3 a b c) = if a.val = 2 ∧ b.val = 1 then tapV x0 x1 x2 x3 7 c else 0 := by
  have e1 : val_main_v137 (F := Ideal) x0 x1 x2 x3 (ix3 0 0 c) = val_main_v136 (F := Ideal) x0 x1 x2 x3 (ix1 c) := by
    rw [val_main_v137_apply]
    generalize val_main_v136 (F := Ideal) x0 x1 x2 x3 = y
    refine congrArg y (funext fun a => Fin.ext ?_)
    match a with
    | ⟨0, _⟩ => rfl
  rw [← sum7_at, ← e1]
  unfold val_main_v138
  generalize val_main_v137 (F := Ideal) x0 x1 x2 x3 = y
  exact pad3_at 2 1 _ _ _ y _ (by rw [val_main_cst_24_apply]; exact Ideal.ofBits_zero_f32) a b c

theorem dx7_at (b : Fin 2) (r : Fin 2048) (c : Fin 4096) :
    val_main_v140 (F := Ideal) x0 x1 x2 x3 (ix4 b (py r) (px r) c)
      = if inb 7 (bk 7 r) then x1 (ix4 0 2 1 c) * val_main_v116 (F := Ideal) x0 x1 x2 x3 (ix3 b (bk 7 r) c) else 0 := by
  have e1 : ∀ s : Fin 2048, val_main_v135 (F := Ideal) x0 x1 x2 x3 (ix4 b (gy s) (gx s) c)
      = x1 (ix4 0 2 1 c) * val_main_v116 (F := Ideal) x0 x1 x2 x3 (ix3 b s c) := by
    intro s
    rw [val_main_v135_apply, v121_at, wt7_at, Ideal.mulf_def]
    exact mul_comm _ _
  rw [← e1]
  unfold val_main_v140
  generalize val_main_v135 (F := Ideal) x0 x1 x2 x3 = y
  exact pad4_at 7 2 1 rfl rfl _ _ _ y _ (by rw [val_main_cst_25_apply]; exact Ideal.ofBits_zero_f32) b r c

/-! ## Tap 8 -/

theorem sl8_at (b : Fin 2) (r : Fin 2048) (c : Fin 4096) :
    val_main_v69 (F := Ideal) x0 (ix4 b (gy r) (gx r) c) = if inb 8 r then x0 (ix3 b (nb 8 r) (loCol c)) else 0 := by
  rw [← v9_at, val_main_v69_apply]
  generalize val_main_v9 (F := Ideal) x0 = y
  refine congrArg y (funext fun a => Fin.ext ?_)
  match a with
  | ⟨0, _⟩ => rfl
  | ⟨1, _⟩ => show 2 + r.val / 64 = 8 / 3 + r.val / 64; omega
  | ⟨2, _⟩ => show 2 + r.val % 64 = 8 % 3 + r.val % 64; omega
  | ⟨3, _⟩ => rfl

theorem wt8_at (b : Fin 2) (y : Fin 32) (x : Fin 64) (c : Fin 4096) :
    val_main_v125 (F := Ideal) x1 (ix4 b y x c) = x1 (ix4 0 2 2 c) := by
  have e1 : val_main_v125 (F := Ideal) x1 (ix4 b y x c) = val_main_v72 (F := Ideal) x1 (ix4 0 0 0 c) := by
    rw [val_main_v125_apply]
    generalize val_main_v72 (F := Ideal) x1 = y
    refine congrArg y (funext fun a => Fin.ext ?_)
    match a with
    | ⟨0, _⟩ => rfl
    | ⟨1, _⟩ => rfl
    | ⟨2, _⟩ => rfl
    | ⟨3, _⟩ => rfl
  have e2 : val_main_v72 (F := Ideal) x1 (ix4 0 0 0 c) = val_main_v71 (F := Ideal) x1 (ix1 c) := by
    rw [val_main_v72_apply]
    generalize val_main_v71 (F := Ideal) x1 = y
    refine congrArg y (funext fun a => Fin.ext ?_)
    match a with
    | ⟨0, _⟩ => rfl
  have e3 : val_main_v71 (F := Ideal) x1 (ix1 c) = val_main_v70 (F := Ideal) x1 (ix3 0 0 c) := by
    rw [val_main_v71_apply]
    generalize val_main_v70 (F := Ideal) x1 = y
    refine congrArg y (funext fun a => Fin.ext ?_)
    have hc := c.isLt
    match a with
    | ⟨0, _⟩ => rfl
    | ⟨1, _⟩ => rfl
    | ⟨2, _⟩ => show c.val % 4096 = c.val; omega
  have e4 : val_main_v70 (F := Ideal) x1 (ix3 0 0 c) = val_main_v2 (F := Ideal) x1 (ix3 2 2 c) := by
    rw [val_main_v70_apply]
    generalize val_main_v2 (F := Ideal) x1 = y
    refine congrArg y (funext fun a => Fin.ext ?_)
    match a with
    | ⟨0, _⟩ => rfl
    | ⟨1, _⟩ => rfl
    | ⟨2, _⟩ => rfl
  rw [e1, e2, e3, e4, v2_at]

theorem sum8_at (c : Fin 4096) : val_main_v127 (F := Ideal) x0 x1 x2 x3 (ix1 c) = tapV x0 x1 x2 x3 8 c := by
  have e1 : val_main_v127 (F := Ideal) x0 x1 x2 x3 (ix1 c) = val_main_v124 (F := Ideal) x0 x1 x2 x3 (ix4 0 0 0 c) := by
    unfold val_main_v127
    generalize val_main_v124 (F := Ideal) x0 x1 x2 x3 = y
    exact unit4_at y _ _ _ (by rw [val_main_cst_19_apply]; exact Ideal.ofBits_zero_f32) c
  have e2 : val_main_v124 (F := Ideal) x0 x1 x2 x3 (ix4 0 0 0 c) = val_main_v123 (F := Ideal) x0 x1 x2 x3 (ix1 c) := by
    rw [val_main_v124_apply]
    generalize val_main_v123 (F := Ideal) x0 x1 x2 x3 = y
    refine congrArg y (funext fun a => Fin.ext ?_)
    have hc := c.isLt
    match a with
    | ⟨0, _⟩ => show ((0 * 1 + 0) * 1 + 0) * 4096 + c.val = c.val; omega
  have e3 : val_main_v123 (F := Ideal) x0 x1 x2 x3 (ix1 c)
      = ∑ b : Fin 2, ∑ r : Fin 2048, val_main_v122 (F := Ideal) x0 x1 x2 x3 (ix4 b (gy r) (gx r) c) := by
    unfold val_main_v123
    generalize val_main_v122 (F := Ideal) x0 x1 x2 x3 = y
    exact grid_at y _ _ _ (by rw [val_main_cst_18_apply]; exact Ideal.ofBits_zero_f32) c
  rw [e1, e2, e3]
  unfold tapV dwAt
  refine Finset.sum_congr rfl fun b _ => Finset.sum_congr rfl fun r _ => ?_
  rw [val_main_v122_apply, v121_at, sl8_at, Ideal.mulf_def]
  exact tap_mul _ _ _

theorem sq8_at (a b : Fin 3) (c : Fin 4096) :
    val_main_v129 (F := Ideal) x0 x1 x2 x3 (ix3 a b c) = if a.val = 2 ∧ b.val = 2 then tapV x0 x1 x2 x3 8 c else 0 := by
  have e1 : val_main_v128 (F := Ideal) x0 x1 x2 x3 (ix3 0 0 c) = val_main_v127 (F := Ideal) x0 x1 x2 x3 (ix1 c) := by
    rw [val_main_v128_apply]
    generalize val_main_v127 (F := Ideal) x0 x1 x2 x3 = y
    refine congrArg y (funext fun a => Fin.ext ?_)
    match a with
    | ⟨0, _⟩ => rfl
  rw [← sum8_at, ← e1]
  unfold val_main_v129
  generalize val_main_v128 (F := Ideal) x0 x1 x2 x3 = y
  exact pad3_at 2 2 _ _ _ y _ (by rw [val_main_cst_20_apply]; exact Ideal.ofBits_zero_f32) a b c

theorem dx8_at (b : Fin 2) (r : Fin 2048) (c : Fin 4096) :
    val_main_v130 (F := Ideal) x0 x1 x2 x3 (ix4 b (py r) (px r) c)
      = if inb 8 (bk 8 r) then x1 (ix4 0 2 2 c) * val_main_v116 (F := Ideal) x0 x1 x2 x3 (ix3 b (bk 8 r) c) else 0 := by
  have e1 : ∀ s : Fin 2048, val_main_v126 (F := Ideal) x0 x1 x2 x3 (ix4 b (gy s) (gx s) c)
      = x1 (ix4 0 2 2 c) * val_main_v116 (F := Ideal) x0 x1 x2 x3 (ix3 b s c) := by
    intro s
    rw [val_main_v126_apply, v121_at, wt8_at, Ideal.mulf_def]
    exact mul_comm _ _
  rw [← e1]
  unfold val_main_v130
  generalize val_main_v126 (F := Ideal) x0 x1 x2 x3 = y
  exact pad4_at 8 2 2 rfl rfl _ _ _ y _ (by rw [val_main_cst_21_apply]; exact Ideal.ofBits_zero_f32) b r c

/-! ## The sums of the nine taps -/

theorem dwSq_at (a b : Fin 3) (c : Fin 4096) :
    val_main_v216 (F := Ideal) x0 x1 x2 x3 (ix3 a b c) = tapV x0 x1 x2 x3 ⟨3 * a.val + b.val, by omega⟩ c := by
  rw [val_main_v216_apply, val_main_v205_apply, val_main_v194_apply, val_main_v183_apply, val_main_v172_apply, val_main_v161_apply, val_main_v150_apply, val_main_v139_apply]
  rw [sq0_at, sq1_at, sq2_at, sq3_at, sq4_at, sq5_at, sq6_at, sq7_at, sq8_at]
  simp only [Ideal.addf_def]
  generalize tapV x0 x1 x2 x3 = T
  have ha := a.isLt
  have hb := b.isLt
  obtain ⟨a, ha'⟩ := a
  obtain ⟨b, hb'⟩ := b
  dsimp only at *
  interval_cases a <;> interval_cases b <;> simp <;> rfl

theorem dw_at (a b : Fin 3) (c : Fin 4096) :
    val_main_v226 (F := Ideal) x0 x1 x2 x3 (ix4 0 a b c) = tapV x0 x1 x2 x3 ⟨3 * a.val + b.val, by omega⟩ c := by
  rw [← dwSq_at, val_main_v226_apply]
  generalize val_main_v216 (F := Ideal) x0 x1 x2 x3 = y
  refine congrArg y (funext fun d => Fin.ext ?_)
  match d with
  | ⟨0, _⟩ => rfl
  | ⟨1, _⟩ => rfl
  | ⟨2, _⟩ => rfl

/-- The taps' weights of a channel. -/
abbrev wAt (c : Fin 4096) (k : Fin 9) : EReal := x1 (ix4 0 ⟨k.val / 3, by omega⟩ ⟨k.val % 3, by omega⟩ c)

theorem dxGrid_at (b : Fin 2) (r : Fin 2048) (c : Fin 4096) :
    val_main_v218 (F := Ideal) x0 x1 x2 x3 (ix4 b (py r) (px r) c)
      = dxAt (wAt x1 c) (fun s => val_main_v116 (F := Ideal) x0 x1 x2 x3 (ix3 b s c)) r := by
  unfold dxAt
  rw [sum9]
  rw [val_main_v218_apply, val_main_v207_apply, val_main_v196_apply, val_main_v185_apply, val_main_v174_apply, val_main_v163_apply, val_main_v152_apply, val_main_v141_apply]
  rw [dx0_at, dx1_at, dx2_at, dx3_at, dx4_at, dx5_at, dx6_at, dx7_at, dx8_at]
  simp only [Ideal.addf_def]
  generalize val_main_v116 (F := Ideal) x0 x1 x2 x3 = y
  have e : ∀ a0 a1 a2 a3 a4 a5 a6 a7 a8 : EReal, a8 + a7 + a6 + a5 + a4 + a3 + a2 + a1 + a0 = a0 + a1 + a2 + a3 + a4 + a5 + a6 + a7 + a8 := by
    intros
    ac_rfl
  exact e _ _ _ _ _ _ _ _ _

/-- The gradient of the gate half. -/
theorem dfg_at (b : Fin 2) (r : Fin 2048) (c : Fin 4096) (i : S4096x4096.Idx) (h0 : (i 0).val = 2048 * b.val + r.val) (h1 : (i 1).val = c.val) :
    val_main_v228 (F := Ideal) x0 x1 x2 x3 i
      = dxAt (wAt x1 c) (fun s => val_main_v116 (F := Ideal) x0 x1 x2 x3 (ix3 b s c)) r := by
  have hb := b.isLt
  have hr := r.isLt
  have hc := c.isLt
  rw [← dxGrid_at, val_main_v228_apply, Ideal.truncf_def]
  have e1 : val_main_v227 (F := Ideal) x0 x1 x2 x3 i = val_main_v225 (F := Ideal) x0 x1 x2 x3 (ix3 b r c) := by
    rw [val_main_v227_apply]
    generalize val_main_v225 (F := Ideal) x0 x1 x2 x3 = y
    refine congrArg y (funext fun a => Fin.ext ?_)
    match a with
    | ⟨0, _⟩ => show ((i 0).val * 4096 + (i 1).val) / 8388608 = b.val; omega
    | ⟨1, _⟩ => show ((i 0).val * 4096 + (i 1).val) / 4096 % 2048 = r.val; omega
    | ⟨2, _⟩ => show ((i 0).val * 4096 + (i 1).val) % 4096 = c.val; omega
  have e2 : val_main_v225 (F := Ideal) x0 x1 x2 x3 (ix3 b r c) = val_main_v223 (F := Ideal) x0 x1 x2 x3 (ix4 b (gy r) (gx r) c) := by
    rw [val_main_v225_apply]
    generalize val_main_v223 (F := Ideal) x0 x1 x2 x3 = y
    refine congrArg y (funext fun a => Fin.ext ?_)
    match a with
    | ⟨0, _⟩ => show ((b.val * 2048 + r.val) * 4096 + c.val) / 8388608 = b.val; omega
    | ⟨1, _⟩ => show ((b.val * 2048 + r.val) * 4096 + c.val) / 262144 % 32 = r.val / 64; omega
    | ⟨2, _⟩ => show ((b.val * 2048 + r.val) * 4096 + c.val) / 4096 % 64 = r.val % 64; omega
    | ⟨3, _⟩ => show ((b.val * 2048 + r.val) * 4096 + c.val) % 4096 = c.val; omega
  rw [e1, e2, val_main_v223_apply, val_main_v220_apply]
  generalize val_main_v218 (F := Ideal) x0 x1 x2 x3 = y
  refine congrArg y (funext fun a => Fin.ext ?_)
  match a with
  | ⟨0, _⟩ => rfl
  | ⟨1, _⟩ => show 1 + r.val / 64 = r.val / 64 + 1; omega
  | ⟨2, _⟩ => show 1 + r.val % 64 = r.val % 64 + 1; omega
  | ⟨3, _⟩ => rfl

/-- The gradient of the value half. -/
theorem dfv_out (b : Fin 2) (r : Fin 2048) (c : Fin 4096) (i : S4096x4096.Idx) (h0 : (i 0).val = 2048 * b.val + r.val) (h1 : (i 1).val = c.val) :
    val_main_v230 (F := Ideal) x0 x1 x2 x3 i = val_main_v103 (F := Ideal) x0 x1 x2 x3 (ix3 b r c) := by
  have hb := b.isLt
  have hr := r.isLt
  have hc := c.isLt
  rw [val_main_v230_apply, Ideal.truncf_def, val_main_v229_apply]
  generalize val_main_v103 (F := Ideal) x0 x1 x2 x3 = y
  refine congrArg y (funext fun a => Fin.ext ?_)
  match a with
  | ⟨0, _⟩ => show ((i 0).val * 4096 + (i 1).val) / 8388608 = b.val; omega
  | ⟨1, _⟩ => show ((i 0).val * 4096 + (i 1).val) / 4096 % 2048 = r.val; omega
  | ⟨2, _⟩ => show ((i 0).val * 4096 + (i 1).val) % 4096 = c.val; omega

/-- The gradient of the bias. -/
theorem db_at (c : Fin 4096) :
    val_main_v120 (F := Ideal) x0 x1 x2 x3 (ix2 0 c) = ∑ b : Fin 2, ∑ r : Fin 2048, val_main_v116 (F := Ideal) x0 x1 x2 x3 (ix3 b r c) := by
  have hc := c.isLt
  have e1 : val_main_v120 (F := Ideal) x0 x1 x2 x3 (ix2 0 c) = val_main_v119 (F := Ideal) x0 x1 x2 x3 (ix1 c) := by
    rw [val_main_v120_apply]
    generalize val_main_v119 (F := Ideal) x0 x1 x2 x3 = y
    refine congrArg y (funext fun a => Fin.ext ?_)
    match a with
    | ⟨0, _⟩ => rfl
  have e2 : val_main_v119 (F := Ideal) x0 x1 x2 x3 (ix1 c) = val_main_v118 (F := Ideal) x0 x1 x2 x3 (ix3 0 0 c) := by
    unfold val_main_v119
    generalize val_main_v118 (F := Ideal) x0 x1 x2 x3 = y
    exact unit3_at y _ _ _ (by rw [val_main_cst_17_apply]; exact Ideal.ofBits_zero_f32) c
  have e3 : val_main_v118 (F := Ideal) x0 x1 x2 x3 (ix3 0 0 c) = val_main_v117 (F := Ideal) x0 x1 x2 x3 (ix1 c) := by
    rw [val_main_v118_apply]
    generalize val_main_v117 (F := Ideal) x0 x1 x2 x3 = y
    refine congrArg y (funext fun a => Fin.ext ?_)
    match a with
    | ⟨0, _⟩ => show (0 * 1 + 0) * 4096 + c.val = c.val; omega
  rw [e1, e2, e3]
  unfold val_main_v117
  generalize val_main_v116 (F := Ideal) x0 x1 x2 x3 = y
  exact rows_at y _ _ _ (by rw [val_main_cst_16_apply]; exact Ideal.ofBits_zero_f32) c

end Cert.ReferenceIdeal.Ffn

end
-- ==== Proof.FfnRows.lean ====
module

public import proofs.«01_k».proof.Proof.FfnArray
public import proofs.«01_k».proof.Proof.FfnHost
public import proofs.«01_k».proof.Proof.FfnBlock
public import proofs.«01_k».proof.Proof.FfnRefTaps

@[expose] public section

set_option maxRecDepth 16384

noncomputable section

namespace Cert.KernelIdeal.Ffn

open Cert.KernelIdeal.Gen
open Idealize.ShloMosaic Idealize.ShloMosaic.TcCoe Idealize.ShloMosaic.Tactic
open Idealize.ShloMosaic.Pipeline (Dat Cfg Window BodyObligation cellOf)
open Cert.ReferenceIdeal.Ffn (hiCol loCol wAt)

variable (m : (ℓ : Loc nD τ sig) → Buf (Elt Ideal) ℓ)

/-! ## The arguments on a device -/

abbrev X0 (c : Dev nD) : Vec Ideal S2x2048x8192 .f32 := m ((c : Thread nD τ).loc main_arg0)
abbrev X1 (c : Dev nD) : Vec Ideal S1x3x3x4096 .f32 := m ((c : Thread nD τ).loc main_arg1)
abbrev X2 (c : Dev nD) : Vec Ideal S1x4096 .f32 := m ((c : Thread nD τ).loc main_arg2)
abbrev X3 (c : Dev nD) : Vec Ideal S2x2048x4096 .f32 := m ((c : Thread nD τ).loc main_arg3)

theorem V_after (c : Dev nD) (b : Ref sig .tc) : V m c b = StableHlo.after hostOps0 (fun b => m (c, b)) (Proc.devRef .tc b) := by
  show StableHlo.after (List.flatten [hostOps0]) (fun b => m (c, b)) (Proc.devRef .tc b) = _
  rw [List.flatten_cons, List.flatten_nil, List.append_nil]

theorem V76 (c : Dev nD) : V m c main_v76 = shapeCast S4096x8192 (X0 m c) shapeCasts_S2x2048x8192_S4096x8192 :=
  (V_after m c main_v76).trans (host_v76 (fun b => m (c, b)))
theorem V78 (c : Dev nD) : V m c main_v78 = shapeCast S9x4096 (X1 m c) shapeCasts_S1x3x3x4096_S9x4096 :=
  (V_after m c main_v78).trans (host_v78 (fun b => m (c, b)))
theorem V79 (c : Dev nD) : V m c main_v79 = shapeCast S4096x4096 (X3 m c) shapeCasts_S2x2048x4096_S4096x4096 :=
  (V_after m c main_v79).trans (host_v79 (fun b => m (c, b)))
theorem V77 (c : Dev nD) : V m c main_v77
    = shapeCast S4096x4096 (Cert.ReferenceIdeal.Read.val_main_v80 (F := Ideal) (X0 m c) (X1 m c) (X2 m c)) shapeCasts_S2x2048x4096_S4096x4096 :=
  (V_after m c main_v77).trans (host_v77 (fun b => m (c, b)))

/-! ## The flattened arrays at a place -/

theorem flat8_at (x : Vec Ideal S2x2048x8192 .f32) (b : Fin 2) (r : Fin 2048) (e : Fin 8192) (i : Fin 4096) (hi : i.val = b.val * 2048 + r.val) :
    (shapeCast S4096x8192 x shapeCasts_S2x2048x8192_S4096x8192 : Vec Ideal S4096x8192 .f32) (ix2 i e) = x (ix3 b r e) :=
  shapeCast_apply x _ _ _ (by
    rewrite [Shape.rowMajor_val_three, Shape.rowMajor_val_two]
    show (b.val * 2048 + r.val) * 8192 + e.val = i.val * 8192 + e.val
    rw [hi])
theorem flat4_at (x : Vec Ideal S2x2048x4096 .f32) (b : Fin 2) (r : Fin 2048) (e : Fin 4096) (i : Fin 4096) (hi : i.val = b.val * 2048 + r.val) :
    (shapeCast S4096x4096 x shapeCasts_S2x2048x4096_S4096x4096 : Vec Ideal S4096x4096 .f32) (ix2 i e) = x (ix3 b r e) :=
  shapeCast_apply x _ _ _ (by
    rewrite [Shape.rowMajor_val_three, Shape.rowMajor_val_two]
    show (b.val * 2048 + r.val) * 4096 + e.val = i.val * 4096 + e.val
    rw [hi])
theorem flatW_at (x : Vec Ideal S1x3x3x4096 .f32) (k : Fin 9) (e : Fin 4096) :
    (shapeCast S9x4096 x shapeCasts_S1x3x3x4096_S9x4096 : Vec Ideal S9x4096 .f32) (ix2 k e) = wAt x e k :=
  shapeCast_apply x _ _ _ (by
    rewrite [Shape.rowMajor_val_four, Shape.rowMajor_val_two]
    show ((0 * 3 + k.val / 3) * 3 + k.val % 3) * 4096 + e.val = k.val * 4096 + e.val
    omega)

/-! ## The blocks of a point out of the arguments -/

/-- The image of a point. -/
abbrev im (t : Fin cfg0.N) : Fin 2 := ⟨t.val % 2, by omega⟩

theorem gate_at (c : Dev nD) (t : Fin cfg0.N) (r : Fin 2048) (l : Fin 256) :
    (iblk m c 0 t : Vec Ideal S2048x256 .f32) (ix2 r l) = X0 m c (ix3 (im t) r (loCol (gc t l))) := by
  rw [blk0_at, V76]
  exact flat8_at (X0 m c) (im t) r _ _ rfl

theorem value_at (c : Dev nD) (t : Fin cfg0.N) (r : Fin 2048) (l : Fin 256) :
    (iblk m c 1 t : Vec Ideal S2048x256 .f32) (ix2 r l) = X0 m c (ix3 (im t) r (hiCol (gc t l))) := by
  rw [blk1_at, V76]
  refine (flat8_at (X0 m c) (im t) r _ _ rfl).trans (congrArg (fun e => X0 m c (ix3 (im t) r e)) (Fin.ext ?_))
  show (16 + t.val / 2) * 256 + l.val = 4096 + (t.val / 2 * 256 + l.val)
  omega

theorem weight_at (c : Dev nD) (t : Fin cfg0.N) (k : Fin 9) (l : Fin 256) :
    (iblk m c 2 t : Vec Ideal S9x256 .f32) (ix2 k l) = wAt (X1 m c) (gc t l) k := by
  rw [blk2_at, V78]
  exact flatW_at (X1 m c) k _

theorem pre_at (c : Dev nD) (t : Fin cfg0.N) (r : Fin 2048) (l : Fin 256) :
    (iblk m c 3 t : Vec Ideal S2048x256 .f32) (ix2 r l)
      = Cert.ReferenceIdeal.Read.val_main_v80 (F := Ideal) (X0 m c) (X1 m c) (X2 m c) (ix3 (im t) r (gc t l)) := by
  rw [blk3_at, V77]
  exact flat4_at _ (im t) r _ _ rfl

theorem ct_at (c : Dev nD) (t : Fin cfg0.N) (r : Fin 2048) (l : Fin 256) :
    (iblk m c 4 t : Vec Ideal S2048x256 .f32) (ix2 r l) = X3 m c (ix3 (im t) r (gc t l)) := by
  rw [blk4_at, V79]
  exact flat4_at (X3 m c) (im t) r _ _ rfl

/-- The gradient at the gate's input, as both programs have it. -/
abbrev dPre (c : Dev nD) : Vec Ideal S2x2048x4096 .f32 := Cert.ReferenceIdeal.Read.val_main_v116 (F := Ideal) (X0 m c) (X1 m c) (X2 m c) (X3 m c)

theorem dPre_at (c : Dev nD) (t : Fin cfg0.N) (r : Fin 2048) (l : Fin 256) :
    dpS ((iblk m c 3 t : Vec Ideal S2048x256 .f32) (ix2 r l)) ((iblk m c 4 t : Vec Ideal S2048x256 .f32) (ix2 r l)) ((iblk m c 1 t : Vec Ideal S2048x256 .f32) (ix2 r l))
      = dPre m c (ix3 (im t) r (gc t l)) := by
  rw [pre_at, ct_at, value_at]
  exact (Cert.ReferenceIdeal.Ffn.dp_at (X0 m c) (X1 m c) (X2 m c) (X3 m c) (im t) r (gc t l)).symm

/-! ## The sums of a point -/

theorem addW_at (c : Dev nD) (t : Fin cfg0.N) (k : Fin 9) (l : Fin 256) :
    addW (iblk m c 3 t) (iblk m c 4 t) (iblk m c 1 t) (iblk m c 0 t) k l
      = dwAt k (fun r => dPre m c (ix3 (im t) r (gc t l))) (fun r => X0 m c (ix3 (im t) r (loCol (gc t l)))) := by
  unfold addW
  exact congrArg₂ (dwAt k) (funext fun r => dPre_at m c t r l) (funext fun r => gate_at m c t r l)

theorem addB_at (c : Dev nD) (t : Fin cfg0.N) (l : Fin 256) :
    addB (iblk m c 3 t) (iblk m c 4 t) (iblk m c 1 t) l = ∑ r : Fin 2048, dPre m c (ix3 (im t) r (gc t l)) := by
  unfold addB
  exact Finset.sum_congr rfl fun r _ => dPre_at m c t r l

end Cert.KernelIdeal.Ffn

end
-- ==== Proof.FfnFinal.lean ====
module

public import proofs.«01_k».proof.Proof.FfnRows

@[expose] public section

set_option maxRecDepth 16384

noncomputable section

namespace Cert.KernelIdeal.Ffn

open Cert.KernelIdeal.Gen
open Idealize.ShloMosaic Idealize.ShloMosaic.TcCoe Idealize.ShloMosaic.Tactic
open Cert.ReferenceIdeal.Ffn (hiCol loCol wAt tapV)

variable (m : (ℓ : Loc nD τ sig) → Buf (Elt Ideal) ℓ)

/-! ## The four results -/

/-- The gradient of the gate half is the reference's. -/
theorem arrG_eq (c : Dev nD) :
    arrG m c = (Cert.ReferenceIdeal.Read.val_main_v228 (F := Ideal) (X0 m c) (X1 m c) (X2 m c) (X3 m c) : Vec Ideal S4096x4096 .bf16) := by
  funext i
  have h0 : (i 0).val < 4096 := (i 0).isLt
  have h1 : (i 1).val < 4096 := (i 1).isLt
  refine (gradG_at m c (ptOf i) ⟨(i 0).val % 2048, by omega⟩ ⟨(i 1).val % 256, by omega⟩).trans ?_
  rw [Cert.ReferenceIdeal.Ffn.dfg_at (X0 m c) (X1 m c) (X2 m c) (X3 m c) (im (ptOf i)) ⟨(i 0).val % 2048, by omega⟩
    (gc (ptOf i) ⟨(i 1).val % 256, by omega⟩) i
    (by show (i 0).val = 2048 * (((i 1).val / 256 * 2 + (i 0).val / 2048) % 2) + (i 0).val % 2048; omega)
    (by show (i 1).val = ((i 1).val / 256 * 2 + (i 0).val / 2048) / 2 * 256 + (i 1).val % 256; omega)]
  exact congrArg₂ (fun w d => dxAt w d _) (funext fun k => weight_at m c (ptOf i) k _) (funext fun r => dPre_at m c (ptOf i) r _)

/-- The gradient of the value half is the reference's. -/
theorem arrV_eq (c : Dev nD) :
    arrV m c = (Cert.ReferenceIdeal.Read.val_main_v230 (F := Ideal) (X0 m c) (X1 m c) (X2 m c) (X3 m c) : Vec Ideal S4096x4096 .bf16) := by
  funext i
  have h0 : (i 0).val < 4096 := (i 0).isLt
  have h1 : (i 1).val < 4096 := (i 1).isLt
  refine (gradV_at m c (ptOf i) ⟨(i 0).val % 2048, by omega⟩ ⟨(i 1).val % 256, by omega⟩).trans ?_
  rw [Cert.ReferenceIdeal.Ffn.dfv_out (X0 m c) (X1 m c) (X2 m c) (X3 m c) (im (ptOf i)) ⟨(i 0).val % 2048, by omega⟩
    (gc (ptOf i) ⟨(i 1).val % 256, by omega⟩) i
    (by show (i 0).val = 2048 * (((i 1).val / 256 * 2 + (i 0).val / 2048) % 2) + (i 0).val % 2048; omega)
    (by show (i 1).val = ((i 1).val / 256 * 2 + (i 0).val / 2048) / 2 * 256 + (i 1).val % 256; omega),
    Cert.ReferenceIdeal.Ffn.dfv_at, pre_at, ct_at]

/-! ### The accumulators -/

/-- The odd point of the strip of columns that holds a channel. -/
abbrev ptC (e : Fin 4096) : Fin cfg0.N := ⟨e.val / 256 * 2 + 1, by rw [N32]; omega⟩
abbrev inC (e : Fin 4096) : Fin 256 := ⟨e.val % 256, by omega⟩

theorem odd_ptC (e : Fin 4096) : ¬ (ptC e).val % 2 = 0 := by
  show ¬ (e.val / 256 * 2 + 1) % 2 = 0
  omega
theorem im_ptC (e : Fin 4096) : im (ptC e) = 1 := Fin.ext (by show (e.val / 256 * 2 + 1) % 2 = 1; omega)
theorem im_prev (e : Fin 4096) : im (prev (ptC e)) = 0 := Fin.ext (by show (e.val / 256 * 2 + 1 - 1) % 2 = 0; omega)
theorem gc_ptC (e : Fin 4096) : gc (ptC e) (inC e) = e := Fin.ext (by show (e.val / 256 * 2 + 1) / 2 * 256 + e.val % 256 = e.val; omega)
theorem gc_prev (e : Fin 4096) : gc (prev (ptC e)) (inC e) = e := Fin.ext (by show (e.val / 256 * 2 + 1 - 1) / 2 * 256 + e.val % 256 = e.val; omega)

theorem accTap_at (c : Dev nD) (k : Fin 9) (e : Fin 4096) :
    acc m c (ptC e) (ix2 (tr k) (inC e)) = tapV (X0 m c) (X1 m c) (X2 m c) (X3 m c) k e := by
  rw [acc_tap m c (ptC e) (odd_ptC e) k (inC e), addW_at, addW_at, im_ptC, im_prev, gc_ptC, gc_prev]
  unfold tapV
  rw [Fin.sum_univ_two]

theorem accBias_at (c : Dev nD) (e : Fin 4096) :
    acc m c (ptC e) (ix2 br (inC e)) = ∑ b : Fin 2, ∑ r : Fin 2048, dPre m c (ix3 b r e) := by
  rw [acc_bias m c (ptC e) (odd_ptC e) (inC e), addB_at, addB_at, im_ptC, im_prev, gc_ptC, gc_prev, Fin.sum_univ_two]

/-- The gradient of the taps' weights is the reference's. -/
theorem W82_ref (c : Dev nD) : W m c main_v82
    = (Cert.ReferenceIdeal.Read.val_main_v226 (F := Ideal) (X0 m c) (X1 m c) (X2 m c) (X3 m c) : Vec Ideal S1x3x3x4096 .f32) := by
  rw [W82_eq]
  funext i
  have h0 : (i 0).val < 1 := (i 0).isLt
  have h1 : (i 1).val < 3 := (i 1).isLt
  have h2 : (i 2).val < 3 := (i 2).isLt
  have h3 : (i 3).val < 4096 := (i 3).isLt
  have hi : i = ix4 0 (⟨(i 1).val, h1⟩ : Fin 3) (⟨(i 2).val, h2⟩ : Fin 3) (⟨(i 3).val, h3⟩ : Fin 4096) := funext fun a => Fin.ext (by
    match a with
    | ⟨0, _⟩ => show (i 0).val = 0; omega
    | ⟨1, _⟩ => rfl
    | ⟨2, _⟩ => rfl
    | ⟨3, _⟩ => rfl)
  generalize (⟨(i 1).val, h1⟩ : Fin 3) = a at hi
  generalize (⟨(i 2).val, h2⟩ : Fin 3) = b at hi
  generalize (⟨(i 3).val, h3⟩ : Fin 4096) = e at hi
  subst hi
  refine Eq.trans ?_ ((accTap_at m c ⟨3 * a.val + b.val, by omega⟩ e).trans (Cert.ReferenceIdeal.Ffn.dw_at (X0 m c) (X1 m c) (X2 m c) (X3 m c) a b e).symm)
  refine (shapeCast_apply _ _ (ix4 0 a b e : S1x3x3x4096.Idx) (ix2 (⟨3 * a.val + b.val, by omega⟩ : Fin 9) e : S9x4096.Idx) (by
    rewrite [Shape.rowMajor_val_two, Shape.rowMajor_val_four]
    show (3 * a.val + b.val) * 4096 + e.val = ((0 * 3 + a.val) * 3 + b.val) * 4096 + e.val
    omega)).trans ?_
  refine (extractStridedSlice_apply _ _ _ _ (ix2 (tr ⟨3 * a.val + b.val, by omega⟩) e : S16x4096.Idx) fun d => ?_).trans ?_
  · match d with
    | ⟨0, _⟩ => show 3 * a.val + b.val = 0 + (3 * a.val + b.val); omega
    | ⟨1, _⟩ => show e.val = 0 + e.val; omega
  · rfl

/-- The gradient of the bias is the reference's. -/
theorem W83_ref (c : Dev nD) : W m c main_v83
    = (Cert.ReferenceIdeal.Read.val_main_v120 (F := Ideal) (X0 m c) (X1 m c) (X2 m c) (X3 m c) : Vec Ideal S1x4096 .f32) := by
  rw [W83_eq]
  funext i
  have h0 : (i 0).val < 1 := (i 0).isLt
  have h1 : (i 1).val < 4096 := (i 1).isLt
  have hi : i = ix2 0 (⟨(i 1).val, h1⟩ : Fin 4096) := funext fun a => Fin.ext (by
    match a with
    | ⟨0, _⟩ => show (i 0).val = 0; omega
    | ⟨1, _⟩ => rfl)
  generalize (⟨(i 1).val, h1⟩ : Fin 4096) = e at hi
  subst hi
  refine Eq.trans ?_ ((accBias_at m c e).trans (Cert.ReferenceIdeal.Ffn.db_at (X0 m c) (X1 m c) (X2 m c) (X3 m c) e).symm)
  refine (extractStridedSlice_apply _ _ _ _ (ix2 br e : S16x4096.Idx) fun d => ?_).trans ?_
  · match d with
    | ⟨0, _⟩ => rfl
    | ⟨1, _⟩ => show e.val = 0 + e.val; omega
  · rfl

end Cert.KernelIdeal.Ffn

end
-- ==== Proof.FfnClaim.lean ====
module

public import proofs.«01_k».proof.Proof.FfnFinal
public import proofs.«01_k».proof.Proof.FfnRun
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

/-! ## The reference's run -/

namespace Cert.ReferenceIdeal.Ffn

open Cert.ReferenceIdeal Cert.ReferenceIdeal.Gen Cert.ReferenceIdeal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2.2, sem_eq_zero_of_no_sems rfl r.2⟩) (Cert.ReferenceIdeal.Value.run m ρ)

/-- The four results as the named values of the arguments. -/
theorem run : θ_run (defs (F := Ideal)) (onTc (τ := τ) (main (F := Ideal))) ⟨m, fun _ => 0, ρ⟩ (fun r => ∀ c : Dev nD,
      r.2.mem ((c.tc : Thread nD τ).loc main_v228) = val_main_v228 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v230) = val_main_v230 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v226) = val_main_v226 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v120) = val_main_v120 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h c).1.trans (val_main_v228_eq (StableHlo.launchContents m c)), (h c).2.1.trans (val_main_v230_eq (StableHlo.launchContents m c)),
    (h c).2.2.1.trans (val_main_v226_eq (StableHlo.launchContents m c)), (h c).2.2.2.1.trans (val_main_v120_eq (StableHlo.launchContents m c)), (h c).2.2.2.2⟩)
    (Cert.ReferenceIdeal.Value.run m ρ)

end Cert.ReferenceIdeal.Ffn

/-! ## The kernel's run -/

namespace Cert.KernelIdeal.Ffn

open Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- The four results are the reference's named values of the arguments. -/
theorem run_values : θ_run (defs (F := Ideal)) (onTc (τ := τ) (main (F := Ideal))) ⟨m, fun _ => 0, ρ⟩ (fun r => ∀ c : Dev nD,
      r.2.mem ((c.tc : Thread nD τ).loc main_v80_0) = (val_main_v228 (F := Ideal) (X0 m c) (X1 m c) (X2 m c) (X3 m c) : Vec Ideal S4096x4096 .bf16)
      ∧ r.2.mem ((c.tc : Thread nD τ).loc main_v80_1) = (val_main_v230 (F := Ideal) (X0 m c) (X1 m c) (X2 m c) (X3 m c) : Vec Ideal S4096x4096 .bf16)
      ∧ r.2.mem ((c.tc : Thread nD τ).loc main_v82) = (val_main_v226 (F := Ideal) (X0 m c) (X1 m c) (X2 m c) (X3 m c) : Vec Ideal S1x3x3x4096 .f32)
      ∧ r.2.mem ((c.tc : Thread nD τ).loc main_v83) = (val_main_v120 (F := Ideal) (X0 m c) (X1 m c) (X2 m c) (X3 m c) : Vec Ideal S1x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h.1 c).1.trans ((finalG m c).trans (arrG_eq m c)), (h.1 c).2.1.trans ((finalV m c).trans (arrV_eq m c)),
    (h.1 c).2.2.1.trans (W82_ref m c), (h.1 c).2.2.2.trans (W83_ref m c), h.2.1 c⟩)
    (θ_run_and (results m ρ) (frame m ρ))

end Cert.KernelIdeal.Ffn

end
-- ==== Proof.DownRun.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.WritesUnit
public import Idealize.ShloMosaic.Lib.Pipeline.ValueKit.Basic
public import Idealize.ShloMosaic.Lib.Quiescent
public import Idealize.ShloMosaic.Lib.StableHlo.RunRead

@[expose] public section

set_option maxRecDepth 16384

noncomputable section

namespace Cert.Kernel2Ideal.Down

open Cert.Kernel2Ideal.Gen Cert.Kernel2Ideal.Value
open Idealize.ShloMosaic Idealize.ShloMosaic.TcCoe Idealize.ShloMosaic.Tactic

section Words

variable {F : FTy → Type} [FloatOps F]

/-! ## What a point leaves, as the payloads of its two blocks -/

theorem left_first (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : ¬cond0_1 i)
    (x0 : Vec F S2048x1024 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : ¬cond0_0 i) (hc1 : cond0_1 i)
    (x0 : Vec F S2048x1024 .bf16) (x1 : Vec F S2048x1024 .bf16) (xs : Vec F S1024x1024 .f32) :
    out0_B_2 c i a0 h0 a1 h1 a2 h2 a3 h3 hc0 hc1 x0 x1 xs = k0_pay2 x1 xs x0 := by
  unfold out0_B_2
  rw [View.read_writes_eq_canon VO0_2 _ _ (cover0_B_2 c i a0 h0 a1 h1 a2 h2 a3 h3 hc0 hc1 x0 x1 xs)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (j : S1024x1024.Idx) : k0_pay1 (F := Ideal) j = 0 := by
  pointwise [k0_pay1]

theorem pay2_at (b : Vec Ideal S2048x1024 .bf16) (z : Vec Ideal S1024x1024 .f32) (a : Vec Ideal S2048x1024 .bf16) (r l : Fin 1024) :
    k0_pay2 (F := Ideal) b z a (ix2 r l) = z (ix2 r l) + ∑ k : Fin 2048, a (ix2 k r) * b (ix2 k l) := by
  pointwise [k0_pay2]

variable (m : (ℓ : Loc nD τ sig) → Buf (Elt Ideal) ℓ)

/-- The two factors' arrays as the product finds them. -/
def opA (c : Dev nD) : S4096x4096.Idx → EReal := V m c main_v1
def opB (c : Dev nD) : S4096x1024.Idx → EReal := V m c main_v3

/-! ## The host lines before the product -/

theorem arr0 (c : Dev nD) : opA m c = fun i => (shapeCast S4096x4096 (m ((c : Thread nD τ).loc main_arg0)) shapeCasts_S2x2048x4096_S4096x4096 : Vec Ideal S4096x4096 .f32) i := by
  unfold opA V
  after_reads_simp
  rfl

theorem arr1 (c : Dev nD) : opB m c = fun i => (shapeCast S4096x1024 (m ((c : Thread nD τ).loc main_arg1)) shapeCasts_S2x2048x1024_S4096x1024 : Vec Ideal S4096x1024 .f32) i := by
  unfold opB V
  after_reads_simp
  rfl

/-! ## The blocks -/

theorem idx0 : ∀ t : Fin cfg0.N, win0_0.index t (0 : Fin 2) = t.val % 2 ∧ win0_0.index t (1 : Fin 2) = t.val / 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

theorem blk0_at (c : Dev nD) (t : Fin cfg0.N) (k : Fin 2048) (r : Fin 1024) (x : Fin 4096) (y : Fin 4096) (hx : x.val = t.val % 2 * 2048 + k.val) (hy : y.val = t.val / 2 * 1024 + r.val) :
    (iblk m c 0 t : Vec Ideal S2048x1024 .bf16) (ix2 k r) = opA m c (ix2 x y) := by
  unfold iblk opA
  rw [View.read_apply]
  generalize V m c main_v1 = A
  refine congrArg A (funext fun a => Fin.ext ?_)
  match a with
  | ⟨0, _⟩ =>
    have h : (((cfg0.win 0).blk t).view.emb (ix2 k r) (0 : Fin 2)).val = win0_0.index t 0 * 2048 + 1 * k.val := rfl
    rw [(idx0 t).1, Nat.one_mul] at h
    exact h.trans hx.symm
  | ⟨1, _⟩ =>
    have h : (((cfg0.win 0).blk t).view.emb (ix2 k r) (1 : Fin 2)).val = win0_0.index t 1 * 1024 + 1 * r.val := rfl
    rw [(idx0 t).2, Nat.one_mul] at h
    exact h.trans hy.symm

theorem blk1_at (c : Dev nD) (t : Fin cfg0.N) (k : Fin 2048) (l : Fin 1024) (x : Fin 4096) (y : Fin 1024) (hx : x.val = t.val % 2 * 2048 + k.val) (hy : y.val = l.val) :
    (iblk m c 1 t : Vec Ideal S2048x1024 .bf16) (ix2 k l) = opB m c (ix2 x y) := by
  unfold iblk opB
  rw [View.read_apply]
  generalize V m c main_v3 = A
  refine congrArg A (funext fun a => Fin.ext ?_)
  match a with
  | ⟨0, _⟩ =>
    have h : (((cfg0.win 1).blk t).view.emb (ix2 k l) (0 : Fin 2)).val = win0_1.index t 0 * 2048 + 1 * k.val := rfl
    rw [(idx1 t).1, Nat.one_mul] at h
    exact h.trans hx.symm
  | ⟨1, _⟩ =>
    have h : (((cfg0.win 1).blk t).view.emb (ix2 k l) (1 : Fin 2)).val = win0_1.index t 1 * 1024 + 1 * l.val := rfl
    rw [(idx1 t).2, Nat.zero_mul, Nat.zero_add, Nat.one_mul] at h
    exact h.trans hy.symm

/-! ## The array's place -/

/-- A sum over two runs of rows is the sum over all of them. -/
theorem two_runs (g : Fin 4096 → EReal) (f0 f1 : Fin 2048 → EReal) (h0 : ∀ k x, x.val = k.val → f0 k = g x) (h1 : ∀ k x, x.val = 2048 + k.val → f1 k = g x) :
    (∑ k : Fin 2048, f0 k) + ∑ k : Fin 2048, f1 k = ∑ k : Fin 4096, g k := by
  rw [show (∑ k : Fin 4096, g k) = ∑ k : Fin (2048 + 2048), g k from rfl, Fin.sum_univ_add]
  exact congrArg₂ (· + ·) (Finset.sum_congr rfl fun k _ => h0 k _ rfl) (Finset.sum_congr rfl fun k _ => h1 k _ rfl)

/-- The product's array after the run. -/
def res (c : Dev nD) : S4096x1024.Idx → EReal := G2 m c

theorem res_at (c : Dev nD) (x : Fin 4096) (y : Fin 1024) :
    res m c (ix2 x y) = ∑ k : Fin 4096, opA m c (ix2 k x) * opB m c (ix2 k y) := by
  have hx : x.val < 4096 := x.isLt
  have hy : y.val < 1024 := y.isLt
  have hN : cfg0.N = 8 := N_0
  have hp : pt2Of (ix2 x y) = 2 * (x.val / 1024) + 1 := by
    show 2 * (1 * (x.val / 1024 - 0) + 1 * (y.val / 1024 - 0)) + 1 = _
    omega
  have hlt : 2 * (x.val / 1024) + 1 < cfg0.N := by omega
  have hlt' : 2 * (x.val / 1024) < cfg0.N := by omega
  have hl : loc2Of (ix2 x y) = ix2 (⟨x.val % 1024, Nat.mod_lt _ (by decide)⟩ : Fin 1024) (⟨y.val % 1024, Nat.mod_lt _ (by decide)⟩ : Fin 1024) :=
    funext fun a => match a with
      | ⟨0, _⟩ => rfl
      | ⟨1, _⟩ => rfl
  unfold res G2
  rw [dif_pos (show pt2Of (ix2 x y) < cfg0.N by rw [hp]; exact hlt), ← outsAt0_sweep m c _ (show pt2Of (ix2 x y) < cfg0.N by rw [hp]; exact hlt), hl]
  have e : ∀ (n n' : ℕ) (h : n < cfg0.N) (h' : n' < cfg0.N), n = n' → outsAt0 m c n h = outsAt0 m c n' h' := by
    intro n n' h h' he; subst he; rfl
  rw [e _ (2 * (x.val / 1024) + 1) _ hlt hp]
  have eB := outsAt0_B m c ⟨2 * (x.val / 1024) + 1, hlt⟩ (by dsimp only; omega) (by dsimp only; omega)
  dsimp only at eB
  rw [eB]
  dsimp only
  rw [left_last]
  have eA := outsAt0_A m c ⟨2 * (x.val / 1024), hlt'⟩ (by dsimp only; omega) (by dsimp only; omega)
  dsimp only at eA
  rw [e (2 * (x.val / 1024) + 1 - 1) (2 * (x.val / 1024)) _ hlt' (by omega), eA]
  dsimp only
  rw [left_first, pay2_at, pay2_at, pay1_at, zero_add]
  refine two_runs (fun k => opA m c (ix2 k x) * opB m c (ix2 k y)) _ _ ?_ ?_
  · intro k z hz
    rw [blk0_at m c _ k _ z x (by dsimp only; omega) (by dsimp only; omega), blk1_at m c _ k _ z y (by dsimp only; omega) (by dsimp only; omega)]
  · intro k z hz
    rw [blk0_at m c _ k _ z x (by dsimp only; omega) (by dsimp only; omega), blk1_at m c _ k _ z y (by dsimp only; omega) (by dsimp only; omega)]

/-! ## The run -/

open Cert.Reference2Ideal.Read

theorem G2_ref (c : Dev nD) : G2 m c = (val_main_v5 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v5_apply, val_main_v4_apply]
  refine (res_at m c x y).trans ?_
  rw [arr0, arr1]
  refine Finset.sum_congr rfl fun k _ => ?_
  unfold val_main_v0 val_main_v1
  rw [mul_comm]
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

end Cert.Kernel2Ideal.Down

/-! ## The reference's run, and the two together -/

namespace Cert.Reference2Ideal.Down

open Cert.Reference2Ideal Cert.Reference2Ideal.Gen Cert.Reference2Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference2Ideal.Value.run m ρ)

end Cert.Reference2Ideal.Down

namespace Cert

open Idealize.ShloMosaic Idealize.ShloMosaic.TcCoe Idealize.SL.Sem

theorem algebraic2 : algebraic_Kernel2Ideal_Reference2Ideal (hKernel2Ideal := Cert.Kernel2Ideal.Gen.facts) (hReference2Ideal := Cert.Reference2Ideal.Gen.facts) := by
  intro m g m' g' hpre hargs
  refine ⟨fun c => Cert.Kernel2Ideal.Value.G2 m c, Cert.Kernel2Ideal.Value.run m g, ?_⟩
  refine (θ_run _ _ _).mono (fun r h c => ⟨?_, (h c).2⟩) (Cert.Reference2Ideal.Value.run m' g')
  show _ = Cert.Kernel2Ideal.Value.G2 m c
  rw [Cert.Kernel2Ideal.Down.G2_ref, ← (hargs c).1, ← (hargs c).2]
  exact (h c).1

end Cert

end
-- ==== Proof.Mm3.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.WritesUnit
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead

@[expose] public section

set_option maxRecDepth 16384

noncomputable section

namespace Cert.Kernel3Ideal.Downx

open Cert.Kernel3Ideal.Gen Cert.Kernel3Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S2048x1024 .bf16) (h1 : a1.IsWhole) (a2 : Memref sig .tc .vmem S1024x2048 .f32) (h2 : a2.IsWhole) (a3 : Memref sig .tc .vmem S1024x2048 .f32) (h3 : a3.IsWhole) (hc0 : cond0_0 i) (hc1 : cond0_1 i)
    (x0 : Vec F S1024x1024 .bf16) (x1 : Vec F S2048x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 2048) : k0_pay1 (F := Ideal) (ix2 r l) = 0 := by
  pointwise [k0_pay1]

theorem pay2_at (b : Vec Ideal S2048x1024 .bf16) (z : Vec Ideal S1024x2048 .f32) (a : Vec Ideal S1024x1024 .bf16) (r : Fin 1024) (l : Fin 2048) :
    k0_pay2 (F := Ideal) b z a (ix2 r l) = z (ix2 r l) + ∑ k : Fin 1024, a (ix2 r k) * b (ix2 l k) := by
  pointwise [k0_pay2]

variable (m : (ℓ : Loc nD τ sig) → Buf (Elt Ideal) ℓ) (ρ : Dev nD → PrngReg)

/-- The two factors' arrays as the product finds them, and the weight. -/
def opA (c : Dev nD) : S4096x1024.Idx → EReal := V m c main_v1
def opB (c : Dev nD) : S4096x1024.Idx → EReal := V m c main_v2
def wt (c : Dev nD) : S4096x1024.Idx → EReal := m ((c : Thread nD τ).loc main_arg1)

/-! ## The host lines before the product -/

theorem arr0 (c : Dev nD) : opA m c = fun i => (shapeCast S4096x1024 (m ((c : Thread nD τ).loc main_arg0)) shapeCasts_S2x2048x1024_S4096x1024 : Vec Ideal S4096x1024 .f32) i := by
  unfold opA V
  after_reads_simp
  rfl

theorem arr1 (c : Dev nD) : opB m c = wt m c := by
  unfold opB V wt
  after_reads_simp
  rfl

/-! ## The blocks -/

theorem idx0 : ∀ t : Fin cfg0.N, win0_0.index t (0 : Fin 2) = t.val / 2 ∧ win0_0.index t (1 : Fin 2) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

theorem blk0_at (c : Dev nD) (t : Fin cfg0.N) (r k : Fin 1024) (x : Fin 4096) (hx : x.val = t.val / 2 * 1024 + r.val) :
    (iblk m c 0 t : Vec Ideal S1024x1024 .bf16) (ix2 r k) = opA m c (ix2 x k) := by
  unfold iblk opA
  rw [View.read_apply]
  generalize V m c main_v1 = A
  refine congrArg A (funext fun a => Fin.ext ?_)
  match a with
  | ⟨0, _⟩ =>
    have h : (((cfg0.win 0).blk t).view.emb (ix2 r k) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r k) (1 : Fin 2)).val = win0_0.index t 1 * 1024 + 1 * k.val := rfl
    rw [(idx0 t).2] at h
    exact h.trans (by show _ = k.val; omega)

theorem blk1_at (c : Dev nD) (t : Fin cfg0.N) (l : Fin 2048) (k : Fin 1024) (y : Fin 4096) (hy : y.val = t.val % 2 * 2048 + l.val) :
    (iblk m c 1 t : Vec Ideal S2048x1024 .bf16) (ix2 l k) = wt m c (ix2 y k) := by
  rw [← arr1]
  unfold iblk opB
  rw [View.read_apply]
  generalize V m c main_v2 = A
  refine congrArg A (funext fun a => Fin.ext ?_)
  match a with
  | ⟨0, _⟩ =>
    have h : (((cfg0.win 1).blk t).view.emb (ix2 l k) (0 : Fin 2)).val = win0_1.index t 0 * 2048 + 1 * l.val := rfl
    rw [(idx1 t).1, Nat.one_mul] at h
    exact h.trans hy.symm
  | ⟨1, _⟩ =>
    have h : (((cfg0.win 1).blk t).view.emb (ix2 l k) (1 : Fin 2)).val = win0_1.index t 1 * 1024 + 1 * k.val := rfl
    rw [(idx1 t).2] at h
    exact h.trans (by show _ = k.val; omega)

/-! ## The array after the run -/

def res (c : Dev nD) : Vec Ideal S4096x4096 .f32 := fun i => ∑ k : Fin 1024, opA m c (ix2 (i 0) k) * wt m c (ix2 (i 1) k)

theorem res_at (c : Dev nD) (x : Fin 4096) (y : Fin 4096) : res m c (ix2 x y) = ∑ k : Fin 1024, opA m c (ix2 x k) * wt m c (ix2 y k) := rfl

theorem flushed_res (c : Dev nD) (t : Fin cfg0.N) :
    (dats m 0 c).flushed 2 t = ((cfg0.win 2).blk t).view.read (Elt Ideal) (res m c) := by
  have hN : cfg0.N = 8 := N_0
  have ht : t.val < 8 := hN ▸ t.isLt
  rw [flushed2_A, left_only]
  funext y
  have h0 : (y 0).val < 1024 := (y 0).isLt
  have h1 : (y 1).val < 2048 := (y 1).isLt
  have hy : (cfg0.win 2).xinj (grid0.coords t) y = ix2 (⟨(y 0).val, h0⟩ : Fin 1024) (⟨(y 1).val, h1⟩ : Fin 2048) := funext fun a => match a with
    | ⟨0, _⟩ => rfl
    | ⟨1, _⟩ => rfl
  have he : ((cfg0.win 2).blk t).view.emb y = ix2 (⟨t.val / 2 * 1024 + (y 0).val, by omega⟩ : Fin 4096) (⟨t.val % 2 * 2048 + (y 1).val, by omega⟩ : Fin 4096) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 2048 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show k0_pay2 (F := Ideal) (iblk m c 1 t) (k0_pay1 (F := Ideal)) (iblk m c 0 t) ((cfg0.win 2).xinj (grid0.coords t) y) = _
  rw [hy, pay2_at, pay1_at, zero_add]
  have e := res_at m c (⟨t.val / 2 * 1024 + (y 0).val, by omega⟩ : Fin 4096) (⟨t.val % 2 * 2048 + (y 1).val, by omega⟩ : Fin 4096)
  refine Eq.trans ?_ e.symm
  refine Finset.sum_congr rfl fun k _ => ?_
  rw [blk0_at m c t (⟨(y 0).val, h0⟩ : Fin 1024) k (⟨t.val / 2 * 1024 + (y 0).val, by omega⟩ : Fin 4096) rfl, blk1_at m c t (⟨(y 1).val, h1⟩ : Fin 2048) k (⟨t.val % 2 * 2048 + (y 1).val, by omega⟩ : Fin 4096) rfl]

theorem mem_blk (t : Fin cfg0.N) (i : S4096x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v3).slice (win0_2.rect t)).set ↔ _
  rw [View.set_slice_whole, Rect.mem_set_unit]
  exact Iff.rfl

/-- The point that leaves a place. -/
theorem covered (i : S4096x4096.Idx) : ∃ t : Fin cfg0.N, (cfg0.win 2).flush t = true ∧ i ∈ ((cfg0.win 2).blk t).view.set := by
  have hN : cfg0.N = 8 := N_0
  have h0 : (i 0).val < 4096 := (i 0).isLt
  have h1 : (i 1).val < 4096 := (i 1).isLt
  refine ⟨⟨(i 0).val / 1024 * 2 + (i 1).val / 2048, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    dsimp only
    omega
  | ⟨1, _⟩ =>
    show win0_2.index _ (1 : Fin 2) * 2048 ≤ (i 1).val ∧ (i 1).val < win0_2.index _ (1 : Fin 2) * 2048 + 2048
    rw [(idx2 _).2]
    dsimp only
    omega

theorem final (c : Dev nD) : (dats m 0 c).arrAt 2 cfg0.N = res m c :=
  (dats m 0 c).arrAt_eq_of_cover 2 _ (fun t _ => flushed_res m c t) covered

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference3Ideal.Read

theorem res_ref (c : Dev nD) : res m c = (val_main_v3 (F := Ideal) (m ((c : Thread nD τ).loc main_arg0)) (m ((c : Thread nD τ).loc main_arg1)) : Vec Ideal S4096x4096 .f32) := by
  funext i
  obtain ⟨x, y, rfl⟩ : ∃ (x : Fin 4096) (y : Fin 4096), i = ix2 x y := ⟨i 0, i 1, eq_ix2 i⟩
  rw [val_main_v3_apply]
  refine (res_at m c x y).trans ?_
  rw [arr0]
  refine Finset.sum_congr rfl fun k _ => ?_
  unfold val_main_v2 wt
  refine congrArg₂ (· * ·) (congrArg _ (funext fun a => ?_)) (congrArg _ (funext fun a => Fin.ext ?_))
  · match a with
    | ⟨0, _⟩ => rfl
    | ⟨1, _⟩ => rfl
  · match a with
    | ⟨0, _⟩ => rfl
    | ⟨1, _⟩ => rfl

end Cert.Kernel3Ideal.Downx

/-! ## The reference's run, and the two together -/

namespace Cert.Reference3Ideal.Downx

open Cert.Reference3Ideal Cert.Reference3Ideal.Gen Cert.Reference3Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference3Ideal.Value.run m ρ)

end Cert.Reference3Ideal.Downx

namespace Cert

open Idealize.ShloMosaic Idealize.ShloMosaic.TcCoe Idealize.SL.Sem

theorem algebraic3 : algebraic_Kernel3Ideal_Reference3Ideal (hKernel3Ideal := Cert.Kernel3Ideal.Gen.facts) (hReference3Ideal := Cert.Reference3Ideal.Gen.facts) := by
  intro m g m' g' hpre hargs
  refine ⟨fun c => Cert.Kernel3Ideal.Downx.res m c, Cert.Kernel3Ideal.Downx.run m g, ?_⟩
  refine (θ_run _ _ _).mono (fun r h c => ⟨?_, (h c).2⟩) (Cert.Reference3Ideal.Value.run m' g')
  show _ = Cert.Kernel3Ideal.Downx.res m c
  rw [Cert.Kernel3Ideal.Downx.res_ref, ← (hargs c).1, ← (hargs c).2]
  exact (h c).1

end Cert

end
-- ==== Proof.Mm4.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.WritesUnit
public import Idealize.ShloMosaic.Lib.Pipeline.ValueKit.Basic
public import Idealize.ShloMosaic.Lib.Quiescent
public import Idealize.ShloMosaic.Lib.StableHlo.RunRead

@[expose] public section

set_option maxRecDepth 16384

noncomputable section

namespace Cert.Kernel4Ideal.Upg

open Cert.Kernel4Ideal.Gen Cert.Kernel4Ideal.Value
open Idealize.ShloMosaic Idealize.ShloMosaic.TcCoe Idealize.ShloMosaic.Tactic

section Words

variable {F : FTy → Type} [FloatOps F]

/-! ## What a point leaves, as the payloads of its blocks -/

theorem left_first (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1024x1024 .f32) (h2 : a2.IsWhole) (a3 : Memref sig .tc .vmem S1024x1024 .f32) (h3 : a3.IsWhole) (hc0 : cond0_0 i) (hc1 : ¬cond0_1 i)
    (x0 : Vec F S1024x2048 .bf16) (x1 : Vec F S1x1024x2048 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1024x1024 .f32) (h2 : a2.IsWhole) (a3 : Memref sig .tc .vmem S1024x1024 .f32) (h3 : a3.IsWhole) (hc0 : ¬cond0_0 i) (hc1 : cond0_1 i)
    (x0 : Vec F S1024x2048 .bf16) (x1 : Vec F S1x1024x2048 .bf16) (xs : Vec F S1024x1024 .f32) :
    out0_B_2 c i a0 h0 a1 h1 a2 h2 a3 h3 hc0 hc1 x0 x1 xs = k0_pay2 x1 xs x0 := by
  unfold out0_B_2
  rw [View.read_writes_eq_canon VO0_2 _ _ (cover0_B_2 c i a0 h0 a1 h1 a2 h2 a3 h3 hc0 hc1 x0 x1 xs)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r l : Fin 1024) : k0_pay1 (F := Ideal) (ix2 r l) = 0 := by
  pointwise [k0_pay1]

theorem pay2_at (b : Vec Ideal S1x1024x2048 .bf16) (z : Vec Ideal S1024x1024 .f32) (a : Vec Ideal S1024x2048 .bf16) (r l : Fin 1024) :
    k0_pay2 (F := Ideal) b z a (ix2 r l) = z (ix2 r l) + ∑ k : Fin 2048, a (ix2 r k) * b (ix3 0 l k) := by
  pointwise [k0_pay2]

variable (m : (ℓ : Loc nD τ sig) → Buf (Elt Ideal) ℓ)

/-- The two factors' arrays as the product finds them, the second in four shards of columns. -/
def opA (c : Dev nD) : S4096x4096.Idx → EReal := V m c main_v1
def opB (c : Dev nD) : S4x1024x2048.Idx → EReal := V m c main_v4

/-! ## The host lines before the product -/

theorem arr0 (c : Dev nD) : opA m c = fun i => (shapeCast S4096x4096 (m ((c : Thread nD τ).loc main_arg0)) shapeCasts_S2x2048x4096_S4096x4096 : Vec Ideal S4096x4096 .f32) i := by
  unfold opA V
  after_reads_simp
  rfl

theorem arr1 (c : Dev nD) : opB m c = fun i => (transpose S4x1024x2048 [1, 0, 2] (shapeCast S1024x4x2048 (m ((c : Thread nD τ).loc main_arg1)) shapeCasts_S1024x8192_S1024x4x2048 : Vec Ideal S1024x4x2048 .f32) transposes_S1024x4x2048_S4x1024x2048_1_0_2 : Vec Ideal S4x1024x2048 .f32) i := by
  unfold opB V
  after_reads_simp
  rfl

/-- A shard's column is the weight's column. -/
theorem arr1_at (c : Dev nD) (s : Fin 4) (l : Fin 1024) (k : Fin 2048) (x : Fin 8192) (hx : x.val = s.val * 2048 + k.val) :
    opB m c (ix3 s l k) = (m ((c : Thread nD τ).loc main_arg1) : Vec Ideal S1024x8192 .f32) (ix2 l x) := by
  rw [arr1]
  refine (transpose_apply _ _ _ (ix3 s l k : S4x1024x2048.Idx) (ix3 l s k : S1024x4x2048.Idx) fun d => ?_).trans ?_
  · match d with
    | ⟨0, _⟩ => rfl
    | ⟨1, _⟩ => rfl
    | ⟨2, _⟩ => rfl
  · refine shapeCast_apply _ _ (ix3 l s k : S1024x4x2048.Idx) (ix2 l x : S1024x8192.Idx) ?_
    rewrite [Shape.rowMajor_val_two, Shape.rowMajor_val_three]
    show l.val * 8192 + x.val = (l.val * 4 + s.val) * 2048 + k.val
    omega

/-! ## The blocks -/

theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 3) = 0 + t.val % 2 ∧ win0_1.index t (1 : Fin 3) = 0 ∧ win0_1.index t (2 : Fin 3) = 0 :=
  (by decide +kernel : ∀ t : Fin grid0.N, _)

theorem blk0_at (c : Dev nD) (t : Fin cfg0.N) (r : Fin 1024) (k : Fin 2048) (x : Fin 4096) (y : Fin 4096) (hx : x.val = t.val / 2 * 1024 + r.val) (hy : y.val = t.val % 2 * 2048 + k.val) :
    (iblk m c 0 t : Vec Ideal S1024x2048 .bf16) (ix2 r k) = opA m c (ix2 x y) := by
  unfold iblk opA
  rw [View.read_apply]
  generalize V m c main_v1 = A
  refine congrArg A (funext fun a => Fin.ext ?_)
  match a with
  | ⟨0, _⟩ =>
    have h : (((cfg0.win 0).blk t).view.emb (ix2 r k) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r k) (1 : Fin 2)).val = win0_0.index t 1 * 2048 + 1 * k.val := rfl
    rw [(idx0 t).2, Nat.one_mul] at h
    exact h.trans hy.symm

theorem blk1_at (c : Dev nD) (t : Fin cfg0.N) (l : Fin 1024) (k : Fin 2048) (s : Fin 4) (hs : s.val = 0 + t.val % 2) :
    (iblk m c 1 t : Vec Ideal S1x1024x2048 .bf16) (ix3 0 l k) = opB m c (ix3 s l k) := by
  unfold iblk opB
  rw [View.read_apply]
  generalize V m c main_v4 = A
  refine congrArg A (funext fun a => Fin.ext ?_)
  match a with
  | ⟨0, _⟩ =>
    have h : (((cfg0.win 1).blk t).view.emb (ix3 0 l k) (0 : Fin 3)).val = win0_1.index t 0 * 1 + 1 * 0 := rfl
    rw [(idx1 t).1] at h
    exact h.trans (by show _ = s.val; omega)
  | ⟨1, _⟩ =>
    have h : (((cfg0.win 1).blk t).view.emb (ix3 0 l k) (1 : Fin 3)).val = win0_1.index t 1 * 1024 + 1 * l.val := rfl
    rw [(idx1 t).2.1] at h
    exact h.trans (by show _ = l.val; omega)
  | ⟨2, _⟩ =>
    have h : (((cfg0.win 1).blk t).view.emb (ix3 0 l k) (2 : Fin 3)).val = win0_1.index t 2 * 2048 + 1 * k.val := rfl
    rw [(idx1 t).2.2] at h
    exact h.trans (by show _ = k.val; omega)

/-- The weight's column of the half that enters here. -/
abbrev wc (k : Fin 4096) : Fin 8192 := ⟨0 + k.val, by omega⟩

/-! ## The array's place -/

/-- A sum over two runs of columns is the sum over all of them. -/
theorem two_runs (g : Fin 4096 → EReal) (f0 f1 : Fin 2048 → EReal) (h0 : ∀ k x, x.val = k.val → f0 k = g x) (h1 : ∀ k x, x.val = 2048 + k.val → f1 k = g x) :
    (∑ k : Fin 2048, f0 k) + ∑ k : Fin 2048, f1 k = ∑ k : Fin 4096, g k := by
  rw [show (∑ k : Fin 4096, g k) = ∑ k : Fin (2048 + 2048), g k from rfl, Fin.sum_univ_add]
  exact congrArg₂ (· + ·) (Finset.sum_congr rfl fun k _ => h0 k _ rfl) (Finset.sum_congr rfl fun k _ => h1 k _ rfl)

/-- The product's array after the run, and the weight. -/
def res (c : Dev nD) : S4096x1024.Idx → EReal := G2 m c
def wt (c : Dev nD) : S1024x8192.Idx → EReal := m ((c : Thread nD τ).loc main_arg1)

theorem opB_at (c : Dev nD) (s : Fin 4) (l : Fin 1024) (k : Fin 2048) (x : Fin 8192) (hx : x.val = s.val * 2048 + k.val) :
    opB m c (ix3 s l k) = wt m c (ix2 l x) := arr1_at m c s l k x hx

theorem res_at (c : Dev nD) (x : Fin 4096) (y : Fin 1024) :
    res m c (ix2 x y) = ∑ k : Fin 4096, opA m c (ix2 x k) * wt m c (ix2 y (wc k)) := by
  have hx : x.val < 4096 := x.isLt
  have hy : y.val < 1024 := y.isLt
  have hN : cfg0.N = 8 := N_0
  have hp : pt2Of (ix2 x y) = 2 * (x.val / 1024) + 1 := by
    show 2 * (1 * (x.val / 1024 - 0) + 1 * (y.val / 1024 - 0)) + 1 = _
    omega
  have hlt : 2 * (x.val / 1024) + 1 < cfg0.N := by omega
  have hlt' : 2 * (x.val / 1024) < cfg0.N := by omega
  have hl : loc2Of (ix2 x y) = ix2 (⟨x.val % 1024, Nat.mod_lt _ (by decide)⟩ : Fin 1024) (⟨y.val % 1024, Nat.mod_lt _ (by decide)⟩ : Fin 1024) :=
    funext fun a => match a with
      | ⟨0, _⟩ => rfl
      | ⟨1, _⟩ => rfl
  have hy' : (⟨y.val % 1024, Nat.mod_lt _ (by decide)⟩ : Fin 1024) = y := Fin.ext (Nat.mod_eq_of_lt hy)
  unfold res G2
  rw [dif_pos (show pt2Of (ix2 x y) < cfg0.N by rw [hp]; exact hlt), ← outsAt0_sweep m c _ (show pt2Of (ix2 x y) < cfg0.N by rw [hp]; exact hlt), hl, hy']
  have e : ∀ (n n' : ℕ) (h : n < cfg0.N) (h' : n' < cfg0.N), n = n' → outsAt0 m c n h = outsAt0 m c n' h' := by
    intro n n' h h' he; subst he; rfl
  rw [e _ (2 * (x.val / 1024) + 1) _ hlt hp]
  have eB := outsAt0_B m c ⟨2 * (x.val / 1024) + 1, hlt⟩ (by dsimp only; omega) (by dsimp only; omega)
  dsimp only at eB
  rw [eB]
  dsimp only
  rw [left_last]
  have eA := outsAt0_A m c ⟨2 * (x.val / 1024), hlt'⟩ (by dsimp only; omega) (by dsimp only; omega)
  dsimp only at eA
  rw [e (2 * (x.val / 1024) + 1 - 1) (2 * (x.val / 1024)) _ hlt' (by omega), eA]
  dsimp only
  rw [left_first, pay2_at, pay2_at, pay1_at, zero_add]
  refine two_runs (fun k => opA m c (ix2 x k) * wt m c (ix2 y (wc k))) _ _ ?_ ?_
  · intro k z hz
    rw [blk0_at m c _ _ k x z (by dsimp only; omega) (by dsimp only; omega), blk1_at m c _ y k (⟨0, by decide⟩ : Fin 4) (by dsimp only; omega), opB_at m c _ y k (wc z) (by dsimp only; omega)]
  · intro k z hz
    rw [blk0_at m c _ _ k x z (by dsimp only; omega) (by dsimp only; omega), blk1_at m c _ y k (⟨1, by decide⟩ : Fin 4) (by dsimp only; omega), opB_at m c _ y k (wc z) (by dsimp only; omega)]

/-! ## The run -/

open Cert.Reference4Ideal.Read

theorem G_ref (c : Dev nD) : G2 m c = (val_main_v4 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v4_apply]
  refine (res_at m c x y).trans ?_
  rw [arr0]
  refine Finset.sum_congr rfl fun k _ => ?_
  rw [val_main_v1_apply]
  unfold val_main_v3 wt
  refine congrArg₂ (· * ·) (congrArg _ (funext fun a => ?_)) (congrArg _ (funext fun a => Fin.ext ?_))
  · match a with
    | ⟨0, _⟩ => rfl
    | ⟨1, _⟩ => rfl
  · match a with
    | ⟨0, _⟩ => rfl
    | ⟨1, _⟩ => show 0 + k.val = k.val; omega

end Cert.Kernel4Ideal.Upg

/-! ## The reference's run, and the two together -/

namespace Cert.Reference4Ideal.Upg

open Cert.Reference4Ideal Cert.Reference4Ideal.Gen Cert.Reference4Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference4Ideal.Value.run m ρ)

end Cert.Reference4Ideal.Upg

namespace Cert

open Idealize.ShloMosaic Idealize.ShloMosaic.TcCoe Idealize.SL.Sem

theorem algebraic4 : algebraic_Kernel4Ideal_Reference4Ideal (hKernel4Ideal := Cert.Kernel4Ideal.Gen.facts) (hReference4Ideal := Cert.Reference4Ideal.Gen.facts) := by
  intro m g m' g' hpre hargs
  refine ⟨fun c => Cert.Kernel4Ideal.Value.G2 m c, Cert.Kernel4Ideal.Value.run m g, ?_⟩
  refine (θ_run _ _ _).mono (fun r h c => ⟨?_, (h c).2⟩) (Cert.Reference4Ideal.Value.run m' g')
  show _ = Cert.Kernel4Ideal.Value.G2 m c
  rw [Cert.Kernel4Ideal.Upg.G_ref, ← (hargs c).1, ← (hargs c).2]
  exact (h c).1

end Cert

end
-- ==== Proof.Mm5.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.WritesUnit
public import Idealize.ShloMosaic.Lib.Pipeline.ValueKit.Basic
public import Idealize.ShloMosaic.Lib.Quiescent
public import Idealize.ShloMosaic.Lib.StableHlo.RunRead

@[expose] public section

set_option maxRecDepth 16384

noncomputable section

namespace Cert.Kernel5Ideal.Upv

open Cert.Kernel5Ideal.Gen Cert.Kernel5Ideal.Value
open Idealize.ShloMosaic Idealize.ShloMosaic.TcCoe Idealize.ShloMosaic.Tactic

section Words

variable {F : FTy → Type} [FloatOps F]

/-! ## What a point leaves, as the payloads of its blocks -/

theorem left_first (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (hc0 : cond0_0 i) (hc1 : ¬cond0_1 i)
    (x0 : Vec F S1024x2048 .bf16) (x1 : Vec F S1x1024x2048 .bf16) (x2 : Vec F S1024x1024 .f32) :
    sout0_A_0 c i a0 h0 a1 h1 a2 h2 a3 h3 a4 h4 hc0 hc1 x0 x1 x2 = k0_pay2 x1 (k0_pay1 x2) x0 := by
  unfold sout0_A_0
  rw [View.read_writes_eq_canon VS0_0 _ _ (scover0_A_0 c i a0 h0 a1 h1 a2 h2 a3 h3 a4 h4 hc0 hc1 x0 x1 x2)]
  unfold kernelRun0_A
  sl_unfold_words
  dsimp only
  rw [View.canon_cons_unit_lit _ _ _ (by decide), View.readAt_eq_ld, View.readAt_eq_ld, View.readAt_eq_ld, h0.read_unread, h1.read_unread, h2.read_unread,
    View.ld_unit_lit _ _ (by decide), View.ld_unit_lit _ _ (by decide), View.ld_unit_lit _ _ (by decide), View.readCov_unit_lit _ _ _ (by decide)]

theorem left_last (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole) (hc0 : ¬cond0_0 i) (hc1 : cond0_1 i)
    (x0 : Vec F S1024x2048 .bf16) (x1 : Vec F S1x1024x2048 .bf16) (x2 : Vec F S1024x1024 .f32) (xs : Vec F S1024x1024 .f32) :
    out0_B_3 c i a0 h0 a1 h1 a2 h2 a3 h3 a4 h4 hc0 hc1 x0 x1 x2 xs = k0_pay2 x1 xs x0 := by
  unfold out0_B_3
  rw [View.read_writes_eq_canon VO0_3 _ _ (cover0_B_3 c i a0 h0 a1 h1 a2 h2 a3 h3 a4 h4 hc0 hc1 x0 x1 x2 xs)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h4.read_unread,
    View.ld_unit_lit _ _ (by decide), View.ld_unit_lit _ _ (by decide), View.ld_unit_lit _ _ (by decide)]

end Words

/-! ## A block product at a place -/

theorem pay1_at (z : Vec Ideal S1024x1024 .f32) (r l : Fin 1024) : k0_pay1 (F := Ideal) z (ix2 r l) = z (ix2 r l) := by
  pointwise [k0_pay1]

theorem pay2_at (b : Vec Ideal S1x1024x2048 .bf16) (z : Vec Ideal S1024x1024 .f32) (a : Vec Ideal S1024x2048 .bf16) (r l : Fin 1024) :
    k0_pay2 (F := Ideal) b z a (ix2 r l) = z (ix2 r l) + ∑ k : Fin 2048, a (ix2 r k) * b (ix3 0 l k) := by
  pointwise [k0_pay2]

variable (m : (ℓ : Loc nD τ sig) → Buf (Elt Ideal) ℓ)

/-- The two factors' arrays as the product finds them, the second in four shards of columns. -/
def opA (c : Dev nD) : S4096x4096.Idx → EReal := V m c main_v1
def opB (c : Dev nD) : S4x1024x2048.Idx → EReal := V m c main_v4
def opC (c : Dev nD) : S4096x1024.Idx → EReal := V m c main_v5

/-! ## The host lines before the product -/

theorem arr0 (c : Dev nD) : opA m c = fun i => (shapeCast S4096x4096 (m ((c : Thread nD τ).loc main_arg0)) shapeCasts_S2x2048x4096_S4096x4096 : Vec Ideal S4096x4096 .f32) i := by
  unfold opA V
  after_reads_simp
  rfl

theorem arr1 (c : Dev nD) : opB m c = fun i => (transpose S4x1024x2048 [1, 0, 2] (shapeCast S1024x4x2048 (m ((c : Thread nD τ).loc main_arg1)) shapeCasts_S1024x8192_S1024x4x2048 : Vec Ideal S1024x4x2048 .f32) transposes_S1024x4x2048_S4x1024x2048_1_0_2 : Vec Ideal S4x1024x2048 .f32) i := by
  unfold opB V
  after_reads_simp
  rfl

theorem arr2 (c : Dev nD) : opC m c = fun i => (shapeCast S4096x1024 (m ((c : Thread nD τ).loc main_arg2)) shapeCasts_S2x2048x1024_S4096x1024 : Vec Ideal S4096x1024 .f32) i := by
  unfold opC V
  after_reads_simp
  rfl

/-- A shard's column is the weight's column. -/
theorem arr1_at (c : Dev nD) (s : Fin 4) (l : Fin 1024) (k : Fin 2048) (x : Fin 8192) (hx : x.val = s.val * 2048 + k.val) :
    opB m c (ix3 s l k) = (m ((c : Thread nD τ).loc main_arg1) : Vec Ideal S1024x8192 .f32) (ix2 l x) := by
  rw [arr1]
  refine (transpose_apply _ _ _ (ix3 s l k : S4x1024x2048.Idx) (ix3 l s k : S1024x4x2048.Idx) fun d => ?_).trans ?_
  · match d with
    | ⟨0, _⟩ => rfl
    | ⟨1, _⟩ => rfl
    | ⟨2, _⟩ => rfl
  · refine shapeCast_apply _ _ (ix3 l s k : S1024x4x2048.Idx) (ix2 l x : S1024x8192.Idx) ?_
    rewrite [Shape.rowMajor_val_two, Shape.rowMajor_val_three]
    show l.val * 8192 + x.val = (l.val * 4 + s.val) * 2048 + k.val
    omega

/-! ## The blocks -/

theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 3) = 2 + t.val % 2 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)

theorem blk0_at (c : Dev nD) (t : Fin cfg0.N) (r : Fin 1024) (k : Fin 2048) (x : Fin 4096) (y : Fin 4096) (hx : x.val = t.val / 2 * 1024 + r.val) (hy : y.val = t.val % 2 * 2048 + k.val) :
    (iblk m c 0 t : Vec Ideal S1024x2048 .bf16) (ix2 r k) = opA m c (ix2 x y) := by
  unfold iblk opA
  rw [View.read_apply]
  generalize V m c main_v1 = A
  refine congrArg A (funext fun a => Fin.ext ?_)
  match a with
  | ⟨0, _⟩ =>
    have h : (((cfg0.win 0).blk t).view.emb (ix2 r k) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r k) (1 : Fin 2)).val = win0_0.index t 1 * 2048 + 1 * k.val := rfl
    rw [(idx0 t).2, Nat.one_mul] at h
    exact h.trans hy.symm

theorem blk1_at (c : Dev nD) (t : Fin cfg0.N) (l : Fin 1024) (k : Fin 2048) (s : Fin 4) (hs : s.val = 2 + t.val % 2) :
    (iblk m c 1 t : Vec Ideal S1x1024x2048 .bf16) (ix3 0 l k) = opB m c (ix3 s l k) := by
  unfold iblk opB
  rw [View.read_apply]
  generalize V m c main_v4 = A
  refine congrArg A (funext fun a => Fin.ext ?_)
  match a with
  | ⟨0, _⟩ =>
    have h : (((cfg0.win 1).blk t).view.emb (ix3 0 l k) (0 : Fin 3)).val = win0_1.index t 0 * 1 + 1 * 0 := rfl
    rw [(idx1 t).1] at h
    exact h.trans (by show _ = s.val; omega)
  | ⟨1, _⟩ =>
    have h : (((cfg0.win 1).blk t).view.emb (ix3 0 l k) (1 : Fin 3)).val = win0_1.index t 1 * 1024 + 1 * l.val := rfl
    rw [(idx1 t).2.1] at h
    exact h.trans (by show _ = l.val; omega)
  | ⟨2, _⟩ =>
    have h : (((cfg0.win 1).blk t).view.emb (ix3 0 l k) (2 : Fin 3)).val = win0_1.index t 2 * 2048 + 1 * k.val := rfl
    rw [(idx1 t).2.2] at h
    exact h.trans (by show _ = k.val; omega)

theorem blk2_at (c : Dev nD) (t : Fin cfg0.N) (r l : Fin 1024) (x : Fin 4096) (y : Fin 1024) (hx : x.val = t.val / 2 * 1024 + r.val) (hy : y.val = l.val) :
    (iblk m c 2 t : Vec Ideal S1024x1024 .f32) (ix2 r l) = opC m c (ix2 x y) := by
  unfold iblk opC
  rw [View.read_apply]
  generalize V m c main_v5 = A
  refine congrArg A (funext fun a => Fin.ext ?_)
  match a with
  | ⟨0, _⟩ =>
    have h : (((cfg0.win 2).blk t).view.emb (ix2 r l) (0 : Fin 2)).val = win0_2.index t 0 * 1024 + 1 * r.val := rfl
    rw [(idx2 t).1, Nat.one_mul] at h
    exact h.trans hx.symm
  | ⟨1, _⟩ =>
    have h : (((cfg0.win 2).blk t).view.emb (ix2 r l) (1 : Fin 2)).val = win0_2.index t 1 * 1024 + 1 * l.val := rfl
    rw [(idx2 t).2, Nat.zero_mul, Nat.zero_add, Nat.one_mul] at h
    exact h.trans hy.symm

/-- The weight's column of the half that enters here. -/
abbrev wc (k : Fin 4096) : Fin 8192 := ⟨4096 + k.val, by omega⟩

/-! ## The array's place -/

/-- A sum over two runs of columns is the sum over all of them. -/
theorem two_runs (g : Fin 4096 → EReal) (f0 f1 : Fin 2048 → EReal) (h0 : ∀ k x, x.val = k.val → f0 k = g x) (h1 : ∀ k x, x.val = 2048 + k.val → f1 k = g x) :
    (∑ k : Fin 2048, f0 k) + ∑ k : Fin 2048, f1 k = ∑ k : Fin 4096, g k := by
  rw [show (∑ k : Fin 4096, g k) = ∑ k : Fin (2048 + 2048), g k from rfl, Fin.sum_univ_add]
  exact congrArg₂ (· + ·) (Finset.sum_congr rfl fun k _ => h0 k _ rfl) (Finset.sum_congr rfl fun k _ => h1 k _ rfl)

/-- The product's array after the run, and the weight. -/
def res (c : Dev nD) : S4096x1024.Idx → EReal := G3 m c
def wt (c : Dev nD) : S1024x8192.Idx → EReal := m ((c : Thread nD τ).loc main_arg1)

theorem opB_at (c : Dev nD) (s : Fin 4) (l : Fin 1024) (k : Fin 2048) (x : Fin 8192) (hx : x.val = s.val * 2048 + k.val) :
    opB m c (ix3 s l k) = wt m c (ix2 l x) := arr1_at m c s l k x hx

theorem res_at (c : Dev nD) (x : Fin 4096) (y : Fin 1024) :
    res m c (ix2 x y) = opC m c (ix2 x y) + ∑ k : Fin 4096, opA m c (ix2 x k) * wt m c (ix2 y (wc k)) := by
  have hx : x.val < 4096 := x.isLt
  have hy : y.val < 1024 := y.isLt
  have hN : cfg0.N = 8 := N_0
  have hp : pt3Of (ix2 x y) = 2 * (x.val / 1024) + 1 := by
    show 2 * (1 * (x.val / 1024 - 0) + 1 * (y.val / 1024 - 0)) + 1 = _
    omega
  have hlt : 2 * (x.val / 1024) + 1 < cfg0.N := by omega
  have hlt' : 2 * (x.val / 1024) < cfg0.N := by omega
  have hl : loc3Of (ix2 x y) = ix2 (⟨x.val % 1024, Nat.mod_lt _ (by decide)⟩ : Fin 1024) (⟨y.val % 1024, Nat.mod_lt _ (by decide)⟩ : Fin 1024) :=
    funext fun a => match a with
      | ⟨0, _⟩ => rfl
      | ⟨1, _⟩ => rfl
  have hy' : (⟨y.val % 1024, Nat.mod_lt _ (by decide)⟩ : Fin 1024) = y := Fin.ext (Nat.mod_eq_of_lt hy)
  unfold res G3
  rw [dif_pos (show pt3Of (ix2 x y) < cfg0.N by rw [hp]; exact hlt), ← outsAt0_sweep m c _ (show pt3Of (ix2 x y) < cfg0.N by rw [hp]; exact hlt), hl, hy']
  have e : ∀ (n n' : ℕ) (h : n < cfg0.N) (h' : n' < cfg0.N), n = n' → outsAt0 m c n h = outsAt0 m c n' h' := by
    intro n n' h h' he; subst he; rfl
  rw [e _ (2 * (x.val / 1024) + 1) _ hlt hp]
  have eB := outsAt0_B m c ⟨2 * (x.val / 1024) + 1, hlt⟩ (by dsimp only; omega) (by dsimp only; omega)
  dsimp only at eB
  rw [eB]
  dsimp only
  rw [left_last]
  have eA := outsAt0_A m c ⟨2 * (x.val / 1024), hlt'⟩ (by dsimp only; omega) (by dsimp only; omega)
  dsimp only at eA
  rw [e (2 * (x.val / 1024) + 1 - 1) (2 * (x.val / 1024)) _ hlt' (by omega), eA]
  dsimp only
  rw [left_first, pay2_at, pay2_at, pay1_at, add_assoc, blk2_at m c _ _ y x y (by dsimp only; omega) rfl]
  refine congrArg (opC m c (ix2 x y) + ·) ?_
  refine two_runs (fun k => opA m c (ix2 x k) * wt m c (ix2 y (wc k))) _ _ ?_ ?_
  · intro k z hz
    rw [blk0_at m c _ _ k x z (by dsimp only; omega) (by dsimp only; omega), blk1_at m c _ y k (⟨2, by decide⟩ : Fin 4) (by dsimp only; omega), opB_at m c _ y k (wc z) (by dsimp only; omega)]
  · intro k z hz
    rw [blk0_at m c _ _ k x z (by dsimp only; omega) (by dsimp only; omega), blk1_at m c _ y k (⟨3, by decide⟩ : Fin 4) (by dsimp only; omega), opB_at m c _ y k (wc z) (by dsimp only; omega)]

/-! ## The run -/

open Cert.Reference5Ideal.Read

theorem G_ref (c : Dev nD) : G3 m c = (val_main_v6 (F := Ideal) (m ((c : Thread nD τ).loc main_arg0)) (m ((c : Thread nD τ).loc main_arg1)) (m ((c : Thread nD τ).loc main_arg2)) : Vec Ideal S4096x1024 .f32) := by
  funext i
  obtain ⟨x, y, rfl⟩ : ∃ (x : Fin 4096) (y : Fin 1024), i = ix2 x y := ⟨i 0, i 1, eq_ix2 i⟩
  rw [val_main_v6_apply, val_main_v5_apply]
  refine (res_at m c x y).trans ?_
  rw [arr0, arr2]
  refine congrArg₂ (· + ·) rfl (Finset.sum_congr rfl fun k _ => ?_)
  rw [val_main_v2_apply]
  unfold val_main_v4 wt
  refine congrArg₂ (· * ·) (congrArg _ (funext fun a => ?_)) (congrArg _ (funext fun a => Fin.ext ?_))
  · match a with
    | ⟨0, _⟩ => rfl
    | ⟨1, _⟩ => rfl
  · match a with
    | ⟨0, _⟩ => rfl
    | ⟨1, _⟩ => rfl

end Cert.Kernel5Ideal.Upv

/-! ## The reference's run, and the two together -/

namespace Cert.Reference5Ideal.Upv

open Cert.Reference5Ideal Cert.Reference5Ideal.Gen Cert.Reference5Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Cert.Reference5Ideal.Value.run m ρ)

end Cert.Reference5Ideal.Upv

namespace Cert

open Idealize.ShloMosaic Idealize.ShloMosaic.TcCoe Idealize.SL.Sem

theorem algebraic5 : algebraic_Kernel5Ideal_Reference5Ideal (hKernel5Ideal := Cert.Kernel5Ideal.Gen.facts) (hReference5Ideal := Cert.Reference5Ideal.Gen.facts) := by
  intro m g m' g' hpre hargs
  refine ⟨fun c => Cert.Kernel5Ideal.Value.G3 m c, Cert.Kernel5Ideal.Value.run m g, ?_⟩
  refine (θ_run _ _ _).mono (fun r h c => ⟨?_, (h c).2⟩) (Cert.Reference5Ideal.Value.run m' g')
  show _ = Cert.Kernel5Ideal.Value.G3 m c
  rw [Cert.Kernel5Ideal.Upv.G_ref, ← (hargs c).1, ← (hargs c).2.1, ← (hargs c).2.2]
  exact (h c).1

end Cert

end
-- ==== Proof.Pack.lean ====
module

public import Idealize.ShloMosaic.Lib.Pointwise
public import Idealize.ShloMosaic.Lib.Pipeline.Value
public import Idealize.ShloMosaic.Lib.Pipeline.ValueKit.Basic

@[expose] public section

set_option maxRecDepth 16384

noncomputable section

/-! The input projection's columns as the kernels lay them out: the gates' 32 columns at the end, the two halves of the
recurrence's columns in runs of 128 that alternate, and 96 columns of zeros after everything. -/

namespace Cert.Pack

open Idealize.ShloMosaic

abbrev S2 (a b : Nat) : Shape := ⟨2, ![a, b]⟩
abbrev S3 (a b c : Nat) : Shape := ⟨3, ![a, b, c]⟩
abbrev S4 (a b c d : Nat) : Shape := ⟨4, ![a, b, c, d]⟩

/-- Where a column goes. -/
def pkN (j : Nat) : Nat :=
  if j < 4096 then j
  else if j < 4128 then 4096 + j
  else if j < 5152 then 4096 + 256 * ((j - 4128) / 128) + (j - 4128) % 128
  else if j < 6176 then 4096 + 256 * ((j - 5152) / 128) + 128 + (j - 5152) % 128
  else j - 32

/-- Where a place comes from. -/
def unN (q : Nat) : Nat :=
  if q < 4096 then q
  else if q < 6144 then (if (q - 4096) % 256 < 128 then 4128 + 128 * ((q - 4096) / 256) + (q - 4096) % 256
    else 5152 + 128 * ((q - 4096) / 256) + ((q - 4096) % 256 - 128))
  else if q < 8192 then q + 32
  else q - 4096

theorem pkN_lt (j : Nat) (h : j < 8224) : pkN j < 8224 := by
  unfold pkN; split_ifs <;> omega

theorem unN_lt (q : Nat) (h : q < 8224) : unN q < 8224 := by
  unfold unN; split_ifs <;> omega

theorem unN_pkN (j : Nat) (h : j < 8224) : unN (pkN j) = j := by
  unfold pkN unN; split_ifs <;> omega

theorem pkN_unN (q : Nat) (h : q < 8224) : pkN (unN q) = q := by
  unfold pkN unN; split_ifs <;> omega

def pk (j : Fin 8224) : Fin 8320 := ⟨pkN j.val, by have := pkN_lt j.val j.isLt; omega⟩

theorem pk_inj : Function.Injective pk := fun a b h => Fin.ext (by
  have h' : pkN a.val = pkN b.val := congrArg Fin.val h
  rw [← unN_pkN a.val a.isLt, ← unN_pkN b.val b.isLt, h'])

theorem pk_un (q : Fin 8320) (h : q.val < 8224) : pk ⟨unN q.val, unN_lt _ h⟩ = q := Fin.ext (pkN_unN q.val h)

/-- A sum over the laid-out columns, zero on those added, is the sum over the columns. -/
theorem sum_pk (g : Fin 8320 → EReal) (hz : ∀ q : Fin 8320, 8224 ≤ q.val → g q = 0) : ∑ q : Fin 8320, g q = ∑ j : Fin 8224, g (pk j) := by
  refine (Fintype.sum_of_injective pk pk_inj (fun j => g (pk j)) g (fun q hq => ?_) (fun j => rfl)).symm
  by_cases h : q.val < 8224
  · exact absurd ⟨⟨unN q.val, unN_lt _ h⟩, pk_un q h⟩ hq
  · exact hz q (by omega)

section Pieces

variable {R n0 n1 n2 n3 n4 n : Nat} (x0 : (S2 R n0).Idx → EReal) (x1 : (S2 R n1).Idx → EReal) (x2 : (S2 R n2).Idx → EReal) (x3 : (S2 R n3).Idx → EReal)
  (x4 : (S2 R n4).Idx → EReal) (h : Shape.Concatenates [S2 R n0, S2 R n1, S2 R n2, S2 R n3, S2 R n4] (S2 R n) 1)

theorem piece0 (r : Fin R) (i : Fin n0) (j : Fin n) (hj : 0 + i.val = j.val) : concatenate (S2 R n) 1 [(⟨S2 R n0, x0⟩ : (s : Shape) × (s.Idx → EReal)), ⟨S2 R n1, x1⟩, ⟨S2 R n2, x2⟩, ⟨S2 R n3, x3⟩, ⟨S2 R n4, x4⟩] h (ix2 r j) = x0 (ix2 r i) := by
  refine concatenate_apply_piece 1 [(⟨S2 R n0, x0⟩ : (s : Shape) × (s.Idx → EReal)), ⟨S2 R n1, x1⟩, ⟨S2 R n2, x2⟩, ⟨S2 R n3, x3⟩, ⟨S2 R n4, x4⟩] h (ix2 r j) 0 (show 0 < 5 by omega) (S2 R n0) x0 rfl rfl 0 rfl (ix2 r i) ?_ hj
  intro d hd'
  match d, hd' with
  | ⟨0, _⟩, _ => rfl
  | ⟨1, _⟩, h => exact absurd rfl h

theorem piece1 (r : Fin R) (i : Fin n1) (j : Fin n) (hj : (n0 + 0) + i.val = j.val) : concatenate (S2 R n) 1 [(⟨S2 R n0, x0⟩ : (s : Shape) × (s.Idx → EReal)), ⟨S2 R n1, x1⟩, ⟨S2 R n2, x2⟩, ⟨S2 R n3, x3⟩, ⟨S2 R n4, x4⟩] h (ix2 r j) = x1 (ix2 r i) := by
  refine concatenate_apply_piece 1 [(⟨S2 R n0, x0⟩ : (s : Shape) × (s.Idx → EReal)), ⟨S2 R n1, x1⟩, ⟨S2 R n2, x2⟩, ⟨S2 R n3, x3⟩, ⟨S2 R n4, x4⟩] h (ix2 r j) 1 (show 1 < 5 by omega) (S2 R n1) x1 rfl rfl (n0 + 0) rfl (ix2 r i) ?_ hj
  intro d hd'
  match d, hd' with
  | ⟨0, _⟩, _ => rfl
  | ⟨1, _⟩, h => exact absurd rfl h

theorem piece2 (r : Fin R) (i : Fin n2) (j : Fin n) (hj : (n0 + (n1 + 0)) + i.val = j.val) : concatenate (S2 R n) 1 [(⟨S2 R n0, x0⟩ : (s : Shape) × (s.Idx → EReal)), ⟨S2 R n1, x1⟩, ⟨S2 R n2, x2⟩, ⟨S2 R n3, x3⟩, ⟨S2 R n4, x4⟩] h (ix2 r j) = x2 (ix2 r i) := by
  refine concatenate_apply_piece 1 [(⟨S2 R n0, x0⟩ : (s : Shape) × (s.Idx → EReal)), ⟨S2 R n1, x1⟩, ⟨S2 R n2, x2⟩, ⟨S2 R n3, x3⟩, ⟨S2 R n4, x4⟩] h (ix2 r j) 2 (show 2 < 5 by omega) (S2 R n2) x2 rfl rfl (n0 + (n1 + 0)) rfl (ix2 r i) ?_ hj
  intro d hd'
  match d, hd' with
  | ⟨0, _⟩, _ => rfl
  | ⟨1, _⟩, h => exact absurd rfl h

theorem piece3 (r : Fin R) (i : Fin n3) (j : Fin n) (hj : (n0 + (n1 + (n2 + 0))) + i.val = j.val) : concatenate (S2 R n) 1 [(⟨S2 R n0, x0⟩ : (s : Shape) × (s.Idx → EReal)), ⟨S2 R n1, x1⟩, ⟨S2 R n2, x2⟩, ⟨S2 R n3, x3⟩, ⟨S2 R n4, x4⟩] h (ix2 r j) = x3 (ix2 r i) := by
  refine concatenate_apply_piece 1 [(⟨S2 R n0, x0⟩ : (s : Shape) × (s.Idx → EReal)), ⟨S2 R n1, x1⟩, ⟨S2 R n2, x2⟩, ⟨S2 R n3, x3⟩, ⟨S2 R n4, x4⟩] h (ix2 r j) 3 (show 3 < 5 by omega) (S2 R n3) x3 rfl rfl (n0 + (n1 + (n2 + 0))) rfl (ix2 r i) ?_ hj
  intro d hd'
  match d, hd' with
  | ⟨0, _⟩, _ => rfl
  | ⟨1, _⟩, h => exact absurd rfl h

theorem piece4 (r : Fin R) (i : Fin n4) (j : Fin n) (hj : (n0 + (n1 + (n2 + (n3 + 0)))) + i.val = j.val) : concatenate (S2 R n) 1 [(⟨S2 R n0, x0⟩ : (s : Shape) × (s.Idx → EReal)), ⟨S2 R n1, x1⟩, ⟨S2 R n2, x2⟩, ⟨S2 R n3, x3⟩, ⟨S2 R n4, x4⟩] h (ix2 r j) = x4 (ix2 r i) := by
  refine concatenate_apply_piece 1 [(⟨S2 R n0, x0⟩ : (s : Shape) × (s.Idx → EReal)), ⟨S2 R n1, x1⟩, ⟨S2 R n2, x2⟩, ⟨S2 R n3, x3⟩, ⟨S2 R n4, x4⟩] h (ix2 r j) 4 (show 4 < 5 by omega) (S2 R n4) x4 rfl rfl (n0 + (n1 + (n2 + (n3 + 0)))) rfl (ix2 r i) ?_ hj
  intro d hd'
  match d, hd' with
  | ⟨0, _⟩, _ => rfl
  | ⟨1, _⟩, h => exact absurd rfl h

end Pieces

section Layout

variable {R : Nat} (w : (S2 R 8224).Idx → EReal)
  (hs0 : (S2 R 8224).Slices ![0, 0] (S2 R 4096)) (hs1 : (S2 R 8224).Slices ![0, 4128] (S2 R 1024)) (hs2 : (S2 R 8224).Slices ![0, 5152] (S2 R 1024))
  (hs3 : (S2 R 8224).Slices ![0, 6176] (S2 R 2048)) (hs4 : (S2 R 8224).Slices ![0, 4096] (S2 R 32))
  (hc : (S2 R 1024).ShapeCasts (S3 R 8 128)) (hb : (S3 R 8 128).BroadcastsInDim (S4 R 8 1 128) (![0, 1, 3] : Fin 3 → Fin 4))
  (hp : Shape.Concatenates [S4 R 8 1 128, S4 R 8 1 128] (S4 R 8 2 128) 2) (hd : (S4 R 8 2 128).ShapeCasts (S2 R 2048))
  (hq : Shape.Concatenates [S2 R 4096, S2 R 2048, S2 R 2048, S2 R 32, S2 R 96] (S2 R 8320) 1)

/-- The recurrence's columns, in runs. -/
def runs : (S2 R 2048).Idx → EReal :=
  shapeCast (S2 R 2048) (concatenate (S4 R 8 2 128) 2
    [⟨S4 R 8 1 128, broadcastInDim (S4 R 8 1 128) ![0, 1, 3] hb (shapeCast (S3 R 8 128) (extractStridedSlice (S2 R 1024) ![0, 4128] w hs1) hc)⟩,
     ⟨S4 R 8 1 128, broadcastInDim (S4 R 8 1 128) ![0, 1, 3] hb (shapeCast (S3 R 8 128) (extractStridedSlice (S2 R 1024) ![0, 5152] w hs2) hc)⟩] hp) hd

/-- The array laid out. -/
def lay (z : (S2 R 96).Idx → EReal) : (S2 R 8320).Idx → EReal :=
  concatenate (S2 R 8320) 1 [⟨S2 R 4096, extractStridedSlice (S2 R 4096) ![0, 0] w hs0⟩, ⟨S2 R 2048, runs w hs1 hs2 hc hb hp hd⟩,
    ⟨S2 R 2048, extractStridedSlice (S2 R 2048) ![0, 6176] w hs3⟩, ⟨S2 R 32, extractStridedSlice (S2 R 32) ![0, 4096] w hs4⟩, ⟨S2 R 96, z⟩] hq

theorem half_at (off : Nat) (hs : (S2 R 8224).Slices ![0, off] (S2 R 1024)) (r : Fin R) (b : Fin 8) (l : Fin 128) (j : Fin 8224) (hj : j.val = off + 128 * b.val + l.val) :
    broadcastInDim (S4 R 8 1 128) ![0, 1, 3] hb (shapeCast (S3 R 8 128) (extractStridedSlice (S2 R 1024) ![0, off] w hs) hc) (ix4 r b 0 l) = w (ix2 r j) := by
  have hr : 1 < R ∨ R = 1 := by have := r.isLt; omega
  refine (broadcastInDim_apply _ _ _ _ (ix3 r b l : (S3 R 8 128).Idx) fun d => ?_).trans ?_
  · match d with
    | ⟨0, _⟩ =>
      show r.val = if R = 1 then 0 else r.val
      have := r.isLt
      split_ifs <;> omega
    | ⟨1, _⟩ => rfl
    | ⟨2, _⟩ => rfl
  · refine (shapeCast_apply _ _ (ix3 r b l : (S3 R 8 128).Idx) (ix2 r (⟨128 * b.val + l.val, by omega⟩ : Fin 1024) : (S2 R 1024).Idx) ?_).trans ?_
    · rewrite [Shape.rowMajor_val_two, Shape.rowMajor_val_three]
      show r.val * 1024 + (128 * b.val + l.val) = (r.val * 8 + b.val) * 128 + l.val
      omega
    · refine extractStridedSlice_apply _ _ _ _ (ix2 r j : (S2 R 8224).Idx) fun d => ?_
      match d with
      | ⟨0, _⟩ => show r.val = 0 + r.val; omega
      | ⟨1, _⟩ => show j.val = off + (128 * b.val + l.val); omega

theorem runs_left (r : Fin R) (b : Fin 8) (l : Fin 128) (q : Fin 2048) (hq' : q.val = 256 * b.val + l.val) (j : Fin 8224) (hj : j.val = 4128 + 128 * b.val + l.val) :
    runs w hs1 hs2 hc hb hp hd (ix2 r q) = w (ix2 r j) := by
  unfold runs
  refine (shapeCast_apply _ _ (ix2 r q : (S2 R 2048).Idx) (ix4 r b 0 l : (S4 R 8 2 128).Idx) ?_).trans ?_
  · rewrite [Shape.rowMajor_val_two, Shape.rowMajor_val_four]
    show ((r.val * 8 + b.val) * 2 + 0) * 128 + l.val = r.val * 2048 + q.val
    omega
  · refine Eq.trans (concatenate_pair_apply_left (2 : Fin 4) (broadcastInDim (S4 R 8 1 128) ![0, 1, 3] hb (shapeCast (S3 R 8 128) (extractStridedSlice (S2 R 1024) ![0, 4128] w hs1) hc)) (broadcastInDim (S4 R 8 1 128) ![0, 1, 3] hb (shapeCast (S3 R 8 128) (extractStridedSlice (S2 R 1024) ![0, 5152] w hs2) hc)) hp (ix4 r b 0 l : (S4 R 8 2 128).Idx) rfl (ix4 r b 0 l : (S4 R 8 1 128).Idx) fun d => ?_) (half_at w hc hb 4128 hs1 r b l j hj)
    match d with
    | ⟨0, _⟩ => rfl
    | ⟨1, _⟩ => rfl
    | ⟨2, _⟩ => rfl
    | ⟨3, _⟩ => rfl

theorem runs_right (r : Fin R) (b : Fin 8) (l : Fin 128) (q : Fin 2048) (hq' : q.val = 256 * b.val + 128 + l.val) (j : Fin 8224) (hj : j.val = 5152 + 128 * b.val + l.val) :
    runs w hs1 hs2 hc hb hp hd (ix2 r q) = w (ix2 r j) := by
  unfold runs
  refine (shapeCast_apply _ _ (ix2 r q : (S2 R 2048).Idx) (ix4 r b 1 l : (S4 R 8 2 128).Idx) ?_).trans ?_
  · rewrite [Shape.rowMajor_val_two, Shape.rowMajor_val_four]
    show ((r.val * 8 + b.val) * 2 + 1) * 128 + l.val = r.val * 2048 + q.val
    omega
  · refine Eq.trans (concatenate_pair_apply_right (2 : Fin 4) (broadcastInDim (S4 R 8 1 128) ![0, 1, 3] hb (shapeCast (S3 R 8 128) (extractStridedSlice (S2 R 1024) ![0, 4128] w hs1) hc)) (broadcastInDim (S4 R 8 1 128) ![0, 1, 3] hb (shapeCast (S3 R 8 128) (extractStridedSlice (S2 R 1024) ![0, 5152] w hs2) hc)) hp (ix4 r b 1 l : (S4 R 8 2 128).Idx) rfl rfl (ix4 r b 0 l : (S4 R 8 1 128).Idx) (fun d hd => ?_) ?_) (half_at w hc hb 5152 hs2 r b l j hj)
    · match d, hd with
      | ⟨0, _⟩, _ => rfl
      | ⟨1, _⟩, _ => rfl
      | ⟨2, _⟩, h => exact absurd rfl h
      | ⟨3, _⟩, _ => rfl
    · rfl

theorem slice_at {n : Nat} (off : Nat) (hs : (S2 R 8224).Slices ![0, off] (S2 R n)) (r : Fin R) (q : Fin n) (j : Fin 8224) (hj : j.val = off + q.val) :
    extractStridedSlice (S2 R n) ![0, off] w hs (ix2 r q) = w (ix2 r j) := by
  refine extractStridedSlice_apply _ _ _ _ (ix2 r j : (S2 R 8224).Idx) fun d => ?_
  match d with
  | ⟨0, _⟩ => show r.val = 0 + r.val; omega
  | ⟨1, _⟩ => exact hj

/-- A column of the laid-out array at its place. -/
theorem lay_at (z : (S2 R 96).Idx → EReal) (r : Fin R) (j : Fin 8224) :
    lay w hs0 hs1 hs2 hs3 hs4 hc hb hp hd hq z (ix2 r (pk j)) = w (ix2 r j) := by
  have hj := j.isLt
  have hpk : (pk j).val = pkN j.val := rfl
  unfold pkN at hpk
  unfold lay
  by_cases h0 : j.val < 4096
  · rw [if_pos h0] at hpk
    refine Eq.trans (piece0 _ _ _ _ _ _ r (⟨j.val, h0⟩ : Fin 4096) _ ?_) (slice_at w 0 hs0 r _ j (by show j.val = 0 + j.val; omega))
    dsimp only
    omega
  rw [if_neg h0] at hpk
  by_cases h1 : j.val < 4128
  · rw [if_pos h1] at hpk
    refine Eq.trans (piece3 _ _ _ _ _ _ r (⟨j.val - 4096, by omega⟩ : Fin 32) _ ?_) (slice_at w 4096 hs4 r _ j (by show j.val = 4096 + (j.val - 4096); omega))
    dsimp only
    omega
  rw [if_neg h1] at hpk
  by_cases h2 : j.val < 5152
  · rw [if_pos h2] at hpk
    refine Eq.trans (piece1 _ _ _ _ _ _ r (⟨256 * ((j.val - 4128) / 128) + (j.val - 4128) % 128, by omega⟩ : Fin 2048) _ ?_)
      (runs_left w hs1 hs2 hc hb hp hd r ⟨(j.val - 4128) / 128, by omega⟩ ⟨(j.val - 4128) % 128, by omega⟩ (⟨256 * ((j.val - 4128) / 128) + (j.val - 4128) % 128, by omega⟩ : Fin 2048) rfl j (by dsimp only; omega))
    dsimp only
    omega
  rw [if_neg h2] at hpk
  by_cases h3 : j.val < 6176
  · rw [if_pos h3] at hpk
    refine Eq.trans (piece1 _ _ _ _ _ _ r (⟨256 * ((j.val - 5152) / 128) + 128 + (j.val - 5152) % 128, by omega⟩ : Fin 2048) _ ?_)
      (runs_right w hs1 hs2 hc hb hp hd r ⟨(j.val - 5152) / 128, by omega⟩ ⟨(j.val - 5152) % 128, by omega⟩ (⟨256 * ((j.val - 5152) / 128) + 128 + (j.val - 5152) % 128, by omega⟩ : Fin 2048) rfl j (by dsimp only; omega))
    dsimp only
    omega
  rw [if_neg h3] at hpk
  refine Eq.trans (piece2 _ _ _ _ _ _ r (⟨j.val - 6176, by omega⟩ : Fin 2048) _ ?_) (slice_at w 6176 hs3 r _ j (by show j.val = 6176 + (j.val - 6176); omega))
  dsimp only
  omega

/-- The columns added. -/
theorem lay_pad (z : (S2 R 96).Idx → EReal) (hz : ∀ i, z i = 0) (r : Fin R) (q : Fin 8320) (hq' : 8224 ≤ q.val) :
    lay w hs0 hs1 hs2 hs3 hs4 hc hb hp hd hq z (ix2 r q) = 0 := by
  have hq'' := q.isLt
  unfold lay
  refine Eq.trans (piece4 _ _ _ _ _ _ r (⟨q.val - 8224, by omega⟩ : Fin 96) _ ?_) (hz _)
  dsimp only
  omega

end Layout

section Back

variable {R : Nat} (p : (S2 R 8320).Idx → EReal)
  (hs0 : (S2 R 8320).Slices ![0, 0] (S2 R 4096)) (hs1 : (S2 R 8320).Slices ![0, 4096] (S2 R 2048)) (hs2 : (S2 R 8320).Slices ![0, 8192] (S2 R 32))
  (hs3 : (S2 R 8320).Slices ![0, 6144] (S2 R 2048))
  (hd : (S2 R 2048).ShapeCasts (S4 R 8 2 128)) (ht0 : (S4 R 8 2 128).Slices ![0, 0, 0, 0] (S4 R 8 1 128)) (ht1 : (S4 R 8 2 128).Slices ![0, 0, 1, 0] (S4 R 8 1 128))
  (hb : (S4 R 8 1 128).ShapeCasts (S3 R 8 128)) (hc : (S3 R 8 128).ShapeCasts (S2 R 1024))
  (hq : Shape.Concatenates [S2 R 4096, S2 R 32, S2 R 1024, S2 R 1024, S2 R 2048] (S2 R 8224) 1)

/-- One half of the recurrence's columns, from its runs. -/
def side (s : Nat) (ht : (S4 R 8 2 128).Slices ![0, 0, s, 0] (S4 R 8 1 128)) : (S2 R 1024).Idx → EReal :=
  shapeCast (S2 R 1024) (shapeCast (S3 R 8 128) (extractStridedSlice (S4 R 8 1 128) ![0, 0, s, 0]
    (shapeCast (S4 R 8 2 128) (extractStridedSlice (S2 R 2048) ![0, 4096] p hs1) hd) ht) hb) hc

/-- The columns back in their order. -/
def back : (S2 R 8224).Idx → EReal :=
  concatenate (S2 R 8224) 1 [⟨S2 R 4096, extractStridedSlice (S2 R 4096) ![0, 0] p hs0⟩, ⟨S2 R 32, extractStridedSlice (S2 R 32) ![0, 8192] p hs2⟩,
    ⟨S2 R 1024, side p hs1 hd hb hc 0 ht0⟩, ⟨S2 R 1024, side p hs1 hd hb hc 1 ht1⟩, ⟨S2 R 2048, extractStridedSlice (S2 R 2048) ![0, 6144] p hs3⟩] hq

theorem cut_at {n : Nat} (off : Nat) (hs : (S2 R 8320).Slices ![0, off] (S2 R n)) (r : Fin R) (q : Fin n) (j : Fin 8320) (hj : j.val = off + q.val) :
    extractStridedSlice (S2 R n) ![0, off] p hs (ix2 r q) = p (ix2 r j) := by
  refine extractStridedSlice_apply _ _ _ _ (ix2 r j : (S2 R 8320).Idx) fun d => ?_
  match d with
  | ⟨0, _⟩ => show r.val = 0 + r.val; omega
  | ⟨1, _⟩ => exact hj

theorem side_at (s : Fin 2) (ht : (S4 R 8 2 128).Slices ![0, 0, s.val, 0] (S4 R 8 1 128)) (r : Fin R) (q : Fin 1024) (j : Fin 8320)
    (hj : j.val = 4096 + 256 * (q.val / 128) + 128 * s.val + q.val % 128) :
    side p hs1 hd hb hc s.val ht (ix2 r q) = p (ix2 r j) := by
  have hq' := q.isLt
  have hs' := s.isLt
  unfold side
  refine (shapeCast_apply _ _ (ix2 r q : (S2 R 1024).Idx) (ix3 r (⟨q.val / 128, by omega⟩ : Fin 8) (⟨q.val % 128, by omega⟩ : Fin 128) : (S3 R 8 128).Idx) ?_).trans ?_
  · rewrite [Shape.rowMajor_val_two, Shape.rowMajor_val_three]
    show (r.val * 8 + q.val / 128) * 128 + q.val % 128 = r.val * 1024 + q.val
    omega
  refine (shapeCast_apply _ _ _ (ix4 r (⟨q.val / 128, by omega⟩ : Fin 8) 0 (⟨q.val % 128, by omega⟩ : Fin 128) : (S4 R 8 1 128).Idx) ?_).trans ?_
  · rewrite [Shape.rowMajor_val_three, Shape.rowMajor_val_four]
    show ((r.val * 8 + q.val / 128) * 1 + 0) * 128 + q.val % 128 = (r.val * 8 + q.val / 128) * 128 + q.val % 128
    omega
  refine (extractStridedSlice_apply _ _ _ _ (ix4 r (⟨q.val / 128, by omega⟩ : Fin 8) s (⟨q.val % 128, by omega⟩ : Fin 128) : (S4 R 8 2 128).Idx) fun d => ?_).trans ?_
  · match d with
    | ⟨0, _⟩ => show r.val = 0 + r.val; omega
    | ⟨1, _⟩ => show q.val / 128 = 0 + q.val / 128; omega
    | ⟨2, _⟩ => rfl
    | ⟨3, _⟩ => show q.val % 128 = 0 + q.val % 128; omega
  refine (shapeCast_apply _ _ _ (ix2 r (⟨256 * (q.val / 128) + 128 * s.val + q.val % 128, by omega⟩ : Fin 2048) : (S2 R 2048).Idx) ?_).trans ?_
  · rewrite [Shape.rowMajor_val_two, Shape.rowMajor_val_four]
    show r.val * 2048 + (256 * (q.val / 128) + 128 * s.val + q.val % 128) = ((r.val * 8 + q.val / 128) * 2 + s.val) * 128 + q.val % 128
    omega
  exact cut_at p 4096 hs1 r _ j (by dsimp only; omega)

/-- A column back at its place. -/
theorem back_at (r : Fin R) (j : Fin 8224) :
    back p hs0 hs1 hs2 hs3 hd ht0 ht1 hb hc hq (ix2 r j) = p (ix2 r (pk j)) := by
  have hj := j.isLt
  have hpk : (pk j).val = pkN j.val := rfl
  unfold pkN at hpk
  unfold back
  by_cases h0 : j.val < 4096
  · rw [if_pos h0] at hpk
    refine Eq.trans (piece0 _ _ _ _ _ _ r (⟨j.val, h0⟩ : Fin 4096) _ ?_) (cut_at p 0 hs0 r _ (pk j) (by dsimp only; omega))
    dsimp only
    omega
  rw [if_neg h0] at hpk
  by_cases h1 : j.val < 4128
  · rw [if_pos h1] at hpk
    refine Eq.trans (piece1 _ _ _ _ _ _ r (⟨j.val - 4096, by omega⟩ : Fin 32) _ ?_) (cut_at p 8192 hs2 r _ (pk j) (by dsimp only; omega))
    dsimp only
    omega
  rw [if_neg h1] at hpk
  by_cases h2 : j.val < 5152
  · rw [if_pos h2] at hpk
    refine Eq.trans (piece2 _ _ _ _ _ _ r (⟨j.val - 4128, by omega⟩ : Fin 1024) _ ?_)
      (side_at p hs1 hd hb hc 0 ht0 r _ (pk j) (by show (pk j).val = 4096 + 256 * ((j.val - 4128) / 128) + 128 * 0 + (j.val - 4128) % 128; omega))
    dsimp only
    omega
  rw [if_neg h2] at hpk
  by_cases h3 : j.val < 6176
  · rw [if_pos h3] at hpk
    refine Eq.trans (piece3 _ _ _ _ _ _ r (⟨j.val - 5152, by omega⟩ : Fin 1024) _ ?_)
      (side_at p hs1 hd hb hc 1 ht1 r _ (pk j) (by show (pk j).val = 4096 + 256 * ((j.val - 5152) / 128) + 128 * 1 + (j.val - 5152) % 128; omega))
    dsimp only
    omega
  rw [if_neg h3] at hpk
  refine Eq.trans (piece4 _ _ _ _ _ _ r (⟨j.val - 6176, by omega⟩ : Fin 2048) _ ?_) (cut_at p 6144 hs3 r _ (pk j) (by dsimp only; omega))
  dsimp only
  omega

end Back

end Cert.Pack

end
-- ==== Proof.Mm6.lean ====
module

public import proofs.«01_k».proof.Defs
public import proofs.«01_k».proof.Proof.Pack
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel6Ideal.Inw

open Cert.Kernel6Ideal Cert.Kernel6Ideal.Gen
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S1536x1024 .bf16) (h0 : a0.IsWhole) (a1 : Memref sig .tc .vmem S1536x1664 .bf16) (h1 : a1.IsWhole) (a2 : Memref sig .tc .vmem S1024x1664 .f32) (h2 : a2.IsWhole) (a3 : Memref sig .tc .vmem S1024x1664 .f32) (h3 : a3.IsWhole) (hc0 : cond0_0 i) (hc1 : ¬cond0_1 i) (x0 : Vec F S1536x1024 .bf16) (x1 : Vec F S1536x1664 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_mid (c : Dev nD) (i : grid0.Coords) (a0 : Memref sig .tc .vmem S1536x1024 .bf16) (h0 : a0.IsWhole) (a1 : Memref sig .tc .vmem S1536x1664 .bf16) (h1 : a1.IsWhole) (a2 : Memref sig .tc .vmem S1024x1664 .f32) (h2 : a2.IsWhole) (a3 : Memref sig .tc .vmem S1024x1664 .f32) (h3 : a3.IsWhole) (hc0 : ¬cond0_0 i) (hc1 : ¬cond0_1 i) (x0 : Vec F S1536x1024 .bf16) (x1 : Vec F S1536x1664 .bf16) (s : Vec F S1024x1664 .f32) :
    sout0_B_0 c i a0 h0 a1 h1 a2 h2 a3 h3 hc0 hc1 x0 x1 s = k0_pay2 x1 s x0 := by
  unfold sout0_B_0
  rw [View.read_writes_eq_canon VS0_0 _ _ (scover0_B_0 c i a0 h0 a1 h1 a2 h2 a3 h3 hc0 hc1 x0 x1 s)]
  unfold kernelRun0_B
  sl_unfold_words
  dsimp only
  rw [View.canon_cons_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

theorem left_last (c : Dev nD) (i : grid0.Coords) (a0 : Memref sig .tc .vmem S1536x1024 .bf16) (h0 : a0.IsWhole) (a1 : Memref sig .tc .vmem S1536x1664 .bf16) (h1 : a1.IsWhole) (a2 : Memref sig .tc .vmem S1024x1664 .f32) (h2 : a2.IsWhole) (a3 : Memref sig .tc .vmem S1024x1664 .f32) (h3 : a3.IsWhole) (hc0 : ¬cond0_0 i) (hc1 : cond0_1 i) (x0 : Vec F S1536x1024 .bf16) (x1 : Vec F S1536x1664 .bf16) (s : Vec F S1024x1664 .f32) :
    out0_C_2 c i a0 h0 a1 h1 a2 h2 a3 h3 hc0 hc1 x0 x1 s = k0_pay2 x1 s x0 := by
  unfold out0_C_2
  rw [View.read_writes_eq_canon VO0_2 _ _ (cover0_C_2 c i a0 h0 a1 h1 a2 h2 a3 h3 hc0 hc1 x0 x1 s)]
  unfold kernelRun0_C
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1664) : k0_pay1 (F := Ideal) (ix2 r l) = 0 := by
  pointwise [k0_pay1]

theorem pay2_at (b : Vec Ideal S1536x1664 .bf16) (z : Vec Ideal S1024x1664 .f32) (a : Vec Ideal S1536x1024 .bf16) (r : Fin 1024) (l : Fin 1664) :
    k0_pay2 (F := Ideal) b z a (ix2 r l) = z (ix2 r l) + ∑ k : Fin 1536, a (ix2 k r) * b (ix2 k l) := by
  pointwise [k0_pay2]

variable (m : (ℓ : Loc nD τ sig) → Buf (Elt Ideal) ℓ) (ρ : Dev nD → PrngReg)

/-- The two factors' arrays as the product finds them. -/
def opA (c : Dev nD) : S4608x1024.Idx → EReal := V m c main_v1
def opB (c : Dev nD) : S4608x8320.Idx → EReal := V m c main_v16

/-! ## The blocks -/

def blkA (c : Dev nD) (t : Fin cfg0.N) : Vec Ideal S1536x1024 .bf16 := iblk m c 0 t
def blkB (c : Dev nD) (t : Fin cfg0.N) : Vec Ideal S1536x1664 .bf16 := iblk m c 1 t

theorem idx0 : ∀ t : Fin cfg0.N, win0_0.index t (0 : Fin 2) = t.val % 3 ∧ win0_0.index t (1 : Fin 2) = 0 :=
  (by decide +kernel : ∀ t : Fin grid0.N, _)
theorem idx1 : ∀ t : Fin cfg0.N, win0_1.index t (0 : Fin 2) = t.val % 3 ∧ win0_1.index t (1 : Fin 2) = t.val / 3 % 5 :=
  (by decide +kernel : ∀ t : Fin grid0.N, _)
theorem idx2 : ∀ t : Fin cfg0.N, win0_2.index t (0 : Fin 2) = 0 ∧ win0_2.index t (1 : Fin 2) = t.val / 3 % 5 :=
  (by decide +kernel : ∀ t : Fin grid0.N, _)

theorem blk0_at (c : Dev nD) (t : Fin cfg0.N) (r : Fin 1536) (l : Fin 1024) (x : Fin 4608) (y : Fin 1024) (hx : x.val = t.val % 3 * 1536 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1536 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1536) (l : Fin 1664) (x : Fin 4608) (y : Fin 8320) (hx : x.val = t.val % 3 * 1536 + r.val) (hy : y.val = t.val / 3 % 5 * 1664 + l.val) :
    blkB m c t (ix2 r l) = opB m c (ix2 x y) := by
  unfold blkB iblk opB
  rw [View.read_apply]
  generalize V m c main_v16 = A
  refine congrArg A (funext fun a => Fin.ext ?_)
  match a with
  | ⟨0, _⟩ =>
    have h : (((cfg0.win 1).blk t).view.emb (ix2 r l) (0 : Fin 2)).val = win0_1.index t 0 * 1536 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1664 + 1 * l.val := rfl
    rw [(idx1 t).2, Nat.one_mul] at h
    exact h.trans hy.symm

/-! ## The product's array after the run -/

def res (c : Dev nD) : Vec Ideal S1024x8320 .f32 := fun i => ∑ k : Fin 4608, opA m c (ix2 k (i 0)) * opB m c (ix2 k (i 1))

theorem res_at (c : Dev nD) (x : Fin 1024) (y : Fin 8320) : res m c (ix2 x y) = ∑ k : Fin 4608, opA m c (ix2 k x) * opB m c (ix2 k y) := rfl

/-- One run of the sum. -/
def part (c : Dev nD) (x : Fin 1024) (y : Fin 8320) (s : Fin 3) : EReal :=
  ∑ k : Fin 1536, opA m c (ix2 (⟨s.val * 1536 + k.val, by omega⟩ : Fin 4608) x) * opB m c (ix2 (⟨s.val * 1536 + k.val, by omega⟩ : Fin 4608) y)

/-- The runs are the whole sum. -/
theorem parts (c : Dev nD) (x : Fin 1024) (y : Fin 8320) : ∑ s : Fin 3, part m c x y s = res m c (ix2 x y) := by
  rw [res_at, show (∑ k : Fin 4608, opA m c (ix2 k x) * opB m c (ix2 k y)) = ∑ k : Fin (3 * 1536), (fun k : Fin 4608 => opA m c (ix2 k x) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4608) = (⟨s.val * 1536 + k.val, by omega⟩ : Fin 4608) := Fin.ext (by show k.val + 1536 * s.val = s.val * 1536 + k.val; omega)
  exact congrArg (fun k : Fin 4608 => opA m c (ix2 k x) * opB m c (ix2 k y)) e.symm

theorem part_of (c : Dev nD) (t : Fin cfg0.N) (r : Fin 1024) (l : Fin 1664) (x : Fin 1024) (y : Fin 8320) (s : Fin 3) (hx : x.val = 0 * 1024 + r.val) (hy : y.val = t.val / 3 % 5 * 1664 + l.val) (hs : s.val = t.val % 3) :
    (∑ k : Fin 1536, blkA m c t (ix2 k r) * blkB m c t (ix2 k l)) = part m c x y s := by
  refine Finset.sum_congr rfl fun k _ => ?_
  rw [blk0_at m c t k r (⟨s.val * 1536 + k.val, by omega⟩ : Fin 4608) x (by dsimp only; rw [hs]) hx, blk1_at m c t k l (⟨s.val * 1536 + k.val, by omega⟩ : Fin 4608) y (by dsimp only; rw [hs]) hy]

theorem scr_first (c : Dev nD) (t : Fin cfg0.N) (h0 : t.val % 3 = 0) (r : Fin 1024) (l : Fin 1664) (x : Fin 1024) (y : Fin 8320) (hx : x.val = 0 * 1024 + r.val) (hy : y.val = t.val / 3 % 5 * 1664 + l.val) :
    ((outsAt0 m c t.val t.isLt).2 : Vec Ideal S1024x1664 .f32) (ix2 r l) = part m c x y (⟨0, by decide⟩ : Fin 3) := by
  rw [outsAt0_A m c t h0 (by omega)]
  dsimp only
  rw [left_first, pay2_at, pay1_at, zero_add]
  exact part_of m c t r l x y (⟨0, by decide⟩ : Fin 3) hx hy h0.symm

theorem scr_mid (c : Dev nD) (t : Fin cfg0.N) (h0 : ¬t.val % 3 = 0) (h1 : ¬t.val % 3 = 2) (s : Fin 3) (hs : s.val = t.val % 3) (r : Fin 1024) (l : Fin 1664) (x : Fin 1024) (y : Fin 8320) (hx : x.val = 0 * 1024 + r.val) (hy : y.val = t.val / 3 % 5 * 1664 + l.val) :
    ((outsAt0 m c t.val t.isLt).2 : Vec Ideal S1024x1664 .f32) (ix2 r l)
      = ((outsAt0 m c (t.val - 1) (Nat.lt_of_le_of_lt (Nat.sub_le _ _) t.isLt)).2 : Vec Ideal S1024x1664 .f32) (ix2 r l) + part m c x y s := by
  rw [outsAt0_B m c t h0 h1]
  dsimp only
  rw [left_mid, pay2_at]
  exact congrArg (_ + ·) (part_of m c t r l x y s hx hy hs)

theorem out_last (c : Dev nD) (t : Fin cfg0.N) (h1 : t.val % 3 = 2) (r : Fin 1024) (l : Fin 1664) (x : Fin 1024) (y : Fin 8320) (hx : x.val = 0 * 1024 + r.val) (hy : y.val = t.val / 3 % 5 * 1664 + l.val) :
    ((outsAt0 m c t.val t.isLt).1 : Vec Ideal S1024x1664 .f32) (ix2 r l)
      = ((outsAt0 m c (t.val - 1) (Nat.lt_of_le_of_lt (Nat.sub_le _ _) t.isLt)).2 : Vec Ideal S1024x1664 .f32) (ix2 r l) + part m c x y (⟨2, by decide⟩ : Fin 3) := by
  rw [outsAt0_C m c t (by omega) h1]
  dsimp only
  rw [left_last, pay2_at]
  exact congrArg (_ + ·) (part_of m c t r l x y (⟨2, by decide⟩ : Fin 3) hx hy h1.symm)

/-- What the last point of a run leaves is the whole sum. -/
theorem left_res (c : Dev nD) (t : Fin cfg0.N) (h1 : t.val % 3 = 2) (r : Fin 1024) (l : Fin 1664) (x : Fin 1024) (y : Fin 8320) (hx : x.val = 0 * 1024 + r.val) (hy : y.val = t.val / 3 % 5 * 1664 + l.val) :
    ((outsAt0 m c t.val t.isLt).1 : Vec Ideal S1024x1664 .f32) (ix2 r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p1 := scr_mid m c (⟨t.val - 1, by omega⟩ : Fin cfg0.N) (by first | omega | (dsimp only; omega)) (by first | omega | (dsimp only; omega)) (⟨1, by decide⟩ : Fin 3) (by first | omega | (dsimp only; omega)) r l x y (by first | omega | (dsimp only; omega)) (by first | omega | (dsimp only; omega))
  dsimp only at p1
  rw [p1]
  rw [e (t.val - 1 - 1) (t.val - 2) _ (by omega) (by omega)]
  have p0 := scr_first m c (⟨t.val - 2, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 15 := N_0
  have ht : t.val < 15 := hN ▸ t.isLt
  show (cfg0.win 2).cut (grid0.coords t) ((dats m 0 c).after 2 t) = _
  rw [after0_2]
  funext y
  have h0 : (y 0).val < 1024 := (y 0).isLt
  have h1 : (y 1).val < 1664 := (y 1).isLt
  have hy : (cfg0.win 2).xinj (grid0.coords t) y = ix2 (⟨(y 0).val, h0⟩ : Fin 1024) (⟨(y 1).val, h1⟩ : Fin 1664) := funext fun a => match a with
    | ⟨0, _⟩ => rfl
    | ⟨1, _⟩ => rfl
  have he : ((cfg0.win 2).blk t).view.emb y = ix2 (⟨0 * 1024 + (y 0).val, by omega⟩ : Fin 1024) (⟨t.val / 3 % 5 * 1664 + (y 1).val, by omega⟩ : Fin 8320) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1664 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t.val t.isLt).1 : Vec Ideal S1024x1664 .f32) ((cfg0.win 2).xinj (grid0.coords t) y) = _
  rw [hy]
  exact left_res m c t ((flush0_2 t).mp hf) (⟨(y 0).val, h0⟩ : Fin 1024) (⟨(y 1).val, h1⟩ : Fin 1664) (⟨0 * 1024 + (y 0).val, by omega⟩ : Fin 1024) (⟨t.val / 3 % 5 * 1664 + (y 1).val, by omega⟩ : Fin 8320) rfl rfl

theorem mem_blk (t : Fin cfg0.N) (i : S1024x8320.Idx) :
    i ∈ ((cfg0.win 2).blk t).view.set ↔ ∀ a : Fin 2, win0_2.index t a * S1024x1664.size a ≤ (i a).val ∧ (i a).val < win0_2.index t a * S1024x1664.size a + S1024x1664.size a := by
  show i ∈ ((View.whole main_v17).slice (win0_2.rect t)).set ↔ _
  rw [View.set_slice_whole, Rect.mem_set_unit]
  exact Iff.rfl

/-- The point that leaves a place. -/
theorem covered (i : S1024x8320.Idx) : ∃ t : Fin cfg0.N, (cfg0.win 2).flush t = true ∧ i ∈ ((cfg0.win 2).blk t).view.set := by
  have hN : cfg0.N = 15 := N_0
  have h0 : (i 0).val < 1024 := (i 0).isLt
  have h1 : (i 1).val < 8320 := (i 1).isLt
  refine ⟨⟨((i 0).val / 1024 * 5 + (i 1).val / 1664) * 3 + 2, by omega⟩, (flush0_2 _).mpr (by dsimp only; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1664 ≤ (i 1).val ∧ (i 1).val < win0_2.index _ (1 : Fin 2) * 1664 + 1664
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

theorem pad4608 (i : S4608x96.Idx) : (broadcastInDim S4608x96 ![] bcast_S_S4608x96 (constant (F := Ideal) S_ .bf16 0x0000#16) : Vec Ideal S4608x96 .bf16) i = 0 := by
  refine (broadcastInDim_apply _ _ _ i (fun a => a.elim0) (fun a => a.elim0)).trans ?_
  show Ideal.ofBits .bf16 0x0000#16 = 0
  exact Ideal.ofBits_zero _

/-- The arguments the lines read. -/
def uu (c : Dev nD) : S4608x1024.Idx → EReal := shapeCast S4608x1024 (m ((c : Thread nD τ).loc main_arg0)) shapeCasts_S2x2304x1024_S4608x1024
def dp (c : Dev nD) : S4608x8224.Idx → EReal := shapeCast S4608x8224 (m ((c : Thread nD τ).loc main_arg1)) shapeCasts_S2x2304x8224_S4608x8224

theorem arr0 (c : Dev nD) : opA m c = uu m c := by
  unfold opA V uu
  after_reads_simp
  rfl

theorem arr1 (c : Dev nD) : opB m c = (Pack.lay (dp m c) slices_S4608x8224_S4608x4096_0_0 slices_S4608x8224_S4608x1024_0_4128 slices_S4608x8224_S4608x1024_0_5152 slices_S4608x8224_S4608x2048_0_6176 slices_S4608x8224_S4608x32_0_4096 shapeCasts_S4608x1024_S4608x8x128 bcast_S4608x8x128_S4608x8x1x128_0_1_3 concatenates_S4608x8x1x128_S4608x8x1x128_S4608x8x2x128_d2 shapeCasts_S4608x8x2x128_S4608x2048 concatenates_S4608x4096_S4608x2048_S4608x2048_S4608x32_S4608x96_S4608x8320_d1 (broadcastInDim S4608x96 ![] bcast_S_S4608x96 (constant (F := Ideal) S_ .bf16 0x0000#16))) := by
  unfold opB V dp
  after_reads_simp
  rfl

theorem opB_at (c : Dev nD) (k : Fin 4608) (j : Fin 8224) : opB m c (ix2 k (Pack.pk j)) = dp m c (ix2 k j) := by
  rw [arr1, Pack.lay_at]

/-! ## The host lines after it, and the run -/

def W (c : Dev nD) (b : Ref sig .tc) : Buf (Elt Ideal) ((c : Thread nD τ).loc b) := Pipeline.afterTail₀ cfgs (dats m) 0 (V0 m) [hostOps1] c b

theorem tail_acc (c : Dev nD) :
    Pipeline.withArrays cfg0.spec c (V0 m c) (fun w => (dats m 0 c).arrAt w cfg0.N) (Proc.devRef .tc main_v17) = res m c :=
  (Pipeline.withArrays_arr cfg0.spec (by decide) c (V0 m c) _ 2).trans (final m c)

/-- The result: the columns back in their order. -/
def fin (c : Dev nD) : Vec Ideal S1024x8224 .f32 := (Pack.back (res m c) slices_S1024x8320_S1024x4096_0_0 slices_S1024x8320_S1024x2048_0_4096 slices_S1024x8320_S1024x32_0_8192 slices_S1024x8320_S1024x2048_0_6144 shapeCasts_S1024x2048_S1024x8x2x128 slices_S1024x8x2x128_S1024x8x1x128_0_0_0_0 slices_S1024x8x2x128_S1024x8x1x128_0_0_1_0 shapeCasts_S1024x8x1x128_S1024x8x128 shapeCasts_S1024x8x128_S1024x1024 concatenates_S1024x4096_S1024x32_S1024x1024_S1024x1024_S1024x2048_S1024x8224_d1)

theorem W_eq (c : Dev nD) : W m c main_v29 = fin m c := by
  unfold fin
  rw [← tail_acc]
  unfold W Pipeline.afterTail₀
  generalize Pipeline.withArrays cfg0.spec c (V0 m c) (fun w => (dats m 0 c).arrAt w cfg0.N) = Y
  show StableHlo.after hostOps1 Y _ = _
  unfold hostOps1
  simp only [StableHlo.after_cons, StableHlo.after_nil]
  after_results_simp
  rfl

theorem fin_at (c : Dev nD) (x : Fin 1024) (j : Fin 8224) : fin m c (ix2 x j) = ∑ k : Fin 4608, uu m c (ix2 k x) * dp m c (ix2 k j) := by
  unfold fin
  rw [Pack.back_at, res_at]
  refine Finset.sum_congr rfl fun k _ => ?_
  rw [arr0, opB_at]

theorem run : θ_run (defs (F := Ideal)) (onTc (τ := τ) (main (F := Ideal))) ⟨m, fun _ => 0, ρ⟩ fun r => ∀ c : Dev nD,
      r.2.mem ((c : Thread nD τ).loc main_v29) = fin m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h.1 c).trans (W_eq m c), h.2 c⟩) (θ_run_and
    ((θ_run defs _ _).mono (fun r h (c : Dev nD) => (show r.2.mem ((c : Thread nD τ).loc main_v29) = W m c main_v29 from (h c).2 main_v29 (Pipeline.mem_restRefs_of main_v29 (by decide) (by decide)))) (run_main m ρ))
    (unchanged m ρ))

open Cert.Reference6Ideal.Read

theorem res_ref (c : Dev nD) : fin m c = (val_main_v5 (F := Ideal) (m ((c : Thread nD τ).loc main_arg0)) (m ((c : Thread nD τ).loc main_arg1)) : Vec Ideal S1024x8224 .f32) := by
  funext i
  obtain ⟨x, y, rfl⟩ : ∃ (x : Fin 1024) (y : Fin 8224), i = ix2 x y := ⟨i 0, i 1, eq_ix2 i⟩
  rw [val_main_v5_apply, val_main_v4_apply]
  refine (fin_at m c x y).trans ?_
  refine Finset.sum_congr rfl fun k _ => ?_
  rw [mul_comm]
  unfold val_main_v0 val_main_v1 uu dp
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel6Ideal.Inw

/-! ## The reference's run, and the two together -/

namespace Cert.Reference6Ideal.Inw

open Cert.Reference6Ideal Cert.Reference6Ideal.Gen Cert.Reference6Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference6Ideal.Value.run m ρ)

end Cert.Reference6Ideal.Inw

namespace Cert

open Idealize.ShloMosaic Idealize.ShloMosaic.TcCoe Idealize.SL.Sem

theorem algebraic6 : algebraic_Kernel6Ideal_Reference6Ideal (hKernel6Ideal := Cert.Kernel6Ideal.Gen.facts) (hReference6Ideal := Cert.Reference6Ideal.Gen.facts) := by
  intro m g m' g' hpre hargs
  refine ⟨fun c => Cert.Kernel6Ideal.Inw.fin m c, Cert.Kernel6Ideal.Inw.run m g, ?_⟩
  refine (θ_run _ _ _).mono (fun r h c => ⟨?_, (h c).2⟩) (Cert.Reference6Ideal.Value.run m' g')
  show _ = Cert.Kernel6Ideal.Inw.fin m c
  rw [Cert.Kernel6Ideal.Inw.res_ref, ← (hargs c).1, ← (hargs c).2]
  exact (h c).1

end Cert

end
-- ==== Proof.Mm7.lean ====
module

public import proofs.«01_k».proof.Defs
public import proofs.«01_k».proof.Proof.Pack
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel7Ideal.Inx

open Cert.Kernel7Ideal Cert.Kernel7Ideal.Gen Cert.Kernel7Ideal.Value
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S768x1664 .bf16) (h0 : a0.IsWhole) (a1 : Memref sig .tc .vmem S1024x1664 .bf16) (h1 : a1.IsWhole) (a2 : Memref sig .tc .vmem S768x1024 .f32) (h2 : a2.IsWhole) (a3 : Memref sig .tc .vmem S768x1024 .f32) (h3 : a3.IsWhole) (hc0 : cond0_0 i) (hc1 : ¬cond0_1 i) (x0 : Vec F S768x1664 .bf16) (x1 : Vec F S1024x1664 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_mid (c : Dev nD) (i : grid0.Coords) (a0 : Memref sig .tc .vmem S768x1664 .bf16) (h0 : a0.IsWhole) (a1 : Memref sig .tc .vmem S1024x1664 .bf16) (h1 : a1.IsWhole) (a2 : Memref sig .tc .vmem S768x1024 .f32) (h2 : a2.IsWhole) (a3 : Memref sig .tc .vmem S768x1024 .f32) (h3 : a3.IsWhole) (hc0 : ¬cond0_0 i) (hc1 : ¬cond0_1 i) (x0 : Vec F S768x1664 .bf16) (x1 : Vec F S1024x1664 .bf16) (s : Vec F S768x1024 .f32) :
    sout0_B_0 c i a0 h0 a1 h1 a2 h2 a3 h3 hc0 hc1 x0 x1 s = k0_pay2 x1 s x0 := by
  unfold sout0_B_0
  rw [View.read_writes_eq_canon VS0_0 _ _ (scover0_B_0 c i a0 h0 a1 h1 a2 h2 a3 h3 hc0 hc1 x0 x1 s)]
  unfold kernelRun0_B
  sl_unfold_words
  dsimp only
  rw [View.canon_cons_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

theorem left_last (c : Dev nD) (i : grid0.Coords) (a0 : Memref sig .tc .vmem S768x1664 .bf16) (h0 : a0.IsWhole) (a1 : Memref sig .tc .vmem S1024x1664 .bf16) (h1 : a1.IsWhole) (a2 : Memref sig .tc .vmem S768x1024 .f32) (h2 : a2.IsWhole) (a3 : Memref sig .tc .vmem S768x1024 .f32) (h3 : a3.IsWhole) (hc0 : ¬cond0_0 i) (hc1 : cond0_1 i) (x0 : Vec F S768x1664 .bf16) (x1 : Vec F S1024x1664 .bf16) (s : Vec F S768x1024 .f32) :
    out0_C_2 c i a0 h0 a1 h1 a2 h2 a3 h3 hc0 hc1 x0 x1 s = k0_pay2 x1 s x0 := by
  unfold out0_C_2
  rw [View.read_writes_eq_canon VO0_2 _ _ (cover0_C_2 c i a0 h0 a1 h1 a2 h2 a3 h3 hc0 hc1 x0 x1 s)]
  unfold kernelRun0_C
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 768) (l : Fin 1024) : k0_pay1 (F := Ideal) (ix2 r l) = 0 := by
  pointwise [k0_pay1]

theorem pay2_at (b : Vec Ideal S1024x1664 .bf16) (z : Vec Ideal S768x1024 .f32) (a : Vec Ideal S768x1664 .bf16) (r : Fin 768) (l : Fin 1024) :
    k0_pay2 (F := Ideal) b z a (ix2 r l) = z (ix2 r l) + ∑ k : Fin 1664, a (ix2 r k) * b (ix2 l k) := by
  pointwise [k0_pay2]

variable (m : (ℓ : Loc nD τ sig) → Buf (Elt Ideal) ℓ) (ρ : Dev nD → PrngReg)

/-- The two factors' arrays as the product finds them. -/
def opA (c : Dev nD) : S4608x8320.Idx → EReal := V m c main_v14
def opB (c : Dev nD) : S1024x8320.Idx → EReal := V m c main_v28

/-! ## The blocks -/

def blkA (c : Dev nD) (t : Fin cfg0.N) : Vec Ideal S768x1664 .bf16 := iblk m c 0 t
def blkB (c : Dev nD) (t : Fin cfg0.N) : Vec Ideal S1024x1664 .bf16 := iblk m c 1 t

theorem idx0 : ∀ t : Fin cfg0.N, win0_0.index t (0 : Fin 2) = t.val / 5 ∧ win0_0.index t (1 : Fin 2) = t.val % 5 :=
  (by decide +kernel : ∀ t : Fin grid0.N, _)
theorem idx1 : ∀ t : Fin cfg0.N, win0_1.index t (0 : Fin 2) = 0 ∧ win0_1.index t (1 : Fin 2) = t.val % 5 :=
  (by decide +kernel : ∀ t : Fin grid0.N, _)
theorem idx2 : ∀ t : Fin cfg0.N, win0_2.index t (0 : Fin 2) = t.val / 5 ∧ win0_2.index t (1 : Fin 2) = 0 :=
  (by decide +kernel : ∀ t : Fin grid0.N, _)

theorem blk0_at (c : Dev nD) (t : Fin cfg0.N) (r : Fin 768) (l : Fin 1664) (x : Fin 4608) (y : Fin 8320) (hx : x.val = t.val / 5 * 768 + r.val) (hy : y.val = t.val % 5 * 1664 + l.val) :
    blkA m c t (ix2 r l) = opA m c (ix2 x y) := by
  unfold blkA iblk opA
  rw [View.read_apply]
  generalize V m c main_v14 = A
  refine congrArg A (funext fun a => Fin.ext ?_)
  match a with
  | ⟨0, _⟩ =>
    have h : (((cfg0.win 0).blk t).view.emb (ix2 r l) (0 : Fin 2)).val = win0_0.index t 0 * 768 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1664 + 1 * l.val := rfl
    rw [(idx0 t).2, Nat.one_mul] at h
    exact h.trans hy.symm

theorem blk1_at (c : Dev nD) (t : Fin cfg0.N) (r : Fin 1024) (l : Fin 1664) (x : Fin 1024) (y : Fin 8320) (hx : x.val = 0 * 1024 + r.val) (hy : y.val = t.val % 5 * 1664 + l.val) :
    blkB m c t (ix2 r l) = opB m c (ix2 x y) := by
  unfold blkB iblk opB
  rw [View.read_apply]
  generalize V m c main_v28 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1664 + 1 * l.val := rfl
    rw [(idx1 t).2, Nat.one_mul] at h
    exact h.trans hy.symm

/-! ## The product's array after the run -/

def res (c : Dev nD) : Vec Ideal S4608x1024 .f32 := fun i => ∑ k : Fin 8320, opA m c (ix2 (i 0) k) * opB m c (ix2 (i 1) k)

theorem res_at (c : Dev nD) (x : Fin 4608) (y : Fin 1024) : res m c (ix2 x y) = ∑ k : Fin 8320, opA m c (ix2 x k) * opB m c (ix2 y k) := rfl

/-- One run of the sum. -/
def part (c : Dev nD) (x : Fin 4608) (y : Fin 1024) (s : Fin 5) : EReal :=
  ∑ k : Fin 1664, opA m c (ix2 x (⟨s.val * 1664 + k.val, by omega⟩ : Fin 8320)) * opB m c (ix2 y (⟨s.val * 1664 + k.val, by omega⟩ : Fin 8320))

/-- The runs are the whole sum. -/
theorem parts (c : Dev nD) (x : Fin 4608) (y : Fin 1024) : ∑ s : Fin 5, part m c x y s = res m c (ix2 x y) := by
  rw [res_at, show (∑ k : Fin 8320, opA m c (ix2 x k) * opB m c (ix2 y k)) = ∑ k : Fin (5 * 1664), (fun k : Fin 8320 => opA m c (ix2 x k) * opB m c (ix2 y k)) k from rfl,
    ← Equiv.sum_comp finProdFinEquiv, Fintype.sum_prod_type]
  refine Finset.sum_congr rfl fun s _ => Finset.sum_congr rfl fun k _ => ?_
  have e : (finProdFinEquiv (s, k) : Fin 8320) = (⟨s.val * 1664 + k.val, by omega⟩ : Fin 8320) := Fin.ext (by show k.val + 1664 * s.val = s.val * 1664 + k.val; omega)
  exact congrArg (fun k : Fin 8320 => opA m c (ix2 x k) * opB m c (ix2 y k)) e.symm

theorem part_of (c : Dev nD) (t : Fin cfg0.N) (r : Fin 768) (l : Fin 1024) (x : Fin 4608) (y : Fin 1024) (s : Fin 5) (hx : x.val = t.val / 5 * 768 + r.val) (hy : y.val = 0 * 1024 + l.val) (hs : s.val = t.val % 5) :
    (∑ k : Fin 1664, blkA m c t (ix2 r k) * blkB m c t (ix2 l k)) = part m c x y s := by
  refine Finset.sum_congr rfl fun k _ => ?_
  rw [blk0_at m c t r k x (⟨s.val * 1664 + k.val, by omega⟩ : Fin 8320) hx (by dsimp only; rw [hs]), blk1_at m c t l k y (⟨s.val * 1664 + k.val, by omega⟩ : Fin 8320) hy (by dsimp only; rw [hs])]

theorem scr_first (c : Dev nD) (t : Fin cfg0.N) (h0 : t.val % 5 = 0) (r : Fin 768) (l : Fin 1024) (x : Fin 4608) (y : Fin 1024) (hx : x.val = t.val / 5 * 768 + r.val) (hy : y.val = 0 * 1024 + l.val) :
    ((outsAt0 m c t.val t.isLt).2 : Vec Ideal S768x1024 .f32) (ix2 r l) = part m c x y (⟨0, by decide⟩ : Fin 5) := by
  rw [outsAt0_A m c t h0 (by omega)]
  dsimp only
  rw [left_first, pay2_at, pay1_at, zero_add]
  exact part_of m c t r l x y (⟨0, by decide⟩ : Fin 5) hx hy h0.symm

theorem scr_mid (c : Dev nD) (t : Fin cfg0.N) (h0 : ¬t.val % 5 = 0) (h1 : ¬t.val % 5 = 4) (s : Fin 5) (hs : s.val = t.val % 5) (r : Fin 768) (l : Fin 1024) (x : Fin 4608) (y : Fin 1024) (hx : x.val = t.val / 5 * 768 + r.val) (hy : y.val = 0 * 1024 + l.val) :
    ((outsAt0 m c t.val t.isLt).2 : Vec Ideal S768x1024 .f32) (ix2 r l)
      = ((outsAt0 m c (t.val - 1) (Nat.lt_of_le_of_lt (Nat.sub_le _ _) t.isLt)).2 : Vec Ideal S768x1024 .f32) (ix2 r l) + part m c x y s := by
  rw [outsAt0_B m c t h0 h1]
  dsimp only
  rw [left_mid, pay2_at]
  exact congrArg (_ + ·) (part_of m c t r l x y s hx hy hs)

theorem out_last (c : Dev nD) (t : Fin cfg0.N) (h1 : t.val % 5 = 4) (r : Fin 768) (l : Fin 1024) (x : Fin 4608) (y : Fin 1024) (hx : x.val = t.val / 5 * 768 + r.val) (hy : y.val = 0 * 1024 + l.val) :
    ((outsAt0 m c t.val t.isLt).1 : Vec Ideal S768x1024 .f32) (ix2 r l)
      = ((outsAt0 m c (t.val - 1) (Nat.lt_of_le_of_lt (Nat.sub_le _ _) t.isLt)).2 : Vec Ideal S768x1024 .f32) (ix2 r l) + part m c x y (⟨4, by decide⟩ : Fin 5) := by
  rw [outsAt0_C m c t (by omega) h1]
  dsimp only
  rw [left_last, pay2_at]
  exact congrArg (_ + ·) (part_of m c t r l x y (⟨4, by decide⟩ : Fin 5) hx hy h1.symm)

/-- What the last point of a run leaves is the whole sum. -/
theorem left_res (c : Dev nD) (t : Fin cfg0.N) (h1 : t.val % 5 = 4) (r : Fin 768) (l : Fin 1024) (x : Fin 4608) (y : Fin 1024) (hx : x.val = t.val / 5 * 768 + r.val) (hy : y.val = 0 * 1024 + l.val) :
    ((outsAt0 m c t.val t.isLt).1 : Vec Ideal S768x1024 .f32) (ix2 r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p3 := scr_mid m c (⟨t.val - 1, by omega⟩ : Fin cfg0.N) (by first | omega | (dsimp only; omega)) (by first | omega | (dsimp only; omega)) (⟨3, by decide⟩ : Fin 5) (by first | omega | (dsimp only; omega)) r l x y (by first | omega | (dsimp only; omega)) (by first | omega | (dsimp only; omega))
  dsimp only at p3
  rw [p3]
  rw [e (t.val - 1 - 1) (t.val - 2) _ (by omega) (by omega)]
  have p2 := scr_mid m c (⟨t.val - 2, by omega⟩ : Fin cfg0.N) (by first | omega | (dsimp only; omega)) (by first | omega | (dsimp only; omega)) (⟨2, by decide⟩ : Fin 5) (by first | omega | (dsimp only; omega)) r l x y (by first | omega | (dsimp only; omega)) (by first | omega | (dsimp only; omega))
  dsimp only at p2
  rw [p2]
  rw [e (t.val - 2 - 1) (t.val - 3) _ (by omega) (by omega)]
  have p1 := scr_mid m c (⟨t.val - 3, by omega⟩ : Fin cfg0.N) (by first | omega | (dsimp only; omega)) (by first | omega | (dsimp only; omega)) (⟨1, by decide⟩ : Fin 5) (by first | omega | (dsimp only; omega)) r l x y (by first | omega | (dsimp only; omega)) (by first | omega | (dsimp only; omega))
  dsimp only at p1
  rw [p1]
  rw [e (t.val - 3 - 1) (t.val - 4) _ (by omega) (by omega)]
  have p0 := scr_first m c (⟨t.val - 4, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 30 := N_0
  have ht : t.val < 30 := hN ▸ t.isLt
  show (cfg0.win 2).cut (grid0.coords t) ((dats m 0 c).after 2 t) = _
  rw [after0_2]
  funext y
  have h0 : (y 0).val < 768 := (y 0).isLt
  have h1 : (y 1).val < 1024 := (y 1).isLt
  have hy : (cfg0.win 2).xinj (grid0.coords t) y = ix2 (⟨(y 0).val, h0⟩ : Fin 768) (⟨(y 1).val, h1⟩ : Fin 1024) := funext fun a => match a with
    | ⟨0, _⟩ => rfl
    | ⟨1, _⟩ => rfl
  have he : ((cfg0.win 2).blk t).view.emb y = ix2 (⟨t.val / 5 * 768 + (y 0).val, by omega⟩ : Fin 4608) (⟨0 * 1024 + (y 1).val, by omega⟩ : Fin 1024) := by
    have b0 : (((cfg0.win 2).blk t).view.emb y (0 : Fin 2)).val = win0_2.index t 0 * 768 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t.val t.isLt).1 : Vec Ideal S768x1024 .f32) ((cfg0.win 2).xinj (grid0.coords t) y) = _
  rw [hy]
  exact left_res m c t ((flush0_2 t).mp hf) (⟨(y 0).val, h0⟩ : Fin 768) (⟨(y 1).val, h1⟩ : Fin 1024) (⟨t.val / 5 * 768 + (y 0).val, by omega⟩ : Fin 4608) (⟨0 * 1024 + (y 1).val, by omega⟩ : Fin 1024) rfl rfl

theorem mem_blk (t : Fin cfg0.N) (i : S4608x1024.Idx) :
    i ∈ ((cfg0.win 2).blk t).view.set ↔ ∀ a : Fin 2, win0_2.index t a * S768x1024.size a ≤ (i a).val ∧ (i a).val < win0_2.index t a * S768x1024.size a + S768x1024.size a := by
  show i ∈ ((View.whole main_v29).slice (win0_2.rect t)).set ↔ _
  rw [View.set_slice_whole, Rect.mem_set_unit]
  exact Iff.rfl

/-- The point that leaves a place. -/
theorem covered (i : S4608x1024.Idx) : ∃ t : Fin cfg0.N, (cfg0.win 2).flush t = true ∧ i ∈ ((cfg0.win 2).blk t).view.set := by
  have hN : cfg0.N = 30 := N_0
  have h0 : (i 0).val < 4608 := (i 0).isLt
  have h1 : (i 1).val < 1024 := (i 1).isLt
  refine ⟨⟨((i 0).val / 768 * 1 + (i 1).val / 1024) * 5 + 4, by omega⟩, (flush0_2 _).mpr (by dsimp only; omega), ?_⟩
  rw [mem_blk]
  intro a
  match a with
  | ⟨0, _⟩ =>
    show win0_2.index _ (0 : Fin 2) * 768 ≤ (i 0).val ∧ (i 0).val < win0_2.index _ (0 : Fin 2) * 768 + 768
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

theorem pad4608 (i : S4608x96.Idx) : (broadcastInDim S4608x96 ![] bcast_S_S4608x96 (constant (F := Ideal) S_ .bf16 0x0000#16) : Vec Ideal S4608x96 .bf16) i = 0 := by
  refine (broadcastInDim_apply _ _ _ i (fun a => a.elim0) (fun a => a.elim0)).trans ?_
  show Ideal.ofBits .bf16 0x0000#16 = 0
  exact Ideal.ofBits_zero _

theorem pad1024 (i : S1024x96.Idx) : (broadcastInDim S1024x96 ![] bcast_S_S1024x96 (constant (F := Ideal) S_ .bf16 0x0000#16) : Vec Ideal S1024x96 .bf16) i = 0 := by
  refine (broadcastInDim_apply _ _ _ i (fun a => a.elim0) (fun a => a.elim0)).trans ?_
  show Ideal.ofBits .bf16 0x0000#16 = 0
  exact Ideal.ofBits_zero _

/-- The arguments the lines read. -/
def dp (c : Dev nD) : S4608x8224.Idx → EReal := shapeCast S4608x8224 (m ((c : Thread nD τ).loc main_arg0)) shapeCasts_S2x2304x8224_S4608x8224
def wt (c : Dev nD) : S1024x8224.Idx → EReal := m ((c : Thread nD τ).loc main_arg1)

theorem arr0 (c : Dev nD) : opA m c = (Pack.lay (dp m c) slices_S4608x8224_S4608x4096_0_0 slices_S4608x8224_S4608x1024_0_4128 slices_S4608x8224_S4608x1024_0_5152 slices_S4608x8224_S4608x2048_0_6176 slices_S4608x8224_S4608x32_0_4096 shapeCasts_S4608x1024_S4608x8x128 bcast_S4608x8x128_S4608x8x1x128_0_1_3 concatenates_S4608x8x1x128_S4608x8x1x128_S4608x8x2x128_d2 shapeCasts_S4608x8x2x128_S4608x2048 concatenates_S4608x4096_S4608x2048_S4608x2048_S4608x32_S4608x96_S4608x8320_d1 (broadcastInDim S4608x96 ![] bcast_S_S4608x96 (constant (F := Ideal) S_ .bf16 0x0000#16))) := by
  unfold opA V dp
  after_reads_simp
  rfl

theorem arr1 (c : Dev nD) : opB m c = (Pack.lay (wt m c) slices_S1024x8224_S1024x4096_0_0 slices_S1024x8224_S1024x1024_0_4128 slices_S1024x8224_S1024x1024_0_5152 slices_S1024x8224_S1024x2048_0_6176 slices_S1024x8224_S1024x32_0_4096 shapeCasts_S1024x1024_S1024x8x128 bcast_S1024x8x128_S1024x8x1x128_0_1_3 concatenates_S1024x8x1x128_S1024x8x1x128_S1024x8x2x128_d2 shapeCasts_S1024x8x2x128_S1024x2048 concatenates_S1024x4096_S1024x2048_S1024x2048_S1024x32_S1024x96_S1024x8320_d1 (broadcastInDim S1024x96 ![] bcast_S_S1024x96 (constant (F := Ideal) S_ .bf16 0x0000#16))) := by
  unfold opB V wt
  after_reads_simp
  rfl

/-- The sum over the laid-out columns is the sum over the columns. -/
theorem res_cols (c : Dev nD) (x : Fin 4608) (y : Fin 1024) : res m c (ix2 x y) = ∑ j : Fin 8224, dp m c (ix2 x j) * wt m c (ix2 y j) := by
  rw [res_at, Pack.sum_pk]
  · refine Finset.sum_congr rfl fun j _ => ?_
    rw [arr0, arr1, Pack.lay_at, Pack.lay_at]
  · intro q hq
    rw [arr0, Pack.lay_pad _ _ _ _ _ _ _ _ _ _ _ _ pad4608 x q hq, zero_mul]

/-! ## The run -/

theorem run : θ_run (defs (F := Ideal)) (onTc (τ := τ) (main (F := Ideal))) ⟨m, fun _ => 0, ρ⟩ fun r => ∀ c : Dev nD,
      r.2.mem ((c : Thread nD τ).loc main_v29) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨(h c).1.trans (final m c), (h c).2⟩) (run_blocks m ρ)

open Cert.Reference7Ideal.Read

theorem res_ref (c : Dev nD) : res m c = (val_main_v3 (F := Ideal) (m ((c : Thread nD τ).loc main_arg0)) (m ((c : Thread nD τ).loc main_arg1)) : Vec Ideal S4608x1024 .f32) := by
  funext i
  obtain ⟨x, y, rfl⟩ : ∃ (x : Fin 4608) (y : Fin 1024), i = ix2 x y := ⟨i 0, i 1, eq_ix2 i⟩
  rw [val_main_v3_apply]
  refine (res_cols m c x y).trans ?_
  refine Finset.sum_congr rfl fun k _ => ?_
  unfold val_main_v2 wt dp
  refine congrArg₂ (· * ·) (congrArg _ (funext fun a => ?_)) (congrArg _ (funext fun a => Fin.ext ?_))
  · match a with
    | ⟨0, _⟩ => rfl
    | ⟨1, _⟩ => rfl
  · match a with
    | ⟨0, _⟩ => rfl
    | ⟨1, _⟩ => rfl

end Cert.Kernel7Ideal.Inx

/-! ## The reference's run, and the two together -/

namespace Cert.Reference7Ideal.Inx

open Cert.Reference7Ideal Cert.Reference7Ideal.Gen Cert.Reference7Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Cert.Reference7Ideal.Value.run m ρ)

end Cert.Reference7Ideal.Inx

namespace Cert

open Idealize.ShloMosaic Idealize.ShloMosaic.TcCoe Idealize.SL.Sem

theorem algebraic7 : algebraic_Kernel7Ideal_Reference7Ideal (hKernel7Ideal := Cert.Kernel7Ideal.Gen.facts) (hReference7Ideal := Cert.Reference7Ideal.Gen.facts) := by
  intro m g m' g' hpre hargs
  refine ⟨fun c => Cert.Kernel7Ideal.Inx.res m c, Cert.Kernel7Ideal.Inx.run m g, ?_⟩
  refine (θ_run _ _ _).mono (fun r h c => ⟨?_, (h c).2⟩) (Cert.Reference7Ideal.Value.run m' g')
  show _ = Cert.Kernel7Ideal.Inx.res m c
  rw [Cert.Kernel7Ideal.Inx.res_ref, ← (hargs c).1, ← (hargs c).2.1]
  exact (h c).1

end Cert

end
-- ==== Proof.Mm9.lean ====
module

public import proofs.«01_k».proof.Defs
public import proofs.«01_k».proof.Proof.Pack
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S768x1024 .bf16) (h0 : a0.IsWhole) (a1 : Memref sig .tc .vmem S1024x1664 .bf16) (h1 : a1.IsWhole) (a2 : Memref sig .tc .vmem S768x1664 .f32) (h2 : a2.IsWhole) (a3 : Memref sig .tc .vmem S768x1664 .f32) (h3 : a3.IsWhole) (hc0 : cond0_0 i) (hc1 : cond0_1 i) (x0 : Vec F S768x1024 .bf16) (x1 : Vec F S1024x1664 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 768) (l : Fin 1664) : k0_pay1 (F := Ideal) (ix2 r l) = 0 := by
  pointwise [k0_pay1]

theorem pay2_at (b : Vec Ideal S1024x1664 .bf16) (z : Vec Ideal S768x1664 .f32) (a : Vec Ideal S768x1024 .bf16) (r : Fin 768) (l : Fin 1664) :
    k0_pay2 (F := Ideal) b z a (ix2 r l) = z (ix2 r l) + ∑ k : Fin 1024, a (ix2 r k) * b (ix2 k l) := by
  pointwise [k0_pay2]

variable (m : (ℓ : Loc nD τ sig) → Buf (Elt Ideal) ℓ) (ρ : Dev nD → PrngReg)

/-- The two factors' arrays as the product finds them. -/
def opA (c : Dev nD) : S4608x1024.Idx → EReal := V m c main_v1
def opB (c : Dev nD) : S1024x8320.Idx → EReal := V m c main_v15

/-! ## The blocks -/

def blkA (c : Dev nD) (t : Fin cfg0.N) : Vec Ideal S768x1024 .bf16 := iblk m c 0 t
def blkB (c : Dev nD) (t : Fin cfg0.N) : Vec Ideal S1024x1664 .bf16 := iblk m c 1 t

theorem idx0 : ∀ t : Fin cfg0.N, win0_0.index t (0 : Fin 2) = t.val / 5 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 5 :=
  (by decide +kernel : ∀ t : Fin grid0.N, _)
theorem idx2 : ∀ t : Fin cfg0.N, win0_2.index t (0 : Fin 2) = t.val / 5 ∧ win0_2.index t (1 : Fin 2) = t.val % 5 :=
  (by decide +kernel : ∀ t : Fin grid0.N, _)

theorem blk0_at (c : Dev nD) (t : Fin cfg0.N) (r : Fin 768) (l : Fin 1024) (x : Fin 4608) (y : Fin 1024) (hx : x.val = t.val / 5 * 768 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 768 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1664) (x : Fin 1024) (y : Fin 8320) (hx : x.val = 0 * 1024 + r.val) (hy : y.val = t.val % 5 * 1664 + l.val) :
    blkB m c t (ix2 r l) = opB m c (ix2 x y) := by
  unfold blkB iblk opB
  rw [View.read_apply]
  generalize V m c main_v15 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1664 + 1 * l.val := rfl
    rw [(idx1 t).2, Nat.one_mul] at h
    exact h.trans hy.symm

/-! ## The product's array after the run -/

def res (c : Dev nD) : Vec Ideal S4608x8320 .f32 := fun i => ∑ k : Fin 1024, opA m c (ix2 (i 0) k) * opB m c (ix2 k (i 1))

theorem res_at (c : Dev nD) (x : Fin 4608) (y : Fin 8320) : res m c (ix2 x y) = ∑ k : Fin 1024, opA m c (ix2 x k) * opB m c (ix2 k y) := rfl

/-- One run of the sum. -/
def part (c : Dev nD) (x : Fin 4608) (y : Fin 8320) (s : Fin 1) : EReal :=
  ∑ k : Fin 1024, opA m c (ix2 x (⟨s.val * 1024 + k.val, by omega⟩ : Fin 1024)) * opB m c (ix2 (⟨s.val * 1024 + k.val, by omega⟩ : Fin 1024) y)

/-- The runs are the whole sum. -/
theorem parts (c : Dev nD) (x : Fin 4608) (y : Fin 8320) : ∑ s : Fin 1, part m c x y s = res m c (ix2 x y) := by
  rw [res_at, show (∑ k : Fin 1024, opA m c (ix2 x k) * opB m c (ix2 k y)) = ∑ k : Fin (1 * 1024), (fun k : Fin 1024 => opA m c (ix2 x k) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 k y)) e.symm

theorem part_of (c : Dev nD) (t : Fin cfg0.N) (r : Fin 768) (l : Fin 1664) (x : Fin 4608) (y : Fin 8320) (s : Fin 1) (hx : x.val = t.val / 5 * 768 + r.val) (hy : y.val = t.val % 5 * 1664 + l.val) (hs : s.val = 0) :
    (∑ k : Fin 1024, blkA m c t (ix2 r k) * blkB m c t (ix2 k l)) = part m c x y s := by
  refine Finset.sum_congr rfl fun k _ => ?_
  rw [blk0_at m c t r k x (⟨s.val * 1024 + k.val, by omega⟩ : Fin 1024) hx (by dsimp only; rw [hs]), blk1_at m c t k l (⟨s.val * 1024 + k.val, by omega⟩ : Fin 1024) y (by dsimp only; rw [hs]) hy]

/-- What a point leaves is the whole sum. -/
theorem left_res (c : Dev nD) (t : Fin cfg0.N) (r : Fin 768) (l : Fin 1664) (x : Fin 4608) (y : Fin 8320) (hx : x.val = t.val / 5 * 768 + r.val) (hy : y.val = t.val % 5 * 1664 + l.val) :
    ((outsAt0 m c t : Vec Ideal S768x1664 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 30 := N_0
  have ht : t.val < 30 := hN ▸ t.isLt
  show (cfg0.win 2).cut (grid0.coords t) ((dats m 0 c).after 2 t) = _
  rw [after0_2]
  funext y
  have h0 : (y 0).val < 768 := (y 0).isLt
  have h1 : (y 1).val < 1664 := (y 1).isLt
  have hy : (cfg0.win 2).xinj (grid0.coords t) y = ix2 (⟨(y 0).val, h0⟩ : Fin 768) (⟨(y 1).val, h1⟩ : Fin 1664) := funext fun a => match a with
    | ⟨0, _⟩ => rfl
    | ⟨1, _⟩ => rfl
  have he : ((cfg0.win 2).blk t).view.emb y = ix2 (⟨t.val / 5 * 768 + (y 0).val, by omega⟩ : Fin 4608) (⟨t.val % 5 * 1664 + (y 1).val, by omega⟩ : Fin 8320) := by
    have b0 : (((cfg0.win 2).blk t).view.emb y (0 : Fin 2)).val = win0_2.index t 0 * 768 + 1 * (y 0).val := rfl
    have b1 : (((cfg0.win 2).blk t).view.emb y (1 : Fin 2)).val = win0_2.index t 1 * 1664 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S768x1664 .f32) ((cfg0.win 2).xinj (grid0.coords t) y) = _
  rw [hy]
  exact left_res m c t (⟨(y 0).val, h0⟩ : Fin 768) (⟨(y 1).val, h1⟩ : Fin 1664) (⟨t.val / 5 * 768 + (y 0).val, by omega⟩ : Fin 4608) (⟨t.val % 5 * 1664 + (y 1).val, by omega⟩ : Fin 8320) rfl rfl

theorem mem_blk (t : Fin cfg0.N) (i : S4608x8320.Idx) :
    i ∈ ((cfg0.win 2).blk t).view.set ↔ ∀ a : Fin 2, win0_2.index t a * S768x1664.size a ≤ (i a).val ∧ (i a).val < win0_2.index t a * S768x1664.size a + S768x1664.size a := by
  show i ∈ ((View.whole main_v16).slice (win0_2.rect t)).set ↔ _
  rw [View.set_slice_whole, Rect.mem_set_unit]
  exact Iff.rfl

/-- The point that leaves a place. -/
theorem covered (i : S4608x8320.Idx) : ∃ t : Fin cfg0.N, (cfg0.win 2).flush t = true ∧ i ∈ ((cfg0.win 2).blk t).view.set := by
  have hN : cfg0.N = 30 := N_0
  have h0 : (i 0).val < 4608 := (i 0).isLt
  have h1 : (i 1).val < 8320 := (i 1).isLt
  refine ⟨⟨((i 0).val / 768 * 5 + (i 1).val / 1664) * 1 + 0, by omega⟩, flush0_2 _, ?_⟩
  rw [mem_blk]
  intro a
  match a with
  | ⟨0, _⟩ =>
    show win0_2.index _ (0 : Fin 2) * 768 ≤ (i 0).val ∧ (i 0).val < win0_2.index _ (0 : Fin 2) * 768 + 768
    rw [(idx2 _).1]
    try dsimp only
    omega
  | ⟨1, _⟩ =>
    show win0_2.index _ (1 : Fin 2) * 1664 ≤ (i 1).val ∧ (i 1).val < win0_2.index _ (1 : Fin 2) * 1664 + 1664
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

theorem pad1024 (i : S1024x96.Idx) : (broadcastInDim S1024x96 ![] bcast_S_S1024x96 (constant (F := Ideal) S_ .bf16 0x0000#16) : Vec Ideal S1024x96 .bf16) i = 0 := by
  refine (broadcastInDim_apply _ _ _ i (fun a => a.elim0) (fun a => a.elim0)).trans ?_
  show Ideal.ofBits .bf16 0x0000#16 = 0
  exact Ideal.ofBits_zero _

/-- The arguments the lines read. -/
def uu (c : Dev nD) : S4608x1024.Idx → EReal := shapeCast S4608x1024 (m ((c : Thread nD τ).loc main_arg0)) shapeCasts_S2x2304x1024_S4608x1024
def wt (c : Dev nD) : S1024x8224.Idx → EReal := m ((c : Thread nD τ).loc main_arg1)

theorem arr0 (c : Dev nD) : opA m c = uu m c := by
  unfold opA V uu
  after_reads_simp
  rfl

theorem arr1 (c : Dev nD) : opB m c = (Pack.lay (wt m c) slices_S1024x8224_S1024x4096_0_0 slices_S1024x8224_S1024x1024_0_4128 slices_S1024x8224_S1024x1024_0_5152 slices_S1024x8224_S1024x2048_0_6176 slices_S1024x8224_S1024x32_0_4096 shapeCasts_S1024x1024_S1024x8x128 bcast_S1024x8x128_S1024x8x1x128_0_1_3 concatenates_S1024x8x1x128_S1024x8x1x128_S1024x8x2x128_d2 shapeCasts_S1024x8x2x128_S1024x2048 concatenates_S1024x4096_S1024x2048_S1024x2048_S1024x32_S1024x96_S1024x8320_d1 (broadcastInDim S1024x96 ![] bcast_S_S1024x96 (constant (F := Ideal) S_ .bf16 0x0000#16))) := by
  unfold opB V wt
  after_reads_simp
  rfl

theorem opB_at (c : Dev nD) (k : Fin 1024) (j : Fin 8224) : opB m c (ix2 k (Pack.pk j)) = wt m c (ix2 k j) := by
  rw [arr1, Pack.lay_at]

/-! ## The host lines after it, and the run -/

def W (c : Dev nD) (b : Ref sig .tc) : Buf (Elt Ideal) ((c : Thread nD τ).loc b) := Pipeline.afterTail₀ cfgs (dats m) 0 (V0 m) [hostOps1] c b

theorem tail_acc (c : Dev nD) :
    Pipeline.withArrays cfg0.spec c (V0 m c) (fun w => (dats m 0 c).arrAt w cfg0.N) (Proc.devRef .tc main_v16) = res m c :=
  (Pipeline.withArrays_arr cfg0.spec (by decide) c (V0 m c) _ 2).trans (final m c)

/-- The result: the columns back in their order. -/
def fin (c : Dev nD) : Vec Ideal S4608x8224 .f32 := (Pack.back (res m c) slices_S4608x8320_S4608x4096_0_0 slices_S4608x8320_S4608x2048_0_4096 slices_S4608x8320_S4608x32_0_8192 slices_S4608x8320_S4608x2048_0_6144 shapeCasts_S4608x2048_S4608x8x2x128 slices_S4608x8x2x128_S4608x8x1x128_0_0_0_0 slices_S4608x8x2x128_S4608x8x1x128_0_0_1_0 shapeCasts_S4608x8x1x128_S4608x8x128 shapeCasts_S4608x8x128_S4608x1024 concatenates_S4608x4096_S4608x32_S4608x1024_S4608x1024_S4608x2048_S4608x8224_d1)

theorem W_eq (c : Dev nD) : W m c main_v28 = fin m c := by
  unfold fin
  rw [← tail_acc]
  unfold W Pipeline.afterTail₀
  generalize Pipeline.withArrays cfg0.spec c (V0 m c) (fun w => (dats m 0 c).arrAt w cfg0.N) = Y
  show StableHlo.after hostOps1 Y _ = _
  unfold hostOps1
  simp only [StableHlo.after_cons, StableHlo.after_nil]
  after_results_simp
  rfl

theorem fin_at (c : Dev nD) (x : Fin 4608) (j : Fin 8224) : fin m c (ix2 x j) = ∑ k : Fin 1024, uu m c (ix2 x k) * wt m c (ix2 k j) := by
  unfold fin
  rw [Pack.back_at, res_at]
  refine Finset.sum_congr rfl fun k _ => ?_
  rw [arr0, opB_at]

theorem run : θ_run (defs (F := Ideal)) (onTc (τ := τ) (main (F := Ideal))) ⟨m, fun _ => 0, ρ⟩ fun r => ∀ c : Dev nD,
      r.2.mem ((c : Thread nD τ).loc main_v28) = fin m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h.1 c).trans (W_eq m c), h.2 c⟩) (θ_run_and
    ((θ_run defs _ _).mono (fun r h (c : Dev nD) => (show r.2.mem ((c : Thread nD τ).loc main_v28) = W m c main_v28 from (h c).2 main_v28 (Pipeline.mem_restRefs_of main_v28 (by decide) (by decide)))) (run_main m ρ))
    (unchanged m ρ))

open Cert.Reference9Ideal.Read

theorem res_ref (c : Dev nD) : fin m c = (val_main_v1 (F := Ideal) (m ((c : Thread nD τ).loc main_arg0)) (m ((c : Thread nD τ).loc main_arg1)) : Vec Ideal S4608x8224 .f32) := by
  funext i
  obtain ⟨x, y, rfl⟩ : ∃ (x : Fin 4608) (y : Fin 8224), i = ix2 x y := ⟨i 0, i 1, eq_ix2 i⟩
  rw [val_main_v1_apply]
  refine (fin_at m c x y).trans ?_
  refine Finset.sum_congr rfl fun k _ => ?_
  unfold val_main_v0 uu wt
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel9Ideal.In

/-! ## The reference's run, and the two together -/

namespace Cert.Reference9Ideal.In

open Cert.Reference9Ideal Cert.Reference9Ideal.Gen Cert.Reference9Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference9Ideal.Value.run m ρ)

end Cert.Reference9Ideal.In

namespace Cert

open Idealize.ShloMosaic Idealize.ShloMosaic.TcCoe Idealize.SL.Sem

theorem algebraic9 : algebraic_Kernel9Ideal_Reference9Ideal (hKernel9Ideal := Cert.Kernel9Ideal.Gen.facts) (hReference9Ideal := Cert.Reference9Ideal.Gen.facts) := by
  intro m g m' g' hpre hargs
  refine ⟨fun c => Cert.Kernel9Ideal.In.fin m c, Cert.Kernel9Ideal.In.run m g, ?_⟩
  refine (θ_run _ _ _).mono (fun r h c => ⟨?_, (h c).2⟩) (Cert.Reference9Ideal.Value.run m' g')
  show _ = Cert.Kernel9Ideal.In.fin m c
  rw [Cert.Kernel9Ideal.In.res_ref, ← (hargs c).1, ← (hargs c).2]
  exact (h c).1

end Cert

end
-- ==== Proof.Mm10.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.WritesUnit
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead

@[expose] public section

set_option maxRecDepth 16384

noncomputable section

namespace Cert.Kernel10Ideal.Up

open Cert.Kernel10Ideal.Gen Cert.Kernel10Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1x1024x2048 .bf16) (h1 : a1.IsWhole) (a2 : Memref sig .tc .vmem S1024x2048 .f32) (h2 : a2.IsWhole) (a3 : Memref sig .tc .vmem S1024x2048 .f32) (h3 : a3.IsWhole) (hc0 : cond0_0 i) (hc1 : cond0_1 i)
    (x0 : Vec F S1024x1024 .bf16) (x1 : Vec F S1x1024x2048 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 2048) : k0_pay1 (F := Ideal) (ix2 r l) = 0 := by
  pointwise [k0_pay1]

theorem pay2_at (b : Vec Ideal S1x1024x2048 .bf16) (z : Vec Ideal S1024x2048 .f32) (a : Vec Ideal S1024x1024 .bf16) (r : Fin 1024) (l : Fin 2048) :
    k0_pay2 (F := Ideal) b z a (ix2 r l) = z (ix2 r l) + ∑ k : Fin 1024, a (ix2 r k) * b (ix3 0 k l) := by
  pointwise [k0_pay2]

variable (m : (ℓ : Loc nD τ sig) → Buf (Elt Ideal) ℓ) (ρ : Dev nD → PrngReg)

/-- The two factors' arrays as the product finds them, and the weight. -/
def opA (c : Dev nD) : S4096x1024.Idx → EReal := V m c main_v1
def opB (c : Dev nD) : S4x1024x2048.Idx → EReal := V m c main_v4
def wt (c : Dev nD) : S1024x8192.Idx → EReal := m ((c : Thread nD τ).loc main_arg1)

/-! ## The host lines before the product -/

theorem arr0 (c : Dev nD) : opA m c = fun i => (shapeCast S4096x1024 (m ((c : Thread nD τ).loc main_arg0)) shapeCasts_S2x2048x1024_S4096x1024 : Vec Ideal S4096x1024 .f32) i := by
  unfold opA V
  after_reads_simp
  rfl

theorem arr1 (c : Dev nD) : opB m c = fun i => (transpose S4x1024x2048 [1, 0, 2] (shapeCast S1024x4x2048 (m ((c : Thread nD τ).loc main_arg1)) shapeCasts_S1024x8192_S1024x4x2048 : Vec Ideal S1024x4x2048 .f32) transposes_S1024x4x2048_S4x1024x2048_1_0_2 : Vec Ideal S4x1024x2048 .f32) i := by
  unfold opB V
  after_reads_simp
  rfl

/-- A shard's column is the weight's column. -/
theorem arr1_at (c : Dev nD) (s : Fin 4) (l : Fin 1024) (k : Fin 2048) (x : Fin 8192) (hx : x.val = s.val * 2048 + k.val) :
    opB m c (ix3 s l k) = wt m c (ix2 l x) := by
  rw [arr1]
  refine (transpose_apply _ _ _ (ix3 s l k : S4x1024x2048.Idx) (ix3 l s k : S1024x4x2048.Idx) fun d => ?_).trans ?_
  · match d with
    | ⟨0, _⟩ => rfl
    | ⟨1, _⟩ => rfl
    | ⟨2, _⟩ => rfl
  · refine shapeCast_apply _ _ (ix3 l s k : S1024x4x2048.Idx) (ix2 l x : S1024x8192.Idx) ?_
    rewrite [Shape.rowMajor_val_two, Shape.rowMajor_val_three]
    show l.val * 8192 + x.val = (l.val * 4 + s.val) * 2048 + k.val
    omega

/-! ## The blocks -/

theorem idx0 : ∀ t : Fin cfg0.N, win0_0.index t (0 : Fin 2) = t.val / 4 ∧ win0_0.index t (1 : Fin 2) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)
theorem idx1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

theorem blk0_at (c : Dev nD) (t : Fin cfg0.N) (r k : Fin 1024) (x : Fin 4096) (hx : x.val = t.val / 4 * 1024 + r.val) :
    (iblk m c 0 t : Vec Ideal S1024x1024 .bf16) (ix2 r k) = opA m c (ix2 x k) := by
  unfold iblk opA
  rw [View.read_apply]
  generalize V m c main_v1 = A
  refine congrArg A (funext fun a => Fin.ext ?_)
  match a with
  | ⟨0, _⟩ =>
    have h : (((cfg0.win 0).blk t).view.emb (ix2 r k) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r k) (1 : Fin 2)).val = win0_0.index t 1 * 1024 + 1 * k.val := rfl
    rw [(idx0 t).2] at h
    exact h.trans (by show _ = k.val; omega)

theorem blk1_at (c : Dev nD) (t : Fin cfg0.N) (l : Fin 2048) (k : Fin 1024) (y : Fin 8192) (hy : y.val = t.val % 4 * 2048 + l.val) :
    (iblk m c 1 t : Vec Ideal S1x1024x2048 .bf16) (ix3 0 k l) = wt m c (ix2 k y) := by
  refine Eq.trans ?_ (arr1_at m c (⟨t.val % 4, Nat.mod_lt _ (by decide)⟩ : Fin 4) k l y hy)
  unfold iblk opB
  rw [View.read_apply]
  generalize V m c main_v4 = A
  refine congrArg A (funext fun a => Fin.ext ?_)
  match a with
  | ⟨0, _⟩ =>
    have h : (((cfg0.win 1).blk t).view.emb (ix3 0 k l) (0 : Fin 3)).val = win0_1.index t 0 * 1 + 1 * 0 := rfl
    rw [(idx1 t).1] at h
    exact h.trans (by show _ = t.val % 4; omega)
  | ⟨1, _⟩ =>
    have h : (((cfg0.win 1).blk t).view.emb (ix3 0 k l) (1 : Fin 3)).val = win0_1.index t 1 * 1024 + 1 * k.val := rfl
    rw [(idx1 t).2.1] at h
    exact h.trans (by show _ = k.val; omega)
  | ⟨2, _⟩ =>
    have h : (((cfg0.win 1).blk t).view.emb (ix3 0 k l) (2 : Fin 3)).val = win0_1.index t 2 * 2048 + 1 * l.val := rfl
    rw [(idx1 t).2.2] at h
    exact h.trans (by show _ = l.val; omega)

/-! ## The array after the run -/

def res (c : Dev nD) : Vec Ideal S4096x8192 .f32 := fun i => ∑ k : Fin 1024, opA m c (ix2 (i 0) k) * wt m c (ix2 k (i 1))

theorem res_at (c : Dev nD) (x : Fin 4096) (y : Fin 8192) : res m c (ix2 x y) = ∑ k : Fin 1024, opA m c (ix2 x k) * wt m c (ix2 k y) := rfl

theorem flushed_res (c : Dev nD) (t : Fin cfg0.N) :
    (dats m 0 c).flushed 2 t = ((cfg0.win 2).blk t).view.read (Elt Ideal) (res m c) := by
  have hN : cfg0.N = 16 := N_0
  have ht : t.val < 16 := hN ▸ t.isLt
  rw [flushed2_A, left_only]
  funext y
  have h0 : (y 0).val < 1024 := (y 0).isLt
  have h1 : (y 1).val < 2048 := (y 1).isLt
  have hy : (cfg0.win 2).xinj (grid0.coords t) y = ix2 (⟨(y 0).val, h0⟩ : Fin 1024) (⟨(y 1).val, h1⟩ : Fin 2048) := funext fun a => match a with
    | ⟨0, _⟩ => rfl
    | ⟨1, _⟩ => rfl
  have he : ((cfg0.win 2).blk t).view.emb y = ix2 (⟨t.val / 4 * 1024 + (y 0).val, by omega⟩ : Fin 4096) (⟨t.val % 4 * 2048 + (y 1).val, by omega⟩ : Fin 8192) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 2048 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show k0_pay2 (F := Ideal) (iblk m c 1 t) (k0_pay1 (F := Ideal)) (iblk m c 0 t) ((cfg0.win 2).xinj (grid0.coords t) y) = _
  rw [hy, pay2_at, pay1_at, zero_add]
  have e := res_at m c (⟨t.val / 4 * 1024 + (y 0).val, by omega⟩ : Fin 4096) (⟨t.val % 4 * 2048 + (y 1).val, by omega⟩ : Fin 8192)
  refine Eq.trans ?_ e.symm
  refine Finset.sum_congr rfl fun k _ => ?_
  rw [blk0_at m c t (⟨(y 0).val, h0⟩ : Fin 1024) k (⟨t.val / 4 * 1024 + (y 0).val, by omega⟩ : Fin 4096) rfl, blk1_at m c t (⟨(y 1).val, h1⟩ : Fin 2048) k (⟨t.val % 4 * 2048 + (y 1).val, by omega⟩ : Fin 8192) rfl]

theorem mem_blk (t : Fin cfg0.N) (i : S4096x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v5).slice (win0_2.rect t)).set ↔ _
  rw [View.set_slice_whole, Rect.mem_set_unit]
  exact Iff.rfl

/-- The point that leaves a place. -/
theorem covered (i : S4096x8192.Idx) : ∃ t : Fin cfg0.N, (cfg0.win 2).flush t = true ∧ i ∈ ((cfg0.win 2).blk t).view.set := by
  have hN : cfg0.N = 16 := N_0
  have h0 : (i 0).val < 4096 := (i 0).isLt
  have h1 : (i 1).val < 8192 := (i 1).isLt
  refine ⟨⟨(i 0).val / 1024 * 4 + (i 1).val / 2048, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    dsimp only
    omega
  | ⟨1, _⟩ =>
    show win0_2.index _ (1 : Fin 2) * 2048 ≤ (i 1).val ∧ (i 1).val < win0_2.index _ (1 : Fin 2) * 2048 + 2048
    rw [(idx2 _).2]
    dsimp only
    omega

theorem final (c : Dev nD) : (dats m 0 c).arrAt 2 cfg0.N = res m c :=
  (dats m 0 c).arrAt_eq_of_cover 2 _ (fun t _ => flushed_res m c t) covered

/-! ## The run -/

theorem run : θ_run (defs (F := Ideal)) (onTc (τ := τ) (main (F := Ideal))) ⟨m, fun _ => 0, ρ⟩ fun r => ∀ c : Dev nD,
      r.2.mem ((c : Thread nD τ).loc main_v5) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference10Ideal.Read

theorem res_ref (c : Dev nD) : res m c = (val_main_v1 (F := Ideal) (m ((c : Thread nD τ).loc main_arg0)) (m ((c : Thread nD τ).loc main_arg1)) : Vec Ideal S4096x8192 .f32) := by
  funext i
  obtain ⟨x, y, rfl⟩ : ∃ (x : Fin 4096) (y : Fin 8192), i = ix2 x y := ⟨i 0, i 1, eq_ix2 i⟩
  rw [val_main_v1_apply]
  refine (res_at m c x y).trans ?_
  rw [arr0]
  refine Finset.sum_congr rfl fun k _ => ?_
  unfold val_main_v0 wt
  refine congrArg₂ (· * ·) (congrArg _ (funext fun a => ?_)) (congrArg _ (funext fun a => Fin.ext ?_))
  · match a with
    | ⟨0, _⟩ => rfl
    | ⟨1, _⟩ => rfl
  · match a with
    | ⟨0, _⟩ => rfl
    | ⟨1, _⟩ => rfl

end Cert.Kernel10Ideal.Up

/-! ## The reference's run, and the two together -/

namespace Cert.Reference10Ideal.Up

open Cert.Reference10Ideal Cert.Reference10Ideal.Gen Cert.Reference10Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference10Ideal.Value.run m ρ)

end Cert.Reference10Ideal.Up

namespace Cert

open Idealize.ShloMosaic Idealize.ShloMosaic.TcCoe Idealize.SL.Sem

theorem algebraic10 : algebraic_Kernel10Ideal_Reference10Ideal (hKernel10Ideal := Cert.Kernel10Ideal.Gen.facts) (hReference10Ideal := Cert.Reference10Ideal.Gen.facts) := by
  intro m g m' g' hpre hargs
  refine ⟨fun c => Cert.Kernel10Ideal.Up.res m c, Cert.Kernel10Ideal.Up.run m g, ?_⟩
  refine (θ_run _ _ _).mono (fun r h c => ⟨?_, (h c).2⟩) (Cert.Reference10Ideal.Value.run m' g')
  show _ = Cert.Kernel10Ideal.Up.res m c
  rw [Cert.Kernel10Ideal.Up.res_ref, ← (hargs c).1, ← (hargs c).2]
  exact (h c).1

end Cert

end
-- ==== Proof.Mm11.lean ====
module

public import proofs.«01_k».proof.Defs
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel11Ideal.PDownFwd

open Cert.Kernel11Ideal Cert.Kernel11Ideal.Gen Cert.Kernel11Ideal.Value
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : ¬cond0_1 i) (x0 : Vec F S1024x2048 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : ¬cond0_0 i) (hc1 : cond0_1 i) (x0 : Vec F S1024x2048 .bf16) (x1 : Vec F S2048x1024 .bf16) (s : Vec F S1024x1024 .f32) :
    out0_B_2 c i a0 h0 a1 h1 a2 h2 a3 h3 hc0 hc1 x0 x1 s = k0_pay2 x1 s x0 := by
  unfold out0_B_2
  rw [View.read_writes_eq_canon VO0_2 _ _ (cover0_B_2 c i a0 h0 a1 h1 a2 h2 a3 h3 hc0 hc1 x0 x1 s)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S2048x1024 .bf16) (z : Vec Ideal S1024x1024 .f32) (a : Vec Ideal S1024x2048 .bf16) (r : Fin 1024) (l : Fin 1024) :
    k0_pay2 (F := Ideal) b z a (ix2 r l) = z (ix2 r l) + ∑ k : Fin 2048, a (ix2 r k) * b (ix2 k l) := by
  pointwise [k0_pay2]

variable (m : (ℓ : Loc nD τ sig) → Buf (Elt Ideal) ℓ) (ρ : Dev nD → PrngReg)

/-- The two factors' arrays as the product finds them. -/
def opA (c : Dev nD) : S4096x4096.Idx → EReal := V m c main_v1
def opB (c : Dev nD) : S4096x1024.Idx → EReal := V m c main_v2

/-! ## The blocks -/

def blkA (c : Dev nD) (t : Fin cfg0.N) : Vec Ideal S1024x2048 .bf16 := iblk m c 0 t
def blkB (c : Dev nD) (t : Fin cfg0.N) : Vec Ideal S2048x1024 .bf16 := iblk m c 1 t

theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)

theorem blk0_at (c : Dev nD) (t : Fin cfg0.N) (r : Fin 1024) (l : Fin 2048) (x : Fin 4096) (y : Fin 4096) (hx : x.val = t.val / 2 * 1024 + r.val) (hy : y.val = t.val % 2 * 2048 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 2048 + 1 * l.val := rfl
    rw [(idx0 t).2, Nat.one_mul] at h
    exact h.trans hy.symm

theorem blk1_at (c : Dev nD) (t : Fin cfg0.N) (r : Fin 2048) (l : Fin 1024) (x : Fin 4096) (y : Fin 1024) (hx : x.val = t.val % 2 * 2048 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 4096, opA m c (ix2 (i 0) k) * opB m c (ix2 k (i 1))

theorem res_at (c : Dev nD) (x : Fin 4096) (y : Fin 1024) : res m c (ix2 x y) = ∑ k : Fin 4096, opA m c (ix2 x k) * opB m c (ix2 k y) := rfl

/-- One run of the sum. -/
def part (c : Dev nD) (x : Fin 4096) (y : Fin 1024) (s : Fin 2) : EReal :=
  ∑ k : Fin 2048, opA m c (ix2 x (⟨s.val * 2048 + k.val, by omega⟩ : Fin 4096)) * opB m c (ix2 (⟨s.val * 2048 + k.val, by omega⟩ : Fin 4096) y)

/-- The runs are the whole sum. -/
theorem parts (c : Dev nD) (x : Fin 4096) (y : Fin 1024) : ∑ s : Fin 2, part m c x y s = res m c (ix2 x y) := by
  rw [res_at, show (∑ k : Fin 4096, opA m c (ix2 x k) * opB m c (ix2 k y)) = ∑ k : Fin (2 * 2048), (fun k : Fin 4096 => opA m c (ix2 x k) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4096) = (⟨s.val * 2048 + k.val, by omega⟩ : Fin 4096) := Fin.ext (by show k.val + 2048 * s.val = s.val * 2048 + k.val; omega)
  exact congrArg (fun k : Fin 4096 => opA m c (ix2 x k) * opB m c (ix2 k y)) e.symm

theorem part_of (c : Dev nD) (t : Fin cfg0.N) (r : Fin 1024) (l : Fin 1024) (x : Fin 4096) (y : Fin 1024) (s : Fin 2) (hx : x.val = t.val / 2 * 1024 + r.val) (hy : y.val = 0 * 1024 + l.val) (hs : s.val = t.val % 2) :
    (∑ k : Fin 2048, blkA m c t (ix2 r k) * blkB m c t (ix2 k l)) = part m c x y s := by
  refine Finset.sum_congr rfl fun k _ => ?_
  rw [blk0_at m c t r k x (⟨s.val * 2048 + k.val, by omega⟩ : Fin 4096) hx (by dsimp only; rw [hs]), blk1_at m c t k l (⟨s.val * 2048 + k.val, by omega⟩ : Fin 4096) y (by dsimp only; rw [hs]) hy]

theorem scr_first (c : Dev nD) (t : Fin cfg0.N) (h0 : t.val % 2 = 0) (r : Fin 1024) (l : Fin 1024) (x : Fin 4096) (y : Fin 1024) (hx : x.val = t.val / 2 * 1024 + r.val) (hy : y.val = 0 * 1024 + l.val) :
    ((outsAt0 m c t.val t.isLt).2 : Vec Ideal S1024x1024 .f32) (ix2 r l) = part m c x y (⟨0, by decide⟩ : Fin 2) := by
  rw [outsAt0_A m c t h0 (by omega)]
  dsimp only
  rw [left_first, pay2_at, pay1_at, zero_add]
  exact part_of m c t r l x y (⟨0, by decide⟩ : Fin 2) hx hy h0.symm

theorem out_last (c : Dev nD) (t : Fin cfg0.N) (h1 : t.val % 2 = 1) (r : Fin 1024) (l : Fin 1024) (x : Fin 4096) (y : Fin 1024) (hx : x.val = t.val / 2 * 1024 + r.val) (hy : y.val = 0 * 1024 + l.val) :
    ((outsAt0 m c t.val t.isLt).1 : Vec Ideal S1024x1024 .f32) (ix2 r l)
      = ((outsAt0 m c (t.val - 1) (Nat.lt_of_le_of_lt (Nat.sub_le _ _) t.isLt)).2 : Vec Ideal S1024x1024 .f32) (ix2 r l) + part m c x y (⟨1, by decide⟩ : Fin 2) := by
  rw [outsAt0_B m c t (by omega) h1]
  dsimp only
  rw [left_last, pay2_at]
  exact congrArg (_ + ·) (part_of m c t r l x y (⟨1, by decide⟩ : Fin 2) hx hy h1.symm)

/-- What the last point of a run leaves is the whole sum. -/
theorem left_res (c : Dev nD) (t : Fin cfg0.N) (h1 : t.val % 2 = 1) (r : Fin 1024) (l : Fin 1024) (x : Fin 4096) (y : Fin 1024) (hx : x.val = t.val / 2 * 1024 + r.val) (hy : y.val = 0 * 1024 + l.val) :
    ((outsAt0 m c t.val t.isLt).1 : Vec Ideal S1024x1024 .f32) (ix2 r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p0 := scr_first m c (⟨t.val - 1, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 8 := N_0
  have ht : t.val < 8 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 2 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t.val t.isLt).1 : Vec Ideal S1024x1024 .f32) ((cfg0.win 2).xinj (grid0.coords t) y) = _
  rw [hy]
  exact left_res m c t ((flush0_2 t).mp hf) (⟨(y 0).val, h0⟩ : Fin 1024) (⟨(y 1).val, h1⟩ : Fin 1024) (⟨t.val / 2 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 8 := N_0
  have h0 : (i 0).val < 4096 := (i 0).isLt
  have h1 : (i 1).val < 1024 := (i 1).isLt
  refine ⟨⟨((i 0).val / 1024 * 1 + (i 1).val / 1024) * 2 + 1, by omega⟩, (flush0_2 _).mpr (by dsimp only; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x4096.Idx → EReal := shapeCast S4096x4096 (m ((c : Thread nD τ).loc main_arg0)) shapeCasts_S2x2048x4096_S4096x4096
def bb (c : Dev nD) : S4096x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference11Ideal.Read

theorem res_ref (c : Dev nD) : res m c = (val_main_v1 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v1_apply]
  refine (res_at m c x y).trans ?_
  rw [arr0, arr1]
  refine Finset.sum_congr rfl fun k _ => ?_
  unfold val_main_v0 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel11Ideal.PDownFwd

/-! ## The reference's run, and the two together -/

namespace Cert.Reference11Ideal.PDownFwd

open Cert.Reference11Ideal Cert.Reference11Ideal.Gen Cert.Reference11Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference11Ideal.Value.run m ρ)

end Cert.Reference11Ideal.PDownFwd

namespace Cert

open Idealize.ShloMosaic Idealize.ShloMosaic.TcCoe Idealize.SL.Sem

theorem algebraic11 : algebraic_Kernel11Ideal_Reference11Ideal (hKernel11Ideal := Cert.Kernel11Ideal.Gen.facts) (hReference11Ideal := Cert.Reference11Ideal.Gen.facts) := by
  intro m g m' g' hpre hargs
  refine ⟨fun c => Cert.Kernel11Ideal.PDownFwd.res m c, Cert.Kernel11Ideal.PDownFwd.run m g, ?_⟩
  refine (θ_run _ _ _).mono (fun r h c => ⟨?_, (h c).2⟩) (Cert.Reference11Ideal.Value.run m' g')
  show _ = Cert.Kernel11Ideal.PDownFwd.res m c
  rw [Cert.Kernel11Ideal.PDownFwd.res_ref, ← (hargs c).1, ← (hargs c).2]
  exact (h c).1

end Cert

end
-- ==== Proof.Mm12.lean ====
module

public import proofs.«01_k».proof.Defs
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel12Ideal.POutFwd

open Cert.Kernel12Ideal Cert.Kernel12Ideal.Gen Cert.Kernel12Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : cond0_1 i) (x0 : Vec F S1024x1024 .bf16) (x1 : Vec F S1024x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S1024x1024 .bf16) (z : Vec Ideal S1024x1024 .f32) (a : Vec Ideal S1024x1024 .bf16) (r : Fin 1024) (l : Fin 1024) :
    k0_pay2 (F := Ideal) b z a (ix2 r l) = z (ix2 r l) + ∑ k : Fin 1024, a (ix2 r k) * b (ix2 k l) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S1024x1024.Idx → EReal := V m c main_v2

/-! ## The blocks -/

def blkA (c : Dev nD) (t : Fin cfg0.N) : Vec Ideal S1024x1024 .bf16 := iblk m c 0 t
def blkB (c : Dev nD) (t : Fin cfg0.N) : Vec Ideal S1024x1024 .bf16 := iblk m c 1 t

theorem idx0 : ∀ t : Fin cfg0.N, win0_0.index t (0 : Fin 2) = t.val / 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 1 ∧ win0_2.index t (1 : Fin 2) = 0 :=
  (by decide +kernel : ∀ t : Fin grid0.N, _)

theorem blk0_at (c : Dev nD) (t : Fin cfg0.N) (r : Fin 1024) (l : Fin 1024) (x : Fin 4096) (y : Fin 1024) (hx : x.val = t.val / 1 * 1024 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1024) (x : Fin 1024) (y : Fin 1024) (hx : x.val = 0 * 1024 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 1024, opA m c (ix2 (i 0) k) * opB m c (ix2 k (i 1))

theorem res_at (c : Dev nD) (x : Fin 4096) (y : Fin 1024) : res m c (ix2 x y) = ∑ k : Fin 1024, opA m c (ix2 x k) * opB m c (ix2 k y) := rfl

/-- One run of the sum. -/
def part (c : Dev nD) (x : Fin 4096) (y : Fin 1024) (s : Fin 1) : EReal :=
  ∑ k : Fin 1024, opA m c (ix2 x (⟨s.val * 1024 + k.val, by omega⟩ : Fin 1024)) * opB m c (ix2 (⟨s.val * 1024 + k.val, by omega⟩ : Fin 1024) y)

/-- The runs are the whole sum. -/
theorem parts (c : Dev nD) (x : Fin 4096) (y : Fin 1024) : ∑ s : Fin 1, part m c x y s = res m c (ix2 x y) := by
  rw [res_at, show (∑ k : Fin 1024, opA m c (ix2 x k) * opB m c (ix2 k y)) = ∑ k : Fin (1 * 1024), (fun k : Fin 1024 => opA m c (ix2 x k) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 k y)) e.symm

theorem part_of (c : Dev nD) (t : Fin cfg0.N) (r : Fin 1024) (l : Fin 1024) (x : Fin 4096) (y : Fin 1024) (s : Fin 1) (hx : x.val = t.val / 1 * 1024 + r.val) (hy : y.val = 0 * 1024 + l.val) (hs : s.val = 0) :
    (∑ k : Fin 1024, blkA m c t (ix2 r k) * blkB m c t (ix2 k l)) = part m c x y s := by
  refine Finset.sum_congr rfl fun k _ => ?_
  rw [blk0_at m c t r k x (⟨s.val * 1024 + k.val, by omega⟩ : Fin 1024) hx (by dsimp only; rw [hs]), blk1_at m c t k l (⟨s.val * 1024 + k.val, by omega⟩ : Fin 1024) y (by dsimp only; rw [hs]) hy]

/-- What a point leaves is the whole sum. -/
theorem left_res (c : Dev nD) (t : Fin cfg0.N) (r : Fin 1024) (l : Fin 1024) (x : Fin 4096) (y : Fin 1024) (hx : x.val = t.val / 1 * 1024 + r.val) (hy : y.val = 0 * 1024 + l.val) :
    ((outsAt0 m c t : Vec Ideal S1024x1024 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 4 := N_0
  have ht : t.val < 4 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 1 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S1024x1024 .f32) ((cfg0.win 2).xinj (grid0.coords t) y) = _
  rw [hy]
  exact left_res m c t (⟨(y 0).val, h0⟩ : Fin 1024) (⟨(y 1).val, h1⟩ : Fin 1024) (⟨t.val / 1 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 4 := N_0
  have h0 : (i 0).val < 4096 := (i 0).isLt
  have h1 : (i 1).val < 1024 := (i 1).isLt
  refine ⟨⟨((i 0).val / 1024 * 1 + (i 1).val / 1024) * 1 + 0, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S1024x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference12Ideal.Read

theorem res_ref (c : Dev nD) : res m c = (val_main_v1 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v1_apply]
  refine (res_at m c x y).trans ?_
  rw [arr0, arr1]
  refine Finset.sum_congr rfl fun k _ => ?_
  unfold val_main_v0 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel12Ideal.POutFwd

/-! ## The reference's run, and the two together -/

namespace Cert.Reference12Ideal.POutFwd

open Cert.Reference12Ideal Cert.Reference12Ideal.Gen Cert.Reference12Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference12Ideal.Value.run m ρ)

end Cert.Reference12Ideal.POutFwd

namespace Cert

open Idealize.ShloMosaic Idealize.ShloMosaic.TcCoe Idealize.SL.Sem

theorem algebraic12 : algebraic_Kernel12Ideal_Reference12Ideal (hKernel12Ideal := Cert.Kernel12Ideal.Gen.facts) (hReference12Ideal := Cert.Reference12Ideal.Gen.facts) := by
  intro m g m' g' hpre hargs
  refine ⟨fun c => Cert.Kernel12Ideal.POutFwd.res m c, Cert.Kernel12Ideal.POutFwd.run m g, ?_⟩
  refine (θ_run _ _ _).mono (fun r h c => ⟨?_, (h c).2⟩) (Cert.Reference12Ideal.Value.run m' g')
  show _ = Cert.Kernel12Ideal.POutFwd.res m c
  rw [Cert.Kernel12Ideal.POutFwd.res_ref, ← (hargs c).1, ← (hargs c).2]
  exact (h c).1

end Cert

end
-- ==== Proof.Mm13.lean ====
module

public import proofs.«01_k».proof.Defs
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel13Ideal.PBdnFwd

open Cert.Kernel13Ideal Cert.Kernel13Ideal.Gen Cert.Kernel13Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : cond0_1 i) (x0 : Vec F S1024x1024 .bf16) (x1 : Vec F S1024x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S1024x1024 .bf16) (z : Vec Ideal S1024x1024 .f32) (a : Vec Ideal S1024x1024 .bf16) (r : Fin 1024) (l : Fin 1024) :
    k0_pay2 (F := Ideal) b z a (ix2 r l) = z (ix2 r l) + ∑ k : Fin 1024, a (ix2 r k) * b (ix2 k l) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S1024x1024.Idx → EReal := V m c main_v2

/-! ## The blocks -/

def blkA (c : Dev nD) (t : Fin cfg0.N) : Vec Ideal S1024x1024 .bf16 := iblk m c 0 t
def blkB (c : Dev nD) (t : Fin cfg0.N) : Vec Ideal S1024x1024 .bf16 := iblk m c 1 t

theorem idx0 : ∀ t : Fin cfg0.N, win0_0.index t (0 : Fin 2) = t.val / 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 1 ∧ win0_2.index t (1 : Fin 2) = 0 :=
  (by decide +kernel : ∀ t : Fin grid0.N, _)

theorem blk0_at (c : Dev nD) (t : Fin cfg0.N) (r : Fin 1024) (l : Fin 1024) (x : Fin 4096) (y : Fin 1024) (hx : x.val = t.val / 1 * 1024 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1024) (x : Fin 1024) (y : Fin 1024) (hx : x.val = 0 * 1024 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 1024, opA m c (ix2 (i 0) k) * opB m c (ix2 k (i 1))

theorem res_at (c : Dev nD) (x : Fin 4096) (y : Fin 1024) : res m c (ix2 x y) = ∑ k : Fin 1024, opA m c (ix2 x k) * opB m c (ix2 k y) := rfl

/-- One run of the sum. -/
def part (c : Dev nD) (x : Fin 4096) (y : Fin 1024) (s : Fin 1) : EReal :=
  ∑ k : Fin 1024, opA m c (ix2 x (⟨s.val * 1024 + k.val, by omega⟩ : Fin 1024)) * opB m c (ix2 (⟨s.val * 1024 + k.val, by omega⟩ : Fin 1024) y)

/-- The runs are the whole sum. -/
theorem parts (c : Dev nD) (x : Fin 4096) (y : Fin 1024) : ∑ s : Fin 1, part m c x y s = res m c (ix2 x y) := by
  rw [res_at, show (∑ k : Fin 1024, opA m c (ix2 x k) * opB m c (ix2 k y)) = ∑ k : Fin (1 * 1024), (fun k : Fin 1024 => opA m c (ix2 x k) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 k y)) e.symm

theorem part_of (c : Dev nD) (t : Fin cfg0.N) (r : Fin 1024) (l : Fin 1024) (x : Fin 4096) (y : Fin 1024) (s : Fin 1) (hx : x.val = t.val / 1 * 1024 + r.val) (hy : y.val = 0 * 1024 + l.val) (hs : s.val = 0) :
    (∑ k : Fin 1024, blkA m c t (ix2 r k) * blkB m c t (ix2 k l)) = part m c x y s := by
  refine Finset.sum_congr rfl fun k _ => ?_
  rw [blk0_at m c t r k x (⟨s.val * 1024 + k.val, by omega⟩ : Fin 1024) hx (by dsimp only; rw [hs]), blk1_at m c t k l (⟨s.val * 1024 + k.val, by omega⟩ : Fin 1024) y (by dsimp only; rw [hs]) hy]

/-- What a point leaves is the whole sum. -/
theorem left_res (c : Dev nD) (t : Fin cfg0.N) (r : Fin 1024) (l : Fin 1024) (x : Fin 4096) (y : Fin 1024) (hx : x.val = t.val / 1 * 1024 + r.val) (hy : y.val = 0 * 1024 + l.val) :
    ((outsAt0 m c t : Vec Ideal S1024x1024 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 4 := N_0
  have ht : t.val < 4 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 1 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S1024x1024 .f32) ((cfg0.win 2).xinj (grid0.coords t) y) = _
  rw [hy]
  exact left_res m c t (⟨(y 0).val, h0⟩ : Fin 1024) (⟨(y 1).val, h1⟩ : Fin 1024) (⟨t.val / 1 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 4 := N_0
  have h0 : (i 0).val < 4096 := (i 0).isLt
  have h1 : (i 1).val < 1024 := (i 1).isLt
  refine ⟨⟨((i 0).val / 1024 * 1 + (i 1).val / 1024) * 1 + 0, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S1024x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference13Ideal.Read

theorem res_ref (c : Dev nD) : res m c = (val_main_v1 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v1_apply]
  refine (res_at m c x y).trans ?_
  rw [arr0, arr1]
  refine Finset.sum_congr rfl fun k _ => ?_
  unfold val_main_v0 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel13Ideal.PBdnFwd

/-! ## The reference's run, and the two together -/

namespace Cert.Reference13Ideal.PBdnFwd

open Cert.Reference13Ideal Cert.Reference13Ideal.Gen Cert.Reference13Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference13Ideal.Value.run m ρ)

end Cert.Reference13Ideal.PBdnFwd

namespace Cert

open Idealize.ShloMosaic Idealize.ShloMosaic.TcCoe Idealize.SL.Sem

theorem algebraic13 : algebraic_Kernel13Ideal_Reference13Ideal (hKernel13Ideal := Cert.Kernel13Ideal.Gen.facts) (hReference13Ideal := Cert.Reference13Ideal.Gen.facts) := by
  intro m g m' g' hpre hargs
  refine ⟨fun c => Cert.Kernel13Ideal.PBdnFwd.res m c, Cert.Kernel13Ideal.PBdnFwd.run m g, ?_⟩
  refine (θ_run _ _ _).mono (fun r h c => ⟨?_, (h c).2⟩) (Cert.Reference13Ideal.Value.run m' g')
  show _ = Cert.Kernel13Ideal.PBdnFwd.res m c
  rw [Cert.Kernel13Ideal.PBdnFwd.res_ref, ← (hargs c).1, ← (hargs c).2]
  exact (h c).1

end Cert

end
-- ==== Proof.Mm14.lean ====
module

public import proofs.«01_k».proof.Defs
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel14Ideal.PBlruFwd

open Cert.Kernel14Ideal Cert.Kernel14Ideal.Gen Cert.Kernel14Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : cond0_1 i) (x0 : Vec F S1024x1024 .bf16) (x1 : Vec F S1024x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S1024x1024 .bf16) (z : Vec Ideal S1024x1024 .f32) (a : Vec Ideal S1024x1024 .bf16) (r : Fin 1024) (l : Fin 1024) :
    k0_pay2 (F := Ideal) b z a (ix2 r l) = z (ix2 r l) + ∑ k : Fin 1024, a (ix2 r k) * b (ix2 k l) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S1024x1024.Idx → EReal := V m c main_v2

/-! ## The blocks -/

def blkA (c : Dev nD) (t : Fin cfg0.N) : Vec Ideal S1024x1024 .bf16 := iblk m c 0 t
def blkB (c : Dev nD) (t : Fin cfg0.N) : Vec Ideal S1024x1024 .bf16 := iblk m c 1 t

theorem idx0 : ∀ t : Fin cfg0.N, win0_0.index t (0 : Fin 2) = t.val / 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 1 ∧ win0_2.index t (1 : Fin 2) = 0 :=
  (by decide +kernel : ∀ t : Fin grid0.N, _)

theorem blk0_at (c : Dev nD) (t : Fin cfg0.N) (r : Fin 1024) (l : Fin 1024) (x : Fin 4096) (y : Fin 1024) (hx : x.val = t.val / 1 * 1024 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1024) (x : Fin 1024) (y : Fin 1024) (hx : x.val = 0 * 1024 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 1024, opA m c (ix2 (i 0) k) * opB m c (ix2 k (i 1))

theorem res_at (c : Dev nD) (x : Fin 4096) (y : Fin 1024) : res m c (ix2 x y) = ∑ k : Fin 1024, opA m c (ix2 x k) * opB m c (ix2 k y) := rfl

/-- One run of the sum. -/
def part (c : Dev nD) (x : Fin 4096) (y : Fin 1024) (s : Fin 1) : EReal :=
  ∑ k : Fin 1024, opA m c (ix2 x (⟨s.val * 1024 + k.val, by omega⟩ : Fin 1024)) * opB m c (ix2 (⟨s.val * 1024 + k.val, by omega⟩ : Fin 1024) y)

/-- The runs are the whole sum. -/
theorem parts (c : Dev nD) (x : Fin 4096) (y : Fin 1024) : ∑ s : Fin 1, part m c x y s = res m c (ix2 x y) := by
  rw [res_at, show (∑ k : Fin 1024, opA m c (ix2 x k) * opB m c (ix2 k y)) = ∑ k : Fin (1 * 1024), (fun k : Fin 1024 => opA m c (ix2 x k) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 k y)) e.symm

theorem part_of (c : Dev nD) (t : Fin cfg0.N) (r : Fin 1024) (l : Fin 1024) (x : Fin 4096) (y : Fin 1024) (s : Fin 1) (hx : x.val = t.val / 1 * 1024 + r.val) (hy : y.val = 0 * 1024 + l.val) (hs : s.val = 0) :
    (∑ k : Fin 1024, blkA m c t (ix2 r k) * blkB m c t (ix2 k l)) = part m c x y s := by
  refine Finset.sum_congr rfl fun k _ => ?_
  rw [blk0_at m c t r k x (⟨s.val * 1024 + k.val, by omega⟩ : Fin 1024) hx (by dsimp only; rw [hs]), blk1_at m c t k l (⟨s.val * 1024 + k.val, by omega⟩ : Fin 1024) y (by dsimp only; rw [hs]) hy]

/-- What a point leaves is the whole sum. -/
theorem left_res (c : Dev nD) (t : Fin cfg0.N) (r : Fin 1024) (l : Fin 1024) (x : Fin 4096) (y : Fin 1024) (hx : x.val = t.val / 1 * 1024 + r.val) (hy : y.val = 0 * 1024 + l.val) :
    ((outsAt0 m c t : Vec Ideal S1024x1024 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 4 := N_0
  have ht : t.val < 4 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 1 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S1024x1024 .f32) ((cfg0.win 2).xinj (grid0.coords t) y) = _
  rw [hy]
  exact left_res m c t (⟨(y 0).val, h0⟩ : Fin 1024) (⟨(y 1).val, h1⟩ : Fin 1024) (⟨t.val / 1 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 4 := N_0
  have h0 : (i 0).val < 4096 := (i 0).isLt
  have h1 : (i 1).val < 1024 := (i 1).isLt
  refine ⟨⟨((i 0).val / 1024 * 1 + (i 1).val / 1024) * 1 + 0, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S1024x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference14Ideal.Read

theorem res_ref (c : Dev nD) : res m c = (val_main_v1 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v1_apply]
  refine (res_at m c x y).trans ?_
  rw [arr0, arr1]
  refine Finset.sum_congr rfl fun k _ => ?_
  unfold val_main_v0 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel14Ideal.PBlruFwd

/-! ## The reference's run, and the two together -/

namespace Cert.Reference14Ideal.PBlruFwd

open Cert.Reference14Ideal Cert.Reference14Ideal.Gen Cert.Reference14Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference14Ideal.Value.run m ρ)

end Cert.Reference14Ideal.PBlruFwd

namespace Cert

open Idealize.ShloMosaic Idealize.ShloMosaic.TcCoe Idealize.SL.Sem

theorem algebraic14 : algebraic_Kernel14Ideal_Reference14Ideal (hKernel14Ideal := Cert.Kernel14Ideal.Gen.facts) (hReference14Ideal := Cert.Reference14Ideal.Gen.facts) := by
  intro m g m' g' hpre hargs
  refine ⟨fun c => Cert.Kernel14Ideal.PBlruFwd.res m c, Cert.Kernel14Ideal.PBlruFwd.run m g, ?_⟩
  refine (θ_run _ _ _).mono (fun r h c => ⟨?_, (h c).2⟩) (Cert.Reference14Ideal.Value.run m' g')
  show _ = Cert.Kernel14Ideal.PBlruFwd.res m c
  rw [Cert.Kernel14Ideal.PBlruFwd.res_ref, ← (hargs c).1, ← (hargs c).2]
  exact (h c).1

end Cert

end
-- ==== Proof.Mm15.lean ====
module

public import proofs.«01_k».proof.Defs
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel15Ideal.POutBwdX

open Cert.Kernel15Ideal Cert.Kernel15Ideal.Gen Cert.Kernel15Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : cond0_1 i) (x0 : Vec F S1024x1024 .bf16) (x1 : Vec F S1024x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S1024x1024 .bf16) (z : Vec Ideal S1024x1024 .f32) (a : Vec Ideal S1024x1024 .bf16) (r : Fin 1024) (l : Fin 1024) :
    k0_pay2 (F := Ideal) b z a (ix2 r l) = z (ix2 r l) + ∑ k : Fin 1024, a (ix2 r k) * b (ix2 l k) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S1024x1024.Idx → EReal := V m c main_v2

/-! ## The blocks -/

def blkA (c : Dev nD) (t : Fin cfg0.N) : Vec Ideal S1024x1024 .bf16 := iblk m c 0 t
def blkB (c : Dev nD) (t : Fin cfg0.N) : Vec Ideal S1024x1024 .bf16 := iblk m c 1 t

theorem idx0 : ∀ t : Fin cfg0.N, win0_0.index t (0 : Fin 2) = t.val / 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 1 ∧ win0_2.index t (1 : Fin 2) = 0 :=
  (by decide +kernel : ∀ t : Fin grid0.N, _)

theorem blk0_at (c : Dev nD) (t : Fin cfg0.N) (r : Fin 1024) (l : Fin 1024) (x : Fin 4096) (y : Fin 1024) (hx : x.val = t.val / 1 * 1024 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1024) (x : Fin 1024) (y : Fin 1024) (hx : x.val = 0 * 1024 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 1024, opA m c (ix2 (i 0) k) * opB m c (ix2 (i 1) k)

theorem res_at (c : Dev nD) (x : Fin 4096) (y : Fin 1024) : res m c (ix2 x y) = ∑ k : Fin 1024, opA m c (ix2 x k) * opB m c (ix2 y k) := rfl

/-- One run of the sum. -/
def part (c : Dev nD) (x : Fin 4096) (y : Fin 1024) (s : Fin 1) : EReal :=
  ∑ k : Fin 1024, opA m c (ix2 x (⟨s.val * 1024 + k.val, by omega⟩ : Fin 1024)) * opB m c (ix2 y (⟨s.val * 1024 + k.val, by omega⟩ : Fin 1024))

/-- The runs are the whole sum. -/
theorem parts (c : Dev nD) (x : Fin 4096) (y : Fin 1024) : ∑ s : Fin 1, part m c x y s = res m c (ix2 x y) := by
  rw [res_at, show (∑ k : Fin 1024, opA m c (ix2 x k) * opB m c (ix2 y k)) = ∑ k : Fin (1 * 1024), (fun k : Fin 1024 => opA m c (ix2 x k) * opB m c (ix2 y k)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 y k)) e.symm

theorem part_of (c : Dev nD) (t : Fin cfg0.N) (r : Fin 1024) (l : Fin 1024) (x : Fin 4096) (y : Fin 1024) (s : Fin 1) (hx : x.val = t.val / 1 * 1024 + r.val) (hy : y.val = 0 * 1024 + l.val) (hs : s.val = 0) :
    (∑ k : Fin 1024, blkA m c t (ix2 r k) * blkB m c t (ix2 l k)) = part m c x y s := by
  refine Finset.sum_congr rfl fun k _ => ?_
  rw [blk0_at m c t r k x (⟨s.val * 1024 + k.val, by omega⟩ : Fin 1024) hx (by dsimp only; rw [hs]), blk1_at m c t l k y (⟨s.val * 1024 + k.val, by omega⟩ : Fin 1024) hy (by dsimp only; rw [hs])]

/-- What a point leaves is the whole sum. -/
theorem left_res (c : Dev nD) (t : Fin cfg0.N) (r : Fin 1024) (l : Fin 1024) (x : Fin 4096) (y : Fin 1024) (hx : x.val = t.val / 1 * 1024 + r.val) (hy : y.val = 0 * 1024 + l.val) :
    ((outsAt0 m c t : Vec Ideal S1024x1024 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 4 := N_0
  have ht : t.val < 4 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 1 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S1024x1024 .f32) ((cfg0.win 2).xinj (grid0.coords t) y) = _
  rw [hy]
  exact left_res m c t (⟨(y 0).val, h0⟩ : Fin 1024) (⟨(y 1).val, h1⟩ : Fin 1024) (⟨t.val / 1 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 4 := N_0
  have h0 : (i 0).val < 4096 := (i 0).isLt
  have h1 : (i 1).val < 1024 := (i 1).isLt
  refine ⟨⟨((i 0).val / 1024 * 1 + (i 1).val / 1024) * 1 + 0, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S1024x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference15Ideal.Read

theorem res_ref (c : Dev nD) : res m c = (val_main_v3 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v3_apply]
  refine (res_at m c x y).trans ?_
  rw [arr0, arr1]
  refine Finset.sum_congr rfl fun k _ => ?_
  unfold val_main_v2 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel15Ideal.POutBwdX

/-! ## The reference's run, and the two together -/

namespace Cert.Reference15Ideal.POutBwdX

open Cert.Reference15Ideal Cert.Reference15Ideal.Gen Cert.Reference15Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference15Ideal.Value.run m ρ)

end Cert.Reference15Ideal.POutBwdX

namespace Cert

open Idealize.ShloMosaic Idealize.ShloMosaic.TcCoe Idealize.SL.Sem

theorem algebraic15 : algebraic_Kernel15Ideal_Reference15Ideal (hKernel15Ideal := Cert.Kernel15Ideal.Gen.facts) (hReference15Ideal := Cert.Reference15Ideal.Gen.facts) := by
  intro m g m' g' hpre hargs
  refine ⟨fun c => Cert.Kernel15Ideal.POutBwdX.res m c, Cert.Kernel15Ideal.POutBwdX.run m g, ?_⟩
  refine (θ_run _ _ _).mono (fun r h c => ⟨?_, (h c).2⟩) (Cert.Reference15Ideal.Value.run m' g')
  show _ = Cert.Kernel15Ideal.POutBwdX.res m c
  rw [Cert.Kernel15Ideal.POutBwdX.res_ref, ← (hargs c).1, ← (hargs c).2]
  exact (h c).1

end Cert

end
-- ==== Proof.Mm16.lean ====
module

public import proofs.«01_k».proof.Defs
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel16Ideal.PBdnBwdX

open Cert.Kernel16Ideal Cert.Kernel16Ideal.Gen Cert.Kernel16Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : cond0_1 i) (x0 : Vec F S1024x1024 .bf16) (x1 : Vec F S1024x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S1024x1024 .bf16) (z : Vec Ideal S1024x1024 .f32) (a : Vec Ideal S1024x1024 .bf16) (r : Fin 1024) (l : Fin 1024) :
    k0_pay2 (F := Ideal) b z a (ix2 r l) = z (ix2 r l) + ∑ k : Fin 1024, a (ix2 r k) * b (ix2 l k) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S1024x1024.Idx → EReal := V m c main_v2

/-! ## The blocks -/

def blkA (c : Dev nD) (t : Fin cfg0.N) : Vec Ideal S1024x1024 .bf16 := iblk m c 0 t
def blkB (c : Dev nD) (t : Fin cfg0.N) : Vec Ideal S1024x1024 .bf16 := iblk m c 1 t

theorem idx0 : ∀ t : Fin cfg0.N, win0_0.index t (0 : Fin 2) = t.val / 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 1 ∧ win0_2.index t (1 : Fin 2) = 0 :=
  (by decide +kernel : ∀ t : Fin grid0.N, _)

theorem blk0_at (c : Dev nD) (t : Fin cfg0.N) (r : Fin 1024) (l : Fin 1024) (x : Fin 4096) (y : Fin 1024) (hx : x.val = t.val / 1 * 1024 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1024) (x : Fin 1024) (y : Fin 1024) (hx : x.val = 0 * 1024 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 1024, opA m c (ix2 (i 0) k) * opB m c (ix2 (i 1) k)

theorem res_at (c : Dev nD) (x : Fin 4096) (y : Fin 1024) : res m c (ix2 x y) = ∑ k : Fin 1024, opA m c (ix2 x k) * opB m c (ix2 y k) := rfl

/-- One run of the sum. -/
def part (c : Dev nD) (x : Fin 4096) (y : Fin 1024) (s : Fin 1) : EReal :=
  ∑ k : Fin 1024, opA m c (ix2 x (⟨s.val * 1024 + k.val, by omega⟩ : Fin 1024)) * opB m c (ix2 y (⟨s.val * 1024 + k.val, by omega⟩ : Fin 1024))

/-- The runs are the whole sum. -/
theorem parts (c : Dev nD) (x : Fin 4096) (y : Fin 1024) : ∑ s : Fin 1, part m c x y s = res m c (ix2 x y) := by
  rw [res_at, show (∑ k : Fin 1024, opA m c (ix2 x k) * opB m c (ix2 y k)) = ∑ k : Fin (1 * 1024), (fun k : Fin 1024 => opA m c (ix2 x k) * opB m c (ix2 y k)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 y k)) e.symm

theorem part_of (c : Dev nD) (t : Fin cfg0.N) (r : Fin 1024) (l : Fin 1024) (x : Fin 4096) (y : Fin 1024) (s : Fin 1) (hx : x.val = t.val / 1 * 1024 + r.val) (hy : y.val = 0 * 1024 + l.val) (hs : s.val = 0) :
    (∑ k : Fin 1024, blkA m c t (ix2 r k) * blkB m c t (ix2 l k)) = part m c x y s := by
  refine Finset.sum_congr rfl fun k _ => ?_
  rw [blk0_at m c t r k x (⟨s.val * 1024 + k.val, by omega⟩ : Fin 1024) hx (by dsimp only; rw [hs]), blk1_at m c t l k y (⟨s.val * 1024 + k.val, by omega⟩ : Fin 1024) hy (by dsimp only; rw [hs])]

/-- What a point leaves is the whole sum. -/
theorem left_res (c : Dev nD) (t : Fin cfg0.N) (r : Fin 1024) (l : Fin 1024) (x : Fin 4096) (y : Fin 1024) (hx : x.val = t.val / 1 * 1024 + r.val) (hy : y.val = 0 * 1024 + l.val) :
    ((outsAt0 m c t : Vec Ideal S1024x1024 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 4 := N_0
  have ht : t.val < 4 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 1 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S1024x1024 .f32) ((cfg0.win 2).xinj (grid0.coords t) y) = _
  rw [hy]
  exact left_res m c t (⟨(y 0).val, h0⟩ : Fin 1024) (⟨(y 1).val, h1⟩ : Fin 1024) (⟨t.val / 1 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 4 := N_0
  have h0 : (i 0).val < 4096 := (i 0).isLt
  have h1 : (i 1).val < 1024 := (i 1).isLt
  refine ⟨⟨((i 0).val / 1024 * 1 + (i 1).val / 1024) * 1 + 0, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S1024x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference16Ideal.Read

theorem res_ref (c : Dev nD) : res m c = (val_main_v3 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v3_apply]
  refine (res_at m c x y).trans ?_
  rw [arr0, arr1]
  refine Finset.sum_congr rfl fun k _ => ?_
  unfold val_main_v2 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel16Ideal.PBdnBwdX

/-! ## The reference's run, and the two together -/

namespace Cert.Reference16Ideal.PBdnBwdX

open Cert.Reference16Ideal Cert.Reference16Ideal.Gen Cert.Reference16Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference16Ideal.Value.run m ρ)

end Cert.Reference16Ideal.PBdnBwdX

namespace Cert

open Idealize.ShloMosaic Idealize.ShloMosaic.TcCoe Idealize.SL.Sem

theorem algebraic16 : algebraic_Kernel16Ideal_Reference16Ideal (hKernel16Ideal := Cert.Kernel16Ideal.Gen.facts) (hReference16Ideal := Cert.Reference16Ideal.Gen.facts) := by
  intro m g m' g' hpre hargs
  refine ⟨fun c => Cert.Kernel16Ideal.PBdnBwdX.res m c, Cert.Kernel16Ideal.PBdnBwdX.run m g, ?_⟩
  refine (θ_run _ _ _).mono (fun r h c => ⟨?_, (h c).2⟩) (Cert.Reference16Ideal.Value.run m' g')
  show _ = Cert.Kernel16Ideal.PBdnBwdX.res m c
  rw [Cert.Kernel16Ideal.PBdnBwdX.res_ref, ← (hargs c).1, ← (hargs c).2]
  exact (h c).1

end Cert

end
-- ==== Proof.Mm17.lean ====
module

public import proofs.«01_k».proof.Defs
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel17Ideal.PBlruBwdX

open Cert.Kernel17Ideal Cert.Kernel17Ideal.Gen Cert.Kernel17Ideal.Value
open Idealize.ShloMosaic Idealize.ShloMosaic.TcCoe Idealize.ShloMosaic.Tactic Idealize.SL.Sem

section Words

variable {F : FTy → Type} [FloatOps F]

/-! ## What a point leaves, as the payloads of its blocks -/

theorem left_only (c : Dev nD) (i : grid0.Coords) (a0 : Memref sig .tc .vmem S1024x1024 .bf16) (h0 : a0.IsWhole) (a1 : Memref sig .tc .vmem S1024x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : cond0_1 i) (x0 : Vec F S1024x1024 .bf16) (x1 : Vec F S1024x1024 .bf16) :
    out0_A_2 c i a0 h0 a1 h1 a2 h2 a3 h3 hc0 hc1 x0 x1 = k0_pay2 x1 (k0_pay1 (F := F)) x0 := by
  unfold out0_A_2
  rw [View.read_writes_eq_canon VO0_2 _ _ (cover0_A_2 c i a0 h0 a1 h1 a2 h2 a3 h3 hc0 hc1 x0 x1)]
  unfold kernelRun0_A
  sl_unfold_words
  dsimp only
  rw [View.canon_cons_unit_lit _ _ _ (by decide), View.readCov_cons_unit_lit' _ _ _ _ _ (by decide) (by decide), View.readCov_unit_lit _ _ _ (by decide), View.readAt_eq_ld, View.readAt_eq_ld, h0.read_unread, h1.read_unread,
    View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S1024x1024 .bf16) (z : Vec Ideal S1024x1024 .f32) (a : Vec Ideal S1024x1024 .bf16) (r : Fin 1024) (l : Fin 1024) :
    k0_pay2 (F := Ideal) b z a (ix2 r l) = z (ix2 r l) + ∑ k : Fin 1024, a (ix2 r k) * b (ix2 l k) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S1024x1024.Idx → EReal := V m c main_v2

/-! ## The blocks -/

def blkA (c : Dev nD) (t : Fin cfg0.N) : Vec Ideal S1024x1024 .bf16 := iblk m c 0 t
def blkB (c : Dev nD) (t : Fin cfg0.N) : Vec Ideal S1024x1024 .bf16 := iblk m c 1 t

theorem idx0 : ∀ t : Fin cfg0.N, win0_0.index t (0 : Fin 2) = t.val / 1 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val / 1 ∧ win0_2.index t (1 : Fin 2) = 0 :=
  (by decide +kernel : ∀ t : Fin grid0.N, _)

theorem blk0_at (c : Dev nD) (t : Fin cfg0.N) (r : Fin 1024) (l : Fin 1024) (x : Fin 4096) (y : Fin 1024) (hx : x.val = t.val / 1 * 1024 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 1024 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 1024) (l : Fin 1024) (x : Fin 1024) (y : Fin 1024) (hx : x.val = 0 * 1024 + r.val) (hy : y.val = 0 * 1024 + l.val) :
    blkB m c t (ix2 r l) = opB m c (ix2 x y) := by
  unfold blkB iblk opB
  rw [View.read_apply]
  generalize V m c main_v2 = A
  refine congrArg A (funext fun a => Fin.ext ?_)
  match a with
  | ⟨0, _⟩ =>
    have h : (((cfg0.win 1).blk t).view.emb (ix2 r l) (0 : Fin 2)).val = win0_1.index t 0 * 1024 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S4096x1024 .f32 := fun i => ∑ k : Fin 1024, opA m c (ix2 (i 0) k) * opB m c (ix2 (i 1) k)

theorem res_at (c : Dev nD) (x : Fin 4096) (y : Fin 1024) : res m c (ix2 x y) = ∑ k : Fin 1024, opA m c (ix2 x k) * opB m c (ix2 y k) := rfl

/-- One run of the sum. -/
def part (c : Dev nD) (x : Fin 4096) (y : Fin 1024) (s : Fin 1) : EReal :=
  ∑ k : Fin 1024, opA m c (ix2 x (⟨s.val * 1024 + k.val, by omega⟩ : Fin 1024)) * opB m c (ix2 y (⟨s.val * 1024 + k.val, by omega⟩ : Fin 1024))

/-- The runs are the whole sum. -/
theorem parts (c : Dev nD) (x : Fin 4096) (y : Fin 1024) : ∑ s : Fin 1, part m c x y s = res m c (ix2 x y) := by
  rw [res_at, show (∑ k : Fin 1024, opA m c (ix2 x k) * opB m c (ix2 y k)) = ∑ k : Fin (1 * 1024), (fun k : Fin 1024 => opA m c (ix2 x k) * opB m c (ix2 y k)) k from rfl,
    ← Equiv.sum_comp finProdFinEquiv, Fintype.sum_prod_type]
  refine Finset.sum_congr rfl fun s _ => Finset.sum_congr rfl fun k _ => ?_
  have e : (finProdFinEquiv (s, k) : Fin 1024) = (⟨s.val * 1024 + k.val, by omega⟩ : Fin 1024) := Fin.ext (by show k.val + 1024 * s.val = s.val * 1024 + k.val; omega)
  exact congrArg (fun k : Fin 1024 => opA m c (ix2 x k) * opB m c (ix2 y k)) e.symm

theorem part_of (c : Dev nD) (t : Fin cfg0.N) (r : Fin 1024) (l : Fin 1024) (x : Fin 4096) (y : Fin 1024) (s : Fin 1) (hx : x.val = t.val / 1 * 1024 + r.val) (hy : y.val = 0 * 1024 + l.val) (hs : s.val = 0) :
    (∑ k : Fin 1024, blkA m c t (ix2 r k) * blkB m c t (ix2 l k)) = part m c x y s := by
  refine Finset.sum_congr rfl fun k _ => ?_
  rw [blk0_at m c t r k x (⟨s.val * 1024 + k.val, by omega⟩ : Fin 1024) hx (by dsimp only; rw [hs]), blk1_at m c t l k y (⟨s.val * 1024 + k.val, by omega⟩ : Fin 1024) hy (by dsimp only; rw [hs])]

/-- What a point leaves is the whole sum. -/
theorem left_res (c : Dev nD) (t : Fin cfg0.N) (r : Fin 1024) (l : Fin 1024) (x : Fin 4096) (y : Fin 1024) (hx : x.val = t.val / 1 * 1024 + r.val) (hy : y.val = 0 * 1024 + l.val) :
    ((outsAt0 m c t : Vec Ideal S1024x1024 .f32)) (ix2 r l) = res m c (ix2 x y) := by
  unfold outsAt0
  rw [left_only, pay2_at, pay1_at, zero_add]
  refine (part_of m c t r l x y (⟨0, by decide⟩ : Fin 1) hx hy rfl).trans ?_
  rw [← parts]
  simp only [Fin.sum_univ_succ, Fin.sum_univ_zero, add_zero]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 4 := N_0
  have ht : t.val < 4 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨t.val / 1 * 1024 + (y 0).val, by omega⟩ : Fin 4096) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t) : Vec Ideal S1024x1024 .f32) ((cfg0.win 2).xinj (grid0.coords t) y) = _
  rw [hy]
  exact left_res m c t (⟨(y 0).val, h0⟩ : Fin 1024) (⟨(y 1).val, h1⟩ : Fin 1024) (⟨t.val / 1 * 1024 + (y 0).val, by omega⟩ : Fin 4096) (⟨0 * 1024 + (y 1).val, by omega⟩ : Fin 1024) rfl rfl

theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The point that leaves a place. -/
theorem covered (i : S4096x1024.Idx) : ∃ t : Fin cfg0.N, (cfg0.win 2).flush t = true ∧ i ∈ ((cfg0.win 2).blk t).view.set := by
  have hN : cfg0.N = 4 := N_0
  have h0 : (i 0).val < 4096 := (i 0).isLt
  have h1 : (i 1).val < 1024 := (i 1).isLt
  refine ⟨⟨((i 0).val / 1024 * 1 + (i 1).val / 1024) * 1 + 0, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S1024x1024.Idx → EReal := m ((c : Thread nD τ).loc main_arg1)

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference17Ideal.Read

theorem res_ref (c : Dev nD) : res m c = (val_main_v3 (F := Ideal) (m ((c : Thread nD τ).loc main_arg0)) (m ((c : Thread nD τ).loc main_arg1)) : Vec Ideal S4096x1024 .f32) := by
  funext i
  obtain ⟨x, y, rfl⟩ : ∃ (x : Fin 4096) (y : Fin 1024), i = ix2 x y := ⟨i 0, i 1, eq_ix2 i⟩
  rw [val_main_v3_apply]
  refine (res_at m c x y).trans ?_
  rw [arr0, arr1]
  refine Finset.sum_congr rfl fun k _ => ?_
  unfold val_main_v2 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel17Ideal.PBlruBwdX

/-! ## The reference's run, and the two together -/

namespace Cert.Reference17Ideal.PBlruBwdX

open Cert.Reference17Ideal Cert.Reference17Ideal.Gen Cert.Reference17Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference17Ideal.Value.run m ρ)

end Cert.Reference17Ideal.PBlruBwdX

namespace Cert

open Idealize.ShloMosaic Idealize.ShloMosaic.TcCoe Idealize.SL.Sem

theorem algebraic17 : algebraic_Kernel17Ideal_Reference17Ideal (hKernel17Ideal := Cert.Kernel17Ideal.Gen.facts) (hReference17Ideal := Cert.Reference17Ideal.Gen.facts) := by
  intro m g m' g' hpre hargs
  refine ⟨fun c => Cert.Kernel17Ideal.PBlruBwdX.res m c, Cert.Kernel17Ideal.PBlruBwdX.run m g, ?_⟩
  refine (θ_run _ _ _).mono (fun r h c => ⟨?_, (h c).2⟩) (Cert.Reference17Ideal.Value.run m' g')
  show _ = Cert.Kernel17Ideal.PBlruBwdX.res m c
  rw [Cert.Kernel17Ideal.PBlruBwdX.res_ref, ← (hargs c).1, ← (hargs c).2]
  exact (h c).1

end Cert

end
-- ==== Proof.Mm18.lean ====
module

public import proofs.«01_k».proof.Defs
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel18Ideal.POutBwdW

open Cert.Kernel18Ideal Cert.Kernel18Ideal.Gen Cert.Kernel18Ideal.Value
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : ¬cond0_1 i) (x0 : Vec F S2048x1024 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : ¬cond0_0 i) (hc1 : cond0_1 i) (x0 : Vec F S2048x1024 .bf16) (x1 : Vec F S2048x1024 .bf16) (s : Vec F S1024x1024 .f32) :
    out0_B_2 c i a0 h0 a1 h1 a2 h2 a3 h3 hc0 hc1 x0 x1 s = k0_pay2 x1 s x0 := by
  unfold out0_B_2
  rw [View.read_writes_eq_canon VO0_2 _ _ (cover0_B_2 c i a0 h0 a1 h1 a2 h2 a3 h3 hc0 hc1 x0 x1 s)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S2048x1024 .bf16) (z : Vec Ideal S1024x1024 .f32) (a : Vec Ideal S2048x1024 .bf16) (r : Fin 1024) (l : Fin 1024) :
    k0_pay2 (F := Ideal) b z a (ix2 r l) = z (ix2 r l) + ∑ k : Fin 2048, a (ix2 k r) * b (ix2 k l) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S4096x1024.Idx → EReal := V m c main_v3

/-! ## The blocks -/

def blkA (c : Dev nD) (t : Fin cfg0.N) : Vec Ideal S2048x1024 .bf16 := iblk m c 0 t
def blkB (c : Dev nD) (t : Fin cfg0.N) : Vec Ideal S2048x1024 .bf16 := iblk m c 1 t

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem blk0_at (c : Dev nD) (t : Fin cfg0.N) (r : Fin 2048) (l : Fin 1024) (x : Fin 4096) (y : Fin 1024) (hx : x.val = t.val % 2 * 2048 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 2048 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 2048) (l : Fin 1024) (x : Fin 4096) (y : Fin 1024) (hx : x.val = t.val % 2 * 2048 + r.val) (hy : y.val = 0 * 1024 + l.val) :
    blkB m c t (ix2 r l) = opB m c (ix2 x y) := by
  unfold blkB iblk opB
  rw [View.read_apply]
  generalize V m c main_v3 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S1024x1024 .f32 := fun i => ∑ k : Fin 4096, opA m c (ix2 k (i 0)) * opB m c (ix2 k (i 1))

theorem res_at (c : Dev nD) (x : Fin 1024) (y : Fin 1024) : res m c (ix2 x y) = ∑ k : Fin 4096, opA m c (ix2 k x) * opB m c (ix2 k y) := rfl

/-- One run of the sum. -/
def part (c : Dev nD) (x : Fin 1024) (y : Fin 1024) (s : Fin 2) : EReal :=
  ∑ k : Fin 2048, opA m c (ix2 (⟨s.val * 2048 + k.val, by omega⟩ : Fin 4096) x) * opB m c (ix2 (⟨s.val * 2048 + k.val, by omega⟩ : Fin 4096) y)

/-- The runs are the whole sum. -/
theorem parts (c : Dev nD) (x : Fin 1024) (y : Fin 1024) : ∑ s : Fin 2, part m c x y s = res m c (ix2 x y) := by
  rw [res_at, show (∑ k : Fin 4096, opA m c (ix2 k x) * opB m c (ix2 k y)) = ∑ k : Fin (2 * 2048), (fun k : Fin 4096 => opA m c (ix2 k x) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4096) = (⟨s.val * 2048 + k.val, by omega⟩ : Fin 4096) := Fin.ext (by show k.val + 2048 * s.val = s.val * 2048 + k.val; omega)
  exact congrArg (fun k : Fin 4096 => opA m c (ix2 k x) * opB m c (ix2 k y)) e.symm

theorem part_of (c : Dev nD) (t : Fin cfg0.N) (r : Fin 1024) (l : Fin 1024) (x : Fin 1024) (y : Fin 1024) (s : Fin 2) (hx : x.val = 0 * 1024 + r.val) (hy : y.val = 0 * 1024 + l.val) (hs : s.val = t.val % 2) :
    (∑ k : Fin 2048, blkA m c t (ix2 k r) * blkB m c t (ix2 k l)) = part m c x y s := by
  refine Finset.sum_congr rfl fun k _ => ?_
  rw [blk0_at m c t k r (⟨s.val * 2048 + k.val, by omega⟩ : Fin 4096) x (by dsimp only; rw [hs]) hx, blk1_at m c t k l (⟨s.val * 2048 + k.val, by omega⟩ : Fin 4096) y (by dsimp only; rw [hs]) hy]

theorem scr_first (c : Dev nD) (t : Fin cfg0.N) (h0 : t.val % 2 = 0) (r : Fin 1024) (l : Fin 1024) (x : Fin 1024) (y : Fin 1024) (hx : x.val = 0 * 1024 + r.val) (hy : y.val = 0 * 1024 + l.val) :
    ((outsAt0 m c t.val t.isLt).2 : Vec Ideal S1024x1024 .f32) (ix2 r l) = part m c x y (⟨0, by decide⟩ : Fin 2) := by
  rw [outsAt0_A m c t h0 (by omega)]
  dsimp only
  rw [left_first, pay2_at, pay1_at, zero_add]
  exact part_of m c t r l x y (⟨0, by decide⟩ : Fin 2) hx hy h0.symm

theorem out_last (c : Dev nD) (t : Fin cfg0.N) (h1 : t.val % 2 = 1) (r : Fin 1024) (l : Fin 1024) (x : Fin 1024) (y : Fin 1024) (hx : x.val = 0 * 1024 + r.val) (hy : y.val = 0 * 1024 + l.val) :
    ((outsAt0 m c t.val t.isLt).1 : Vec Ideal S1024x1024 .f32) (ix2 r l)
      = ((outsAt0 m c (t.val - 1) (Nat.lt_of_le_of_lt (Nat.sub_le _ _) t.isLt)).2 : Vec Ideal S1024x1024 .f32) (ix2 r l) + part m c x y (⟨1, by decide⟩ : Fin 2) := by
  rw [outsAt0_B m c t (by omega) h1]
  dsimp only
  rw [left_last, pay2_at]
  exact congrArg (_ + ·) (part_of m c t r l x y (⟨1, by decide⟩ : Fin 2) hx hy h1.symm)

/-- What the last point of a run leaves is the whole sum. -/
theorem left_res (c : Dev nD) (t : Fin cfg0.N) (h1 : t.val % 2 = 1) (r : Fin 1024) (l : Fin 1024) (x : Fin 1024) (y : Fin 1024) (hx : x.val = 0 * 1024 + r.val) (hy : y.val = 0 * 1024 + l.val) :
    ((outsAt0 m c t.val t.isLt).1 : Vec Ideal S1024x1024 .f32) (ix2 r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p0 := scr_first m c (⟨t.val - 1, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 2 := N_0
  have ht : t.val < 2 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨0 * 1024 + (y 0).val, by omega⟩ : Fin 1024) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t.val t.isLt).1 : Vec Ideal S1024x1024 .f32) ((cfg0.win 2).xinj (grid0.coords t) y) = _
  rw [hy]
  exact left_res m c t ((flush0_2 t).mp hf) (⟨(y 0).val, h0⟩ : Fin 1024) (⟨(y 1).val, h1⟩ : Fin 1024) (⟨0 * 1024 + (y 0).val, by omega⟩ : Fin 1024) (⟨0 * 1024 + (y 1).val, by omega⟩ : Fin 1024) rfl rfl

theorem mem_blk (t : Fin cfg0.N) (i : S1024x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- The point that leaves a place. -/
theorem covered (i : S1024x1024.Idx) : ∃ t : Fin cfg0.N, (cfg0.win 2).flush t = true ∧ i ∈ ((cfg0.win 2).blk t).view.set := by
  have hN : cfg0.N = 2 := N_0
  have h0 : (i 0).val < 1024 := (i 0).isLt
  have h1 : (i 1).val < 1024 := (i 1).isLt
  refine ⟨⟨((i 0).val / 1024 * 1 + (i 1).val / 1024) * 2 + 1, by omega⟩, (flush0_2 _).mpr (by dsimp only; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S4096x1024.Idx → EReal := shapeCast S4096x1024 (m ((c : Thread nD τ).loc main_arg1)) shapeCasts_S2x2048x1024_S4096x1024

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference18Ideal.Read

theorem res_ref (c : Dev nD) : res m c = (val_main_v5 (F := Ideal) (m ((c : Thread nD τ).loc main_arg0)) (m ((c : Thread nD τ).loc main_arg1)) : Vec Ideal S1024x1024 .f32) := by
  funext i
  obtain ⟨x, y, rfl⟩ : ∃ (x : Fin 1024) (y : Fin 1024), i = ix2 x y := ⟨i 0, i 1, eq_ix2 i⟩
  rw [val_main_v5_apply, val_main_v4_apply]
  refine (res_at m c x y).trans ?_
  rw [arr0, arr1]
  refine Finset.sum_congr rfl fun k _ => ?_
  rw [mul_comm]
  unfold val_main_v0 val_main_v1 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel18Ideal.POutBwdW

/-! ## The reference's run, and the two together -/

namespace Cert.Reference18Ideal.POutBwdW

open Cert.Reference18Ideal Cert.Reference18Ideal.Gen Cert.Reference18Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference18Ideal.Value.run m ρ)

end Cert.Reference18Ideal.POutBwdW

namespace Cert

open Idealize.ShloMosaic Idealize.ShloMosaic.TcCoe Idealize.SL.Sem

theorem algebraic18 : algebraic_Kernel18Ideal_Reference18Ideal (hKernel18Ideal := Cert.Kernel18Ideal.Gen.facts) (hReference18Ideal := Cert.Reference18Ideal.Gen.facts) := by
  intro m g m' g' hpre hargs
  refine ⟨fun c => Cert.Kernel18Ideal.POutBwdW.res m c, Cert.Kernel18Ideal.POutBwdW.run m g, ?_⟩
  refine (θ_run _ _ _).mono (fun r h c => ⟨?_, (h c).2⟩) (Cert.Reference18Ideal.Value.run m' g')
  show _ = Cert.Kernel18Ideal.POutBwdW.res m c
  rw [Cert.Kernel18Ideal.POutBwdW.res_ref, ← (hargs c).1, ← (hargs c).2]
  exact (h c).1

end Cert

end
-- ==== Proof.Mm19.lean ====
module

public import proofs.«01_k».proof.Defs
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel19Ideal.PBdnBwdW

open Cert.Kernel19Ideal Cert.Kernel19Ideal.Gen Cert.Kernel19Ideal.Value
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : ¬cond0_1 i) (x0 : Vec F S2048x1024 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : ¬cond0_0 i) (hc1 : cond0_1 i) (x0 : Vec F S2048x1024 .bf16) (x1 : Vec F S2048x1024 .bf16) (s : Vec F S1024x1024 .f32) :
    out0_B_2 c i a0 h0 a1 h1 a2 h2 a3 h3 hc0 hc1 x0 x1 s = k0_pay2 x1 s x0 := by
  unfold out0_B_2
  rw [View.read_writes_eq_canon VO0_2 _ _ (cover0_B_2 c i a0 h0 a1 h1 a2 h2 a3 h3 hc0 hc1 x0 x1 s)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S2048x1024 .bf16) (z : Vec Ideal S1024x1024 .f32) (a : Vec Ideal S2048x1024 .bf16) (r : Fin 1024) (l : Fin 1024) :
    k0_pay2 (F := Ideal) b z a (ix2 r l) = z (ix2 r l) + ∑ k : Fin 2048, a (ix2 k r) * b (ix2 k l) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S4096x1024.Idx → EReal := V m c main_v3

/-! ## The blocks -/

def blkA (c : Dev nD) (t : Fin cfg0.N) : Vec Ideal S2048x1024 .bf16 := iblk m c 0 t
def blkB (c : Dev nD) (t : Fin cfg0.N) : Vec Ideal S2048x1024 .bf16 := iblk m c 1 t

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem blk0_at (c : Dev nD) (t : Fin cfg0.N) (r : Fin 2048) (l : Fin 1024) (x : Fin 4096) (y : Fin 1024) (hx : x.val = t.val % 2 * 2048 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 2048 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 2048) (l : Fin 1024) (x : Fin 4096) (y : Fin 1024) (hx : x.val = t.val % 2 * 2048 + r.val) (hy : y.val = 0 * 1024 + l.val) :
    blkB m c t (ix2 r l) = opB m c (ix2 x y) := by
  unfold blkB iblk opB
  rw [View.read_apply]
  generalize V m c main_v3 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S1024x1024 .f32 := fun i => ∑ k : Fin 4096, opA m c (ix2 k (i 0)) * opB m c (ix2 k (i 1))

theorem res_at (c : Dev nD) (x : Fin 1024) (y : Fin 1024) : res m c (ix2 x y) = ∑ k : Fin 4096, opA m c (ix2 k x) * opB m c (ix2 k y) := rfl

/-- One run of the sum. -/
def part (c : Dev nD) (x : Fin 1024) (y : Fin 1024) (s : Fin 2) : EReal :=
  ∑ k : Fin 2048, opA m c (ix2 (⟨s.val * 2048 + k.val, by omega⟩ : Fin 4096) x) * opB m c (ix2 (⟨s.val * 2048 + k.val, by omega⟩ : Fin 4096) y)

/-- The runs are the whole sum. -/
theorem parts (c : Dev nD) (x : Fin 1024) (y : Fin 1024) : ∑ s : Fin 2, part m c x y s = res m c (ix2 x y) := by
  rw [res_at, show (∑ k : Fin 4096, opA m c (ix2 k x) * opB m c (ix2 k y)) = ∑ k : Fin (2 * 2048), (fun k : Fin 4096 => opA m c (ix2 k x) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4096) = (⟨s.val * 2048 + k.val, by omega⟩ : Fin 4096) := Fin.ext (by show k.val + 2048 * s.val = s.val * 2048 + k.val; omega)
  exact congrArg (fun k : Fin 4096 => opA m c (ix2 k x) * opB m c (ix2 k y)) e.symm

theorem part_of (c : Dev nD) (t : Fin cfg0.N) (r : Fin 1024) (l : Fin 1024) (x : Fin 1024) (y : Fin 1024) (s : Fin 2) (hx : x.val = 0 * 1024 + r.val) (hy : y.val = 0 * 1024 + l.val) (hs : s.val = t.val % 2) :
    (∑ k : Fin 2048, blkA m c t (ix2 k r) * blkB m c t (ix2 k l)) = part m c x y s := by
  refine Finset.sum_congr rfl fun k _ => ?_
  rw [blk0_at m c t k r (⟨s.val * 2048 + k.val, by omega⟩ : Fin 4096) x (by dsimp only; rw [hs]) hx, blk1_at m c t k l (⟨s.val * 2048 + k.val, by omega⟩ : Fin 4096) y (by dsimp only; rw [hs]) hy]

theorem scr_first (c : Dev nD) (t : Fin cfg0.N) (h0 : t.val % 2 = 0) (r : Fin 1024) (l : Fin 1024) (x : Fin 1024) (y : Fin 1024) (hx : x.val = 0 * 1024 + r.val) (hy : y.val = 0 * 1024 + l.val) :
    ((outsAt0 m c t.val t.isLt).2 : Vec Ideal S1024x1024 .f32) (ix2 r l) = part m c x y (⟨0, by decide⟩ : Fin 2) := by
  rw [outsAt0_A m c t h0 (by omega)]
  dsimp only
  rw [left_first, pay2_at, pay1_at, zero_add]
  exact part_of m c t r l x y (⟨0, by decide⟩ : Fin 2) hx hy h0.symm

theorem out_last (c : Dev nD) (t : Fin cfg0.N) (h1 : t.val % 2 = 1) (r : Fin 1024) (l : Fin 1024) (x : Fin 1024) (y : Fin 1024) (hx : x.val = 0 * 1024 + r.val) (hy : y.val = 0 * 1024 + l.val) :
    ((outsAt0 m c t.val t.isLt).1 : Vec Ideal S1024x1024 .f32) (ix2 r l)
      = ((outsAt0 m c (t.val - 1) (Nat.lt_of_le_of_lt (Nat.sub_le _ _) t.isLt)).2 : Vec Ideal S1024x1024 .f32) (ix2 r l) + part m c x y (⟨1, by decide⟩ : Fin 2) := by
  rw [outsAt0_B m c t (by omega) h1]
  dsimp only
  rw [left_last, pay2_at]
  exact congrArg (_ + ·) (part_of m c t r l x y (⟨1, by decide⟩ : Fin 2) hx hy h1.symm)

/-- What the last point of a run leaves is the whole sum. -/
theorem left_res (c : Dev nD) (t : Fin cfg0.N) (h1 : t.val % 2 = 1) (r : Fin 1024) (l : Fin 1024) (x : Fin 1024) (y : Fin 1024) (hx : x.val = 0 * 1024 + r.val) (hy : y.val = 0 * 1024 + l.val) :
    ((outsAt0 m c t.val t.isLt).1 : Vec Ideal S1024x1024 .f32) (ix2 r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p0 := scr_first m c (⟨t.val - 1, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 2 := N_0
  have ht : t.val < 2 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨0 * 1024 + (y 0).val, by omega⟩ : Fin 1024) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t.val t.isLt).1 : Vec Ideal S1024x1024 .f32) ((cfg0.win 2).xinj (grid0.coords t) y) = _
  rw [hy]
  exact left_res m c t ((flush0_2 t).mp hf) (⟨(y 0).val, h0⟩ : Fin 1024) (⟨(y 1).val, h1⟩ : Fin 1024) (⟨0 * 1024 + (y 0).val, by omega⟩ : Fin 1024) (⟨0 * 1024 + (y 1).val, by omega⟩ : Fin 1024) rfl rfl

theorem mem_blk (t : Fin cfg0.N) (i : S1024x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- The point that leaves a place. -/
theorem covered (i : S1024x1024.Idx) : ∃ t : Fin cfg0.N, (cfg0.win 2).flush t = true ∧ i ∈ ((cfg0.win 2).blk t).view.set := by
  have hN : cfg0.N = 2 := N_0
  have h0 : (i 0).val < 1024 := (i 0).isLt
  have h1 : (i 1).val < 1024 := (i 1).isLt
  refine ⟨⟨((i 0).val / 1024 * 1 + (i 1).val / 1024) * 2 + 1, by omega⟩, (flush0_2 _).mpr (by dsimp only; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S4096x1024.Idx → EReal := shapeCast S4096x1024 (m ((c : Thread nD τ).loc main_arg1)) shapeCasts_S2x2048x1024_S4096x1024

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference19Ideal.Read

theorem res_ref (c : Dev nD) : res m c = (val_main_v5 (F := Ideal) (m ((c : Thread nD τ).loc main_arg0)) (m ((c : Thread nD τ).loc main_arg1)) : Vec Ideal S1024x1024 .f32) := by
  funext i
  obtain ⟨x, y, rfl⟩ : ∃ (x : Fin 1024) (y : Fin 1024), i = ix2 x y := ⟨i 0, i 1, eq_ix2 i⟩
  rw [val_main_v5_apply, val_main_v4_apply]
  refine (res_at m c x y).trans ?_
  rw [arr0, arr1]
  refine Finset.sum_congr rfl fun k _ => ?_
  rw [mul_comm]
  unfold val_main_v0 val_main_v1 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel19Ideal.PBdnBwdW

/-! ## The reference's run, and the two together -/

namespace Cert.Reference19Ideal.PBdnBwdW

open Cert.Reference19Ideal Cert.Reference19Ideal.Gen Cert.Reference19Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference19Ideal.Value.run m ρ)

end Cert.Reference19Ideal.PBdnBwdW

namespace Cert

open Idealize.ShloMosaic Idealize.ShloMosaic.TcCoe Idealize.SL.Sem

theorem algebraic19 : algebraic_Kernel19Ideal_Reference19Ideal (hKernel19Ideal := Cert.Kernel19Ideal.Gen.facts) (hReference19Ideal := Cert.Reference19Ideal.Gen.facts) := by
  intro m g m' g' hpre hargs
  refine ⟨fun c => Cert.Kernel19Ideal.PBdnBwdW.res m c, Cert.Kernel19Ideal.PBdnBwdW.run m g, ?_⟩
  refine (θ_run _ _ _).mono (fun r h c => ⟨?_, (h c).2⟩) (Cert.Reference19Ideal.Value.run m' g')
  show _ = Cert.Kernel19Ideal.PBdnBwdW.res m c
  rw [Cert.Kernel19Ideal.PBdnBwdW.res_ref, ← (hargs c).1, ← (hargs c).2]
  exact (h c).1

end Cert

end
-- ==== Proof.Mm20.lean ====
module

public import proofs.«01_k».proof.Defs
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel20Ideal.PBlruBwdW

open Cert.Kernel20Ideal Cert.Kernel20Ideal.Gen Cert.Kernel20Ideal.Value
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : cond0_0 i) (hc1 : ¬cond0_1 i) (x0 : Vec F S2048x1024 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (hc0 : ¬cond0_0 i) (hc1 : cond0_1 i) (x0 : Vec F S2048x1024 .bf16) (x1 : Vec F S2048x1024 .bf16) (s : Vec F S1024x1024 .f32) :
    out0_B_2 c i a0 h0 a1 h1 a2 h2 a3 h3 hc0 hc1 x0 x1 s = k0_pay2 x1 s x0 := by
  unfold out0_B_2
  rw [View.read_writes_eq_canon VO0_2 _ _ (cover0_B_2 c i a0 h0 a1 h1 a2 h2 a3 h3 hc0 hc1 x0 x1 s)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S2048x1024 .bf16) (z : Vec Ideal S1024x1024 .f32) (a : Vec Ideal S2048x1024 .bf16) (r : Fin 1024) (l : Fin 1024) :
    k0_pay2 (F := Ideal) b z a (ix2 r l) = z (ix2 r l) + ∑ k : Fin 2048, a (ix2 k r) * b (ix2 k l) := by
  pointwise [k0_pay2]

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S4096x1024.Idx → EReal := V m c main_v3

/-! ## The blocks -/

def blkA (c : Dev nD) (t : Fin cfg0.N) : Vec Ideal S2048x1024 .bf16 := iblk m c 0 t
def blkB (c : Dev nD) (t : Fin cfg0.N) : Vec Ideal S2048x1024 .bf16 := iblk m c 1 t

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem blk0_at (c : Dev nD) (t : Fin cfg0.N) (r : Fin 2048) (l : Fin 1024) (x : Fin 4096) (y : Fin 1024) (hx : x.val = t.val % 2 * 2048 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 2048 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 2048) (l : Fin 1024) (x : Fin 4096) (y : Fin 1024) (hx : x.val = t.val % 2 * 2048 + r.val) (hy : y.val = 0 * 1024 + l.val) :
    blkB m c t (ix2 r l) = opB m c (ix2 x y) := by
  unfold blkB iblk opB
  rw [View.read_apply]
  generalize V m c main_v3 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S1024x1024 .f32 := fun i => ∑ k : Fin 4096, opA m c (ix2 k (i 0)) * opB m c (ix2 k (i 1))

theorem res_at (c : Dev nD) (x : Fin 1024) (y : Fin 1024) : res m c (ix2 x y) = ∑ k : Fin 4096, opA m c (ix2 k x) * opB m c (ix2 k y) := rfl

/-- One run of the sum. -/
def part (c : Dev nD) (x : Fin 1024) (y : Fin 1024) (s : Fin 2) : EReal :=
  ∑ k : Fin 2048, opA m c (ix2 (⟨s.val * 2048 + k.val, by omega⟩ : Fin 4096) x) * opB m c (ix2 (⟨s.val * 2048 + k.val, by omega⟩ : Fin 4096) y)

/-- The runs are the whole sum. -/
theorem parts (c : Dev nD) (x : Fin 1024) (y : Fin 1024) : ∑ s : Fin 2, part m c x y s = res m c (ix2 x y) := by
  rw [res_at, show (∑ k : Fin 4096, opA m c (ix2 k x) * opB m c (ix2 k y)) = ∑ k : Fin (2 * 2048), (fun k : Fin 4096 => opA m c (ix2 k x) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4096) = (⟨s.val * 2048 + k.val, by omega⟩ : Fin 4096) := Fin.ext (by show k.val + 2048 * s.val = s.val * 2048 + k.val; omega)
  exact congrArg (fun k : Fin 4096 => opA m c (ix2 k x) * opB m c (ix2 k y)) e.symm

theorem part_of (c : Dev nD) (t : Fin cfg0.N) (r : Fin 1024) (l : Fin 1024) (x : Fin 1024) (y : Fin 1024) (s : Fin 2) (hx : x.val = 0 * 1024 + r.val) (hy : y.val = 0 * 1024 + l.val) (hs : s.val = t.val % 2) :
    (∑ k : Fin 2048, blkA m c t (ix2 k r) * blkB m c t (ix2 k l)) = part m c x y s := by
  refine Finset.sum_congr rfl fun k _ => ?_
  rw [blk0_at m c t k r (⟨s.val * 2048 + k.val, by omega⟩ : Fin 4096) x (by dsimp only; rw [hs]) hx, blk1_at m c t k l (⟨s.val * 2048 + k.val, by omega⟩ : Fin 4096) y (by dsimp only; rw [hs]) hy]

theorem scr_first (c : Dev nD) (t : Fin cfg0.N) (h0 : t.val % 2 = 0) (r : Fin 1024) (l : Fin 1024) (x : Fin 1024) (y : Fin 1024) (hx : x.val = 0 * 1024 + r.val) (hy : y.val = 0 * 1024 + l.val) :
    ((outsAt0 m c t.val t.isLt).2 : Vec Ideal S1024x1024 .f32) (ix2 r l) = part m c x y (⟨0, by decide⟩ : Fin 2) := by
  rw [outsAt0_A m c t h0 (by omega)]
  dsimp only
  rw [left_first, pay2_at, pay1_at, zero_add]
  exact part_of m c t r l x y (⟨0, by decide⟩ : Fin 2) hx hy h0.symm

theorem out_last (c : Dev nD) (t : Fin cfg0.N) (h1 : t.val % 2 = 1) (r : Fin 1024) (l : Fin 1024) (x : Fin 1024) (y : Fin 1024) (hx : x.val = 0 * 1024 + r.val) (hy : y.val = 0 * 1024 + l.val) :
    ((outsAt0 m c t.val t.isLt).1 : Vec Ideal S1024x1024 .f32) (ix2 r l)
      = ((outsAt0 m c (t.val - 1) (Nat.lt_of_le_of_lt (Nat.sub_le _ _) t.isLt)).2 : Vec Ideal S1024x1024 .f32) (ix2 r l) + part m c x y (⟨1, by decide⟩ : Fin 2) := by
  rw [outsAt0_B m c t (by omega) h1]
  dsimp only
  rw [left_last, pay2_at]
  exact congrArg (_ + ·) (part_of m c t r l x y (⟨1, by decide⟩ : Fin 2) hx hy h1.symm)

/-- What the last point of a run leaves is the whole sum. -/
theorem left_res (c : Dev nD) (t : Fin cfg0.N) (h1 : t.val % 2 = 1) (r : Fin 1024) (l : Fin 1024) (x : Fin 1024) (y : Fin 1024) (hx : x.val = 0 * 1024 + r.val) (hy : y.val = 0 * 1024 + l.val) :
    ((outsAt0 m c t.val t.isLt).1 : Vec Ideal S1024x1024 .f32) (ix2 r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p0 := scr_first m c (⟨t.val - 1, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

theorem flushed_res (c : Dev nD) (t : Fin cfg0.N) (hf : (cfg0.win 2).flush t = true) :
    (dats m 0 c).flushed 2 t = ((cfg0.win 2).blk t).view.read (Elt Ideal) (res m c) := by
  have hN : cfg0.N = 2 := N_0
  have ht : t.val < 2 := hN ▸ t.isLt
  show (cfg0.win 2).cut (grid0.coords t) ((dats m 0 c).after 2 t) = _
  rw [after0_2]
  funext y
  have h0 : (y 0).val < 1024 := (y 0).isLt
  have h1 : (y 1).val < 1024 := (y 1).isLt
  have hy : (cfg0.win 2).xinj (grid0.coords t) y = ix2 (⟨(y 0).val, h0⟩ : Fin 1024) (⟨(y 1).val, h1⟩ : Fin 1024) := funext fun a => match a with
    | ⟨0, _⟩ => rfl
    | ⟨1, _⟩ => rfl
  have he : ((cfg0.win 2).blk t).view.emb y = ix2 (⟨0 * 1024 + (y 0).val, by omega⟩ : Fin 1024) (⟨0 * 1024 + (y 1).val, by omega⟩ : Fin 1024) := by
    have b0 : (((cfg0.win 2).blk t).view.emb y (0 : Fin 2)).val = win0_2.index t 0 * 1024 + 1 * (y 0).val := rfl
    have b1 : (((cfg0.win 2).blk t).view.emb y (1 : Fin 2)).val = win0_2.index t 1 * 1024 + 1 * (y 1).val := rfl
    rw [(idx2 t).1, Nat.one_mul] at b0
    rw [(idx2 t).2, Nat.one_mul] at b1
    exact funext fun a => Fin.ext (match a with
      | ⟨0, _⟩ => b0
      | ⟨1, _⟩ => b1)
  rw [View.read_apply, he]
  show ((outsAt0 m c t.val t.isLt).1 : Vec Ideal S1024x1024 .f32) ((cfg0.win 2).xinj (grid0.coords t) y) = _
  rw [hy]
  exact left_res m c t ((flush0_2 t).mp hf) (⟨(y 0).val, h0⟩ : Fin 1024) (⟨(y 1).val, h1⟩ : Fin 1024) (⟨0 * 1024 + (y 0).val, by omega⟩ : Fin 1024) (⟨0 * 1024 + (y 1).val, by omega⟩ : Fin 1024) rfl rfl

theorem mem_blk (t : Fin cfg0.N) (i : S1024x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- The point that leaves a place. -/
theorem covered (i : S1024x1024.Idx) : ∃ t : Fin cfg0.N, (cfg0.win 2).flush t = true ∧ i ∈ ((cfg0.win 2).blk t).view.set := by
  have hN : cfg0.N = 2 := N_0
  have h0 : (i 0).val < 1024 := (i 0).isLt
  have h1 : (i 1).val < 1024 := (i 1).isLt
  refine ⟨⟨((i 0).val / 1024 * 1 + (i 1).val / 1024) * 2 + 1, by omega⟩, (flush0_2 _).mpr (by dsimp only; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx2 _).1]
    try dsimp only
    omega
  | ⟨1, _⟩ =>
    show win0_2.index _ (1 : Fin 2) * 1024 ≤ (i 1).val ∧ (i 1).val < win0_2.index _ (1 : Fin 2) * 1024 + 1024
    rw [(idx2 _).2]
    try dsimp only
    omega

theorem final (c : Dev nD) : (dats m 0 c).arrAt 2 cfg0.N = res m c :=
  (dats m 0 c).arrAt_eq_of_cover 2 _ (fun t hf => flushed_res m c t hf) covered

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S4096x1024.Idx → EReal := shapeCast S4096x1024 (m ((c : Thread nD τ).loc main_arg1)) shapeCasts_S2x2048x1024_S4096x1024

theorem arr0 (c : Dev nD) : opA m c = aa m c := by
  unfold opA V aa
  after_reads_simp
  rfl

theorem arr1 (c : Dev nD) : opB m c = bb m c := by
  unfold opB V bb
  after_reads_simp
  rfl

/-! ## The run -/

theorem run : θ_run (defs (F := Ideal)) (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (final m c), (h c).2⟩) (run_blocks m ρ)

open Cert.Reference20Ideal.Read

theorem res_ref (c : Dev nD) : res m c = (val_main_v5 (F := Ideal) (m ((c : Thread nD τ).loc main_arg0)) (m ((c : Thread nD τ).loc main_arg1)) : Vec Ideal S1024x1024 .f32) := by
  funext i
  obtain ⟨x, y, rfl⟩ : ∃ (x : Fin 1024) (y : Fin 1024), i = ix2 x y := ⟨i 0, i 1, eq_ix2 i⟩
  rw [val_main_v5_apply, val_main_v4_apply]
  refine (res_at m c x y).trans ?_
  rw [arr0, arr1]
  refine Finset.sum_congr rfl fun k _ => ?_
  rw [mul_comm]
  unfold val_main_v0 val_main_v1 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel20Ideal.PBlruBwdW

/-! ## The reference's run, and the two together -/

namespace Cert.Reference20Ideal.PBlruBwdW

open Cert.Reference20Ideal Cert.Reference20Ideal.Gen Cert.Reference20Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Cert.Reference20Ideal.Value.run m ρ)

end Cert.Reference20Ideal.PBlruBwdW

namespace Cert

open Idealize.ShloMosaic Idealize.ShloMosaic.TcCoe Idealize.SL.Sem

theorem algebraic20 : algebraic_Kernel20Ideal_Reference20Ideal (hKernel20Ideal := Cert.Kernel20Ideal.Gen.facts) (hReference20Ideal := Cert.Reference20Ideal.Gen.facts) := by
  intro m g m' g' hpre hargs
  refine ⟨fun c => Cert.Kernel20Ideal.PBlruBwdW.res m c, Cert.Kernel20Ideal.PBlruBwdW.run m g, ?_⟩
  refine (θ_run _ _ _).mono (fun r h c => ⟨?_, (h c).2⟩) (Cert.Reference20Ideal.Value.run m' g')
  show _ = Cert.Kernel20Ideal.PBlruBwdW.res m c
  rw [Cert.Kernel20Ideal.PBlruBwdW.res_ref, ← (hargs c).1, ← (hargs c).2]
  exact (h c).1

end Cert

end
-- ==== Proof.Mm8.lean ====
module

public import proofs.«01_k».proof.Defs
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel8Ideal.Upwg

open Cert.Kernel8Ideal Cert.Kernel8Ideal.Gen
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1x1024x1024 .f32) (h2 : a2.IsWhole) (a3 : Memref sig .tc .vmem S1024x1024 .f32) (h3 : a3.IsWhole) (hc0 : cond0_0 i) (hc1 : ¬cond0_1 i) (x0 : Vec F S2048x1024 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1x1024x1024 .f32) (h2 : a2.IsWhole) (a3 : Memref sig .tc .vmem S1024x1024 .f32) (h3 : a3.IsWhole) (hc0 : ¬cond0_0 i) (hc1 : cond0_1 i) (x0 : Vec F S2048x1024 .bf16) (x1 : Vec F S2048x1024 .bf16) (s : Vec F S1024x1024 .f32) :
    out0_B_2 c i a0 h0 a1 h1 a2 h2 a3 h3 hc0 hc1 x0 x1 s = k0_pay3 (k0_pay2 x1 s x0) := by
  unfold out0_B_2
  rw [View.read_writes_eq_canon VO0_2 _ _ (cover0_B_2 c i a0 h0 a1 h1 a2 h2 a3 h3 hc0 hc1 x0 x1 s)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S2048x1024 .bf16) (z : Vec Ideal S1024x1024 .f32) (a : Vec Ideal S2048x1024 .bf16) (r : Fin 1024) (l : Fin 1024) :
    k0_pay2 (F := Ideal) b z a (ix2 r l) = z (ix2 r l) + ∑ k : Fin 2048, a (ix2 k r) * b (ix2 k l) := by
  pointwise [k0_pay2]

theorem pay3_at (w : Vec Ideal S1024x1024 .f32) (r : Fin 1024) (l : Fin 1024) : k0_pay3 (F := Ideal) w (ix3 (0 : Fin 1) r l) = w (ix2 r l) := by
  unfold k0_pay3
  refine shapeCast_apply _ _ (ix3 (0 : Fin 1) r l : S1x1024x1024.Idx) (ix2 r l : S1024x1024.Idx) ?_
  rewrite [Shape.rowMajor_val_two, Shape.rowMajor_val_three]
  show r.val * 1024 + l.val = (0 * 1024 + r.val) * 1024 + l.val
  omega

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S4096x4096.Idx → EReal := V m c main_v3

/-! ## The blocks -/

def blkA (c : Dev nD) (t : Fin cfg0.N) : Vec Ideal S2048x1024 .bf16 := iblk m c 0 t
def blkB (c : Dev nD) (t : Fin cfg0.N) : Vec Ideal S2048x1024 .bf16 := iblk m c 1 t

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = t.val / 2 % 4 :=
  (by decide +kernel : ∀ t : Fin grid0.N, _)
theorem idx2 : ∀ t : Fin cfg0.N, win0_2.index t (0 : Fin 3) = 0 + t.val / 4 ∧ win0_2.index t (1 : Fin 3) = 0 ∧ win0_2.index t (2 : Fin 3) = t.val / 2 % 2 :=
  (by decide +kernel : ∀ t : Fin grid0.N, _)

theorem blk0_at (c : Dev nD) (t : Fin cfg0.N) (r : Fin 2048) (l : Fin 1024) (x : Fin 4096) (y : Fin 1024) (hx : x.val = t.val % 2 * 2048 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 2048 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 2048) (l : Fin 1024) (x : Fin 4096) (y : Fin 4096) (hx : x.val = t.val % 2 * 2048 + r.val) (hy : y.val = t.val / 2 % 4 * 1024 + l.val) :
    blkB m c t (ix2 r l) = opB m c (ix2 x y) := by
  unfold blkB iblk opB
  rw [View.read_apply]
  generalize V m c main_v3 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S1024x4096 .f32 := fun i => ∑ k : Fin 4096, opA m c (ix2 k (i 0)) * opB m c (ix2 k (i 1))

theorem res_at (c : Dev nD) (x : Fin 1024) (y : Fin 4096) : res m c (ix2 x y) = ∑ k : Fin 4096, opA m c (ix2 k x) * opB m c (ix2 k y) := rfl

/-- One run of the sum. -/
def part (c : Dev nD) (x : Fin 1024) (y : Fin 4096) (s : Fin 2) : EReal :=
  ∑ k : Fin 2048, opA m c (ix2 (⟨s.val * 2048 + k.val, by omega⟩ : Fin 4096) x) * opB m c (ix2 (⟨s.val * 2048 + k.val, by omega⟩ : Fin 4096) y)

/-- The runs are the whole sum. -/
theorem parts (c : Dev nD) (x : Fin 1024) (y : Fin 4096) : ∑ s : Fin 2, part m c x y s = res m c (ix2 x y) := by
  rw [res_at, show (∑ k : Fin 4096, opA m c (ix2 k x) * opB m c (ix2 k y)) = ∑ k : Fin (2 * 2048), (fun k : Fin 4096 => opA m c (ix2 k x) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4096) = (⟨s.val * 2048 + k.val, by omega⟩ : Fin 4096) := Fin.ext (by show k.val + 2048 * s.val = s.val * 2048 + k.val; omega)
  exact congrArg (fun k : Fin 4096 => opA m c (ix2 k x) * opB m c (ix2 k y)) e.symm

theorem part_of (c : Dev nD) (t : Fin cfg0.N) (r : Fin 1024) (l : Fin 1024) (x : Fin 1024) (y : Fin 4096) (s : Fin 2) (hx : x.val = 0 * 1024 + r.val) (hy : y.val = t.val / 2 % 4 * 1024 + l.val) (hs : s.val = t.val % 2) :
    (∑ k : Fin 2048, blkA m c t (ix2 k r) * blkB m c t (ix2 k l)) = part m c x y s := by
  refine Finset.sum_congr rfl fun k _ => ?_
  rw [blk0_at m c t k r (⟨s.val * 2048 + k.val, by omega⟩ : Fin 4096) x (by dsimp only; rw [hs]) hx, blk1_at m c t k l (⟨s.val * 2048 + k.val, by omega⟩ : Fin 4096) y (by dsimp only; rw [hs]) hy]

theorem scr_first (c : Dev nD) (t : Fin cfg0.N) (h0 : t.val % 2 = 0) (r : Fin 1024) (l : Fin 1024) (x : Fin 1024) (y : Fin 4096) (hx : x.val = 0 * 1024 + r.val) (hy : y.val = t.val / 2 % 4 * 1024 + l.val) :
    ((outsAt0 m c t.val t.isLt).2 : Vec Ideal S1024x1024 .f32) (ix2 r l) = part m c x y (⟨0, by decide⟩ : Fin 2) := by
  rw [outsAt0_A m c t h0 (by omega)]
  dsimp only
  rw [left_first, pay2_at, pay1_at, zero_add]
  exact part_of m c t r l x y (⟨0, by decide⟩ : Fin 2) hx hy h0.symm

theorem out_last (c : Dev nD) (t : Fin cfg0.N) (h1 : t.val % 2 = 1) (r : Fin 1024) (l : Fin 1024) (x : Fin 1024) (y : Fin 4096) (hx : x.val = 0 * 1024 + r.val) (hy : y.val = t.val / 2 % 4 * 1024 + l.val) :
    ((outsAt0 m c t.val t.isLt).1 : Vec Ideal S1x1024x1024 .f32) (ix3 (0 : Fin 1) r l)
      = ((outsAt0 m c (t.val - 1) (Nat.lt_of_le_of_lt (Nat.sub_le _ _) t.isLt)).2 : Vec Ideal S1024x1024 .f32) (ix2 r l) + part m c x y (⟨1, by decide⟩ : Fin 2) := by
  rw [outsAt0_B m c t (by omega) h1]
  dsimp only
  rw [left_last, pay3_at, pay2_at]
  exact congrArg (_ + ·) (part_of m c t r l x y (⟨1, by decide⟩ : Fin 2) hx hy h1.symm)

/-- What the last point of a run leaves is the whole sum. -/
theorem left_res (c : Dev nD) (t : Fin cfg0.N) (h1 : t.val % 2 = 1) (r : Fin 1024) (l : Fin 1024) (x : Fin 1024) (y : Fin 4096) (hx : x.val = 0 * 1024 + r.val) (hy : y.val = t.val / 2 % 4 * 1024 + l.val) :
    ((outsAt0 m c t.val t.isLt).1 : Vec Ideal S1x1024x1024 .f32) (ix3 (0 : Fin 1) r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p0 := scr_first m c (⟨t.val - 1, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

/-- The shards' columns, as the blocks leave them. -/
def G (c : Dev nD) : Vec Ideal S4x1024x2048 .f32 := fun i =>
  res m c (ix2 (i 1) (⟨((i 0).val - 0) % 2 * 2048 + (i 2).val, by have h : (i 2).val < 2048 := (i 2).isLt; omega⟩ : Fin 4096))

theorem G_at (c : Dev nD) (s : Fin 4) (x : Fin 1024) (l : Fin 2048) (y : Fin 4096) (hy : y.val = (s.val - 0) % 2 * 2048 + l.val) :
    G m c (ix3 s x l) = res m c (ix2 x y) :=
  congrArg (fun y : Fin 4096 => res m c (ix2 x y)) (Fin.ext hy.symm)

theorem flushed_res (c : Dev nD) (t : Fin cfg0.N) (hf : (cfg0.win 2).flush t = true) :
    (dats m 0 c).flushed 2 t = ((cfg0.win 2).blk t).view.read (Elt Ideal) (G m c) := by
  have hN : cfg0.N = 8 := N_0
  have ht : t.val < 8 := hN ▸ t.isLt
  show (cfg0.win 2).cut (grid0.coords t) ((dats m 0 c).after 2 t) = _
  rw [after0_2]
  funext y
  have h0 : (y 0).val < 1 := (y 0).isLt
  have h1 : (y 1).val < 1024 := (y 1).isLt
  have h2 : (y 2).val < 1024 := (y 2).isLt
  have hy : (cfg0.win 2).xinj (grid0.coords t) y = ix3 (0 : Fin 1) (⟨(y 1).val, h1⟩ : Fin 1024) (⟨(y 2).val, h2⟩ : Fin 1024) := funext fun a => match a with
    | ⟨0, _⟩ => Fin.ext (by show (y 0).val = 0; omega)
    | ⟨1, _⟩ => rfl
    | ⟨2, _⟩ => rfl
  have he : ((cfg0.win 2).blk t).view.emb y = ix3 (⟨0 + t.val / 4, by omega⟩ : Fin 4) (⟨(y 1).val, h1⟩ : Fin 1024) (⟨t.val / 2 % 2 * 1024 + (y 2).val, by omega⟩ : Fin 2048) := by
    have b0 : (((cfg0.win 2).blk t).view.emb y (0 : Fin 3)).val = win0_2.index t 0 * 1 + 1 * (y 0).val := rfl
    have b1 : (((cfg0.win 2).blk t).view.emb y (1 : Fin 3)).val = win0_2.index t 1 * 1024 + 1 * (y 1).val := rfl
    have b2 : (((cfg0.win 2).blk t).view.emb y (2 : Fin 3)).val = win0_2.index t 2 * 1024 + 1 * (y 2).val := rfl
    rw [(idx2 t).1] at b0
    rw [(idx2 t).2.1] at b1
    rw [(idx2 t).2.2] at b2
    exact funext fun a => Fin.ext (match a with
      | ⟨0, _⟩ => b0.trans (by show (0 + t.val / 4) * 1 + 1 * (y 0).val = 0 + t.val / 4; omega)
      | ⟨1, _⟩ => b1.trans (by show 0 * 1024 + 1 * (y 1).val = (y 1).val; omega)
      | ⟨2, _⟩ => b2.trans (by show t.val / 2 % 2 * 1024 + 1 * (y 2).val = t.val / 2 % 2 * 1024 + (y 2).val; omega))
  rw [View.read_apply, he]
  show ((outsAt0 m c t.val t.isLt).1 : Vec Ideal S1x1024x1024 .f32) ((cfg0.win 2).xinj (grid0.coords t) y) = _
  rw [hy]
  refine (left_res m c t ((flush0_2 t).mp hf) (⟨(y 1).val, h1⟩ : Fin 1024) (⟨(y 2).val, h2⟩ : Fin 1024) (⟨(y 1).val, h1⟩ : Fin 1024) (⟨t.val / 2 % 4 * 1024 + (y 2).val, by omega⟩ : Fin 4096) (by show (y 1).val = 0 * 1024 + (y 1).val; omega) rfl).trans ?_
  exact (G_at m c (⟨0 + t.val / 4, by omega⟩ : Fin 4) (⟨(y 1).val, h1⟩ : Fin 1024) (⟨t.val / 2 % 2 * 1024 + (y 2).val, by omega⟩ : Fin 2048) (⟨t.val / 2 % 4 * 1024 + (y 2).val, by omega⟩ : Fin 4096)
    (by show t.val / 2 % 4 * 1024 + (y 2).val = (0 + t.val / 4 - 0) % 2 * 2048 + (t.val / 2 % 2 * 1024 + (y 2).val); omega)).symm

theorem mem_blk (t : Fin cfg0.N) (i : S4x1024x2048.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v4).slice (win0_2.rect t)).set ↔ _
  rw [View.set_slice_whole, Rect.mem_set_unit]
  exact Iff.rfl

/-- The shards' array after the run. -/
def arr (c : Dev nD) : Vec Ideal S4x1024x2048 .f32 := (dats m 0 c).arrAt 2 cfg0.N

/-- A place of the two written shards. -/
theorem final (c : Dev nD) (s : Fin 2) (x : Fin 1024) (l : Fin 2048) (y : Fin 4096) (hy : y.val = s.val * 2048 + l.val) :
    arr m c (ix3 (⟨0 + s.val, by omega⟩ : Fin 4) x l) = res m c (ix2 x y) := by
  have hN : cfg0.N = 8 := N_0
  have hs := s.isLt
  have hl := l.isLt
  unfold arr
  refine ((dats m 0 c).arrAt_apply_of_mem 2 (G m c) (fun t hf => flushed_res m c t hf) cfg0.N (⟨(s.val * 2 + l.val / 1024) * 2 + 1, by omega⟩ : Fin cfg0.N)
    (ix3 (⟨0 + s.val, by omega⟩ : Fin 4) x l) (Fin.isLt _) ((flush0_2 _).mpr (by dsimp only; omega)) ?_).trans (G_at m c _ x l y (by show y.val = (0 + s.val - 0) % 2 * 2048 + l.val; omega))
  rw [mem_blk]
  intro a
  match a with
  | ⟨0, _⟩ =>
    show win0_2.index _ (0 : Fin 3) * 1 ≤ 0 + s.val ∧ 0 + s.val < win0_2.index _ (0 : Fin 3) * 1 + 1
    rw [(idx2 _).1]
    dsimp only
    omega
  | ⟨1, _⟩ =>
    have hx := x.isLt
    show win0_2.index _ (1 : Fin 3) * 1024 ≤ x.val ∧ x.val < win0_2.index _ (1 : Fin 3) * 1024 + 1024
    rw [(idx2 _).2.1]
    omega
  | ⟨2, _⟩ =>
    show win0_2.index _ (2 : Fin 3) * 1024 ≤ l.val ∧ l.val < win0_2.index _ (2 : Fin 3) * 1024 + 1024
    rw [(idx2 _).2.2]
    dsimp only
    omega

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S4096x4096.Idx → EReal := shapeCast S4096x4096 (m ((c : Thread nD τ).loc main_arg1)) shapeCasts_S2x2048x4096_S4096x4096

theorem arr0 (c : Dev nD) : opA m c = aa m c := by
  unfold opA V aa
  after_reads_simp
  rfl

theorem arr1 (c : Dev nD) : opB m c = bb m c := by
  unfold opB V bb
  after_reads_simp
  rfl

/-! ## The host lines after it, and the run -/

def W (c : Dev nD) (b : Ref sig .tc) : Buf (Elt Ideal) ((c : Thread nD τ).loc b) := Pipeline.afterTail₀ cfgs (dats m) 0 (V0 m) [hostOps1] c b

theorem tail_acc (c : Dev nD) :
    Pipeline.withArrays cfg0.spec c (V0 m c) (fun w => (dats m 0 c).arrAt w cfg0.N) (Proc.devRef .tc main_v4) = arr m c :=
  Pipeline.withArrays_arr cfg0.spec (by decide) c (V0 m c) _ 2

/-- The result: the two shards' columns in a row. -/
def fin (c : Dev nD) : Vec Ideal S1024x4096 .f32 :=
  shapeCast S1024x4096 (transpose S1024x2x2048 [1, 0, 2] (extractStridedSlice S2x1024x2048 ![0, 0, 0] (arr m c) slices_S4x1024x2048_S2x1024x2048_0_0_0 : Vec Ideal S2x1024x2048 .f32) transposes_S2x1024x2048_S1024x2x2048_1_0_2 : Vec Ideal S1024x2x2048 .f32) shapeCasts_S1024x2x2048_S1024x4096

theorem W_eq (c : Dev nD) : W m c main_v7 = fin m c := by
  unfold fin
  rw [← tail_acc]
  unfold W Pipeline.afterTail₀
  generalize Pipeline.withArrays cfg0.spec c (V0 m c) (fun w => (dats m 0 c).arrAt w cfg0.N) = Y
  show StableHlo.after hostOps1 Y _ = _
  unfold hostOps1
  simp only [StableHlo.after_cons, StableHlo.after_nil]
  after_results_simp
  rfl

theorem fin_at (c : Dev nD) (x : Fin 1024) (y : Fin 4096) : fin m c (ix2 x y) = res m c (ix2 x y) := by
  have hy := y.isLt
  unfold fin
  refine (shapeCast_apply _ _ (ix2 x y : S1024x4096.Idx) (ix3 x (⟨y.val / 2048, by omega⟩ : Fin 2) (⟨y.val % 2048, by omega⟩ : Fin 2048) : S1024x2x2048.Idx) ?_).trans ?_
  · rewrite [Shape.rowMajor_val_two, Shape.rowMajor_val_three]
    show (x.val * 2 + y.val / 2048) * 2048 + y.val % 2048 = x.val * 4096 + y.val
    omega
  refine (transpose_apply _ _ _ _ (ix3 (⟨y.val / 2048, by omega⟩ : Fin 2) x (⟨y.val % 2048, by omega⟩ : Fin 2048) : S2x1024x2048.Idx) fun d => ?_).trans ?_
  · match d with
    | ⟨0, _⟩ => rfl
    | ⟨1, _⟩ => rfl
    | ⟨2, _⟩ => rfl
  refine (extractStridedSlice_apply _ _ _ _ (ix3 (⟨0 + y.val / 2048, by omega⟩ : Fin 4) x (⟨y.val % 2048, by omega⟩ : Fin 2048) : S4x1024x2048.Idx) fun d => ?_).trans ?_
  · match d with
    | ⟨0, _⟩ => rfl
    | ⟨1, _⟩ => exact (Nat.zero_add _).symm
    | ⟨2, _⟩ => exact (Nat.zero_add _).symm
  exact final m c (⟨y.val / 2048, by omega⟩ : Fin 2) x (⟨y.val % 2048, by omega⟩ : Fin 2048) y (by dsimp only; omega)

theorem run : θ_run (defs (F := Ideal)) (onTc (τ := τ) (main (F := Ideal))) ⟨m, fun _ => 0, ρ⟩ fun r => ∀ c : Dev nD,
      r.2.mem ((c : Thread nD τ).loc main_v7) = fin m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨(h.1 c).trans (W_eq m c), h.2 c⟩) (θ_run_and
    ((θ_run defs _ _).mono (fun r h (c : Dev nD) => (show r.2.mem ((c : Thread nD τ).loc main_v7) = W m c main_v7 from (h c).2 main_v7 (Pipeline.mem_restRefs_of main_v7 (by decide) (by decide)))) (run_main m ρ))
    (unchanged m ρ))

open Cert.Reference8Ideal.Read

theorem res_ref (c : Dev nD) : fin m c = (val_main_v5 (F := Ideal) (m ((c : Thread nD τ).loc main_arg0)) (m ((c : Thread nD τ).loc main_arg1)) : Vec Ideal S1024x4096 .f32) := by
  funext i
  obtain ⟨x, y, rfl⟩ : ∃ (x : Fin 1024) (y : Fin 4096), i = ix2 x y := ⟨i 0, i 1, eq_ix2 i⟩
  rw [val_main_v5_apply, val_main_v4_apply]
  refine ((fin_at m c x y).trans (res_at m c x y)).trans ?_
  rw [arr0, arr1]
  refine Finset.sum_congr rfl fun k _ => ?_
  rw [mul_comm]
  unfold val_main_v0 val_main_v1 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel8Ideal.Upwg

/-! ## The reference's run, and the two together -/

namespace Cert.Reference8Ideal.Upwg

open Cert.Reference8Ideal Cert.Reference8Ideal.Gen Cert.Reference8Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Cert.Reference8Ideal.Value.run m ρ)

end Cert.Reference8Ideal.Upwg

namespace Cert

open Idealize.ShloMosaic Idealize.ShloMosaic.TcCoe Idealize.SL.Sem

theorem algebraic8 : algebraic_Kernel8Ideal_Reference8Ideal (hKernel8Ideal := Cert.Kernel8Ideal.Gen.facts) (hReference8Ideal := Cert.Reference8Ideal.Gen.facts) := by
  intro m g m' g' hpre hargs
  refine ⟨fun c => Cert.Kernel8Ideal.Upwg.fin m c, Cert.Kernel8Ideal.Upwg.run m g, ?_⟩
  refine (θ_run _ _ _).mono (fun r h c => ⟨?_, (h c).2⟩) (Cert.Reference8Ideal.Value.run m' g')
  show _ = Cert.Kernel8Ideal.Upwg.fin m c
  rw [Cert.Kernel8Ideal.Upwg.res_ref, ← (hargs c).1, ← (hargs c).2.1]
  exact (h c).1

end Cert

end
-- ==== Proof.Mm21.lean ====
module

public import proofs.«01_k».proof.Defs
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import Idealize.ShloMosaic.Adequacy
public import Idealize.ShloMosaic.Init
public import Idealize.ShloMosaic.Lib.Pointwise
public import Idealize.ShloMosaic.Lib.Pipeline.ValueKit.Basic
public import Idealize.ShloMosaic.Lib.Pipeline.ValueKit.Acc
public import Idealize.ShloMosaic.Lib.Quiescent
public import Idealize.ShloMosaic.Lib.StableHlo.RunRead
public import Idealize.ShloMosaic.Lib.WritesUnit

@[expose] public section

set_option maxRecDepth 16384

noncomputable section

namespace Cert.Kernel21Ideal.Upwv

open Cert.Kernel21Ideal Cert.Kernel21Ideal.Gen
open Idealize.ShloMosaic Idealize.ShloMosaic.TcCoe Idealize.ShloMosaic.Tactic Idealize.SL.Sem

section Words

variable {F : FTy → Type} [FloatOps F]

/-! ## What a point leaves, as the payloads of its blocks -/

theorem left_first (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1x1024x1024 .f32) (h2 : a2.IsWhole) (a3 : Memref sig .tc .vmem S1024x1024 .f32) (h3 : a3.IsWhole) (hc0 : cond0_0 i) (hc1 : ¬cond0_1 i) (x0 : Vec F S2048x1024 .bf16) (x1 : Vec F S2048x1024 .bf16) :
    sout0_A_0 c i a0 h0 a1 h1 a2 h2 a3 h3 hc0 hc1 x0 x1 = k0_pay2 x1 (k0_pay1 (F := F)) x0 := by
  unfold sout0_A_0
  rw [View.read_writes_eq_canon VS0_0 _ _ (scover0_A_0 c i a0 h0 a1 h1 a2 h2 a3 h3 hc0 hc1 x0 x1)]
  unfold kernelRun0_A
  sl_unfold_words
  dsimp only
  rw [View.canon_cons_unit_lit _ _ _ (by decide), View.readAt_eq_ld, View.readAt_eq_ld, h0.read_unread, h1.read_unread,
    View.ld_unit_lit _ _ (by decide), View.ld_unit_lit _ _ (by decide), View.readCov_unit_lit _ _ _ (by decide)]

theorem left_last (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1x1024x1024 .f32) (h2 : a2.IsWhole) (a3 : Memref sig .tc .vmem S1024x1024 .f32) (h3 : a3.IsWhole) (hc0 : ¬cond0_0 i) (hc1 : cond0_1 i) (x0 : Vec F S2048x1024 .bf16) (x1 : Vec F S2048x1024 .bf16) (s : Vec F S1024x1024 .f32) :
    out0_B_2 c i a0 h0 a1 h1 a2 h2 a3 h3 hc0 hc1 x0 x1 s = k0_pay3 (k0_pay2 x1 s x0) := by
  unfold out0_B_2
  rw [View.read_writes_eq_canon VO0_2 _ _ (cover0_B_2 c i a0 h0 a1 h1 a2 h2 a3 h3 hc0 hc1 x0 x1 s)]
  unfold kernelRun0_B
  sl_unfold_words
  dsimp only
  rw [View.canon_cons_unit_lit _ _ _ (by decide), View.readCov_unit_lit _ _ _ (by decide), View.readAt_eq_ld, View.readAt_eq_ld, View.readAt_eq_ld, h0.read_unread, h1.read_unread, h3.read_unread,
    View.ld_unit_lit _ _ (by decide), View.ld_unit_lit _ _ (by decide), View.ld_unit_lit _ _ (by decide)]

end Words

/-! ## A block product at a place -/

theorem pay1_at (r : Fin 1024) (l : Fin 1024) : k0_pay1 (F := Ideal) (ix2 r l) = 0 := by
  pointwise [k0_pay1]

theorem pay2_at (b : Vec Ideal S2048x1024 .bf16) (z : Vec Ideal S1024x1024 .f32) (a : Vec Ideal S2048x1024 .bf16) (r : Fin 1024) (l : Fin 1024) :
    k0_pay2 (F := Ideal) b z a (ix2 r l) = z (ix2 r l) + ∑ k : Fin 2048, a (ix2 k r) * b (ix2 k l) := by
  pointwise [k0_pay2]

theorem pay3_at (w : Vec Ideal S1024x1024 .f32) (r : Fin 1024) (l : Fin 1024) : k0_pay3 (F := Ideal) w (ix3 (0 : Fin 1) r l) = w (ix2 r l) := by
  unfold k0_pay3
  refine shapeCast_apply _ _ (ix3 (0 : Fin 1) r l : S1x1024x1024.Idx) (ix2 r l : S1024x1024.Idx) ?_
  rewrite [Shape.rowMajor_val_two, Shape.rowMajor_val_three]
  show r.val * 1024 + l.val = (0 * 1024 + r.val) * 1024 + l.val
  omega

variable (m : (ℓ : Loc nD τ sig) → Buf (Elt Ideal) ℓ) (ρ : Dev nD → PrngReg)

/-- The two factors' arrays as the product finds them. -/
def opA (c : Dev nD) : S4096x1024.Idx → EReal := V m c main_v1
def opB (c : Dev nD) : S4096x4096.Idx → EReal := V m c main_v3

/-! ## The blocks -/

def blkA (c : Dev nD) (t : Fin cfg0.N) : Vec Ideal S2048x1024 .bf16 := iblk m c 0 t
def blkB (c : Dev nD) (t : Fin cfg0.N) : Vec Ideal S2048x1024 .bf16 := iblk m c 1 t

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = t.val / 2 % 4 :=
  (by decide +kernel : ∀ t : Fin grid0.N, _)
theorem idx2 : ∀ t : Fin cfg0.N, win0_2.index t (0 : Fin 3) = 2 + t.val / 4 ∧ win0_2.index t (1 : Fin 3) = 0 ∧ win0_2.index t (2 : Fin 3) = t.val / 2 % 2 :=
  (by decide +kernel : ∀ t : Fin grid0.N, _)

theorem blk0_at (c : Dev nD) (t : Fin cfg0.N) (r : Fin 2048) (l : Fin 1024) (x : Fin 4096) (y : Fin 1024) (hx : x.val = t.val % 2 * 2048 + r.val) (hy : y.val = 0 * 1024 + l.val) :
    blkA m c t (ix2 r l) = opA m c (ix2 x y) := by
  unfold blkA iblk opA
  rw [View.read_apply]
  generalize V m c main_v1 = A
  refine congrArg A (funext fun a => Fin.ext ?_)
  match a with
  | ⟨0, _⟩ =>
    have h : (((cfg0.win 0).blk t).view.emb (ix2 r l) (0 : Fin 2)).val = win0_0.index t 0 * 2048 + 1 * r.val := rfl
    rw [(idx0 t).1, Nat.one_mul] at h
    exact h.trans hx.symm
  | ⟨1, _⟩ =>
    have h : (((cfg0.win 0).blk t).view.emb (ix2 r l) (1 : Fin 2)).val = win0_0.index t 1 * 1024 + 1 * l.val := rfl
    rw [(idx0 t).2, Nat.one_mul] at h
    exact h.trans hy.symm

theorem blk1_at (c : Dev nD) (t : Fin cfg0.N) (r : Fin 2048) (l : Fin 1024) (x : Fin 4096) (y : Fin 4096) (hx : x.val = t.val % 2 * 2048 + r.val) (hy : y.val = t.val / 2 % 4 * 1024 + l.val) :
    blkB m c t (ix2 r l) = opB m c (ix2 x y) := by
  unfold blkB iblk opB
  rw [View.read_apply]
  generalize V m c main_v3 = A
  refine congrArg A (funext fun a => Fin.ext ?_)
  match a with
  | ⟨0, _⟩ =>
    have h : (((cfg0.win 1).blk t).view.emb (ix2 r l) (0 : Fin 2)).val = win0_1.index t 0 * 2048 + 1 * r.val := rfl
    rw [(idx1 t).1, Nat.one_mul] at h
    exact h.trans hx.symm
  | ⟨1, _⟩ =>
    have h : (((cfg0.win 1).blk t).view.emb (ix2 r l) (1 : Fin 2)).val = win0_1.index t 1 * 1024 + 1 * l.val := rfl
    rw [(idx1 t).2, Nat.one_mul] at h
    exact h.trans hy.symm

/-! ## The product's array after the run -/

def res (c : Dev nD) : Vec Ideal S1024x4096 .f32 := fun i => ∑ k : Fin 4096, opA m c (ix2 k (i 0)) * opB m c (ix2 k (i 1))

theorem res_at (c : Dev nD) (x : Fin 1024) (y : Fin 4096) : res m c (ix2 x y) = ∑ k : Fin 4096, opA m c (ix2 k x) * opB m c (ix2 k y) := rfl

/-- One run of the sum. -/
def part (c : Dev nD) (x : Fin 1024) (y : Fin 4096) (s : Fin 2) : EReal :=
  ∑ k : Fin 2048, opA m c (ix2 (⟨s.val * 2048 + k.val, by omega⟩ : Fin 4096) x) * opB m c (ix2 (⟨s.val * 2048 + k.val, by omega⟩ : Fin 4096) y)

/-- The runs are the whole sum. -/
theorem parts (c : Dev nD) (x : Fin 1024) (y : Fin 4096) : ∑ s : Fin 2, part m c x y s = res m c (ix2 x y) := by
  rw [res_at, show (∑ k : Fin 4096, opA m c (ix2 k x) * opB m c (ix2 k y)) = ∑ k : Fin (2 * 2048), (fun k : Fin 4096 => opA m c (ix2 k x) * opB m c (ix2 k y)) k from rfl,
    ← Equiv.sum_comp finProdFinEquiv, Fintype.sum_prod_type]
  refine Finset.sum_congr rfl fun s _ => Finset.sum_congr rfl fun k _ => ?_
  have e : (finProdFinEquiv (s, k) : Fin 4096) = (⟨s.val * 2048 + k.val, by omega⟩ : Fin 4096) := Fin.ext (by show k.val + 2048 * s.val = s.val * 2048 + k.val; omega)
  exact congrArg (fun k : Fin 4096 => opA m c (ix2 k x) * opB m c (ix2 k y)) e.symm

theorem part_of (c : Dev nD) (t : Fin cfg0.N) (r : Fin 1024) (l : Fin 1024) (x : Fin 1024) (y : Fin 4096) (s : Fin 2) (hx : x.val = 0 * 1024 + r.val) (hy : y.val = t.val / 2 % 4 * 1024 + l.val) (hs : s.val = t.val % 2) :
    (∑ k : Fin 2048, blkA m c t (ix2 k r) * blkB m c t (ix2 k l)) = part m c x y s := by
  refine Finset.sum_congr rfl fun k _ => ?_
  rw [blk0_at m c t k r (⟨s.val * 2048 + k.val, by omega⟩ : Fin 4096) x (by dsimp only; rw [hs]) hx, blk1_at m c t k l (⟨s.val * 2048 + k.val, by omega⟩ : Fin 4096) y (by dsimp only; rw [hs]) hy]

theorem scr_first (c : Dev nD) (t : Fin cfg0.N) (h0 : t.val % 2 = 0) (r : Fin 1024) (l : Fin 1024) (x : Fin 1024) (y : Fin 4096) (hx : x.val = 0 * 1024 + r.val) (hy : y.val = t.val / 2 % 4 * 1024 + l.val) :
    ((outsAt0 m c t.val t.isLt).2 : Vec Ideal S1024x1024 .f32) (ix2 r l) = part m c x y (⟨0, by decide⟩ : Fin 2) := by
  rw [outsAt0_A m c t h0 (by omega)]
  dsimp only
  rw [left_first, pay2_at, pay1_at, zero_add]
  exact part_of m c t r l x y (⟨0, by decide⟩ : Fin 2) hx hy h0.symm

theorem out_last (c : Dev nD) (t : Fin cfg0.N) (h1 : t.val % 2 = 1) (r : Fin 1024) (l : Fin 1024) (x : Fin 1024) (y : Fin 4096) (hx : x.val = 0 * 1024 + r.val) (hy : y.val = t.val / 2 % 4 * 1024 + l.val) :
    ((outsAt0 m c t.val t.isLt).1 : Vec Ideal S1x1024x1024 .f32) (ix3 (0 : Fin 1) r l)
      = ((outsAt0 m c (t.val - 1) (Nat.lt_of_le_of_lt (Nat.sub_le _ _) t.isLt)).2 : Vec Ideal S1024x1024 .f32) (ix2 r l) + part m c x y (⟨1, by decide⟩ : Fin 2) := by
  rw [outsAt0_B m c t (by omega) h1]
  dsimp only
  rw [left_last, pay3_at, pay2_at]
  exact congrArg (_ + ·) (part_of m c t r l x y (⟨1, by decide⟩ : Fin 2) hx hy h1.symm)

/-- What the last point of a run leaves is the whole sum. -/
theorem left_res (c : Dev nD) (t : Fin cfg0.N) (h1 : t.val % 2 = 1) (r : Fin 1024) (l : Fin 1024) (x : Fin 1024) (y : Fin 4096) (hx : x.val = 0 * 1024 + r.val) (hy : y.val = t.val / 2 % 4 * 1024 + l.val) :
    ((outsAt0 m c t.val t.isLt).1 : Vec Ideal S1x1024x1024 .f32) (ix3 (0 : Fin 1) r l) = res m c (ix2 x y) := by
  have ht := t.isLt
  have e : ∀ (n n' : ℕ) (h : n < cfg0.N) (h' : n' < cfg0.N), n = n' → outsAt0 m c n h = outsAt0 m c n' h' := by
    intro n n' h h' he; subst he; rfl
  rw [out_last m c t h1 r l x y hx hy]
  rw [e (t.val - 1) (t.val - 1) _ (by omega) (by omega)]
  have p0 := scr_first m c (⟨t.val - 1, by omega⟩ : Fin cfg0.N) (by first | omega | (dsimp only; omega)) r l x y (by first | omega | (dsimp only; omega)) (by first | omega | (dsimp only; omega))
  dsimp only at p0
  rw [p0, ← parts]
  simp only [Fin.sum_univ_succ, Fin.sum_univ_zero, add_zero, add_assoc]
  rfl

/-- The shards' columns, as the blocks leave them. -/
def G (c : Dev nD) : Vec Ideal S4x1024x2048 .f32 := fun i =>
  res m c (ix2 (i 1) (⟨((i 0).val - 2) % 2 * 2048 + (i 2).val, by have h : (i 2).val < 2048 := (i 2).isLt; omega⟩ : Fin 4096))

theorem G_at (c : Dev nD) (s : Fin 4) (x : Fin 1024) (l : Fin 2048) (y : Fin 4096) (hy : y.val = (s.val - 2) % 2 * 2048 + l.val) :
    G m c (ix3 s x l) = res m c (ix2 x y) :=
  congrArg (fun y : Fin 4096 => res m c (ix2 x y)) (Fin.ext hy.symm)

theorem flushed_res (c : Dev nD) (t : Fin cfg0.N) (hf : (cfg0.win 2).flush t = true) :
    (dats m 0 c).flushed 2 t = ((cfg0.win 2).blk t).view.read (Elt Ideal) (G m c) := by
  have hN : cfg0.N = 8 := N_0
  have ht : t.val < 8 := hN ▸ t.isLt
  show (cfg0.win 2).cut (grid0.coords t) ((dats m 0 c).after 2 t) = _
  rw [after0_2]
  funext y
  have h0 : (y 0).val < 1 := (y 0).isLt
  have h1 : (y 1).val < 1024 := (y 1).isLt
  have h2 : (y 2).val < 1024 := (y 2).isLt
  have hy : (cfg0.win 2).xinj (grid0.coords t) y = ix3 (0 : Fin 1) (⟨(y 1).val, h1⟩ : Fin 1024) (⟨(y 2).val, h2⟩ : Fin 1024) := funext fun a => match a with
    | ⟨0, _⟩ => Fin.ext (by show (y 0).val = 0; omega)
    | ⟨1, _⟩ => rfl
    | ⟨2, _⟩ => rfl
  have he : ((cfg0.win 2).blk t).view.emb y = ix3 (⟨2 + t.val / 4, by omega⟩ : Fin 4) (⟨(y 1).val, h1⟩ : Fin 1024) (⟨t.val / 2 % 2 * 1024 + (y 2).val, by omega⟩ : Fin 2048) := by
    have b0 : (((cfg0.win 2).blk t).view.emb y (0 : Fin 3)).val = win0_2.index t 0 * 1 + 1 * (y 0).val := rfl
    have b1 : (((cfg0.win 2).blk t).view.emb y (1 : Fin 3)).val = win0_2.index t 1 * 1024 + 1 * (y 1).val := rfl
    have b2 : (((cfg0.win 2).blk t).view.emb y (2 : Fin 3)).val = win0_2.index t 2 * 1024 + 1 * (y 2).val := rfl
    rw [(idx2 t).1] at b0
    rw [(idx2 t).2.1] at b1
    rw [(idx2 t).2.2] at b2
    exact funext fun a => Fin.ext (match a with
      | ⟨0, _⟩ => b0.trans (by show (2 + t.val / 4) * 1 + 1 * (y 0).val = 2 + t.val / 4; omega)
      | ⟨1, _⟩ => b1.trans (by show 0 * 1024 + 1 * (y 1).val = (y 1).val; omega)
      | ⟨2, _⟩ => b2.trans (by show t.val / 2 % 2 * 1024 + 1 * (y 2).val = t.val / 2 % 2 * 1024 + (y 2).val; omega))
  rw [View.read_apply, he]
  show ((outsAt0 m c t.val t.isLt).1 : Vec Ideal S1x1024x1024 .f32) ((cfg0.win 2).xinj (grid0.coords t) y) = _
  rw [hy]
  refine (left_res m c t ((flush0_2 t).mp hf) (⟨(y 1).val, h1⟩ : Fin 1024) (⟨(y 2).val, h2⟩ : Fin 1024) (⟨(y 1).val, h1⟩ : Fin 1024) (⟨t.val / 2 % 4 * 1024 + (y 2).val, by omega⟩ : Fin 4096) (by show (y 1).val = 0 * 1024 + (y 1).val; omega) rfl).trans ?_
  exact (G_at m c (⟨2 + t.val / 4, by omega⟩ : Fin 4) (⟨(y 1).val, h1⟩ : Fin 1024) (⟨t.val / 2 % 2 * 1024 + (y 2).val, by omega⟩ : Fin 2048) (⟨t.val / 2 % 4 * 1024 + (y 2).val, by omega⟩ : Fin 4096)
    (by show t.val / 2 % 4 * 1024 + (y 2).val = (2 + t.val / 4 - 2) % 2 * 2048 + (t.val / 2 % 2 * 1024 + (y 2).val); omega)).symm

theorem mem_blk (t : Fin cfg0.N) (i : S4x1024x2048.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v4).slice (win0_2.rect t)).set ↔ _
  rw [View.set_slice_whole, Rect.mem_set_unit]
  exact Iff.rfl

/-- The shards' array after the run. -/
def arr (c : Dev nD) : Vec Ideal S4x1024x2048 .f32 := (dats m 0 c).arrAt 2 cfg0.N

/-- A place of the two written shards. -/
theorem final (c : Dev nD) (s : Fin 2) (x : Fin 1024) (l : Fin 2048) (y : Fin 4096) (hy : y.val = s.val * 2048 + l.val) :
    arr m c (ix3 (⟨2 + s.val, by omega⟩ : Fin 4) x l) = res m c (ix2 x y) := by
  have hN : cfg0.N = 8 := N_0
  have hs := s.isLt
  have hl := l.isLt
  unfold arr
  refine ((dats m 0 c).arrAt_apply_of_mem 2 (G m c) (fun t hf => flushed_res m c t hf) cfg0.N (⟨(s.val * 2 + l.val / 1024) * 2 + 1, by omega⟩ : Fin cfg0.N)
    (ix3 (⟨2 + s.val, by omega⟩ : Fin 4) x l) (Fin.isLt _) ((flush0_2 _).mpr (by dsimp only; omega)) ?_).trans (G_at m c _ x l y (by show y.val = (2 + s.val - 2) % 2 * 2048 + l.val; omega))
  rw [mem_blk]
  intro a
  match a with
  | ⟨0, _⟩ =>
    show win0_2.index _ (0 : Fin 3) * 1 ≤ 2 + s.val ∧ 2 + s.val < win0_2.index _ (0 : Fin 3) * 1 + 1
    rw [(idx2 _).1]
    dsimp only
    omega
  | ⟨1, _⟩ =>
    have hx := x.isLt
    show win0_2.index _ (1 : Fin 3) * 1024 ≤ x.val ∧ x.val < win0_2.index _ (1 : Fin 3) * 1024 + 1024
    rw [(idx2 _).2.1]
    omega
  | ⟨2, _⟩ =>
    show win0_2.index _ (2 : Fin 3) * 1024 ≤ l.val ∧ l.val < win0_2.index _ (2 : Fin 3) * 1024 + 1024
    rw [(idx2 _).2.2]
    dsimp only
    omega

/-! ## The host lines before the product -/

/-- The arguments the lines read. -/
def aa (c : Dev nD) : S4096x1024.Idx → EReal := shapeCast S4096x1024 (m ((c : Thread nD τ).loc main_arg0)) shapeCasts_S2x2048x1024_S4096x1024
def bb (c : Dev nD) : S4096x4096.Idx → EReal := shapeCast S4096x4096 (m ((c : Thread nD τ).loc main_arg1)) shapeCasts_S2x2048x4096_S4096x4096

theorem arr0 (c : Dev nD) : opA m c = aa m c := by
  unfold opA V aa
  after_reads_simp
  rfl

theorem arr1 (c : Dev nD) : opB m c = bb m c := by
  unfold opB V bb
  after_reads_simp
  rfl

/-! ## The host lines after it, and the run -/

def W (c : Dev nD) (b : Ref sig .tc) : Buf (Elt Ideal) ((c : Thread nD τ).loc b) := Pipeline.afterTail₀ cfgs (dats m) 0 (V0 m) [hostOps1] c b

theorem tail_acc (c : Dev nD) :
    Pipeline.withArrays cfg0.spec c (V0 m c) (fun w => (dats m 0 c).arrAt w cfg0.N) (Proc.devRef .tc main_v4) = arr m c :=
  Pipeline.withArrays_arr cfg0.spec (by decide) c (V0 m c) _ 2

/-- The result: the two shards' columns in a row. -/
def fin (c : Dev nD) : Vec Ideal S1024x4096 .f32 :=
  shapeCast S1024x4096 (transpose S1024x2x2048 [1, 0, 2] (extractStridedSlice S2x1024x2048 ![2, 0, 0] (arr m c) slices_S4x1024x2048_S2x1024x2048_2_0_0 : Vec Ideal S2x1024x2048 .f32) transposes_S2x1024x2048_S1024x2x2048_1_0_2 : Vec Ideal S1024x2x2048 .f32) shapeCasts_S1024x2x2048_S1024x4096

theorem W_eq (c : Dev nD) : W m c main_v7 = fin m c := by
  unfold fin
  rw [← tail_acc]
  unfold W Pipeline.afterTail₀
  generalize Pipeline.withArrays cfg0.spec c (V0 m c) (fun w => (dats m 0 c).arrAt w cfg0.N) = Y
  show StableHlo.after hostOps1 Y _ = _
  unfold hostOps1
  simp only [StableHlo.after_cons, StableHlo.after_nil]
  after_results_simp
  rfl

theorem fin_at (c : Dev nD) (x : Fin 1024) (y : Fin 4096) : fin m c (ix2 x y) = res m c (ix2 x y) := by
  have hy := y.isLt
  unfold fin
  refine (shapeCast_apply _ _ (ix2 x y : S1024x4096.Idx) (ix3 x (⟨y.val / 2048, by omega⟩ : Fin 2) (⟨y.val % 2048, by omega⟩ : Fin 2048) : S1024x2x2048.Idx) ?_).trans ?_
  · rewrite [Shape.rowMajor_val_two, Shape.rowMajor_val_three]
    show (x.val * 2 + y.val / 2048) * 2048 + y.val % 2048 = x.val * 4096 + y.val
    omega
  refine (transpose_apply _ _ _ _ (ix3 (⟨y.val / 2048, by omega⟩ : Fin 2) x (⟨y.val % 2048, by omega⟩ : Fin 2048) : S2x1024x2048.Idx) fun d => ?_).trans ?_
  · match d with
    | ⟨0, _⟩ => rfl
    | ⟨1, _⟩ => rfl
    | ⟨2, _⟩ => rfl
  refine (extractStridedSlice_apply _ _ _ _ (ix3 (⟨2 + y.val / 2048, by omega⟩ : Fin 4) x (⟨y.val % 2048, by omega⟩ : Fin 2048) : S4x1024x2048.Idx) fun d => ?_).trans ?_
  · match d with
    | ⟨0, _⟩ => rfl
    | ⟨1, _⟩ => exact (Nat.zero_add _).symm
    | ⟨2, _⟩ => exact (Nat.zero_add _).symm
  exact final m c (⟨y.val / 2048, by omega⟩ : Fin 2) x (⟨y.val % 2048, by omega⟩ : Fin 2048) y (by dsimp only; omega)

theorem run : θ_run (defs (F := Ideal)) (onTc (τ := τ) (main (F := Ideal))) ⟨m, fun _ => 0, ρ⟩ fun r => ∀ c : Dev nD,
      r.2.mem ((c : Thread nD τ).loc main_v7) = fin m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨(h.1 c).trans (W_eq m c), h.2 c⟩) (θ_run_and
    ((θ_run defs _ _).mono (fun r h (c : Dev nD) => (show r.2.mem ((c : Thread nD τ).loc main_v7) = W m c main_v7 from (h c).2 main_v7 (Pipeline.mem_restRefs_of main_v7 (by decide) (by decide)))) (run_main m ρ))
    (unchanged m ρ))

open Cert.Reference21Ideal.Read

theorem res_ref (c : Dev nD) : fin m c = (val_main_v5 (F := Ideal) (m ((c : Thread nD τ).loc main_arg0)) (m ((c : Thread nD τ).loc main_arg1)) : Vec Ideal S1024x4096 .f32) := by
  funext i
  obtain ⟨x, y, rfl⟩ : ∃ (x : Fin 1024) (y : Fin 4096), i = ix2 x y := ⟨i 0, i 1, eq_ix2 i⟩
  rw [val_main_v5_apply, val_main_v4_apply]
  refine ((fin_at m c x y).trans (res_at m c x y)).trans ?_
  rw [arr0, arr1]
  refine Finset.sum_congr rfl fun k _ => ?_
  rw [mul_comm]
  unfold val_main_v0 val_main_v1 aa bb
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel21Ideal.Upwv

/-! ## The reference's run, and the two together -/

namespace Cert.Reference21Ideal.Upwv

open Cert.Reference21Ideal Cert.Reference21Ideal.Gen Cert.Reference21Ideal.Read
open Idealize.ShloMosaic Idealize.ShloMosaic.TcCoe Idealize.SL.Sem

variable (m : (ℓ : Loc nD τ sig) → Buf (Elt Ideal) ℓ) (ρ : Dev nD → PrngReg)

/-- The arguments end unchanged, and there is no counter at all. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Cert.Reference21Ideal.Value.run m ρ)

end Cert.Reference21Ideal.Upwv

namespace Cert

open Idealize.ShloMosaic Idealize.ShloMosaic.TcCoe Idealize.SL.Sem

theorem algebraic21 : algebraic_Kernel21Ideal_Reference21Ideal (hKernel21Ideal := Cert.Kernel21Ideal.Gen.facts) (hReference21Ideal := Cert.Reference21Ideal.Gen.facts) := by
  intro m g m' g' hpre hargs
  refine ⟨fun c => Cert.Kernel21Ideal.Upwv.fin m c, Cert.Kernel21Ideal.Upwv.run m g, ?_⟩
  refine (θ_run _ _ _).mono (fun r h c => ⟨?_, (h c).2⟩) (Cert.Reference21Ideal.Value.run m' g')
  show _ = Cert.Kernel21Ideal.Upwv.fin m c
  rw [Cert.Kernel21Ideal.Upwv.res_ref, ← (hargs c).1, ← (hargs c).2.1]
  exact (h c).1

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FfnClaim
public import proofs.«01_k».proof.Proof.WordRun
public import proofs.«01_k».proof.Proof.DownRun
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm19
public import proofs.«01_k».proof.Proof.Mm20
public import proofs.«01_k».proof.Proof.Mm8
public import proofs.«01_k».proof.Proof.Mm21
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal (hKernelIdeal := Cert.KernelIdeal.Gen.facts) (hReferenceIdeal := Cert.ReferenceIdeal.Gen.facts) := by
  intro m g m' g' _ hm
  refine ⟨_, _, _, _, Cert.KernelIdeal.Ffn.run_values m g, ?_⟩
  refine (θ_run _ _ _).mono (fun r h c => ?_) (Cert.ReferenceIdeal.Ffn.run m' g')
  have h' := h c
  rw [(hm c).1, (hm c).2.1, (hm c).2.2.1, (hm c).2.2.2] at h'
  rw [(hm c).1, (hm c).2.1, (hm c).2.2.1, (hm c).2.2.2]
  exact h'

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel8.Gen.facts, Cert.Kernel8Ideal.Gen.facts, Cert.Reference8Ideal.Gen.facts,
  Cert.Kernel21.Gen.facts, Cert.Kernel21Ideal.Gen.facts, Cert.Reference21Ideal.Gen.facts,
  fun m ρ _ => Cert.Kernel.Ffn.frame m ρ, fun m ρ _ => Cert.KernelIdeal.Ffn.frame m ρ, fun m ρ _ => Cert.ReferenceIdeal.Ffn.frame m ρ,
  fun m ρ _ => Cert.Kernel2.Gen.frame m ρ, fun m ρ _ => Cert.Kernel2Ideal.Gen.frame m ρ, fun m ρ _ => Cert.Reference2Ideal.Down.frame m ρ,
  fun m ρ _ => Cert.Kernel3.Gen.frame m ρ, fun m ρ _ => Cert.Kernel3Ideal.Gen.frame m ρ, fun m ρ _ => Cert.Reference3Ideal.Downx.frame m ρ,
  fun m ρ _ => Cert.Kernel4.Gen.frame m ρ, fun m ρ _ => Cert.Kernel4Ideal.Gen.frame m ρ, fun m ρ _ => Cert.Reference4Ideal.Upg.frame m ρ,
  fun m ρ _ => Cert.Kernel5.Gen.frame m ρ, fun m ρ _ => Cert.Kernel5Ideal.Gen.frame m ρ, fun m ρ _ => Cert.Reference5Ideal.Upv.frame m ρ,
  fun m ρ _ => Cert.Kernel6.Gen.frame m ρ, fun m ρ _ => Cert.Kernel6Ideal.Gen.frame m ρ, fun m ρ _ => Cert.Reference6Ideal.Inw.frame m ρ,
  fun m ρ _ => Cert.Kernel7.Gen.frame m ρ, fun m ρ _ => Cert.Kernel7Ideal.Gen.frame m ρ, fun m ρ _ => Cert.Reference7Ideal.Inx.frame m ρ,
  fun m ρ _ => Cert.Kernel9.Gen.frame m ρ, fun m ρ _ => Cert.Kernel9Ideal.Gen.frame m ρ, fun m ρ _ => Cert.Reference9Ideal.In.frame m ρ,
  fun m ρ _ => Cert.Kernel10.Gen.frame m ρ, fun m ρ _ => Cert.Kernel10Ideal.Gen.frame m ρ, fun m ρ _ => Cert.Reference10Ideal.Up.frame m ρ,
  fun m ρ _ => Cert.Kernel11.Gen.frame m ρ, fun m ρ _ => Cert.Kernel11Ideal.Gen.frame m ρ, fun m ρ _ => Cert.Reference11Ideal.PDownFwd.frame m ρ,
  fun m ρ _ => Cert.Kernel12.Gen.frame m ρ, fun m ρ _ => Cert.Kernel12Ideal.Gen.frame m ρ, fun m ρ _ => Cert.Reference12Ideal.POutFwd.frame m ρ,
  fun m ρ _ => Cert.Kernel13.Gen.frame m ρ, fun m ρ _ => Cert.Kernel13Ideal.Gen.frame m ρ, fun m ρ _ => Cert.Reference13Ideal.PBdnFwd.frame m ρ,
  fun m ρ _ => Cert.Kernel14.Gen.frame m ρ, fun m ρ _ => Cert.Kernel14Ideal.Gen.frame m ρ, fun m ρ _ => Cert.Reference14Ideal.PBlruFwd.frame m ρ,
  fun m ρ _ => Cert.Kernel15.Gen.frame m ρ, fun m ρ _ => Cert.Kernel15Ideal.Gen.frame m ρ, fun m ρ _ => Cert.Reference15Ideal.POutBwdX.frame m ρ,
  fun m ρ _ => Cert.Kernel16.Gen.frame m ρ, fun m ρ _ => Cert.Kernel16Ideal.Gen.frame m ρ, fun m ρ _ => Cert.Reference16Ideal.PBdnBwdX.frame m ρ,
  fun m ρ _ => Cert.Kernel17.Gen.frame m ρ, fun m ρ _ => Cert.Kernel17Ideal.Gen.frame m ρ, fun m ρ _ => Cert.Reference17Ideal.PBlruBwdX.frame m ρ,
  fun m ρ _ => Cert.Kernel18.Gen.frame m ρ, fun m ρ _ => Cert.Kernel18Ideal.Gen.frame m ρ, fun m ρ _ => Cert.Reference18Ideal.POutBwdW.frame m ρ,
  fun m ρ _ => Cert.Kernel19.Gen.frame m ρ, fun m ρ _ => Cert.Kernel19Ideal.Gen.frame m ρ, fun m ρ _ => Cert.Reference19Ideal.PBdnBwdW.frame m ρ,
  fun m ρ _ => Cert.Kernel20.Gen.frame m ρ, fun m ρ _ => Cert.Kernel20Ideal.Gen.frame m ρ, fun m ρ _ => Cert.Reference20Ideal.PBlruBwdW.frame m ρ,
  fun m ρ _ => Cert.Kernel8.Gen.frame m ρ, fun m ρ _ => Cert.Kernel8Ideal.Gen.frame m ρ, fun m ρ _ => Cert.Reference8Ideal.Upwg.frame m ρ,
  fun m ρ _ => Cert.Kernel21.Gen.frame m ρ, fun m ρ _ => Cert.Kernel21Ideal.Gen.frame m ρ, fun m ρ _ => Cert.Reference21Ideal.Upwv.frame m ρ,
  trivial, algebraic, trivial, Cert.algebraic2, trivial, Cert.algebraic3, trivial, Cert.algebraic4, trivial, Cert.algebraic5, trivial, Cert.algebraic6, trivial, Cert.algebraic7, trivial, Cert.algebraic9, trivial, Cert.algebraic10, trivial, Cert.algebraic11, trivial, Cert.algebraic12, trivial, Cert.algebraic13, trivial, Cert.algebraic14, trivial, Cert.algebraic15, trivial, Cert.algebraic16, trivial, Cert.algebraic17, trivial, Cert.algebraic18, trivial, Cert.algebraic19, trivial, Cert.algebraic20, trivial, Cert.algebraic8, trivial, Cert.algebraic21⟩

end Cert.Proof

end
